-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v61) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v44) = v2 c
          ∧ r.2.mem ((c.tc : Thread Cert.Reference7Ideal.nD Cert.Reference7Ideal.τ).loc Cert.Reference7Ideal.main_v37) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8320x768 : Shape := ⟨2, ![8320, 768]⟩
abbrev S8320x512 : Shape := ⟨2, ![8320, 512]⟩
abbrev S1x8 : Shape := ⟨2, ![1, 8]⟩
abbrev S_ : Shape := ⟨0, ![]⟩

class Facts : Prop where
  bitsLt_bf16_f32 : FTy.bits .bf16 < FTy.bits .f32
  bcast_S_S8320x768 : S_.BroadcastsInDim S8320x768 (![] : Fin 0 → Fin S8320x768.rank)
  reducesTo_S8320x768_S_d0_1 : S8320x768.ReducesTo [0, 1] S_
  h_S_ : 0 < S_.numel
  bcast_S_S8320x512 : S_.BroadcastsInDim S8320x512 (![] : Fin 0 → Fin S8320x512.rank)
  reducesTo_S8320x512_S_d0_1 : S8320x512.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S8320x768 .bf16) (main_arg1 : FVec F S8320x512 .bf16) (main_arg2 : FVec F S1x8 .f32) : IVec S_ 1 :=
  let main_v0 : FVec F S8320x768 .f32 := (extf .f32 · bitsLt_bf16_f32) main_arg0
  let main_v1 : FVec F S8320x768 .f32 := Host.absf main_v0
  let main_cst : FVec F S_ .f32 := constant S_ .f32 0x7F800000#32
  let main_v2 : FVec F S8320x768 .f32 := broadcastInDim S8320x768 ![] bcast_S_S8320x768 main_cst
  let main_v3 : IVec S8320x768 1 := cmpf .olt main_v1 main_v2
  let main_c : IVec S_ 1 := constantI S_ 1 1#1
  let main_v4 : IVec S_ 1 := (fun x v => Host.reduce IntOp.andi x v reducesTo_S8320x768_S_d0_1 h_S_) main_v3 main_c
  let main_v5 : FVec F S8320x512 .f32 := (extf .f32 · bitsLt_bf16_f32) main_arg1
  let main_v6 : FVec F S8320x512 .f32 := Host.absf main_v5
  let main_cst_0 : FVec F S_ .f32 := constant S_ .f32 0x7F800000#32
  let main_v7 : FVec F S8320x512 .f32 := broadcastInDim S8320x512 ![] bcast_S_S8320x512 main_cst_0
  let main_v8 : IVec S8320x512 1 := cmpf .olt main_v6 main_v7
  let main_c_1 : IVec S_ 1 := constantI S_ 1 1#1
  let main_v9 : IVec S_ 1 := (fun x v => Host.reduce IntOp.andi x v reducesTo_S8320x512_S_d0_1 h_S_) main_v8 main_c_1
  let main_v10 : IVec S_ 1 := andi main_v4 main_v9
  let main_v11 : FVec F S1x8 .f32 := Host.absf main_arg2
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  let main_c_3 : IVec S_ 1 := constantI S_ 1 1#1
  let main_v14 : IVec S_ 1 := (fun x v => Host.reduce IntOp.andi x v reducesTo_S1x8_S_d0_1 h_S_) main_v13 main_c_3
  let main_v15 : IVec S_ 1 := andi main_v10 main_v14
  main_v15
-- ==== Kernel.lean ====
abbrev S8320x768 : Shape := ⟨2, ![8320, 768]⟩
abbrev S8320x512 : Shape := ⟨2, ![8320, 512]⟩
abbrev S1x8 : Shape := ⟨2, ![1, 8]⟩
abbrev S256x512 : Shape := ⟨2, ![256, 512]⟩
abbrev S_ : Shape := ⟨0, ![]⟩
abbrev S1x256x512 : Shape := ⟨3, ![1, 256, 512]⟩
abbrev S3x256x512 : Shape := ⟨3, ![3, 256, 512]⟩
abbrev S8320x256 : Shape := ⟨2, ![8320, 256]⟩
abbrev S8x128 : Shape := ⟨2, ![8, 128]⟩
abbrev S128x512 : Shape := ⟨2, ![128, 512]⟩
abbrev S128x128 : Shape := ⟨2, ![128, 128]⟩
abbrev S128x256 : Shape := ⟨2, ![128, 256]⟩
abbrev S128x64 : Shape := ⟨2, ![128, 64]⟩
abbrev S256x64 : Shape := ⟨2, ![256, 64]⟩
abbrev S512x64 : Shape := ⟨2, ![512, 64]⟩
abbrev S1x512 : Shape := ⟨2, ![1, 512]⟩
abbrev S1x1 : Shape := ⟨2, ![1, 1]⟩
abbrev S512 : Shape := ⟨1, ![512]⟩
abbrev S64x512 : Shape := ⟨2, ![64, 512]⟩
abbrev S64x128 : Shape := ⟨2, ![64, 128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S512x128 : Shape := ⟨2, ![512, 128]⟩
abbrev S256x128 : Shape := ⟨2, ![256, 128]⟩

abbrev nBuf : Space → Nat
  | .hbm => 58
  | .vmem => 21
  | .smem => 1
  | _ => 0

abbrev bufTy : (tb : Table) → Fin (tcTables nBuf tb) → BufTy
  | .hbm, ⟨0, _⟩ => ⟨S8320x768, .bf16⟩
  | .hbm, ⟨1, _⟩ => ⟨S8320x512, .bf16⟩
  | .hbm, ⟨2, _⟩ => ⟨S1x8, .f32⟩
  | .hbm, ⟨3, _⟩ => ⟨S256x512, .i32⟩
  | .hbm, ⟨4, _⟩ => ⟨S256x512, .i32⟩
  | .hbm, ⟨5, _⟩ => ⟨S_, .i32⟩
  | .hbm, ⟨6, _⟩ => ⟨S256x512, .i32⟩
  | .hbm, ⟨7, _⟩ => ⟨S256x512, .i32⟩
  | .hbm, ⟨8, _⟩ => ⟨S256x512, .i1⟩
  | .hbm, ⟨9, _⟩ => ⟨S_, .i32⟩
  | .hbm, ⟨10, _⟩ => ⟨S256x512, .i32⟩
  | .hbm, ⟨11, _⟩ => ⟨S256x512, .i32⟩
  | .hbm, ⟨12, _⟩ => ⟨S256x512, .i1⟩
  | .hbm, ⟨13, _⟩ => ⟨S256x512, .i1⟩
  | .hbm, ⟨14, _⟩ => ⟨S_, .i32⟩
  | .hbm, ⟨15, _⟩ => ⟨S256x512, .i32⟩
  | .hbm, ⟨16, _⟩ => ⟨S256x512, .i32⟩
  | .hbm, ⟨17, _⟩ => ⟨S_, .i32⟩
  | .hbm, ⟨18, _⟩ => ⟨S256x512, .i32⟩
  | .hbm, ⟨19, _⟩ => ⟨S256x512, .i1⟩
  | .hbm, ⟨20, _⟩ => ⟨S256x512, .i1⟩
  | .hbm, ⟨21, _⟩ => ⟨S_, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .i32⟩
  | .hbm, ⟨27, _⟩ => ⟨S256x512, .i32⟩
  | .hbm, ⟨28, _⟩ => ⟨S256x512, .i32⟩
  | .hbm, ⟨29, _⟩ => ⟨S_, .i32⟩
  | .hbm, ⟨30, _⟩ => ⟨S256x512, .i32⟩
  | .hbm, ⟨31, _⟩ => ⟨S256x512, .i1⟩
  | .hbm, ⟨32, _⟩ => ⟨S256x512, .i1⟩
  | .hbm, ⟨33, _⟩ => ⟨S_, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S_, .i32⟩
  | .hbm, ⟨39, _⟩ => ⟨S256x512, .i32⟩
  | .hbm, ⟨40, _⟩ => ⟨S256x512, .i32⟩
  | .hbm, ⟨41, _⟩ => ⟨S_, .i32⟩
  | .hbm, ⟨42, _⟩ => ⟨S256x512, .i32⟩
  | .hbm, ⟨43, _⟩ => ⟨S256x512, .i1⟩
  | .hbm, ⟨44, _⟩ => ⟨S256x512, .i1⟩
  | .hbm, ⟨45, _⟩ => ⟨S_, .f32⟩
  | .hbm, ⟨46, _⟩ => ⟨S_, .f32⟩
  | .hbm, ⟨47, _⟩ => ⟨S256x512, .f32⟩
  | .hbm, ⟨48, _⟩ => ⟨S256x512, .f32⟩
  | .hbm, ⟨49, _⟩ => ⟨S256x512, .f32⟩
  | .hbm, ⟨50, _⟩ => ⟨S1x256x512, .f32⟩
  | .hbm, ⟨51, _⟩ => ⟨S1x256x512, .f32⟩
  | .hbm, ⟨52, _⟩ => ⟨S1x256x512, .f32⟩
  | .hbm, ⟨53, _⟩ => ⟨S3x256x512, .f32⟩
  | .hbm, ⟨54, _⟩ => ⟨S3x256x512, .f32⟩
  | .hbm, ⟨55, _⟩ => ⟨S8320x512, .bf16⟩
  | .hbm, ⟨56, _⟩ => ⟨S8320x256, .bf16⟩
  | .hbm, ⟨57, _⟩ => ⟨S8x128, .f32⟩
  | .local _ .vmem, ⟨0, _⟩ => ⟨S1x256x512, .f32⟩
  | .local _ .vmem, ⟨1, _⟩ => ⟨S1x256x512, .f32⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x512, .bf16⟩
  | .local _ .vmem, ⟨15, _⟩ => ⟨S128x512, .bf16⟩
  | .local _ .vmem, ⟨16, _⟩ => ⟨S128x256, .bf16⟩
  | .local _ .vmem, ⟨17, _⟩ => ⟨S128x256, .bf16⟩
  | .local _ .vmem, ⟨18, _⟩ => ⟨S8x128, .f32⟩
  | .local _ .vmem, ⟨19, _⟩ => ⟨S128x128, .f32⟩
  | .local _ .vmem, ⟨20, _⟩ => ⟨S128x128, .f32⟩
  | .local _ .smem, ⟨0, _⟩ => ⟨S1x8, .f32⟩
  | _, _ => ⟨S8320x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c_8 : Ref sig .tc := ⟨.hbm, 38, rfl⟩
abbrev main_v21 : Ref sig .tc := ⟨.hbm, 39, rfl⟩
abbrev main_v22 : Ref sig .tc := ⟨.hbm, 40, rfl⟩
abbrev main_c_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_cst_11 : Ref sig .tc := ⟨.hbm, 46, rfl⟩
abbrev main_call2_v0 : Ref sig .tc := ⟨.hbm, 47, rfl⟩
abbrev main_call2_v1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![66], ![false]⟩

def k0_cond2 (i : grid0.Coords) : BitVec 1 :=
  let arg0 : BitVec 32 := BitVec.ofNat 32 (i 0).val
  let c65_i32 : BitVec 32 := 65#32
  let v3 : BitVec 1 := Scalar.cmpi .slt arg0 c65_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c65_i32_2 : BitVec 32 := 65#32
  let v6 : BitVec 1 := Scalar.cmpi .eq arg0 c65_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.minsi arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c64_i32 : BitVec 32 := 64#32
  let v0 : BitVec 32 := Scalar.minsi arg0 c64_i32
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c64_i32 : BitVec 32 := 64#32
  let v0 : BitVec 32 := Scalar.minsi arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c64_i32 : BitVec 32 := 64#32
  let v0 : BitVec 32 := Scalar.minsi arg0 c64_i32
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8320x768 : Shape := ⟨2, ![8320, 768]⟩
abbrev S8320x512 : Shape := ⟨2, ![8320, 512]⟩
abbrev S1x8 : Shape := ⟨2, ![1, 8]⟩
abbrev S8320x128 : Shape := ⟨2, ![8320, 128]⟩
abbrev S65x128x2x4x64 : Shape := ⟨5, ![65, 128, 2, 4, 64]⟩
abbrev S65x128x2x64 : Shape := ⟨4, ![65, 128, 2, 64]⟩
abbrev S1x128x2x64 : Shape := ⟨4, ![1, 128, 2, 64]⟩
abbrev S_ : Shape := ⟨0, ![]⟩
abbrev S64x128x2x64 : Shape := ⟨4, ![64, 128, 2, 64]⟩
abbrev S65x256x2x64 : Shape := ⟨4, ![65, 256, 2, 64]⟩
abbrev S65x2x256x128x4 : Shape := ⟨5, ![65, 2, 256, 128, 4]⟩
abbrev S65x2x4x128x256 : Shape := ⟨5, ![65, 2, 4, 128, 256]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S65x128x1 : Shape := ⟨3, ![65, 128, 1]⟩
abbrev S65x1x256 : Shape := ⟨3, ![65, 1, 256]⟩
abbrev S65x128x256 : Shape := ⟨3, ![65, 128, 256]⟩
abbrev S65x1x1x128x256 : Shape := ⟨5, ![65, 1, 1, 128, 256]⟩
abbrev S1x2x4x1x1 : Shape := ⟨5, ![1, 2, 4, 1, 1]⟩
abbrev S65x2x4x128 : Shape := ⟨4, ![65, 2, 4, 128]⟩
abbrev S65x2x4x128x1 : Shape := ⟨5, ![65, 2, 4, 128, 1]⟩
abbrev S65x2x64x4x128 : Shape := ⟨5, ![65, 2, 64, 4, 128]⟩
abbrev S65x2x64x256 : Shape := ⟨4, ![65, 2, 64, 256]⟩
abbrev S2x4x1 : Shape := ⟨3, ![2, 4, 1]⟩
abbrev S65x2x128x4x64 : Shape := ⟨5, ![65, 2, 128, 4, 64]⟩
abbrev S65x2x256x64 : Shape := ⟨4, ![65, 2, 256, 64]⟩
abbrev S8320x256 : Shape := ⟨2, ![8320, 256]⟩
abbrev S8x1 : Shape := ⟨2, ![8, 1]⟩
abbrev S8x128 : Shape := ⟨2, ![8, 128]⟩

abbrev nBuf : Space → Nat
  | .hbm => 206
  | .vmem => 0
  | .smem => 0
  | _ => 0

abbrev hbmTy0_0 (i : Nat) : BufTy := match i % 128 with
  | 0 => ⟨S8320x768, .bf16⟩
  | 1 => ⟨S8320x512, .bf16⟩
  | 2 => ⟨S1x8, .f32⟩
  | 3 => ⟨S8320x768, .f32⟩
  | 4 => ⟨S8320x512, .f32⟩
  | 5 => ⟨S8320x128, .f32⟩
  | 6 => ⟨S8320x128, .f32⟩
  | 7 => ⟨S65x128x2x4x64, .f32⟩
  | 8 => ⟨S65x128x2x64, .f32⟩
  | 9 => ⟨S65x128x2x64, .f32⟩
  | 10 => ⟨S1x128x2x64, .f32⟩
  | 11 => ⟨S_, .f32⟩
  | 12 => ⟨S1x128x2x64, .f32⟩
  | 13 => ⟨S64x128x2x64, .f32⟩
  | 14 => ⟨S65x128x2x64, .f32⟩
  | 15 => ⟨S_, .f32⟩
  | 16 => ⟨S1x128x2x64, .f32⟩
  | 17 => ⟨S65x256x2x64, .f32⟩
  | 18 => ⟨S1x128x2x64, .f32⟩
  | 19 => ⟨S_, .f32⟩
  | 20 => ⟨S1x128x2x64, .f32⟩
  | 21 => ⟨S64x128x2x64, .f32⟩
  | 22 => ⟨S65x128x2x64, .f32⟩
  | 23 => ⟨S_, .f32⟩
  | 24 => ⟨S1x128x2x64, .f32⟩
  | 25 => ⟨S65x256x2x64, .f32⟩
  | 26 => ⟨S65x2x256x128x4, .f32⟩
  | 27 => ⟨S65x2x4x128x256, .f32⟩
  | 28 => ⟨S_, .f32⟩
  | 29 => ⟨S65x2x4x128x256, .f32⟩
  | 30 => ⟨S65x2x4x128x256, .f32⟩
  | 31 => ⟨S65, .i32⟩
  | 32 => ⟨S65x1, .i32⟩
  | 33 => ⟨S_, .i32⟩
  | 34 => ⟨S65x1, .i32⟩
  | 35 => ⟨S65x1, .i32⟩
  | 36 => ⟨S128, .i32⟩
  | 37 => ⟨S1x128, .i32⟩
  | 38 => ⟨S65x128, .i32⟩
  | 39 => ⟨S65x128, .i32⟩
  | 40 => ⟨S65x128, .i32⟩
  | 41 => ⟨S_, .i32⟩
  | 42 => ⟨S65x1, .i32⟩
  | 43 => ⟨S65x1, .i32⟩
  | 44 => ⟨S256, .i32⟩
  | 45 => ⟨S1x256, .i32⟩
  | 46 => ⟨S65x256, .i32⟩
  | 47 => ⟨S65x256, .i32⟩
  | 48 => ⟨S65x256, .i32⟩
  | 49 => ⟨S65x128x1, .i32⟩
  | 50 => ⟨S65x1x256, .i32⟩
  | 51 => ⟨S65x128x256, .i32⟩
  | 52 => ⟨S65x128x256, .i32⟩
  | 53 => ⟨S65x128x256, .i32⟩
  | 54 => ⟨S_, .i32⟩
  | 55 => ⟨S65x128x256, .i32⟩
  | 56 => ⟨S65x128x256, .i1⟩
  | 57 => ⟨S_, .i32⟩
  | 58 => ⟨S65x128x256, .i32⟩
  | 59 => ⟨S65x128x256, .i1⟩
  | 60 => ⟨S65x128x256, .i1⟩
  | 61 => ⟨S65x1x256, .i32⟩
  | 62 => ⟨S_, .i32⟩
  | 63 => ⟨S65x1x256, .i32⟩
  | 64 => ⟨S65x1x256, .i1⟩
  | 65 => ⟨S65x128x256, .i1⟩
  | 66 => ⟨S65x128x256, .i1⟩
  | 67 => ⟨S65x1x1x128x256, .i1⟩
  | 68 => ⟨S_, .f32⟩
  | 69 => ⟨S_, .f32⟩
  | 70 => ⟨S65x2x4x128x256, .i1⟩
  | 71 => ⟨S65x2x4x128x256, .f32⟩
  | 72 => ⟨S65x2x4x128x256, .f32⟩
  | 73 => ⟨S_, .f32⟩
  | 74 => ⟨S65x2x4x128x256, .f32⟩
  | 75 => ⟨S1x2x4x1x1, .f32⟩
  | 76 => ⟨S_, .f32⟩
  | 77 => ⟨S65x2x4x128, .f32⟩
  | 78 => ⟨S65x2x4x128x1, .f32⟩
  | 79 => ⟨S65x2x4x128x256, .f32⟩
  | 80 => ⟨S65x2x4x128x256, .i1⟩
  | 81 => ⟨S65x2x4x128x256, .f32⟩
  | 82 => ⟨S_, .f32⟩
  | 83 => ⟨S65x2x4x128, .f32⟩
  | 84 => ⟨S65x2x4x128x1, .f32⟩
  | 85 => ⟨S65x2x4x128x1, .f32⟩
  | 86 => ⟨S65x2x4x128x1, .f32⟩
  | 87 => ⟨S65x2x4x128x1, .f32⟩
  | 88 => ⟨S65x2x4x128x1, .i1⟩
  | 89 => ⟨S65x2x4x128x1, .f32⟩
  | 90 => ⟨S65x2x4x128x1, .i1⟩
  | 91 => ⟨S_, .f32⟩
  | 92 => ⟨S65x2x4x128x1, .f32⟩
  | 93 => ⟨S_, .f32⟩
  | 94 => ⟨S65x2x4x128x1, .f32⟩
  | 95 => ⟨S_, .f32⟩
  | 96 => ⟨S65x2x4x128x1, .f32⟩
  | 97 => ⟨S65x2x4x128x1, .f32⟩
  | 98 => ⟨S65x2x4x128x1, .f32⟩
  | 99 => ⟨S65x2x4x128x1, .f32⟩
  | 100 => ⟨S65x2x4x128x1, .i1⟩
  | 101 => ⟨S65x2x4x128x1, .f32⟩
  | 102 => ⟨S65x2x4x128x1, .i1⟩
  | 103 => ⟨S_, .f32⟩
  | 104 => ⟨S65x2x4x128x1, .f32⟩
  | 105 => ⟨S_, .f32⟩
  | 106 => ⟨S65x2x4x128x1, .f32⟩
  | 107 => ⟨S_, .f32⟩
  | 108 => ⟨S65x2x4x128x1, .f32⟩
  | 109 => ⟨S65x2x4x128x1, .f32⟩
  | 110 => ⟨S65x2x4x128x1, .f32⟩
  | 111 => ⟨S65x2x4x128x256, .f32⟩
  | 112 => ⟨S65x2x4x128x256, .f32⟩
  | 113 => ⟨S65x2x4x128x256, .f32⟩
  | 114 => ⟨S_, .f32⟩
  | 115 => ⟨S65x2x4x128, .f32⟩
  | 116 => ⟨S65x2x4x128x1, .f32⟩
  | 117 => ⟨S65x2x4x128x1, .f32⟩
  | 118 => ⟨S65x2x4x128x1, .f32⟩
  | 119 => ⟨S65x2x4x128x1, .f32⟩
  | 120 => ⟨S65x2x4x128x1, .f32⟩
  | 121 => ⟨S65x2x4x128x256, .f32⟩
  | 122 => ⟨S65x2x4x128x256, .f32⟩
  | 123 => ⟨S65x2x4x128x1, .f32⟩
  | 124 => ⟨S_, .f32⟩
  | 125 => ⟨S65x2x4x128x1, .f32⟩
  | 126 => ⟨S65x2x4x128x1, .f32⟩
  | 127 => ⟨S65x2x64x4x128, .f32⟩
  | _ => ⟨S8320x768, .bf16⟩

abbrev hbmTy0_1 (i : Nat) : BufTy := match i % 128 with
  | 0 => ⟨S65x128x2x4x64, .f32⟩
  | 1 => ⟨S8320x512, .f32⟩
  | 2 => ⟨S8320x512, .f32⟩
  | 3 => ⟨S65x128x2x4x64, .f32⟩
  | 4 => ⟨S65x2x64x4x128, .f32⟩
  | 5 => ⟨S65x2x4x128x256, .f32⟩
  | 6 => ⟨S65x2x64x256, .f32⟩
  | 7 => ⟨S65x256x2x64, .f32⟩
  | 8 => ⟨S65x2x4x128x256, .f32⟩
  | 9 => ⟨S65x2x4x128x256, .f32⟩
  | 10 => ⟨S65x2x4x128x256, .f32⟩
  | 11 => ⟨S_, .f32⟩
  | 12 => ⟨S65x2x4x128, .f32⟩
  | 13 => ⟨S65x2x4x128x1, .f32⟩
  | 14 => ⟨S65x2x4x128x1, .f32⟩
  | 15 => ⟨S65x2x4x128x256, .f32⟩
  | 16 => ⟨S65x2x4x128x256, .f32⟩
  | 17 => ⟨S65x2x4x128x1, .f32⟩
  | 18 => ⟨S_, .f32⟩
  | 19 => ⟨S2x4x1, .f32⟩
  | 20 => ⟨S1x2x4x1x1, .f32⟩
  | 21 => ⟨S65x2x4x128x1, .f32⟩
  | 22 => ⟨S_, .f32⟩
  | 23 => ⟨S65x2x4x128, .f32⟩
  | 24 => ⟨S65x2x4x128x256, .f32⟩
  | 25 => ⟨S65x2x4x128x256, .f32⟩
  | 26 => ⟨S65x2x4x128x256, .f32⟩
  | 27 => ⟨S65x2x4x128x256, .f32⟩
  | 28 => ⟨S_, .f32⟩
  | 29 => ⟨S65x2x4x128, .f32⟩
  | 30 => ⟨S65x2x4x128x1, .f32⟩
  | 31 => ⟨S65x2x4x128x1, .f32⟩
  | 32 => ⟨S65x2x4x128x1, .f32⟩
  | 33 => ⟨S_, .f32⟩
  | 34 => ⟨S2x4x1, .f32⟩
  | 35 => ⟨S1x2x4x1x1, .f32⟩
  | 36 => ⟨S1x2x4x1x1, .f32⟩
  | 37 => ⟨S65x2x4x128x1, .f32⟩
  | 38 => ⟨S_, .f32⟩
  | 39 => ⟨S65x2x4x128, .f32⟩
  | 40 => ⟨S65x2x4x128, .f32⟩
  | 41 => ⟨S65x2x4x128x256, .f32⟩
  | 42 => ⟨S65x2x4x128x256, .f32⟩
  | 43 => ⟨S65x2x4x128x256, .f32⟩
  | 44 => ⟨S1x8, .f32⟩
  | 45 => ⟨S_, .f32⟩
  | 46 => ⟨S65x2x4x128x256, .f32⟩
  | 47 => ⟨S65x2x4x128x256, .f32⟩
  | 48 => ⟨S_, .f32⟩
  | 49 => ⟨S65x2x4x128x256, .f32⟩
  | 50 => ⟨S65x2x4x128x256, .f32⟩
  | 51 => ⟨S65x2x256x128x4, .f32⟩
  | 52 => ⟨S65x2x128x4x64, .f32⟩
  | 53 => ⟨S65x128x2x4x64, .f32⟩
  | 54 => ⟨S65x2x256x64, .f32⟩
  | 55 => ⟨S65x256x2x64, .f32⟩
  | 56 => ⟨S65x128x2x64, .f32⟩
  | 57 => ⟨S65x128x2x64, .f32⟩
  | 58 => ⟨S1x128x2x64, .f32⟩
  | 59 => ⟨S64x128x2x64, .f32⟩
  | 60 => ⟨S_, .f32⟩
  | 61 => ⟨S65x128x2x64, .f32⟩
  | 62 => ⟨S65x128x2x64, .f32⟩
  | 63 => ⟨S65x128x2x64, .f32⟩
  | 64 => ⟨S65x128x2x64, .f32⟩
  | 65 => ⟨S1x128x2x64, .f32⟩
  | 66 => ⟨S64x128x2x64, .f32⟩
  | 67 => ⟨S_, .f32⟩
  | 68 => ⟨S65x128x2x64, .f32⟩
  | 69 => ⟨S65x128x2x64, .f32⟩
  | 70 => ⟨S8320x128, .f32⟩
  | 71 => ⟨S8320x128, .f32⟩
  | 72 => ⟨S8320x512, .f32⟩
  | 73 => ⟨S8320x256, .f32⟩
  | 74 => ⟨S8320x512, .bf16⟩
  | 75 => ⟨S8320x256, .bf16⟩
  | 76 => ⟨S8x1, .f32⟩
  | 77 => ⟨S8x128, .f32⟩
  | _ => ⟨S8320x768, .bf16⟩

abbrev hbmTy (i : Nat) : BufTy := match i / 128 with
  | 0 => hbmTy0_0 i
  | 1 => hbmTy0_1 i
  | _ => ⟨S8320x768, .bf16⟩

abbrev bufTy : (tb : Table) → Fin (tcTables nBuf tb) → BufTy
  | .hbm, ⟨i, _⟩ => hbmTy i
  | _, _ => ⟨S8320x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_call0_v0 : Ref sig .tc := ⟨.hbm, 69, rfl⟩
abbrev main_v55_1 : Ref sig .tc := ⟨.hbm, 70, rfl⟩
abbrev main_call0_v2 : Ref sig .tc := ⟨.hbm, 71, rfl⟩
abbrev main_v55_0 : Ref sig .tc := ⟨.hbm, 72, rfl⟩
abbrev main_call0_cst : Ref sig .tc := ⟨.hbm, 73, rfl⟩
abbrev main_v55_2 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_20 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_21 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_22 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_23 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_24 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_call1_cst : Ref sig .tc := ⟨.hbm, 173, rfl⟩
abbrev main_call1_v0 : Ref sig .tc := ⟨.hbm, 174, rfl⟩
abbrev main_v138 : Ref sig .tc := ⟨.hbm, 175, rfl⟩
abbrev main_cst_25 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_26 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_27 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩

abbrev nD : Nat := 1
abbrev τ : Topo := Topo.v7x

variable {F : FTy → Type} [FloatOps F]
-- ==== Kernel2.lean ====
abbrev S8320x1024 : Shape := ⟨2, ![8320, 1024]⟩
abbrev S1x1024 : Shape := ⟨2, ![1, 1024]⟩
abbrev S1024x4096 : Shape := ⟨2, ![1024, 4096]⟩
abbrev S4096x1024 : Shape := ⟨2, ![4096, 1024]⟩
abbrev S8320x4096 : Shape := ⟨2, ![8320, 4096]⟩
abbrev S640x1024 : Shape := ⟨2, ![640, 1024]⟩
abbrev S640x4096 : Shape := ⟨2, ![640, 4096]⟩
abbrev S640 : Shape := ⟨1, ![640]⟩
abbrev S640x1 : Shape := ⟨2, ![640, 1]⟩
abbrev S1024x1024 : Shape := ⟨2, ![1024, 1024]⟩
abbrev S1664x1024 : Shape := ⟨2, ![1664, 1024]⟩

abbrev nBuf : Space → Nat
  | .hbm => 11
  | .vmem => 27
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S8320x1024, .bf16⟩
  | .hbm, ⟨5, _⟩ => ⟨S8320x4096, .bf16⟩
  | .hbm, ⟨6, _⟩ => ⟨S8320x1024, .bf16⟩
  | .hbm, ⟨7, _⟩ => ⟨S1024x4096, .bf16⟩
  | .hbm, ⟨8, _⟩ => ⟨S8320x4096, .bf16⟩
  | .hbm, ⟨9, _⟩ => ⟨S1024x4096, .f32⟩
  | .hbm, ⟨10, _⟩ => ⟨S4096x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x4096, .bf16⟩
  | .local _ .vmem, ⟨4, _⟩ => ⟨S640x4096, .bf16⟩
  | .local _ .vmem, ⟨5, _⟩ => ⟨S640x4096, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S1024x4096, .bf16⟩
  | .local _ .vmem, ⟨11, _⟩ => ⟨S640x4096, .bf16⟩
  | .local _ .vmem, ⟨12, _⟩ => ⟨S640x4096, .bf16⟩
  | .local _ .vmem, ⟨13, _⟩ => ⟨S640x4096, .bf16⟩
  | .local _ .vmem, ⟨14, _⟩ => ⟨S640x4096, .bf16⟩
  | .local _ .vmem, ⟨15, _⟩ => ⟨S1664x1024, .bf16⟩
  | .local _ .vmem, ⟨16, _⟩ => ⟨S1664x1024, .bf16⟩
  | .local _ .vmem, ⟨17, _⟩ => ⟨S1664x1024, .bf16⟩
  | .local _ .vmem, ⟨18, _⟩ => ⟨S1664x1024, .bf16⟩
  | .local _ .vmem, ⟨19, _⟩ => ⟨S1664x1024, .bf16⟩
  | .local _ .vmem, ⟨20, _⟩ => ⟨S1664x1024, .bf16⟩
  | .local _ .vmem, ⟨21, _⟩ => ⟨S1664x1024, .bf16⟩
  | .local _ .vmem, ⟨22, _⟩ => ⟨S1664x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S640x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S640x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1664x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1664x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1664x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1664x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== Reference2Ideal.lean ====
abbrev S8320x1024 : Shape := ⟨2, ![8320, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8320x4096 : Shape := ⟨2, ![8320, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S8320x1024, .bf16⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S1x1024, .f32⟩
  | .hbm, ⟨22, _⟩ => ⟨S8320x1024, .f32⟩
  | .hbm, ⟨23, _⟩ => ⟨S8320x1024, .f32⟩
  | .hbm, ⟨24, _⟩ => ⟨S8320x4096, .f32⟩
  | .hbm, ⟨25, _⟩ => ⟨S_, .f32⟩
  | .hbm, ⟨26, _⟩ => ⟨S8320x4096, .f32⟩
  | .hbm, ⟨27, _⟩ => ⟨S8320x4096, .f32⟩
  | .hbm, ⟨28, _⟩ => ⟨S_, .f32⟩
  | .hbm, ⟨29, _⟩ => ⟨S8320x4096, .f32⟩
  | .hbm, ⟨30, _⟩ => ⟨S8320x4096, .i1⟩
  | .hbm, ⟨31, _⟩ => ⟨S_, .f32⟩
  | .hbm, ⟨32, _⟩ => ⟨S8320x4096, .f32⟩
  | .hbm, ⟨33, _⟩ => ⟨S8320x4096, .f32⟩
  | .hbm, ⟨34, _⟩ => ⟨S_, .f32⟩
  | .hbm, ⟨35, _⟩ => ⟨S8320x4096, .f32⟩
  | .hbm, ⟨36, _⟩ => ⟨S8320x4096, .f32⟩
  | .hbm, ⟨37, _⟩ => ⟨S8320x1024, .f32⟩
  | .hbm, ⟨38, _⟩ => ⟨S8320x1024, .f32⟩
  | .hbm, ⟨39, _⟩ => ⟨S1024x4096, .f32⟩
  | .hbm, ⟨40, _⟩ => ⟨S4096x1024, .f32⟩
  | .hbm, ⟨41, _⟩ => ⟨S8320x4096, .f32⟩
  | .hbm, ⟨42, _⟩ => ⟨S8320x4096, .f32⟩
  | .hbm, ⟨43, _⟩ => ⟨S_, .f32⟩
  | .hbm, ⟨44, _⟩ => ⟨S8320x4096, .f32⟩
  | .hbm, ⟨45, _⟩ => ⟨S8320x4096, .f32⟩
  | .hbm, ⟨46, _⟩ => ⟨S4096x1024, .f32⟩
  | .hbm, ⟨47, _⟩ => ⟨S1024x4096, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel3.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S4096x1024 : Shape := ⟨2, ![4096, 1024]⟩
abbrev S640x4096 : Shape := ⟨2, ![640, 4096]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8320x4096, .bf16⟩
  | .hbm, ⟨1, _⟩ => ⟨S1024x4096, .bf16⟩
  | .hbm, ⟨2, _⟩ => ⟨S8320x1024, .f32⟩
  | .hbm, ⟨3, _⟩ => ⟨S8320x1024, .f32⟩
  | .hbm, ⟨4, _⟩ => ⟨S1x1024, .f32⟩
  | .hbm, ⟨5, _⟩ => ⟨S4096x1024, .bf16⟩
  | .hbm, ⟨6, _⟩ => ⟨S8320x1024, .f32⟩
  | .hbm, ⟨7, _⟩ => ⟨S1x1024, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 57
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1024x4096, .bf16⟩
  | .hbm, ⟨2, _⟩ => ⟨S8320x1024, .f32⟩
  | .hbm, ⟨3, _⟩ => ⟨S8320x1024, .f32⟩
  | .hbm, ⟨4, _⟩ => ⟨S1x1024, .f32⟩
  | .hbm, ⟨5, _⟩ => ⟨S1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S1x1024, .f32⟩
  | .hbm, ⟨24, _⟩ => ⟨S8320x1024, .f32⟩
  | .hbm, ⟨25, _⟩ => ⟨S8320x1024, .f32⟩
  | .hbm, ⟨26, _⟩ => ⟨S1024x4096, .f32⟩
  | .hbm, ⟨27, _⟩ => ⟨S8320x4096, .f32⟩
  | .hbm, ⟨28, _⟩ => ⟨S8320x4096, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S1024, .f32⟩
  | .hbm, ⟨38, _⟩ => ⟨S8320x1024, .f32⟩
  | .hbm, ⟨39, _⟩ => ⟨S_, .f32⟩
  | .hbm, ⟨40, _⟩ => ⟨S8320, .f32⟩
  | .hbm, ⟨41, _⟩ => ⟨S8320x1, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1, .f32⟩
  | .hbm, ⟨46, _⟩ => ⟨S_, .f32⟩
  | .hbm, ⟨47, _⟩ => ⟨S8320x1, .f32⟩
  | .hbm, ⟨48, _⟩ => ⟨S8320x1, .f32⟩
  | .hbm, ⟨49, _⟩ => ⟨S_, .f32⟩
  | .hbm, ⟨50, _⟩ => ⟨S8320, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S1x1024, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel4.lean ====
abbrev S8320x4096 : Shape := ⟨2, ![8320, 4096]⟩
abbrev S4096x1024 : Shape := ⟨2, ![4096, 1024]⟩
abbrev S8320x1024 : Shape := ⟨2, ![8320, 1024]⟩
abbrev S1x1024 : Shape := ⟨2, ![1, 1024]⟩
abbrev S8x128 : Shape := ⟨2, ![8, 128]⟩
abbrev S640x4096 : Shape := ⟨2, ![640, 4096]⟩
abbrev S640x1024 : Shape := ⟨2, ![640, 1024]⟩
abbrev S640 : Shape := ⟨1, ![640]⟩
abbrev S640x1 : Shape := ⟨2, ![640, 1]⟩
abbrev S1x640x1024 : Shape := ⟨3, ![1, 640, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .bf16⟩
  | .hbm, ⟨2, _⟩ => ⟨S8320x1024, .f32⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S8320x1024, .bf16⟩
  | .hbm, ⟨7, _⟩ => ⟨S1x1024, .f32⟩
  | .hbm, ⟨8, _⟩ => ⟨S8x128, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S1x1024, .f32⟩
  | .local _ .vmem, ⟨13, _⟩ => ⟨S8x128, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8320x4096 : Shape := ⟨2, ![8320, 4096]⟩
abbrev S4096x1024 : Shape := ⟨2, ![4096, 1024]⟩
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8192x1024 : Shape := ⟨2, ![8192, 1024]⟩
abbrev S8192 : Shape := ⟨1, ![8192]⟩
abbrev S8x128 : Shape := ⟨2, ![8, 128]⟩

abbrev nBuf : Space → Nat
  | .hbm => 85
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .bf16⟩
  | .hbm, ⟨2, _⟩ => ⟨S8320x1024, .f32⟩
  | .hbm, ⟨3, _⟩ => ⟨S8320x1024, .f32⟩
  | .hbm, ⟨4, _⟩ => ⟨S1x1024, .f32⟩
  | .hbm, ⟨5, _⟩ => ⟨S8320x4096, .f32⟩
  | .hbm, ⟨6, _⟩ => ⟨S4096x1024, .f32⟩
  | .hbm, ⟨7, _⟩ => ⟨S8320x1024, .f32⟩
  | .hbm, ⟨8, _⟩ => ⟨S1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8320x1024, .f32⟩
  | .hbm, ⟨57, _⟩ => ⟨S8320x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S8320x1024, .f32⟩
  | .hbm, ⟨66, _⟩ => ⟨S_, .f32⟩
  | .hbm, ⟨67, _⟩ => ⟨S8320, .f32⟩
  | .hbm, ⟨68, _⟩ => ⟨S8320x1, .f32⟩
  | .hbm, ⟨69, _⟩ => ⟨S8320x1024, .f32⟩
  | .hbm, ⟨70, _⟩ => ⟨S8320x1024, .f32⟩
  | .hbm, ⟨71, _⟩ => ⟨S8320x1, .f32⟩
  | .hbm, ⟨72, _⟩ => ⟨S_, .f32⟩
  | .hbm, ⟨73, _⟩ => ⟨S8320x1, .f32⟩
  | .hbm, ⟨74, _⟩ => ⟨S8320x1, .f32⟩
  | .hbm, ⟨75, _⟩ => ⟨S_, .f32⟩
  | .hbm, ⟨76, _⟩ => ⟨S8320, .f32⟩
  | .hbm, ⟨77, _⟩ => ⟨S8320x1024, .f32⟩
  | .hbm, ⟨78, _⟩ => ⟨S8320x1024, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S1x1024, .f32⟩
  | .hbm, ⟨83, _⟩ => ⟨S8320x1024, .bf16⟩
  | .hbm, ⟨84, _⟩ => ⟨S8x128, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel5.lean ====
abbrev S8320x1024 : Shape := ⟨2, ![8320, 1024]⟩
abbrev S1x1024 : Shape := ⟨2, ![1, 1024]⟩
abbrev S8320x512 : Shape := ⟨2, ![8320, 512]⟩
abbrev S8320x256 : Shape := ⟨2, ![8320, 256]⟩
abbrev S1024x1792 : Shape := ⟨2, ![1024, 1792]⟩
abbrev S1792x1024 : Shape := ⟨2, ![1792, 1024]⟩
abbrev S640x1024 : Shape := ⟨2, ![640, 1024]⟩
abbrev S640x512 : Shape := ⟨2, ![640, 512]⟩
abbrev S640x256 : Shape := ⟨2, ![640, 256]⟩
abbrev S640 : Shape := ⟨1, ![640]⟩
abbrev S640x1 : Shape := ⟨2, ![640, 1]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x512, .bf16⟩
  | .hbm, ⟨4, _⟩ => ⟨S8320x256, .bf16⟩
  | .hbm, ⟨5, _⟩ => ⟨S8320x1024, .bf16⟩
  | .hbm, ⟨6, _⟩ => ⟨S1024x1792, .bf16⟩
  | .hbm, ⟨7, _⟩ => ⟨S1792x1024, .bf16⟩
  | .hbm, ⟨8, _⟩ => ⟨S8320x1024, .f32⟩
  | .hbm, ⟨9, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x512, .bf16⟩
  | .local _ .vmem, ⟨6, _⟩ => ⟨S640x512, .bf16⟩
  | .local _ .vmem, ⟨7, _⟩ => ⟨S640x256, .bf16⟩
  | .local _ .vmem, ⟨8, _⟩ => ⟨S640x256, .bf16⟩
  | .local _ .vmem, ⟨9, _⟩ => ⟨S640x1024, .bf16⟩
  | .local _ .vmem, ⟨10, _⟩ => ⟨S640x1024, .bf16⟩
  | .local _ .vmem, ⟨11, _⟩ => ⟨S1792x1024, .bf16⟩
  | .local _ .vmem, ⟨12, _⟩ => ⟨S640x1024, .f32⟩
  | .local _ .vmem, ⟨13, _⟩ => ⟨S640x1024, .f32⟩
  | .local _ .vmem, ⟨14, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8320x1024 : Shape := ⟨2, ![8320, 1024]⟩
abbrev S1x1024 : Shape := ⟨2, ![1, 1024]⟩
abbrev S8320x512 : Shape := ⟨2, ![8320, 512]⟩
abbrev S8320x256 : Shape := ⟨2, ![8320, 256]⟩
abbrev S1024x1792 : Shape := ⟨2, ![1024, 1792]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8320x1792 : Shape := ⟨2, ![8320, 1792]⟩

abbrev nBuf : Space → Nat
  | .hbm => 60
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x512, .bf16⟩
  | .hbm, ⟨4, _⟩ => ⟨S8320x256, .bf16⟩
  | .hbm, ⟨5, _⟩ => ⟨S8320x1024, .bf16⟩
  | .hbm, ⟨6, _⟩ => ⟨S1024x1792, .bf16⟩
  | .hbm, ⟨7, _⟩ => ⟨S1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1024, .f32⟩
  | .hbm, ⟨24, _⟩ => ⟨S8320x1024, .f32⟩
  | .hbm, ⟨25, _⟩ => ⟨S1x1024, .f32⟩
  | .hbm, ⟨26, _⟩ => ⟨S8320x1024, .f32⟩
  | .hbm, ⟨27, _⟩ => ⟨S8320x1024, .f32⟩
  | .hbm, ⟨28, _⟩ => ⟨S1024x1792, .f32⟩
  | .hbm, ⟨29, _⟩ => ⟨S8320x1792, .f32⟩
  | .hbm, ⟨30, _⟩ => ⟨S8320x1792, .bf16⟩
  | .hbm, ⟨31, _⟩ => ⟨S8320x1792, .f32⟩
  | .hbm, ⟨32, _⟩ => ⟨S8320x1024, .f32⟩
  | .hbm, ⟨33, _⟩ => ⟨S8320x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8320x1024, .f32⟩
  | .hbm, ⟨38, _⟩ => ⟨S8320x1024, .f32⟩
  | .hbm, ⟨39, _⟩ => ⟨S_, .f32⟩
  | .hbm, ⟨40, _⟩ => ⟨S1024, .f32⟩
  | .hbm, ⟨41, _⟩ => ⟨S8320x1024, .f32⟩
  | .hbm, ⟨42, _⟩ => ⟨S_, .f32⟩
  | .hbm, ⟨43, _⟩ => ⟨S8320, .f32⟩
  | .hbm, ⟨44, _⟩ => ⟨S8320x1, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1, .f32⟩
  | .hbm, ⟨49, _⟩ => ⟨S_, .f32⟩
  | .hbm, ⟨50, _⟩ => ⟨S8320x1, .f32⟩
  | .hbm, ⟨51, _⟩ => ⟨S8320x1, .f32⟩
  | .hbm, ⟨52, _⟩ => ⟨S_, .f32⟩
  | .hbm, ⟨53, _⟩ => ⟨S8320, .f32⟩
  | .hbm, ⟨54, _⟩ => ⟨S8320x1024, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel6.lean ====
abbrev S8320x1024 : Shape := ⟨2, ![8320, 1024]⟩
abbrev S8320x512 : Shape := ⟨2, ![8320, 512]⟩
abbrev S8320x256 : Shape := ⟨2, ![8320, 256]⟩
abbrev S1024x1792 : Shape := ⟨2, ![1024, 1792]⟩
abbrev S1664x1024 : Shape := ⟨2, ![1664, 1024]⟩
abbrev S1664x512 : Shape := ⟨2, ![1664, 512]⟩
abbrev S1664x256 : Shape := ⟨2, ![1664, 256]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x256, .bf16⟩
  | .hbm, ⟨3, _⟩ => ⟨S8320x1024, .bf16⟩
  | .hbm, ⟨4, _⟩ => ⟨S1024x1792, .f32⟩
  | .local _ .vmem, ⟨0, _⟩ => ⟨S1664x1024, .bf16⟩
  | .local _ .vmem, ⟨1, _⟩ => ⟨S1664x1024, .bf16⟩
  | .local _ .vmem, ⟨2, _⟩ => ⟨S1664x512, .bf16⟩
  | .local _ .vmem, ⟨3, _⟩ => ⟨S1664x512, .bf16⟩
  | .local _ .vmem, ⟨4, _⟩ => ⟨S1664x256, .bf16⟩
  | .local _ .vmem, ⟨5, _⟩ => ⟨S1664x256, .bf16⟩
  | .local _ .vmem, ⟨6, _⟩ => ⟨S1664x1024, .bf16⟩
  | .local _ .vmem, ⟨7, _⟩ => ⟨S1664x1024, .bf16⟩
  | .local _ .vmem, ⟨8, _⟩ => ⟨S1024x1792, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1664x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S8320x1024 : Shape := ⟨2, ![8320, 1024]⟩
abbrev S8320x512 : Shape := ⟨2, ![8320, 512]⟩
abbrev S8320x256 : Shape := ⟨2, ![8320, 256]⟩
abbrev S8320x1792 : Shape := ⟨2, ![8320, 1792]⟩
abbrev S1792x1024 : Shape := ⟨2, ![1792, 1024]⟩
abbrev S1024x1792 : Shape := ⟨2, ![1024, 1792]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x256, .bf16⟩
  | .hbm, ⟨3, _⟩ => ⟨S8320x1024, .bf16⟩
  | .hbm, ⟨4, _⟩ => ⟨S8320x1024, .f32⟩
  | .hbm, ⟨5, _⟩ => ⟨S8320x1792, .bf16⟩
  | .hbm, ⟨6, _⟩ => ⟨S8320x1792, .f32⟩
  | .hbm, ⟨7, _⟩ => ⟨S1792x1024, .f32⟩
  | .hbm, ⟨8, _⟩ => ⟨S1024x1792, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S8320x1024 : Shape := ⟨2, ![8320, 1024]⟩
abbrev S1x1024 : Shape := ⟨2, ![1, 1024]⟩
abbrev S1024x1024 : Shape := ⟨2, ![1024, 1024]⟩
abbrev S8320x512 : Shape := ⟨2, ![8320, 512]⟩
abbrev S640x1024 : Shape := ⟨2, ![640, 1024]⟩
abbrev S640x512 : Shape := ⟨2, ![640, 512]⟩
abbrev S640 : Shape := ⟨1, ![640]⟩
abbrev S640x1 : Shape := ⟨2, ![640, 1]⟩
abbrev S1024 : Shape := ⟨1, ![1024]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S1024x1024, .bf16⟩
  | .hbm, ⟨4, _⟩ => ⟨S8320x512, .bf16⟩
  | .hbm, ⟨5, _⟩ => ⟨S8320x512, .bf16⟩
  | .hbm, ⟨6, _⟩ => ⟨S1024x1024, .bf16⟩
  | .hbm, ⟨7, _⟩ => ⟨S8320x512, .bf16⟩
  | .hbm, ⟨8, _⟩ => ⟨S8320x512, .f32⟩
  | .hbm, ⟨9, _⟩ => ⟨S1024x1024, .f32⟩
  | .hbm, ⟨10, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S1024x1024, .bf16⟩
  | .local _ .vmem, ⟨6, _⟩ => ⟨S640x512, .bf16⟩
  | .local _ .vmem, ⟨7, _⟩ => ⟨S640x512, .bf16⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S640x512, .bf16⟩
  | .local _ .vmem, ⟨12, _⟩ => ⟨S640x512, .f32⟩
  | .local _ .vmem, ⟨13, _⟩ => ⟨S640x512, .f32⟩
  | .local _ .vmem, ⟨14, _⟩ => ⟨S1024x1024, .f32⟩
  | .local _ .vmem, ⟨15, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8320x1024 : Shape := ⟨2, ![8320, 1024]⟩
abbrev S1x1024 : Shape := ⟨2, ![1, 1024]⟩
abbrev S1024x1024 : Shape := ⟨2, ![1024, 1024]⟩
abbrev S8320x512 : Shape := ⟨2, ![8320, 512]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 64
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S1024x1024, .bf16⟩
  | .hbm, ⟨4, _⟩ => ⟨S8320x512, .bf16⟩
  | .hbm, ⟨5, _⟩ => ⟨S8320x512, .bf16⟩
  | .hbm, ⟨6, _⟩ => ⟨S1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1024, .f32⟩
  | .hbm, ⟨23, _⟩ => ⟨S8320x1024, .f32⟩
  | .hbm, ⟨24, _⟩ => ⟨S1x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S1024, .f32⟩
  | .hbm, ⟨35, _⟩ => ⟨S8320x1024, .f32⟩
  | .hbm, ⟨36, _⟩ => ⟨S_, .f32⟩
  | .hbm, ⟨37, _⟩ => ⟨S8320, .f32⟩
  | .hbm, ⟨38, _⟩ => ⟨S8320x1, .f32⟩
  | .hbm, ⟨39, _⟩ => ⟨S8320x1024, .f32⟩
  | .hbm, ⟨40, _⟩ => ⟨S8320x1024, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S_, .f32⟩
  | .hbm, ⟨46, _⟩ => ⟨S8320, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S1x1024, .f32⟩
  | .hbm, ⟨53, _⟩ => ⟨S8320x512, .f32⟩
  | .hbm, ⟨54, _⟩ => ⟨S8320x512, .f32⟩
  | .hbm, ⟨55, _⟩ => ⟨S1024x1024, .f32⟩
  | .hbm, ⟨56, _⟩ => ⟨S8320x1024, .f32⟩
  | .hbm, ⟨57, _⟩ => ⟨S8320x1024, .f32⟩
  | .hbm, ⟨58, _⟩ => ⟨S1024x1024, .f32⟩
  | .hbm, ⟨59, _⟩ => ⟨S1024x1024, .f32⟩
  | .hbm, ⟨60, _⟩ => ⟨S8320x1024, .f32⟩
  | .hbm, ⟨61, _⟩ => ⟨S8320x512, .f32⟩
  | .hbm, ⟨62, _⟩ => ⟨S8320x512, .f32⟩
  | .hbm, ⟨63, _⟩ => ⟨S8320x512, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel8.lean ====
abbrev S8320x1024 : Shape := ⟨2, ![8320, 1024]⟩
abbrev S1x1024 : Shape := ⟨2, ![1, 1024]⟩
abbrev S1024x1792 : Shape := ⟨2, ![1024, 1792]⟩
abbrev S8320x768 : Shape := ⟨2, ![8320, 768]⟩
abbrev S640x1024 : Shape := ⟨2, ![640, 1024]⟩
abbrev S640x768 : Shape := ⟨2, ![640, 768]⟩
abbrev S640 : Shape := ⟨1, ![640]⟩
abbrev S640x1 : Shape := ⟨2, ![640, 1]⟩
abbrev S640x1792 : Shape := ⟨2, ![640, 1792]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1792, .bf16⟩
  | .hbm, ⟨3, _⟩ => ⟨S8320x768, .bf16⟩
  | .hbm, ⟨4, _⟩ => ⟨S8320x1024, .f32⟩
  | .hbm, ⟨5, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1792, .bf16⟩
  | .local _ .vmem, ⟨4, _⟩ => ⟨S640x768, .bf16⟩
  | .local _ .vmem, ⟨5, _⟩ => ⟨S640x768, .bf16⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8320x1024 : Shape := ⟨2, ![8320, 1024]⟩
abbrev S1x1024 : Shape := ⟨2, ![1, 1024]⟩
abbrev S1024x1792 : Shape := ⟨2, ![1024, 1792]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8320x1792 : Shape := ⟨2, ![8320, 1792]⟩
abbrev S8320x768 : Shape := ⟨2, ![8320, 768]⟩

abbrev nBuf : Space → Nat
  | .hbm => 26
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1792, .bf16⟩
  | .hbm, ⟨3, _⟩ => ⟨S1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S1024x1792, .f32⟩
  | .hbm, ⟨21, _⟩ => ⟨S8320x1792, .f32⟩
  | .hbm, ⟨22, _⟩ => ⟨S8320x768, .f32⟩
  | .hbm, ⟨23, _⟩ => ⟨S8320x768, .bf16⟩
  | .hbm, ⟨24, _⟩ => ⟨S8320x1024, .f32⟩
  | .hbm, ⟨25, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel9.lean ====
abbrev S8320x512 : Shape := ⟨2, ![8320, 512]⟩
abbrev S1024x1024 : Shape := ⟨2, ![1024, 1024]⟩
abbrev S8320x1024 : Shape := ⟨2, ![8320, 1024]⟩
abbrev S1x1024 : Shape := ⟨2, ![1, 1024]⟩
abbrev S640x512 : Shape := ⟨2, ![640, 512]⟩
abbrev S640x1024 : Shape := ⟨2, ![640, 1024]⟩
abbrev S512x1024 : Shape := ⟨2, ![512, 1024]⟩
abbrev S640 : Shape := ⟨1, ![640]⟩
abbrev S640x1 : Shape := ⟨2, ![640, 1]⟩

abbrev nBuf : Space → Nat
  | .hbm => 7
  | .vmem => 12
  | .smem => 0
  | _ => 0

abbrev bufTy : (tb : Table) → Fin (tcTables nBuf tb) → BufTy
  | .hbm, ⟨0, _⟩ => ⟨S8320x512, .bf16⟩
  | .hbm, ⟨1, _⟩ => ⟨S8320x512, .bf16⟩
  | .hbm, ⟨2, _⟩ => ⟨S1024x1024, .bf16⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S8320x1024, .f32⟩
  | .local _ .vmem, ⟨0, _⟩ => ⟨S640x512, .bf16⟩
  | .local _ .vmem, ⟨1, _⟩ => ⟨S640x512, .bf16⟩
  | .local _ .vmem, ⟨2, _⟩ => ⟨S640x512, .bf16⟩
  | .local _ .vmem, ⟨3, _⟩ => ⟨S640x512, .bf16⟩
  | .local _ .vmem, ⟨4, _⟩ => ⟨S1024x1024, .bf16⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8320x512 : Shape := ⟨2, ![8320, 512]⟩
abbrev S1024x1024 : Shape := ⟨2, ![1024, 1024]⟩
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 27
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x512, .bf16⟩
  | .hbm, ⟨2, _⟩ => ⟨S1024x1024, .bf16⟩
  | .hbm, ⟨3, _⟩ => ⟨S8320x1024, .f32⟩
  | .hbm, ⟨4, _⟩ => ⟨S1x1024, .f32⟩
  | .hbm, ⟨5, _⟩ => ⟨S8320x1024, .bf16⟩
  | .hbm, ⟨6, _⟩ => ⟨S8320x1024, .f32⟩
  | .hbm, ⟨7, _⟩ => ⟨S1024x1024, .f32⟩
  | .hbm, ⟨8, _⟩ => ⟨S8320x1024, .f32⟩
  | .hbm, ⟨9, _⟩ => ⟨S1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S1x1024, .f32⟩
  | .hbm, ⟨24, _⟩ => ⟨S8320x1024, .f32⟩
  | .hbm, ⟨25, _⟩ => ⟨S8320x1024, .f32⟩
  | .hbm, ⟨26, _⟩ => ⟨S8320x1024, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Attn.RunA.lean ====
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S1x256x512 .f32) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x512 .bf16) (harg9 : arg9.IsWhole)
  (arg10 : Memref sig .tc .vmem S128x256 .bf16) (harg10 : arg10.IsWhole)
  (arg11 : Memref sig .tc .vmem S8x128 .f32) (harg11 : arg11.IsWhole)
  (arg12 : Memref sig .tc .vmem S128x128 .f32) (harg12 : arg12.IsWhole)
  (arg13 : Memref sig .tc .vmem S128x128 .f32) (harg13 : arg13.IsWhole)
  (hc0 : k0_cond1 i = 1#1) (hc1 : k0_cond2 i = 1#1) (hc2 : ¬k0_cond3 i = 1#1)
variable (x0 : Vec F S1x8 .f32) (x1 : Vec F S1x256x512 .f32) (x2 : Vec F S128x512 .bf16) (x3 : Vec F S128x512 .bf16) (x4 : Vec F S128x128 .bf16) (x5 : Vec F S128x128 .bf16) (x6 : Vec F S128x128 .bf16) (x7 : Vec F S128x128 .bf16)

-- the term the run finds is large
set_option maxHeartbeats 1000000 in
/-- The body at the first grid point: what it leaves of the three outputs and the two carries, each as
the list of stores it was given, with the run that leaves it. -/
def runA  :
    Σ' (L8 : List (View.Piece (Elt F) S128x512 .bf16)), Σ' (L9 : List (View.Piece (Elt F) S128x256 .bf16)), Σ' (L10 : List (View.Piece (Elt F) S8x128 .f32)), Σ' (LS0 : List (View.Piece (Elt F) S128x128 .f32)), { LS1 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, ⟨%d10, %f10, -, H10⟩, ⟨%es0, %fs0, -, HS0⟩, ⟨%es1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Attn

end
-- ==== Proof.Attn.RunC.lean ====
module

public import proofs.«01_k».proof.Proof.Attn.RunB

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S1x256x512 .f32) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x512 .bf16) (harg9 : arg9.IsWhole)
  (arg10 : Memref sig .tc .vmem S128x256 .bf16) (harg10 : arg10.IsWhole)
  (arg11 : Memref sig .tc .vmem S8x128 .f32) (harg11 : arg11.IsWhole)
  (arg12 : Memref sig .tc .vmem S128x128 .f32) (harg12 : arg12.IsWhole)
  (arg13 : Memref sig .tc .vmem S128x128 .f32) (harg13 : arg13.IsWhole)
  (hc0 : ¬k0_cond1 i = 1#1) (hc1 : ¬k0_cond2 i = 1#1) (hc2 : k0_cond3 i = 1#1)
variable (x0 : Vec F S1x8 .f32) (x1 : Vec F S1x256x512 .f32) (x2 : Vec F S128x512 .bf16) (x3 : Vec F S128x512 .bf16) (x4 : Vec F S128x128 .bf16) (x5 : Vec F S128x128 .bf16) (x6 : Vec F S128x128 .bf16) (x7 : Vec F S128x128 .bf16)

-- the term the run finds is large
set_option maxHeartbeats 1000000 in
/-- The body at the last grid point, which only turns the carries into the last block of the key and value
gradients. The other two outputs and the carries stay as they were. -/
def runC (xs0 : Vec F S128x128 .f32) (xs1 : Vec F S128x128 .f32) :
    { L9 : List (View.Piece (Elt F) S128x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg10 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg10.view.loc (c : Thread nD τ) ↦[arg10.view.set]{fullShare} arg10.view.writes (Elt F) f L9) ∗ owns (c : Thread nD τ) arg12 fullShare xs0 ∗ owns (c : Thread nD τ) arg13 fullShare xs1) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    isplitl [HS0]
    · iexists _; isplitr; · ipureintro; exact harg12.read_unread _
      iexact HS0
    iexists _; isplitr; · ipureintro; exact harg13.read_unread _
    iexact HS1

end Cert.KernelIdeal.Attn

end
-- ==== Proof.Attn.Outs.lean ====
module

public import proofs.«01_k».proof.Proof.Attn.RunC
public import Idealize.ShloMosaic.Lib.Pipeline.TableIdle

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The first point. -/
theorem conds_first : ∀ t : Fin cfg0.N, t.val = 0 →
    k0_cond1 (grid0.coords t) = 1#1 ∧ k0_cond2 (grid0.coords t) = 1#1 ∧ ¬k0_cond3 (grid0.coords t) = 1#1 :=
  (by decide +kernel : ∀ t : Fin grid0.N, t.val = 0 →
    k0_cond1 (grid0.coords t) = 1#1 ∧ k0_cond2 (grid0.coords t) = 1#1 ∧ ¬k0_cond3 (grid0.coords t) = 1#1)

/-- A middle point. -/
theorem conds_middle : ∀ t : Fin cfg0.N, t.val ≠ 0 → t.val < 65 →
    ¬k0_cond1 (grid0.coords t) = 1#1 ∧ k0_cond2 (grid0.coords t) = 1#1 ∧ ¬k0_cond3 (grid0.coords t) = 1#1 :=
  (by decide +kernel : ∀ t : Fin grid0.N, t.val ≠ 0 → t.val < 65 →
    ¬k0_cond1 (grid0.coords t) = 1#1 ∧ k0_cond2 (grid0.coords t) = 1#1 ∧ ¬k0_cond3 (grid0.coords t) = 1#1)

/-- The last point. -/
theorem conds_last : ∀ t : Fin cfg0.N, ¬t.val < 65 →
    ¬k0_cond1 (grid0.coords t) = 1#1 ∧ ¬k0_cond2 (grid0.coords t) = 1#1 ∧ k0_cond3 (grid0.coords t) = 1#1 :=
  (by decide +kernel : ∀ t : Fin grid0.N, ¬t.val < 65 →
    ¬k0_cond1 (grid0.coords t) = 1#1 ∧ ¬k0_cond2 (grid0.coords t) = 1#1 ∧ k0_cond3 (grid0.coords t) = 1#1)

/-- Up to the last point the body stores into all three outputs. -/
theorem live_early : ∀ t : Fin cfg0.N, t.val < 65 →
    cfg0.idle 8 (grid0.coords t) = false ∧ cfg0.idle 9 (grid0.coords t) = false ∧ cfg0.idle 10 (grid0.coords t) = false := by
  decide +kernel

/-- At the last point it stores into the key and value gradients alone, and the other two are written back. -/
theorem live_last : ∀ t : Fin cfg0.N, ¬t.val < 65 →
    (cfg0.idle 8 (grid0.coords t) = true ∧ (cfg0.win 8).flush t = true) ∧ cfg0.idle 9 (grid0.coords t) = false
      ∧ cfg0.idle 10 (grid0.coords t) = true ∧ (cfg0.win 10).flush t = true := by
  decide +kernel

/-- Whether the buffer of the query gradient holds nothing of the body's before a point: at each but the last. -/
def fresh8 (n : ℕ) : Bool := n != 65

theorem fresh8_step : ∀ t : Fin cfg0.N,
    fresh8 (t.val + 1) = ((cfg0.win 8).flush t || (cfg0.idle 8 (cfg0.grid.coords t) && fresh8 t.val)) := by decide +kernel

theorem fresh8_eq (t : Fin cfg0.N) : cfg0.fresh 8 t.val = fresh8 t.val :=
  Pipeline.Cfg.fresh_tab cfg0 8 fresh8 rfl fresh8_step t.val (Nat.le_of_lt t.isLt)

/-- The same for the sink sum: before the first point only. -/
def fresh10 (n : ℕ) : Bool := n == 0 || n == 66

theorem fresh10_step : ∀ t : Fin cfg0.N,
    fresh10 (t.val + 1) = ((cfg0.win 10).flush t || (cfg0.idle 10 (cfg0.grid.coords t) && fresh10 t.val)) := by decide +kernel

theorem fresh10_eq (t : Fin cfg0.N) : cfg0.fresh 10 t.val = fresh10 t.val :=
  Pipeline.Cfg.fresh_tab cfg0 10 fresh10 rfl fresh10_step t.val (Nat.le_of_lt t.isLt)

/-! ## The buffers through which contents are stated -/

abbrev out8 : View sig .tc .vmem S128x512 .bf16 := (Memref.whole cc0_stg8_0 : Memref sig .tc .vmem S128x512 .bf16).view
abbrev out9 : View sig .tc .vmem S128x256 .bf16 := (Memref.whole cc0_stg9_0 : Memref sig .tc .vmem S128x256 .bf16).view
abbrev out10 : View sig .tc .vmem S8x128 .f32 := (Memref.whole cc0_stg10_0 : Memref sig .tc .vmem S8x128 .f32).view
abbrev keyCarry : Memref sig .tc .vmem S128x128 .f32 := Memref.whole cc0_scratch0
abbrev valCarry : Memref sig .tc .vmem S128x128 .f32 := Memref.whole cc0_scratch1

/-! ## What each case leaves, at generic buffers -/

variable (c : Dev nD) (i : grid0.Coords)
  (arg1 : Memref sig .tc .smem S1x8 .f32) (harg1 : arg1.IsWhole)
  (arg2 : Memref sig .tc .vmem S1x256x512 .f32) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x512 .bf16) (harg9 : arg9.IsWhole)
  (arg10 : Memref sig .tc .vmem S128x256 .bf16) (harg10 : arg10.IsWhole)
  (arg11 : Memref sig .tc .vmem S8x128 .f32) (harg11 : arg11.IsWhole)
  (arg12 : Memref sig .tc .vmem S128x128 .f32) (harg12 : arg12.IsWhole)
  (arg13 : Memref sig .tc .vmem S128x128 .f32) (harg13 : arg13.IsWhole)variable (x0 : Vec F S1x8 .f32) (x1 : Vec F S1x256x512 .f32) (x2 : Vec F S128x512 .bf16) (x3 : Vec F S128x512 .bf16) (x4 : Vec F S128x128 .bf16) (x5 : Vec F S128x128 .bf16) (x6 : Vec F S128x128 .bf16) (x7 : Vec F S128x128 .bf16)
variable (xo10 : Vec F S8x128 .f32) (xs0 : Vec F S128x128 .f32) (xs1 : Vec F S128x128 .f32)

section
variable (hc0 : k0_cond1 i = 1#1) (hc1 : k0_cond2 i = 1#1) (hc2 : ¬k0_cond3 i = 1#1)
include hc0 hc1 hc2

/-- The stores cover the query gradient. -/
theorem coverFirst_dq (y : S128x512.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).1 S128x512.size (by sl_kernel_rfl) y

/-- What they leave of the query gradient. -/
def leftFirst_dq : Vec F S128x512 .bf16 :=
  out8.read (Elt F) (out8.writes (Elt F) out8.junk (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).1)

end

section
variable (hc0 : k0_cond1 i = 1#1) (hc1 : k0_cond2 i = 1#1) (hc2 : ¬k0_cond3 i = 1#1)
include hc0 hc1 hc2

/-- The stores cover the key and value gradients. -/
theorem coverFirst_dkv (y : S128x256.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.1 S128x128.size (by sl_kernel_rfl) y

/-- What they leave of the key and value gradients. -/
def leftFirst_dkv : Vec F S128x256 .bf16 :=
  out9.read (Elt F) (out9.writes (Elt F) out9.junk (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.1)

end

section
variable (hc0 : k0_cond1 i = 1#1) (hc1 : k0_cond2 i = 1#1) (hc2 : ¬k0_cond3 i = 1#1)
include hc0 hc1 hc2

/-- The stores cover the sink sum. -/
theorem coverFirst_dsink (y : S8x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.1 S8x128.size (by sl_kernel_rfl) y

/-- What they leave of the sink sum. -/
def leftFirst_dsink : Vec F S8x128 .f32 :=
  out10.read (Elt F) (out10.writes (Elt F) out10.junk (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.1)

end

section
variable (hc0 : k0_cond1 i = 1#1) (hc1 : k0_cond2 i = 1#1) (hc2 : ¬k0_cond3 i = 1#1)
include hc0 hc1 hc2

/-- The stores cover the carried key gradient. -/
theorem coverFirst_kc (y : S128x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.1 S128x128.size (by sl_kernel_rfl) y

/-- What they leave of the carried key gradient. -/
def leftFirst_kc : Vec F S128x128 .f32 :=
  keyCarry.view.read (Elt F) (keyCarry.view.writes (Elt F) keyCarry.view.junk (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.1)

end

section
variable (hc0 : k0_cond1 i = 1#1) (hc1 : k0_cond2 i = 1#1) (hc2 : ¬k0_cond3 i = 1#1)
include hc0 hc1 hc2

/-- The stores cover the carried value gradient. -/
theorem coverFirst_vc (y : S128x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.2.1 S128x128.size (by sl_kernel_rfl) y

/-- What they leave of the carried value gradient. -/
def leftFirst_vc : Vec F S128x128 .f32 :=
  valCarry.view.read (Elt F) (valCarry.view.writes (Elt F) valCarry.view.junk (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 ).2.2.2.2.1)

end

section
variable (hc0 : ¬k0_cond1 i = 1#1) (hc1 : k0_cond2 i = 1#1) (hc2 : ¬k0_cond3 i = 1#1)
include hc0 hc1 hc2

/-- The stores cover the query gradient. -/
theorem coverMid_dq (y : S128x512.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).1 S128x512.size (by sl_kernel_rfl) y

/-- What they leave of the query gradient. -/
def leftMid_dq : Vec F S128x512 .bf16 :=
  out8.read (Elt F) (out8.writes (Elt F) out8.junk (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).1)

end

section
variable (hc0 : ¬k0_cond1 i = 1#1) (hc1 : k0_cond2 i = 1#1) (hc2 : ¬k0_cond3 i = 1#1)
include hc0 hc1 hc2

/-- The stores cover the key and value gradients. -/
theorem coverMid_dkv (y : S128x256.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.1 S128x128.size (by sl_kernel_rfl) y

/-- What they leave of the key and value gradients. -/
def leftMid_dkv : Vec F S128x256 .bf16 :=
  out9.read (Elt F) (out9.writes (Elt F) out9.junk (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.1)

end

section
variable (hc0 : ¬k0_cond1 i = 1#1) (hc1 : k0_cond2 i = 1#1) (hc2 : ¬k0_cond3 i = 1#1)
include hc0 hc1 hc2

/-- The stores cover the sink sum. -/
theorem coverMid_dsink (y : S8x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.1 S8x128.size (by sl_kernel_rfl) y

/-- What they leave of the sink sum. -/
def leftMid_dsink : Vec F S8x128 .f32 :=
  out10.read (Elt F) (out10.writes (Elt F) out10.junk (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.1)

end

section
variable (hc0 : ¬k0_cond1 i = 1#1) (hc1 : k0_cond2 i = 1#1) (hc2 : ¬k0_cond3 i = 1#1)
include hc0 hc1 hc2

/-- The stores cover the carried key gradient. -/
theorem coverMid_kc (y : S128x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.1 S128x128.size (by sl_kernel_rfl) y

/-- What they leave of the carried key gradient. -/
def leftMid_kc : Vec F S128x128 .f32 :=
  keyCarry.view.read (Elt F) (keyCarry.view.writes (Elt F) keyCarry.view.junk (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.1)

end

section
variable (hc0 : ¬k0_cond1 i = 1#1) (hc1 : k0_cond2 i = 1#1) (hc2 : ¬k0_cond3 i = 1#1)
include hc0 hc1 hc2

/-- The stores cover the carried value gradient. -/
theorem coverMid_vc (y : S128x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.2.1 S128x128.size (by sl_kernel_rfl) y

/-- What they leave of the carried value gradient. -/
def leftMid_vc : Vec F S128x128 .f32 :=
  valCarry.view.read (Elt F) (valCarry.view.writes (Elt F) valCarry.view.junk (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo10 xs0 xs1).2.2.2.2.1)

end

section
variable (hc0 : ¬k0_cond1 i = 1#1) (hc1 : ¬k0_cond2 i = 1#1) (hc2 : k0_cond3 i = 1#1)
include hc0 hc1 hc2

/-- The stores cover the key and value gradients. -/
theorem coverLast_dkv (y : S128x256.Idx) :
    ∃ pc ∈ (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1 S128x128.size (by sl_kernel_rfl) y

/-- What they leave of the key and value gradients. -/
def leftLast_dkv : Vec F S128x256 .bf16 :=
  out9.read (Elt F) (out9.writes (Elt F) out9.junk (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1)

end

end Cert.KernelIdeal.Attn

end
-- ==== Proof.Attn.Frame.lean ====
module

public import proofs.«01_k».proof.Proof.Attn.Outs
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state after each point -/

/-- The three outputs' buffers and the two carries. -/
abbrev State (F : FTy → Type) : Type :=
  Vec F S128x512 .bf16 × Vec F S128x256 .bf16 × Vec F S8x128 .f32 × Vec F S128x128 .f32 × Vec F S128x128 .f32

/-- What the first point leaves. -/
def first (c : Dev nD) (t : Fin cfg0.N) (h : t.val = 0) : State F :=
  (leftFirst_dq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t)  (conds_first t h).1 (conds_first t h).2.1 (conds_first t h).2.2,
      leftFirst_dkv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t)  (conds_first t h).1 (conds_first t h).2.1 (conds_first t h).2.2,
      leftFirst_dsink c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t)  (conds_first t h).1 (conds_first t h).2.1 (conds_first t h).2.2,
      leftFirst_kc c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t)  (conds_first t h).1 (conds_first t h).2.1 (conds_first t h).2.2,
      leftFirst_vc c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t)  (conds_first t h).1 (conds_first t h).2.1 (conds_first t h).2.2)

/-- What a middle point leaves, from the state before it. -/
def middle (c : Dev nD) (t : Fin cfg0.N) (h0 : t.val ≠ 0) (h1 : t.val < 65) (s : State F) : State F :=
  (leftMid_dq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.1 s.2.2.2.1 s.2.2.2.2 (conds_middle t h0 h1).1 (conds_middle t h0 h1).2.1 (conds_middle t h0 h1).2.2,
      leftMid_dkv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.1 s.2.2.2.1 s.2.2.2.2 (conds_middle t h0 h1).1 (conds_middle t h0 h1).2.1 (conds_middle t h0 h1).2.2,
      leftMid_dsink c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.1 s.2.2.2.1 s.2.2.2.2 (conds_middle t h0 h1).1 (conds_middle t h0 h1).2.1 (conds_middle t h0 h1).2.2,
      leftMid_kc c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.1 s.2.2.2.1 s.2.2.2.2 (conds_middle t h0 h1).1 (conds_middle t h0 h1).2.1 (conds_middle t h0 h1).2.2,
      leftMid_vc c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.1 s.2.2.2.1 s.2.2.2.2 (conds_middle t h0 h1).1 (conds_middle t h0 h1).2.1 (conds_middle t h0 h1).2.2)

/-- What the last point leaves, from the state before it. -/
def last (c : Dev nD) (t : Fin cfg0.N) (h1 : ¬t.val < 65) (s : State F) : State F :=
  (s.1,
      leftLast_dkv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) keyCarry (Memref.isWhole_whole _) valCarry (Memref.isWhole_whole _) (iblk m c 0 t) (iblk m c 1 t) (X0_2 m c t) (iblk m c 3 t) (iblk m c 4 t) (iblk m c 5 t) (iblk m c 6 t) (iblk m c 7 t) s.2.2.2.1 s.2.2.2.2 (conds_last t h1).1 (conds_last t h1).2.1 (conds_last t h1).2.2,
      s.2.2)

/-- The state after point `n`. -/
def after (c : Dev nD) : (n : ℕ) → n < cfg0.N → State F
  | 0, h => first m c ⟨0, h⟩ rfl
  | n + 1, h =>
    if h1 : n + 1 < 65 then middle m c ⟨n + 1, h⟩ (Nat.succ_ne_zero n) h1 (after c n (Nat.lt_of_succ_lt h))
    else last m c ⟨n + 1, h⟩ h1 (after c n (Nat.lt_of_succ_lt h))

theorem after_first (c : Dev nD) (t : Fin cfg0.N) (h : t.val = 0) : after m c t.val t.isLt = first m c t h := by
  obtain ⟨_ | n, ht⟩ := t
  · rfl
  · exact absurd h (Nat.succ_ne_zero n)

theorem after_middle (c : Dev nD) (t : Fin cfg0.N) (h0 : t.val ≠ 0) (h1 : t.val < 65) :
    after m c t.val t.isLt = middle m c t h0 h1 (after m c (t.val - 1) (Nat.lt_of_le_of_lt (Nat.sub_le _ _) t.isLt)) := by
  obtain ⟨_ | n, ht⟩ := t
  · exact absurd rfl h0
  · exact dif_pos h1

theorem after_last (c : Dev nD) (t : Fin cfg0.N) (h0 : t.val ≠ 0) (h1 : ¬t.val < 65) :
    after m c t.val t.isLt = last m c t h1 (after m c (t.val - 1) (Nat.lt_of_le_of_lt (Nat.sub_le _ _) t.isLt)) := by
  obtain ⟨_ | n, ht⟩ := t
  · exact absurd rfl h0
  · exact dif_neg h1

/-! ## The proof data -/

/-- The carries and the generator register at rest between points. -/
def resting (c : Dev nD) (s : State F) : sProp 𝕄 :=
  iprop(iprop(owns (c : Thread nD τ) keyCarry fullShare s.2.2.2.1 ∗ owns (c : Thread nD τ) valCarry fullShare s.2.2.2.2) ∗ (∃ r, prngReg c r))

/-- The invariant before position `n`: before the first point the scratch holds anything. -/
def inv (c : Dev nD) : (n : ℕ) → n ≤ cfg0.N → sProp 𝕄
  | 0, _ => Pipeline.ΦA spec0 c
  | n + 1, hn => resting c (after m c n hn)

theorem inv_pos (c : Dev nD) (n : ℕ) (h : n ≤ cfg0.N) (hz : n ≠ 0) :
    inv m c n h = resting c (after m c (n - 1) (by omega)) := by
  cases n with
  | zero => exact absurd rfl hz
  | succ n => rfl

theorem inv_first (c : Dev nD) (t : Fin cfg0.N) (h : t.val = 0) :
    inv m c t.val (Nat.le_of_lt t.isLt) = Pipeline.ΦA spec0 c := by
  obtain ⟨_ | n, ht⟩ := t
  · rfl
  · exact absurd h (Nat.succ_ne_zero n)

theorem ΦA_eq (c : Dev nD) :
    (Pipeline.ΦA spec0 c : sProp 𝕄)
      = iprop(iprop((∃ d, owns (c : Thread nD τ) keyCarry fullShare d) ∗ (∃ d, owns (c : Thread nD τ) valCarry fullShare d)) ∗ (∃ r, prngReg c r)) := by
  unfold Pipeline.ΦA; rw [scopedRest0_eq]; simp only [keyCarry, valCarry, owns_whole]; try rfl

/-- The arrays as the region finds them; after each point the inputs' buffers at their blocks and the outputs' at the
state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (after m c t.val t.isLt).1
    | ⟨9, _⟩ => (after m c t.val t.isLt).2.1
    | ⟨10, _⟩ => (after m c t.val t.isLt).2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Φ_at (c : Dev nD) (t : Fin (cfg0.N + 1)) :
    (dats m 0 c).Φ t = inv m c t.val (Nat.le_of_lt_succ t.isLt) := by
  dsimp only [dats]

theorem Φ_castSucc (c : Dev nD) (t : Fin cfg0.N) :
    (dats m 0 c).Φ t.castSucc = inv m c t.val (Nat.le_of_lt t.isLt) := by
  dsimp only [dats]; exact Pipeline.Dat.Φ_castSucc (inv m c) t

theorem Φ_succ (c : Dev nD) (t : Fin cfg0.N) :
    (dats m 0 c).Φ t.succ = resting c (after m c t.val t.isLt) := rfl

theorem after8 (c : Dev nD) (t : Fin cfg0.N) : (dats m 0 c).after 8 t = (after m c t.val t.isLt).1 := by dsimp only [dats]
theorem after9 (c : Dev nD) (t : Fin cfg0.N) : (dats m 0 c).after 9 t = (after m c t.val t.isLt).2.1 := by dsimp only [dats]
theorem after10 (c : Dev nD) (t : Fin cfg0.N) : (dats m 0 c).after 10 t = (after m c t.val t.isLt).2.2.1 := by dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (win0_0.stage (cfg0.slots t 0)) fullShare (iblk m c 0 t) := by
  rw [← after0]

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (win0_1.stage (cfg0.slots t 1)) fullShare (iblk m c 1 t) := by
  rw [← after1]

theorem after2 (c : Dev nD) (t : Fin cfg0.N) : (dats m 0 c).after 2 t = X0_2 m c t := by dsimp only [dats]
theorem before2 (c : Dev nD) (t : Fin cfg0.N) (d) : (dats m 0 c).before 2 t d = X0_2 m c t :=
  before0_2_of m (dats m 0 c) (A_eq m c 2) (after2 m c) t d
theorem leaves2 (c : Dev nD) (t : Fin cfg0.N) :
    (dats m 0 c).leavesExact 2 t = owns (c : Thread nD τ) (win0_2.stage (cfg0.slots t 2)) fullShare (X0_2 m c t) := by
  rw [← after2]

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (win0_3.stage (cfg0.slots t 3)) fullShare (iblk m c 3 t) := by
  rw [← after3]

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (win0_4.stage (cfg0.slots t 4)) fullShare (iblk m c 4 t) := by
  rw [← after4]

theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (win0_5.stage (cfg0.slots t 5)) fullShare (iblk m c 5 t) := by
  rw [← after5]

theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) :
    (dats m 0 c).leavesExact 6 t = owns (c : Thread nD τ) (win0_6.stage (cfg0.slots t 6)) fullShare (iblk m c 6 t) := by
  rw [← after6]

theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) :
    (dats m 0 c).leavesExact 7 t = owns (c : Thread nD τ) (win0_7.stage (cfg0.slots t 7)) fullShare (iblk m c 7 t) := by
  rw [← after7]

/-- Where the body leaves window 8 alone its buffer keeps what the point before left. -/
theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h0 hi _
  rw [after8, after8]
  by_cases h1 : t.val < 65
  · rw [(live_early t h1).1] at hi; exact absurd hi Bool.false_ne_true
  · rw [after_last m c t h0 h1]; rfl

theorem before8 (c : Dev nD) (t : Fin cfg0.N) (h0 : t.val ≠ 0) (h1 : ¬t.val < 65) (d) :
    (dats m 0 c).before 8 t d = (after m c (t.val - 1) (Nat.lt_of_le_of_lt (Nat.sub_le _ _) t.isLt)).1 := by
  have hN : t.val < 66 := lt_of_lt_of_eq t.isLt (show cfg0.N = 66 from N_0)
  have hf : fresh8 t.val = false := by simp only [fresh8, bne_eq_false_iff_eq]; omega
  rw [Dat.before_out_traj _ 8 rfl (fun _ _ => rfl) (carry8 m c) t.val t rfl d,
    if_neg (by rw [fresh8_eq t, hf]; exact Bool.false_ne_true)]
  dsimp only [dats]

/-- Where the body leaves window 10 alone its buffer keeps what the point before left. -/
theorem carry10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t h0 hi _
  rw [after10, after10]
  by_cases h1 : t.val < 65
  · rw [(live_early t h1).2.2] at hi; exact absurd hi Bool.false_ne_true
  · rw [after_last m c t h0 h1]; rfl

theorem before10 (c : Dev nD) (t : Fin cfg0.N) (h0 : t.val ≠ 0)  (d) :
    (dats m 0 c).before 10 t d = (after m c (t.val - 1) (Nat.lt_of_le_of_lt (Nat.sub_le _ _) t.isLt)).2.2.1 := by
  have hN : t.val < 66 := lt_of_lt_of_eq t.isLt (show cfg0.N = 66 from N_0)
  have hf : fresh10 t.val = false := by simp only [fresh10, Bool.or_eq_false_iff, beq_eq_false_iff_ne]; omega
  rw [Dat.before_out_traj _ 10 rfl (fun _ _ => rfl) (carry10 m c) t.val t rfl d,
    if_neg (by rw [fresh10_eq t, hf]; exact Bool.false_ne_true)]
  dsimp only [dats]

/-! ## The body's triple -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- What it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at the first point. -/
theorem triple_first (c : Dev nD) (t : Fin cfg0.N) (h : t.val = 0) :
    pre m c t ⊢ wp frame (wpE (defs₀ (F := F)) Variants.none c none) Set.univ (bodyAt0 t) (fun _ => post m c t) := by
  have hN : t.val < 66 := lt_of_lt_of_eq t.isLt (show cfg0.N = 66 from N_0)
  have h1 : t.val < 65 := by omega
  unfold pre post bodyAt0
  simp only [before0, before1, before2, before3, before4, before5, before6, before7]
  rw [show (dats m 0 c).owesAt () t.succ = (dats m 0 c).owesAt () t.castSucc from rfl, Φ_succ, Φ_castSucc]
  rw [leaves0, leaves1, leaves2, leaves3, leaves4, leaves5, leaves6, leaves7]
  rw [show (dats m 0 c).leavesExact 8 t = owns (c : Thread nD τ) (win0_8.stage (cfg0.slots t 8)) fullShare ((dats m 0 c).after 8 t) from by unfold Dat.leavesExact; rw [(live_early t h1).1], after8]
  rw [show (dats m 0 c).leavesExact 9 t = owns (c : Thread nD τ) (win0_9.stage (cfg0.slots t 9)) fullShare ((dats m 0 c).after 9 t) from by unfold Dat.leavesExact; rw [(live_early t h1).2.1], after9]
  rw [show (dats m 0 c).leavesExact 10 t = owns (c : Thread nD τ) (win0_10.stage (cfg0.slots t 10)) fullShare ((dats m 0 c).after 10 t) from by unfold Dat.leavesExact; rw [(live_early t h1).2.2], after10]
  rw [after_first m c t h]
  rw [inv_first m c t h, ΦA_eq]
  unfold resting first leftFirst_dq leftFirst_dkv leftFirst_dsink leftFirst_kc leftFirst_vc; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ _ _ (conds_first t h).1 (conds_first t h).2.1 (conds_first t h).2.2 (iblk m c 0 t) (iblk m c 1 t) (X0_2 m c t) (iblk m c 3 t) (iblk m c 4 t) (iblk m c 5 t) (iblk m c 6 t) (iblk m c 7 t) ).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, ⟨%e8, H8⟩, ⟨%e9, H9⟩, ⟨%e10, H10⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverFirst_kc c _ _ _ _ _ _ _ _ _ _ _ _ _ _ _ _ _ _ _ _ _ _ _ _ _ _ _ _ _ _ _ _ _ _ _ (conds_first t h).1 (conds_first t h).2.1 (conds_first t h).2.2)
      unfold owns; iexists _; isplitr
      swap; · iexact HS1
      ipureintro; exact View.read_writes_of_cover _ _ _ _ _ (coverFirst_vc c _ _ _ _ _ _ _ _ _ _ _ _ _ _ _ _ _ _ _ _ _ _ _ _ _ _ _ _ _ _ _ _ _ _ _ (conds_first t h).1 (conds_first t h).2.1 (conds_first t h).2.2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverFirst_dq c _ _ _ _ _ _ _ _ _ _ _ _ _ _ _ _ _ _ _ _ _ _ _ _ _ _ _ _ _ _ _ _ _ _ _ (conds_first t h).1 (conds_first t h).2.1 (conds_first t h).2.2)
  isplitl [H9]
  · unfold owns; iexists _; isplitr
    swap; · iexact H9
    ipureintro; exact View.read_writes_of_cover _ _ _ _ _ (coverFirst_dkv c _ _ _ _ _ _ _ _ _ _ _ _ _ _ _ _ _ _ _ _ _ _ _ _ _ _ _ _ _ _ _ _ _ _ _ (conds_first t h).1 (conds_first t h).2.1 (conds_first t h).2.2)
  unfold owns; iexists _; isplitr
  swap; · iexact H10
  ipureintro; exact View.read_writes_of_cover _ _ _ _ _ (coverFirst_dsink c _ _ _ _ _ _ _ _ _ _ _ _ _ _ _ _ _ _ _ _ _ _ _ _ _ _ _ _ _ _ _ _ _ _ _ (conds_first t h).1 (conds_first t h).2.1 (conds_first t h).2.2)

set_option maxHeartbeats 4000000 in
/-- The body at a middle point. -/
theorem triple_middle (c : Dev nD) (t : Fin cfg0.N) (h0 : t.val ≠ 0) (h1 : t.val < 65) :
    pre m c t ⊢ wp frame (wpE (defs₀ (F := F)) Variants.none c none) Set.univ (bodyAt0 t) (fun _ => post m c t) := by
  have hN : t.val < 66 := lt_of_lt_of_eq t.isLt (show cfg0.N = 66 from N_0)
  unfold pre post bodyAt0
  simp only [before0, before1, before2, before3, before4, before5, before6, before7]
  rw [show (dats m 0 c).owesAt () t.succ = (dats m 0 c).owesAt () t.castSucc from rfl, Φ_succ, Φ_castSucc]
  rw [leaves0, leaves1, leaves2, leaves3, leaves4, leaves5, leaves6, leaves7]
  rw [show (dats m 0 c).leavesExact 8 t = owns (c : Thread nD τ) (win0_8.stage (cfg0.slots t 8)) fullShare ((dats m 0 c).after 8 t) from by unfold Dat.leavesExact; rw [(live_early t h1).1], after8]
  rw [show (dats m 0 c).leavesExact 9 t = owns (c : Thread nD τ) (win0_9.stage (cfg0.slots t 9)) fullShare ((dats m 0 c).after 9 t) from by unfold Dat.leavesExact; rw [(live_early t h1).2.1], after9]
  rw [show (dats m 0 c).leavesExact 10 t = owns (c : Thread nD τ) (win0_10.stage (cfg0.slots t 10)) fullShare ((dats m 0 c).after 10 t) from by unfold Dat.leavesExact; rw [(live_early t h1).2.2], after10]
  rw [after_middle m c t h0 h1]
  rw [inv_pos m c _ _ h0]
  simp only [before10 m c t h0]
  unfold resting middle leftMid_dq leftMid_dkv leftMid_dsink leftMid_kc leftMid_vc; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ _ _ (conds_middle t h0 h1).1 (conds_middle t h0 h1).2.1 (conds_middle t h0 h1).2.2 (iblk m c 0 t) (iblk m c 1 t) (X0_2 m c t) (iblk m c 3 t) (iblk m c 4 t) (iblk m c 5 t) (iblk m c 6 t) (iblk m c 7 t) _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS0]; · iexact HS0
  isplitl [HS1]; · iexact HS1
  iintro ⟨H0, H1, H2, H3, H4, H5, H6, H7, ⟨%e8, H8⟩, ⟨%e9, H9⟩, ⟨%e10, H10⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverMid_kc c _ _ _ _ _ _ _ _ _ _ _ _ _ _ _ _ _ _ _ _ _ _ _ _ _ _ _ _ _ _ _ _ _ _ _ _ _ _ (conds_middle t h0 h1).1 (conds_middle t h0 h1).2.1 (conds_middle t h0 h1).2.2)
      unfold owns; iexists _; isplitr
      swap; · iexact HS1
      ipureintro; exact View.read_writes_of_cover _ _ _ _ _ (coverMid_vc c _ _ _ _ _ _ _ _ _ _ _ _ _ _ _ _ _ _ _ _ _ _ _ _ _ _ _ _ _ _ _ _ _ _ _ _ _ _ (conds_middle t h0 h1).1 (conds_middle t h0 h1).2.1 (conds_middle t h0 h1).2.2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverMid_dq c _ _ _ _ _ _ _ _ _ _ _ _ _ _ _ _ _ _ _ _ _ _ _ _ _ _ _ _ _ _ _ _ _ _ _ _ _ _ (conds_middle t h0 h1).1 (conds_middle t h0 h1).2.1 (conds_middle t h0 h1).2.2)
  isplitl [H9]
  · unfold owns; iexists _; isplitr
    swap; · iexact H9
    ipureintro; exact View.read_writes_of_cover _ _ _ _ _ (coverMid_dkv c _ _ _ _ _ _ _ _ _ _ _ _ _ _ _ _ _ _ _ _ _ _ _ _ _ _ _ _ _ _ _ _ _ _ _ _ _ _ (conds_middle t h0 h1).1 (conds_middle t h0 h1).2.1 (conds_middle t h0 h1).2.2)
  unfold owns; iexists _; isplitr
  swap; · iexact H10
  ipureintro; exact View.read_writes_of_cover _ _ _ _ _ (coverMid_dsink c _ _ _ _ _ _ _ _ _ _ _ _ _ _ _ _ _ _ _ _ _ _ _ _ _ _ _ _ _ _ _ _ _ _ _ _ _ _ (conds_middle t h0 h1).1 (conds_middle t h0 h1).2.1 (conds_middle t h0 h1).2.2)

set_option maxHeartbeats 4000000 in
/-- The body at the last point. -/
theorem triple_last (c : Dev nD) (t : Fin cfg0.N) (h1 : ¬t.val < 65) :
    pre m c t ⊢ wp frame (wpE (defs₀ (F := F)) Variants.none c none) Set.univ (bodyAt0 t) (fun _ => post m c t) := by
  have hN : t.val < 66 := lt_of_lt_of_eq t.isLt (show cfg0.N = 66 from N_0)
  have h0 : t.val ≠ 0 := by omega
  unfold pre post bodyAt0
  simp only [before0, before1, before2, before3, before4, before5, before6, before7]
  rw [show (dats m 0 c).owesAt () t.succ = (dats m 0 c).owesAt () t.castSucc from rfl, Φ_succ, Φ_castSucc]
  rw [leaves0, leaves1, leaves2, leaves3, leaves4, leaves5, leaves6, leaves7]
  rw [show (dats m 0 c).leavesExact 8 t = owns (c : Thread nD τ) (win0_8.stage (cfg0.slots t 8)) fullShare ((dats m 0 c).after 8 t) from by unfold Dat.leavesExact; rw [(live_last t h1).1.1, (live_last t h1).1.2], after8]
  rw [show (dats m 0 c).leavesExact 9 t = owns (c : Thread nD τ) (win0_9.stage (cfg0.slots t 9)) fullShare ((dats m 0 c).after 9 t) from by unfold Dat.leavesExact; rw [(live_last t h1).2.1], after9]
  rw [show (dats m 0 c).leavesExact 10 t = owns (c : Thread nD τ) (win0_10.stage (cfg0.slots t 10)) fullShare ((dats m 0 c).after 10 t) from by unfold Dat.leavesExact; rw [(live_last t h1).2.2.1, (live_last t h1).2.2.2], after10]
  rw [after_last m c t h0 h1]
  rw [inv_pos m c _ _ h0]
  simp only [before10 m c t h0, before8 m c t h0 h1]
  unfold resting last leftLast_dkv; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ _ _ (conds_last t h1).1 (conds_last t h1).2.1 (conds_last t h1).2.2 (iblk m c 0 t) (iblk m c 1 t) (X0_2 m c t) (iblk m c 3 t) (iblk m c 4 t) (iblk m c 5 t) (iblk m c 6 t) (iblk m c 7 t) _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [HS0]; · iexact HS0
  isplitl [HS1]; · iexact HS1
  iintro ⟨H0, H1, H2, H3, H4, H5, H6, H7, ⟨%e9, H9⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverLast_dkv c _ _ _ _ _ _ _ _ _ _ _ _ _ _ _ _ _ _ _ _ _ _ _ _ _ _ _ _ _ _ _ _ _ _ _ _ _ (conds_last t h1).1 (conds_last t h1).2.1 (conds_last t h1).2.2)
  iexact H10

theorem triple (c : Dev nD) (t : Fin cfg0.N) :
    pre m c t ⊢ wp frame (wpE (defs₀ (F := F)) Variants.none c none) Set.univ (bodyAt0 t) (fun _ => post m c t) := by
  by_cases h0 : t.val = 0
  · exact triple_first m c t h0
  by_cases h1 : t.val < 65
  · exact triple_middle m c t h0 h1
  · exact triple_last m c t h1

/-- The body table's row is the body. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (triple m c t) rfl .rfl fun _ => .rfl

/-! ## The run -/

theorem inv_in (c : Dev nD) : Pipeline.ΦA spec0 c ⊢ (dats m 0 c).Φ 0 := by
  rw [show (dats m 0 c).Φ 0 = Pipeline.ΦA spec0 c from rfl]
  try exact Idealize.SL.BI.Entails.refl _

theorem inv_out (c : Dev nD) : (dats m 0 c).Φ (Fin.last cfg0.N) ⊢ Pipeline.ΦA spec0 c := by
  rw [Φ_at, inv_pos m c _ _ (by rw [Fin.val_last]; have : cfg0.N = 66 := N_0; omega), ΦA_eq]
  unfold resting
  iintro ⟨⟨HS0, HS1⟩, Hg⟩
  isplitl [HS0 HS1]
  · isplitl [HS0]
    · iexists _; iexact HS0
    iexists _; iexact HS1
  iexact Hg

set_option backward.isDefEq.respectTransparency.types false in
/-- Every execution ends, with the arrays at what the proof data say and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Attn.Words.lean ====
/- The kernel over the machine's words and the ideal program are one text: the run of the second, which is
   proved for every meaning of the floats, serves the first. -/
module

public import proofs.«01_k».proof.Proof.Gen.Kernel
public import proofs.«01_k».proof.Proof.Attn.Frame

@[expose] public section

set_option maxRecDepth 16384
set_option maxHeartbeats 8000000

noncomputable section

namespace Cert.Kernel.Attn

open Idealize.ShloMosaic Idealize.SL.Sem

attribute [local instance] Cert.KernelIdeal.Gen.facts Cert.Kernel.Gen.facts

variable {F : FTy → Type} [FloatOps F]

/-- The kernels' body tables agree: there is one label. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The pipelines agree. -/
theorem pipes_eq : (Cert.Kernel.pcfgs (F := F)) = Cert.KernelIdeal.pcfgs (F := F) := by
  funext p
  rfl

/-- The whole tables agree. -/
theorem defs_eq : Cert.Kernel.defs (F := F) = Cert.KernelIdeal.defs (F := F) :=
  congrArg (Pipeline.defs (Cert.KernelIdeal.pcfgs (F := F))) bodies_eq

/-- The entry functions agree. -/
theorem main_eq : Cert.Kernel.main (F := F) = Cert.KernelIdeal.main (F := F) := by
  unfold Cert.Kernel.main Cert.KernelIdeal.main
  rfl

/-- The arguments end unchanged and every counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Attn.frame m ρ

end Cert.Kernel.Attn

end
-- ==== Proof.Attn.Row.lean ====
module
public import Idealize.ShloMosaic.Lib.Pointwise
public import Idealize.ShloMosaic.Lib.IdealHost

@[expose] public section

/-!
One row of the attention: the scores of one query against its 256 keys, with a sink beside them,
over the extended reals. A masked key has the score `⊥`. The kernel normalises first and forms
`p * (g - ∑ p * g)`; the derivative of the quotient, taken term by term, is another expression. This
module proves that both are the same when the scores that are not masked, the sink and the value
products `g` are real.
-/

noncomputable section

namespace Cert.Attn
open Idealize.ShloMosaic

/-- A sum of reals, read among the extended reals. -/
theorem coe_sum {ι : Type*} (t : Finset ι) (f : ι → ℝ) :
    ((∑ i ∈ t, f i : ℝ) : EReal) = ∑ i ∈ t, (f i : EReal) := by
  classical
  induction t using Finset.induction_on with
  | empty => simp
  | insert a u ha ih => rw [Finset.sum_insert ha, Finset.sum_insert ha, EReal.coe_add, ih]

/-- The largest score of the row, or the sink where that is larger. -/
def peak (s : Fin 256 → EReal) (σ : EReal) : EReal := max (Finset.univ.fold max ⊥ s) σ
/-- The numerator of the key `i`. -/
def num (s : Fin 256 → EReal) (σ : EReal) (i : Fin 256) : EReal := Ideal.exp (s i - peak s σ)
/-- The numerator of the sink. -/
def sinkNum (s : Fin 256 → EReal) (σ : EReal) : EReal := Ideal.exp (σ - peak s σ)
/-- The denominator. -/
def total (s : Fin 256 → EReal) (σ : EReal) : EReal := (∑ i, num s σ i) + sinkNum s σ
/-- The probability of the key `i`, as the kernel forms it. -/
def prob (s : Fin 256 → EReal) (σ : EReal) (i : Fin 256) : EReal :=
  num s σ i * Ideal.div 1 (total s σ)
/-- The probability of the sink. -/
def sinkProb (s : Fin 256 → EReal) (σ : EReal) : EReal := sinkNum s σ * Ideal.div 1 (total s σ)
/-- The mean of the value products under the probabilities. -/
def delta (s : Fin 256 → EReal) (σ : EReal) (g : Fin 256 → EReal) : EReal :=
  ∑ i, prob s σ i * g i
/-- The gradient of the score of the key `i`. -/
def grad (s : Fin 256 → EReal) (σ : EReal) (g : Fin 256 → EReal) (i : Fin 256) : EReal :=
  prob s σ i * (g i - delta s σ g)
/-- The gradient of the denominator, from the derivative of the quotient. -/
def back (s : Fin 256 → EReal) (σ : EReal) (g : Fin 256 → EReal) : EReal :=
  -(∑ i, g i * Ideal.div 1 (total s σ * total s σ) * num s σ i)
/-- The gradient of the score of the key `i`, from the derivative of the quotient. -/
def backGrad (s : Fin 256 → EReal) (σ : EReal) (g : Fin 256 → EReal) (i : Fin 256) : EReal :=
  (Ideal.div (g i) (total s σ) + back s σ g) * num s σ i

section
variable {s : Fin 256 → EReal} {σ : EReal}
variable (hs : ∀ i, s i = ⊥ ∨ ∃ x : ℝ, s i = x) (hσ : ∃ x : ℝ, σ = x)
include hs hσ

theorem peak_real : ∃ x : ℝ, peak s σ = x := by
  obtain ⟨y, rfl⟩ := hσ
  have h1 : Finset.univ.fold max ⊥ s < ⊤ := by
    rw [Finset.fold_max_lt]
    exact ⟨bot_lt_top, fun i _ => by
      rcases hs i with h | ⟨x, h⟩ <;> rw [h]
      · exact bot_lt_top
      · exact EReal.coe_lt_top x⟩
  have h2 : peak s y < ⊤ := max_lt h1 (EReal.coe_lt_top y)
  have h3 : ⊥ < peak s y := lt_of_lt_of_le (EReal.bot_lt_coe y) (le_max_right _ _)
  exact ⟨_, (EReal.coe_toReal h2.ne h3.ne').symm⟩

/-- The numerators are real and not negative, the sink's is positive, and a masked key has none. -/
theorem nums_real : ∃ (a : Fin 256 → ℝ) (e : ℝ), (∀ i, num s σ i = a i) ∧ (∀ i, 0 ≤ a i) ∧
    sinkNum s σ = e ∧ 0 < e ∧ ∀ i, s i = ⊥ → a i = 0 := by
  obtain ⟨m, hm⟩ := peak_real hs hσ
  obtain ⟨y, rfl⟩ := hσ
  have key : ∀ i, ∃ a : ℝ, num s y i = a ∧ 0 ≤ a ∧ (s i = ⊥ → a = 0) := by
    intro i
    rcases hs i with h | ⟨x, h⟩
    · exact ⟨0, by simp [num, h, hm, Ideal.exp_bot], le_rfl, fun _ => rfl⟩
    · exact ⟨Real.exp (x - m), by
        rw [num, h, hm, ← EReal.coe_sub, Ideal.exp_coe], (Real.exp_pos _).le, fun h' => by
        rw [h] at h'; exact absurd h' (EReal.coe_ne_bot x)⟩
  choose a h1 h2 h3 using key
  exact ⟨a, Real.exp (y - m), h1, h2, by rw [sinkNum, hm, ← EReal.coe_sub, Ideal.exp_coe],
    Real.exp_pos _, h3⟩

/-- A masked key has no probability. -/
theorem prob_masked {i : Fin 256} (hi : s i = ⊥) : prob s σ i = 0 := by
  obtain ⟨a, e, h1, _, _, _, h3⟩ := nums_real hs hσ
  rw [prob, h1, h3 i hi, EReal.coe_zero, zero_mul]

theorem total_real : ∃ D : ℝ, total s σ = D ∧ 0 < D := by
  obtain ⟨a, e, h1, h2, h3, h4, _⟩ := nums_real hs hσ
  refine ⟨(∑ i, a i) + e, ?_, add_pos_of_nonneg_of_pos (Finset.sum_nonneg fun i _ => h2 i) h4⟩
  rw [total, h3, Finset.sum_congr rfl fun i _ => h1 i, ← coe_sum, EReal.coe_add]

theorem div_total (i : Fin 256) : Ideal.div (num s σ i) (total s σ) = prob s σ i := by
  obtain ⟨D, hD, hp⟩ := total_real hs hσ
  have h0 : (D : EReal) ≠ 0 := by exact_mod_cast hp.ne'
  rw [prob, hD, Ideal.div, Ideal.div, if_neg h0, if_neg h0, one_mul]

section
variable {g : Fin 256 → EReal} (hg : ∀ i, ∃ x : ℝ, g i = x)
include hg

/-- All the quantities of the row as real numbers. -/
theorem row_real : ∃ (a γ : Fin 256 → ℝ) (e D : ℝ), 0 < D ∧ D = (∑ i, a i) + e ∧
    (∀ i, num s σ i = a i) ∧ sinkNum s σ = e ∧ total s σ = D ∧ (∀ i, g i = γ i) ∧
    (∀ i, prob s σ i = (a i / D : ℝ)) ∧ sinkProb s σ = (e / D : ℝ) ∧
    delta s σ g = ((∑ i, a i * γ i) / D : ℝ) ∧
    back s σ g = (-((∑ i, a i * γ i) / D / D) : ℝ) := by
  obtain ⟨a, e, h1, h2, h3, h4, _⟩ := nums_real hs hσ
  choose γ hγ using hg
  have hp : 0 < (∑ i, a i) + e := add_pos_of_nonneg_of_pos (Finset.sum_nonneg fun i _ => h2 i) h4
  have hT : total s σ = (((∑ i, a i) + e : ℝ) : EReal) := by
    rw [total, h3, Finset.sum_congr rfl fun i _ => h1 i, ← coe_sum, EReal.coe_add]
  have hdiv : ∀ x y : ℝ, y ≠ 0 → Ideal.div (x : EReal) (y : EReal) = ((x / y : ℝ) : EReal) := by
    intro x y hy
    rw [Ideal.div, if_neg (by exact_mod_cast hy), ← EReal.coe_inv, ← EReal.coe_mul, div_eq_mul_inv]
  have hP : ∀ i, prob s σ i = ((a i / ((∑ i, a i) + e) : ℝ) : EReal) := by
    intro i
    rw [prob, h1, hT, ← EReal.coe_one, hdiv _ _ hp.ne', ← EReal.coe_mul]
    congr 1
    rw [mul_one_div]
  refine ⟨a, γ, e, (∑ i, a i) + e, hp, rfl, h1, h3, hT, hγ, hP, ?_, ?_, ?_⟩
  · rw [sinkProb, h3, hT, ← EReal.coe_one, hdiv _ _ hp.ne', ← EReal.coe_mul]
    congr 1
    rw [mul_one_div]
  · rw [delta, Finset.sum_congr rfl fun i _ => by rw [hP i, hγ i, ← EReal.coe_mul],
      ← coe_sum]
    congr 1
    rw [Finset.sum_div]
    exact Finset.sum_congr rfl fun i _ => by ring
  · rw [back, hT, ← EReal.coe_mul, ← EReal.coe_one, hdiv _ _ (mul_pos hp hp).ne',
      Finset.sum_congr rfl fun i _ => by rw [hγ i, h1 i, ← EReal.coe_mul, ← EReal.coe_mul],
      ← coe_sum, ← EReal.coe_neg]
    congr 2
    rw [Finset.sum_div, Finset.sum_div]
    exact Finset.sum_congr rfl fun i _ => by field_simp

/-- The two forms of the gradient of a score. -/
theorem backGrad_eq (i : Fin 256) : backGrad s σ g i = grad s σ g i := by
  obtain ⟨a, γ, e, D, hp, _, h1, _, hT, hγ, hP, _, hd, hb⟩ := row_real hs hσ hg
  rw [backGrad, grad, hγ, hT, hb, h1, hP, hd, Ideal.div, if_neg (by exact_mod_cast hp.ne'),
    ← EReal.coe_inv, ← EReal.coe_mul, ← EReal.coe_add, ← EReal.coe_mul, ← EReal.coe_sub,
    ← EReal.coe_mul]
  congr 1
  field_simp
  ring

/-- The two forms of the gradient of the sink. -/
theorem back_sink : back s σ g * sinkNum s σ = -(sinkProb s σ * delta s σ g) := by
  obtain ⟨a, γ, e, D, hp, _, h1, he, hT, hγ, hP, hsp, hd, hb⟩ := row_real hs hσ hg
  rw [hb, he, hsp, hd, ← EReal.coe_mul, ← EReal.coe_mul, ← EReal.coe_neg]
  congr 1
  field_simp

theorem sink_real : ∃ x : ℝ, sinkProb s σ * delta s σ g = x := by
  obtain ⟨a, γ, e, D, hp, _, h1, he, hT, hγ, hP, hsp, hd, hb⟩ := row_real hs hσ hg
  exact ⟨_, by rw [hsp, hd, ← EReal.coe_mul]⟩

/-- What the derivative would send to the largest score is nothing: a quotient of exponentials does
not depend on what is subtracted. -/
theorem back_rest : -(back s σ g * sinkNum s σ) + ∑ i, -(backGrad s σ g i) = 0 := by
  rw [Finset.sum_congr rfl fun i _ => by rw [backGrad_eq hs hσ hg i]]
  obtain ⟨a, γ, e, D, hp, hD, h1, he, hT, hγ, hP, hsp, hd, hb⟩ := row_real hs hσ hg
  have h4 : ∀ i, -(grad s σ g i) = ((-(a i / D * (γ i - (∑ j, a j * γ j) / D)) : ℝ) : EReal) := by
    intro i
    rw [grad, hP, hγ, hd, ← EReal.coe_sub, ← EReal.coe_mul, ← EReal.coe_neg]
  rw [hb, he, Finset.sum_congr rfl fun i _ => h4 i,
    ← coe_sum, ← EReal.coe_mul, ← EReal.coe_neg, ← EReal.coe_add, ← EReal.coe_zero]
  congr 1
  have h5 : ∑ i, -(a i / D * (γ i - (∑ i, a i * γ i) / D)) =
      -((∑ i, a i * γ i) / D) + (∑ i, a i) * ((∑ i, a i * γ i) / D / D) := by
    rw [Finset.sum_mul, Finset.sum_div, ← Finset.sum_neg_distrib, ← Finset.sum_add_distrib]
    exact Finset.sum_congr rfl fun i _ => by ring
  have h6 : (∑ i, a i) = D - e := by rw [hD]; ring
  rw [h5, h6]
  field_simp
  ring

end

/-- The value products of masked keys do not matter. -/
theorem delta_congr {g g' : Fin 256 → EReal} (h : ∀ i, s i ≠ ⊥ → g i = g' i) :
    delta s σ g = delta s σ g' := by
  refine Finset.sum_congr rfl fun i _ => ?_
  by_cases hi : s i = ⊥
  · rw [prob_masked hs hσ hi, zero_mul, zero_mul]
  · rw [h i hi]

theorem grad_congr {g g' : Fin 256 → EReal} (h : ∀ i, s i ≠ ⊥ → g i = g' i) (i : Fin 256) :
    grad s σ g i = grad s σ g' i := by
  rw [grad, grad, delta_congr hs hσ h]
  by_cases hi : s i = ⊥
  · rw [prob_masked hs hσ hi, zero_mul, zero_mul]
  · rw [h i hi]

theorem grad_masked {g : Fin 256 → EReal} {i : Fin 256} (hi : s i = ⊥) : grad s σ g i = 0 := by
  rw [grad, prob_masked hs hσ hi, zero_mul]

end

/-- Some key has the largest score. -/
theorem count_ne_zero (s : Fin 256 → EReal) :
    (∑ i, if s i = Finset.univ.fold max ⊥ s then (1 : EReal) else 0) ≠ 0 := by
  have h : ∃ i, s i = Finset.univ.fold max ⊥ s := by
    obtain ⟨i, _, hi⟩ := Finset.exists_mem_eq_sup' (s := Finset.univ) ⟨(0 : Fin 256), Finset.mem_univ _⟩ s
    refine ⟨i, le_antisymm ?_ ?_⟩
    · exact (Finset.le_fold_max _).2 (.inr ⟨i, Finset.mem_univ _, le_rfl⟩)
    · rw [Finset.fold_max_le]
      exact ⟨bot_le, fun j _ => hi ▸ Finset.le_sup' s (Finset.mem_univ j)⟩
  obtain ⟨i, hi⟩ := h
  have h0 : ∀ j ∈ Finset.univ, (0 : EReal) ≤ if s j = Finset.univ.fold max ⊥ s then 1 else 0 := by
    intro j _; split <;> simp
  have h1 := Finset.single_le_sum h0 (Finset.mem_univ i)
  rw [if_pos hi] at h1
  exact (lt_of_lt_of_le (by norm_num) h1).ne'

end Cert.Attn
-- ==== Proof.Attn.Pay.lean ====
module
public import proofs.«01_k».proof.Proof.Attn.Row
public import proofs.«01_k».proof.Proof.Gen.KernelIdeal.Skeleton

@[expose] public section

set_option maxRecDepth 16384

/-!
The values the body computes for one key head, read at an index: a column `l` of the 512 is one query
row of one of the four query heads, a row `i` of the 256 one key. The first head's values and the
second's are cut differently by the program, so each value is read twice.
-/

noncomputable section

namespace Cert.KernelIdeal.Attn

open Idealize.ShloMosaic Idealize.ShloMosaic.TcCoe
open Cert.KernelIdeal Cert.KernelIdeal.Gen Cert.Attn

/-- The scale of the scores, one eighth. -/
def eighth : EReal := Ideal.ofBits .f32 0x3E000000#32

theorem ofBits_bot : Ideal.ofBits .f32 0xFF800000#32 = ⊥ := by
  simp [Ideal.ofBits, Ideal.ieee]

/-- The score of the key `i` for the query row `l`. -/
def score (b : FVec Ideal S256x512 .f32) (k : FVec Ideal S256x64 .bf16) (q : FVec Ideal S512x64 .bf16)
    (l : Fin 512) (i : Fin 256) : EReal :=
  (∑ x : Fin 64, k (ix2 i x) * q (ix2 l x)) * eighth + b (ix2 i l)

/-- The value product of the key `i` for the query row `l`. -/
def vprod (v : FVec Ideal S256x64 .bf16) (d : FVec Ideal S512x64 .bf16) (l : Fin 512) (i : Fin 256) :
    EReal :=
  ∑ x : Fin 64, v (ix2 i x) * d (ix2 l x)

variable (b : FVec Ideal S256x512 .f32) (k v : FVec Ideal S256x64 .bf16) (q d : FVec Ideal S512x64 .bf16)
variable (i : Fin 256) (l : Fin 512) (x : Fin 64)

section first
variable (v27 : IVec S1x512 32) (c128 : BitVec 32) (v29 v36 : IVec S1x512 32) (v37 : BitVec 1) (w0 w1 w2 w3 : Elt Ideal .f32)

theorem pay16_apply : k0_pay16 (F := Ideal) b k q (ix2 i l) = score b k q l i := by
  unfold score eighth; pointwise [k0_pay16]

theorem pay17_apply : k0_pay17 (F := Ideal) b k q v27 c128 v29 v36 v37 w0 w1 w2 w3 (ix2 0 l)
    = peak (score b k q l) (k0_pay15 (F := Ideal) v27 c128 v29 v36 v37 w0 w1 w2 w3 (ix2 0 l)) := by
  unfold peak; pointwise [k0_pay17, pay16_apply]
  rw [ofBits_bot]

theorem pay18_apply : k0_pay18 (F := Ideal) b k q v27 c128 v29 v36 v37 w0 w1 w2 w3 (ix2 i l)
    = num (score b k q l) (k0_pay15 (F := Ideal) v27 c128 v29 v36 v37 w0 w1 w2 w3 (ix2 0 l)) i := by
  unfold num; pointwise [k0_pay18, pay16_apply, pay17_apply]

theorem pay19_apply : k0_pay19 (F := Ideal) b k q v27 c128 v29 v36 v37 w0 w1 w2 w3 (ix2 0 l)
    = sinkNum (score b k q l) (k0_pay15 (F := Ideal) v27 c128 v29 v36 v37 w0 w1 w2 w3 (ix2 0 l)) := by
  unfold sinkNum; pointwise [k0_pay19, pay17_apply]

end first

section second
variable (u m : FVec Ideal S1x512 .f32)

theorem pay45_apply : k0_pay45 (F := Ideal) b k q (ix2 i l) = score b k q l i := by
  unfold score eighth; pointwise [k0_pay45]

theorem pay46_apply : k0_pay46 (F := Ideal) b k q (ix2 0 l) = Finset.univ.fold max ⊥ (score b k q l) := by
  pointwise [k0_pay46, pay45_apply]
  rw [ofBits_bot]

end second

section firstRest
variable {s : Fin 512 → Fin 256 → EReal} {σ : Fin 512 → EReal}
variable {p : FVec Ideal S256x512 .f32} {e : FVec Ideal S1x512 .f32}
variable (hp : ∀ i l, p (ix2 i l) = num (s l) (σ l) i) (he : ∀ l, e (ix2 0 l) = sinkNum (s l) (σ l))
include hp he

theorem k0_pay20_apply : k0_pay20 (F := Ideal) p e (ix2 0 l) = Ideal.div 1 (total (s l) (σ l)) := by
  unfold total; pointwise [k0_pay20, hp, he]

theorem k0_pay21_apply : k0_pay21 (F := Ideal) p e (ix2 i l) = prob (s l) (σ l) i := by
  unfold prob; pointwise [k0_pay21, hp, he, k0_pay20_apply _ hp he]

omit hp he in
theorem k0_pay22_apply : k0_pay22 (F := Ideal) v d (ix2 i l) = vprod v d l i := by
  unfold vprod; pointwise [k0_pay22]

theorem k0_pay23_apply : k0_pay23 (F := Ideal) v d p e (ix2 0 l) = delta (s l) (σ l) (vprod v d l) := by
  unfold delta; pointwise [k0_pay23, k0_pay21_apply _ _ hp he, k0_pay22_apply]

theorem k0_pay24_apply : k0_pay24 (F := Ideal) v d p e (ix2 i l)
    = grad (s l) (σ l) (vprod v d l) i * eighth := by
  unfold grad eighth; pointwise [k0_pay24, k0_pay21_apply _ _ hp he, k0_pay22_apply, k0_pay23_apply _ _ _ hp he]

theorem k0_pay25_apply : k0_pay25 (F := Ideal) k v d p e (ix2 x l)
    = ∑ i, k (ix2 i x) * (grad (s l) (σ l) (vprod v d l) i * eighth) := by
  pointwise [k0_pay25, k0_pay24_apply _ _ _ _ hp he]

theorem k0_pay30_apply : k0_pay30 (F := Ideal) v q d p e (ix2 i x)
    = ∑ l, grad (s l) (σ l) (vprod v d l) i * eighth * q (ix2 l x) := by
  pointwise [k0_pay30, k0_pay24_apply _ _ _ _ hp he]

theorem k0_pay31_apply : k0_pay31 (F := Ideal) d p e (ix2 i x)
    = ∑ l, prob (s l) (σ l) i * d (ix2 l x) := by
  pointwise [k0_pay31, k0_pay21_apply _ _ hp he]

theorem k0_pay32_apply : k0_pay32 (F := Ideal) v d p e (ix2 0 l)
    = sinkProb (s l) (σ l) * delta (s l) (σ l) (vprod v d l) := by
  unfold sinkProb; pointwise [k0_pay32, hp, he, k0_pay20_apply _ hp he, k0_pay23_apply _ _ _ hp he]

end firstRest

section secondRest
variable {s : Fin 512 → Fin 256 → EReal} {σ : Fin 512 → EReal}
variable {u mx : FVec Ideal S1x512 .f32} {sc : FVec Ideal S256x512 .f32}
variable (hu : ∀ l, u (ix2 0 l) = σ l) (hs : ∀ i l, sc (ix2 i l) = s l i)
variable (hm : ∀ l, mx (ix2 0 l) = Finset.univ.fold max ⊥ (s l))

section
include hu hm

theorem k0_pay47_apply : k0_pay47 (F := Ideal) u mx (ix2 0 l) = peak (s l) (σ l) := by
  unfold peak; pointwise [k0_pay47, hu, hm]

theorem k0_pay49_apply : k0_pay49 (F := Ideal) u mx (ix2 0 l) = sinkNum (s l) (σ l) := by
  unfold sinkNum; pointwise [k0_pay49, hu, k0_pay47_apply _ hu hm]

include hs

theorem k0_pay48_apply : k0_pay48 (F := Ideal) u sc mx (ix2 i l) = num (s l) (σ l) i := by
  unfold num; pointwise [k0_pay48, hs, k0_pay47_apply _ hu hm]

end
include hu hs hm

theorem k0_pay50_apply : k0_pay50 (F := Ideal) u sc mx (ix2 0 l) = Ideal.div 1 (total (s l) (σ l)) := by
  unfold total; pointwise [k0_pay50, k0_pay48_apply _ _ hu hs hm, k0_pay49_apply _ hu hm]

theorem k0_pay51_apply : k0_pay51 (F := Ideal) u sc mx (ix2 i l) = prob (s l) (σ l) i := by
  unfold prob; pointwise [k0_pay51, k0_pay48_apply _ _ hu hs hm, k0_pay49_apply _ hu hm, k0_pay50_apply _ hu hs hm]

omit hu hs hm in
theorem k0_pay52_apply : k0_pay52 (F := Ideal) v d (ix2 i l) = vprod v d l i := by
  unfold vprod; pointwise [k0_pay52]

theorem k0_pay53_apply : k0_pay53 (F := Ideal) v d u sc mx (ix2 0 l) = delta (s l) (σ l) (vprod v d l) := by
  unfold delta; pointwise [k0_pay53, k0_pay51_apply _ _ hu hs hm, k0_pay52_apply]

theorem k0_pay54_apply : k0_pay54 (F := Ideal) v d u sc mx (ix2 i l)
    = grad (s l) (σ l) (vprod v d l) i * eighth := by
  unfold grad eighth; pointwise [k0_pay54, k0_pay51_apply _ _ hu hs hm, k0_pay52_apply, k0_pay53_apply _ _ _ hu hs hm]

theorem k0_pay55_apply : k0_pay55 (F := Ideal) k v d u sc mx (ix2 x l)
    = ∑ i, k (ix2 i x) * (grad (s l) (σ l) (vprod v d l) i * eighth) := by
  pointwise [k0_pay55, k0_pay54_apply _ _ _ _ hu hs hm]

theorem k0_pay60_apply : k0_pay60 (F := Ideal) v q d u sc mx (ix2 i x)
    = ∑ l, grad (s l) (σ l) (vprod v d l) i * eighth * q (ix2 l x) := by
  pointwise [k0_pay60, k0_pay54_apply _ _ _ _ hu hs hm]

theorem k0_pay61_apply : k0_pay61 (F := Ideal) d u sc mx (ix2 i x)
    = ∑ l, prob (s l) (σ l) i * d (ix2 l x) := by
  pointwise [k0_pay61, k0_pay51_apply _ _ hu hs hm]

theorem k0_pay62_apply : k0_pay62 (F := Ideal) v d u sc mx (ix2 0 l)
    = sinkProb (s l) (σ l) * delta (s l) (σ l) (vprod v d l) := by
  unfold sinkProb; pointwise [k0_pay62, k0_pay48_apply _ _ hu hs hm, k0_pay49_apply _ hu hm, k0_pay50_apply _ hu hs hm, k0_pay53_apply _ _ _ hu hs hm]

end secondRest

end Cert.KernelIdeal.Attn
end
-- ==== Proof.Attn.Body.lean ====
module
public import proofs.«01_k».proof.Proof.Attn.Pay
public import Idealize.ShloMosaic.Lib.Pipeline.ValueKit

@[expose] public section

set_option maxRecDepth 16384

/-!
What the body computes at one grid point, from the eight blocks it reads: the composition of the
program's values, and each result read at an index.
-/

noncomputable section

namespace Cert.KernelIdeal.Attn

open Idealize.ShloMosaic Idealize.ShloMosaic.TcCoe
open Cert.KernelIdeal Cert.KernelIdeal.Gen Cert.Attn

/-- The eight blocks: the sinks, the mask, the queries, the gradients of the outputs, the keys and the
values of the block before and of the block itself. -/
structure Blocks (F : FTy → Type) where
  sink : Vec F S1x8 .f32
  bias : Vec F S1x256x512 .f32
  q : Vec F S128x512 .bf16
  ct : Vec F S128x512 .bf16
  kp : Vec F S128x128 .bf16
  kc : Vec F S128x128 .bf16
  vp : Vec F S128x128 .bf16
  vc : Vec F S128x128 .bf16

namespace Blocks

section
variable {F : FTy → Type} [FloatOps F] (X : Blocks F)

def mask : FVec F S256x512 .f32 := k0_pay8 X.bias
def key0 : FVec F S256x64 .bf16 := k0_pay9 (View.ld (S := S128x128) (e' := .bf16) (Val := Elt F) X.kp (Rect.unit (s := S128x128) ![0, 0] S128x64.size inb_S128x128_S128x64_0_0)) (View.ld (S := S128x128) (e' := .bf16) (Val := Elt F) X.kc (Rect.unit (s := S128x128) ![0, 0] S128x64.size inb_S128x128_S128x64_0_0))
def val0 : FVec F S256x64 .bf16 := k0_pay10 (View.ld (S := S128x128) (e' := .bf16) (Val := Elt F) X.vp (Rect.unit (s := S128x128) ![0, 0] S128x64.size inb_S128x128_S128x64_0_0)) (View.ld (S := S128x128) (e' := .bf16) (Val := Elt F) X.vc (Rect.unit (s := S128x128) ![0, 0] S128x64.size inb_S128x128_S128x64_0_0))
def qry0 : FVec F S512x64 .bf16 := k0_pay11 (View.ld (S := S128x512) (e' := .bf16) (Val := Elt F) X.q (Rect.unit (s := S128x512) ![0, 0] S128x64.size inb_S128x512_S128x64_0_0)) (View.ld (S := S128x512) (e' := .bf16) (Val := Elt F) X.q (Rect.unit (s := S128x512) ![0, 64] S128x64.size inb_S128x512_S128x64_0_64)) (View.ld (S := S128x512) (e' := .bf16) (Val := Elt F) X.q (Rect.unit (s := S128x512) ![0, 128] S128x64.size inb_S128x512_S128x64_0_128)) (View.ld (S := S128x512) (e' := .bf16) (Val := Elt F) X.q (Rect.unit (s := S128x512) ![0, 192] S128x64.size inb_S128x512_S128x64_0_192))
def cot0 : FVec F S512x64 .bf16 := k0_pay12 (View.ld (S := S128x512) (e' := .bf16) (Val := Elt F) X.ct (Rect.unit (s := S128x512) ![0, 0] S128x64.size inb_S128x512_S128x64_0_0)) (View.ld (S := S128x512) (e' := .bf16) (Val := Elt F) X.ct (Rect.unit (s := S128x512) ![0, 64] S128x64.size inb_S128x512_S128x64_0_64)) (View.ld (S := S128x512) (e' := .bf16) (Val := Elt F) X.ct (Rect.unit (s := S128x512) ![0, 128] S128x64.size inb_S128x512_S128x64_0_128)) (View.ld (S := S128x512) (e' := .bf16) (Val := Elt F) X.ct (Rect.unit (s := S128x512) ![0, 192] S128x64.size inb_S128x512_S128x64_0_192))
def key1 : FVec F S256x64 .bf16 := k0_pay38 (View.ld (S := S128x128) (e' := .bf16) (Val := Elt F) X.kp (Rect.unit (s := S128x128) ![0, 64] S128x64.size inb_S128x128_S128x64_0_64)) (View.ld (S := S128x128) (e' := .bf16) (Val := Elt F) X.kc (Rect.unit (s := S128x128) ![0, 64] S128x64.size inb_S128x128_S128x64_0_64))
def val1 : FVec F S256x64 .bf16 := k0_pay39 (View.ld (S := S128x128) (e' := .bf16) (Val := Elt F) X.vp (Rect.unit (s := S128x128) ![0, 64] S128x64.size inb_S128x128_S128x64_0_64)) (View.ld (S := S128x128) (e' := .bf16) (Val := Elt F) X.vc (Rect.unit (s := S128x128) ![0, 64] S128x64.size inb_S128x128_S128x64_0_64))
def qry1 : FVec F S512x64 .bf16 := k0_pay40 (View.ld (S := S128x512) (e' := .bf16) (Val := Elt F) X.q (Rect.unit (s := S128x512) ![0, 256] S128x64.size inb_S128x512_S128x64_0_256)) (View.ld (S := S128x512) (e' := .bf16) (Val := Elt F) X.q (Rect.unit (s := S128x512) ![0, 320] S128x64.size inb_S128x512_S128x64_0_320)) (View.ld (S := S128x512) (e' := .bf16) (Val := Elt F) X.q (Rect.unit (s := S128x512) ![0, 384] S128x64.size inb_S128x512_S128x64_0_384)) (View.ld (S := S128x512) (e' := .bf16) (Val := Elt F) X.q (Rect.unit (s := S128x512) ![0, 448] S128x64.size inb_S128x512_S128x64_0_448))
def cot1 : FVec F S512x64 .bf16 := k0_pay41 (View.ld (S := S128x512) (e' := .bf16) (Val := Elt F) X.ct (Rect.unit (s := S128x512) ![0, 256] S128x64.size inb_S128x512_S128x64_0_256)) (View.ld (S := S128x512) (e' := .bf16) (Val := Elt F) X.ct (Rect.unit (s := S128x512) ![0, 320] S128x64.size inb_S128x512_S128x64_0_320)) (View.ld (S := S128x512) (e' := .bf16) (Val := Elt F) X.ct (Rect.unit (s := S128x512) ![0, 384] S128x64.size inb_S128x512_S128x64_0_384)) (View.ld (S := S128x512) (e' := .bf16) (Val := Elt F) X.ct (Rect.unit (s := S128x512) ![0, 448] S128x64.size inb_S128x512_S128x64_0_448))
def sinkRow0 : FVec F S1x512 .f32 := k0_pay15 (iota Kind.tc S1x512 32 [1] iota_S1x512_d1_w32) (128#32) k0_pay13 k0_pay14 (1#1) (View.ld (S := S1x8) (e' := .f32) (Val := Elt F) X.sink (Rect.unit (s := S1x8) ![0, 0] S1x1.size inb_S1x8_S1x1_0_0) (Shape.Idx.first (s := S1x1) (lt_of_lt_of_eq Nat.one_pos numel1_S1x1.symm))) (View.ld (S := S1x8) (e' := .f32) (Val := Elt F) X.sink (Rect.unit (s := S1x8) ![0, 1] S1x1.size inb_S1x8_S1x1_0_1) (Shape.Idx.first (s := S1x1) (lt_of_lt_of_eq Nat.one_pos numel1_S1x1.symm))) (View.ld (S := S1x8) (e' := .f32) (Val := Elt F) X.sink (Rect.unit (s := S1x8) ![0, 2] S1x1.size inb_S1x8_S1x1_0_2) (Shape.Idx.first (s := S1x1) (lt_of_lt_of_eq Nat.one_pos numel1_S1x1.symm))) (View.ld (S := S1x8) (e' := .f32) (Val := Elt F) X.sink (Rect.unit (s := S1x8) ![0, 3] S1x1.size inb_S1x8_S1x1_0_3) (Shape.Idx.first (s := S1x1) (lt_of_lt_of_eq Nat.one_pos numel1_S1x1.symm)))
def num0 : FVec F S256x512 .f32 := k0_pay18 X.mask X.key0 X.qry0 (iota Kind.tc S1x512 32 [1] iota_S1x512_d1_w32) (128#32) k0_pay13 k0_pay14 (1#1) (View.ld (S := S1x8) (e' := .f32) (Val := Elt F) X.sink (Rect.unit (s := S1x8) ![0, 0] S1x1.size inb_S1x8_S1x1_0_0) (Shape.Idx.first (s := S1x1) (lt_of_lt_of_eq Nat.one_pos numel1_S1x1.symm))) (View.ld (S := S1x8) (e' := .f32) (Val := Elt F) X.sink (Rect.unit (s := S1x8) ![0, 1] S1x1.size inb_S1x8_S1x1_0_1) (Shape.Idx.first (s := S1x1) (lt_of_lt_of_eq Nat.one_pos numel1_S1x1.symm))) (View.ld (S := S1x8) (e' := .f32) (Val := Elt F) X.sink (Rect.unit (s := S1x8) ![0, 2] S1x1.size inb_S1x8_S1x1_0_2) (Shape.Idx.first (s := S1x1) (lt_of_lt_of_eq Nat.one_pos numel1_S1x1.symm))) (View.ld (S := S1x8) (e' := .f32) (Val := Elt F) X.sink (Rect.unit (s := S1x8) ![0, 3] S1x1.size inb_S1x8_S1x1_0_3) (Shape.Idx.first (s := S1x1) (lt_of_lt_of_eq Nat.one_pos numel1_S1x1.symm)))
def snk0 : FVec F S1x512 .f32 := k0_pay19 X.mask X.key0 X.qry0 (iota Kind.tc S1x512 32 [1] iota_S1x512_d1_w32) (128#32) k0_pay13 k0_pay14 (1#1) (View.ld (S := S1x8) (e' := .f32) (Val := Elt F) X.sink (Rect.unit (s := S1x8) ![0, 0] S1x1.size inb_S1x8_S1x1_0_0) (Shape.Idx.first (s := S1x1) (lt_of_lt_of_eq Nat.one_pos numel1_S1x1.symm))) (View.ld (S := S1x8) (e' := .f32) (Val := Elt F) X.sink (Rect.unit (s := S1x8) ![0, 1] S1x1.size inb_S1x8_S1x1_0_1) (Shape.Idx.first (s := S1x1) (lt_of_lt_of_eq Nat.one_pos numel1_S1x1.symm))) (View.ld (S := S1x8) (e' := .f32) (Val := Elt F) X.sink (Rect.unit (s := S1x8) ![0, 2] S1x1.size inb_S1x8_S1x1_0_2) (Shape.Idx.first (s := S1x1) (lt_of_lt_of_eq Nat.one_pos numel1_S1x1.symm))) (View.ld (S := S1x8) (e' := .f32) (Val := Elt F) X.sink (Rect.unit (s := S1x8) ![0, 3] S1x1.size inb_S1x8_S1x1_0_3) (Shape.Idx.first (s := S1x1) (lt_of_lt_of_eq Nat.one_pos numel1_S1x1.symm)))
def sinkRow1 : FVec F S1x512 .f32 := k0_pay44 (iota Kind.tc S1x512 32 [1] iota_S1x512_d1_w32) (128#32) k0_pay42 k0_pay43 (0#32) (View.ld (S := S1x8) (e' := .f32) (Val := Elt F) X.sink (Rect.unit (s := S1x8) ![0, 4] S1x1.size inb_S1x8_S1x1_0_4) (Shape.Idx.first (s := S1x1) (lt_of_lt_of_eq Nat.one_pos numel1_S1x1.symm))) (View.ld (S := S1x8) (e' := .f32) (Val := Elt F) X.sink (Rect.unit (s := S1x8) ![0, 5] S1x1.size inb_S1x8_S1x1_0_5) (Shape.Idx.first (s := S1x1) (lt_of_lt_of_eq Nat.one_pos numel1_S1x1.symm))) (View.ld (S := S1x8) (e' := .f32) (Val := Elt F) X.sink (Rect.unit (s := S1x8) ![0, 6] S1x1.size inb_S1x8_S1x1_0_6) (Shape.Idx.first (s := S1x1) (lt_of_lt_of_eq Nat.one_pos numel1_S1x1.symm))) (View.ld (S := S1x8) (e' := .f32) (Val := Elt F) X.sink (Rect.unit (s := S1x8) ![0, 7] S1x1.size inb_S1x8_S1x1_0_7) (Shape.Idx.first (s := S1x1) (lt_of_lt_of_eq Nat.one_pos numel1_S1x1.symm)))
def sco1 : FVec F S256x512 .f32 := k0_pay45 X.mask X.key1 X.qry1
def max1 : FVec F S1x512 .f32 := k0_pay46 X.mask X.key1 X.qry1
def keyGrad : FVec F S256x128 .f32 := k0_pay68 (k0_pay30 X.val0 X.qry0 X.cot0 X.num0 X.snk0) (k0_pay60 X.val1 X.qry1 X.cot1 X.sinkRow1 X.sco1 X.max1)
def valGrad : FVec F S256x128 .f32 := k0_pay69 (k0_pay31 X.cot0 X.num0 X.snk0) (k0_pay61 X.cot1 X.sinkRow1 X.sco1 X.max1)
def keyLate : FVec F S128x128 .f32 := k0_pay4 (k0_pay72 (k0_pay30 X.val0 X.qry0 X.cot0 X.num0 X.snk0) (k0_pay60 X.val1 X.qry1 X.cot1 X.sinkRow1 X.sco1 X.max1))
def valLate : FVec F S128x128 .f32 := k0_pay5 X.valGrad
def keyOut (old : Vec F S128x128 .f32) : FVec F S128x128 .bf16 := k0_pay70 (k0_pay30 X.val0 X.qry0 X.cot0 X.num0 X.snk0) (k0_pay60 X.val1 X.qry1 X.cot1 X.sinkRow1 X.sco1 X.max1) old
def valOut (old : Vec F S128x128 .f32) : FVec F S128x128 .bf16 := k0_pay71 (k0_pay31 X.cot0 X.num0 X.snk0) (k0_pay61 X.cot1 X.sinkRow1 X.sco1 X.max1) old
def qryOut : FVec F S128x512 .bf16 := k0_pay66 (k0_pay26 X.key0 X.val0 X.cot0 X.num0 X.snk0) (k0_pay27 X.key0 X.val0 X.cot0 X.num0 X.snk0) (k0_pay28 X.key0 X.val0 X.cot0 X.num0 X.snk0) (k0_pay29 X.key0 X.val0 X.cot0 X.num0 X.snk0) (k0_pay56 X.key1 X.val1 X.cot1 X.sinkRow1 X.sco1 X.max1) (k0_pay57 X.key1 X.val1 X.cot1 X.sinkRow1 X.sco1 X.max1) (k0_pay58 X.key1 X.val1 X.cot1 X.sinkRow1 X.sco1 X.max1) (k0_pay59 X.key1 X.val1 X.cot1 X.sinkRow1 X.sco1 X.max1)
def sinkOut (old : Vec F S8x128 .f32) : FVec F S8x128 .f32 := k0_pay67 (k0_pay33 X.val0 X.cot0 X.num0 X.snk0) (k0_pay34 X.val0 X.cot0 X.num0 X.snk0) (k0_pay36 (k0_pay35 X.val0 X.cot0 X.num0 X.snk0) (Scalar.ofBits .f32 0x00000000#32)) (k0_pay37 (k0_pay32 X.val0 X.cot0 X.num0 X.snk0)) (k0_pay62 X.val1 X.cot1 X.sinkRow1 X.sco1 X.max1) (k0_pay63 X.val1 X.cot1 X.sinkRow1 X.sco1 X.max1) (k0_pay64 X.val1 X.cot1 X.sinkRow1 X.sco1 X.max1) (k0_pay65 X.val1 X.cot1 X.sinkRow1 X.sco1 X.max1) old

end

/-! ## The same at an index -/

variable (X : Blocks Ideal)

/-- The key `i` of the head `h`: of the block before or of the block itself. -/
def keyAt (h : Fin 2) (i : Fin 256) (x : Fin 64) : EReal :=
  if hi : i.val < 128 then X.kp (ix2 ⟨i.val, hi⟩ ⟨h.val * 64 + x.val, by omega⟩)
  else X.kc (ix2 ⟨i.val - 128, by omega⟩ ⟨h.val * 64 + x.val, by omega⟩)
/-- The value of the key `i`. -/
def valAt (h : Fin 2) (i : Fin 256) (x : Fin 64) : EReal :=
  if hi : i.val < 128 then X.vp (ix2 ⟨i.val, hi⟩ ⟨h.val * 64 + x.val, by omega⟩)
  else X.vc (ix2 ⟨i.val - 128, by omega⟩ ⟨h.val * 64 + x.val, by omega⟩)
/-- The query row `l` of the key head `h`: row `l % 128` of its query head `l / 128`. -/
def qryAt (h : Fin 2) (l : Fin 512) (x : Fin 64) : EReal :=
  X.q (ix2 ⟨l.val % 128, by omega⟩ ⟨h.val * 256 + l.val / 128 * 64 + x.val, by omega⟩)
/-- The gradient of the output of that row. -/
def cotAt (h : Fin 2) (l : Fin 512) (x : Fin 64) : EReal :=
  X.ct (ix2 ⟨l.val % 128, by omega⟩ ⟨h.val * 256 + l.val / 128 * 64 + x.val, by omega⟩)
/-- Its sink. -/
def sinkAt (h : Fin 2) (l : Fin 512) : EReal :=
  X.sink (ix2 0 ⟨h.val * 4 + l.val / 128, by omega⟩)
/-- Its score with the key `i`. -/
def scoreAt (h : Fin 2) (l : Fin 512) (i : Fin 256) : EReal :=
  (∑ x : Fin 64, X.keyAt h i x * X.qryAt h l x) * eighth + X.bias (ix3 0 i l)
/-- Its value product with the key `i`. -/
def vprodAt (h : Fin 2) (l : Fin 512) (i : Fin 256) : EReal :=
  ∑ x : Fin 64, X.valAt h i x * X.cotAt h l x
/-- The gradient of the product of the query with the key `i`. -/
def gradAt (h : Fin 2) (l : Fin 512) (i : Fin 256) : EReal :=
  grad (X.scoreAt h l) (X.sinkAt h l) (X.vprodAt h l) i * eighth
/-- The gradient of the query. -/
def qryGradAt (h : Fin 2) (l : Fin 512) (x : Fin 64) : EReal :=
  ∑ i, X.keyAt h i x * X.gradAt h l i
/-- The gradient of the key `i` from this block of queries. -/
def keyGradAt (h : Fin 2) (i : Fin 256) (x : Fin 64) : EReal :=
  ∑ l, X.gradAt h l i * X.qryAt h l x
/-- The gradient of the value of the key `i` from this block of queries. -/
def valGradAt (h : Fin 2) (i : Fin 256) (x : Fin 64) : EReal :=
  ∑ l, prob (X.scoreAt h l) (X.sinkAt h l) i * X.cotAt h l x
/-- What the query row `l` takes from the gradient of its sink. -/
def sinkGradAt (h : Fin 2) (l : Fin 512) : EReal :=
  sinkProb (X.scoreAt h l) (X.sinkAt h l) * delta (X.scoreAt h l) (X.sinkAt h l) (X.vprodAt h l)

/-! ### The operands -/

variable (i : Fin 256) (l : Fin 512) (x : Fin 64)

theorem mask_apply : X.mask (ix2 i l) = X.bias (ix3 0 i l) := by
  pointwise [mask, k0_pay8]

/-- The query head of a column, as the program divides it out. -/
theorem head0_word : ∀ l : Fin 512, (Scalar.select
          (IntOp.andi
            (IntOp.cmpi .ne
              (IntOp.subi (BitVec.setWidth 32 (IntOp.cmpi .sgt (BitVec.ofNat 32 l.val) 0#32))
                (BitVec.setWidth 32 (IntOp.cmpi .slt (BitVec.ofNat 32 l.val) 0#32)))
              (Scalar.subi (Scalar.extui 1#1) (Scalar.extui (Scalar.cmpi .slt 128#32 0#32))))
            (IntOp.cmpi .ne (IntOp.remsi .vector (BitVec.ofNat 32 l.val) 128#32) 0#32))
          (IntOp.subi (IntOp.divsi .vector (BitVec.ofNat 32 l.val) 128#32) 1#32)
          (IntOp.divsi .vector (BitVec.ofNat 32 l.val) 128#32)) = BitVec.ofNat 32 (l.val / 128) := by
  decide +kernel

theorem key0_apply : X.key0 (ix2 i x) = X.keyAt 0 i x := by
  unfold keyAt; pointwise [key0, k0_pay9]

theorem val0_apply : X.val0 (ix2 i x) = X.valAt 0 i x := by
  unfold valAt; pointwise [val0, k0_pay10]

theorem qry0_apply : X.qry0 (ix2 l x) = X.qryAt 0 l x := by
  unfold qryAt; pointwise [qry0, k0_pay11]
  split_ifs <;> refine congrArg _ ((ix2_inj ..).2 ⟨Fin.ext ?_, Fin.ext ?_⟩) <;> dsimp only <;> omega

theorem cot0_apply : X.cot0 (ix2 l x) = X.cotAt 0 l x := by
  unfold cotAt; pointwise [cot0, k0_pay12]
  split_ifs <;> refine congrArg _ ((ix2_inj ..).2 ⟨Fin.ext ?_, Fin.ext ?_⟩) <;> dsimp only <;> omega

theorem sinkRow0_apply : X.sinkRow0 (ix2 0 l) = X.sinkAt 0 l := by
  unfold sinkAt; pointwise [sinkRow0, k0_pay15, k0_pay13, k0_pay14]
  rw [head0_word l]
  obtain ⟨a, ha⟩ : ∃ a : Fin 4, l.val / 128 = a.val := ⟨⟨_, by omega⟩, rfl⟩
  simp only [ha]
  fin_cases a <;> rfl

/-- The query head of a column, as the program divides it out. -/
theorem head1_word : ∀ l : Fin 512, (Scalar.select
          (IntOp.andi
            (IntOp.cmpi .ne
              (IntOp.subi (BitVec.setWidth 32 (IntOp.cmpi .sgt (BitVec.ofNat 32 l.val) 0#32))
                (BitVec.setWidth 32 (IntOp.cmpi .slt (BitVec.ofNat 32 l.val) 0#32)))
              (Scalar.subi (Scalar.extui (Scalar.cmpi .sgt 128#32 0#32)) (Scalar.extui (Scalar.cmpi .slt 128#32 0#32))))
            (IntOp.cmpi .ne (IntOp.remsi .vector (BitVec.ofNat 32 l.val) 128#32) 0#32))
          (IntOp.subi (IntOp.divsi .vector (BitVec.ofNat 32 l.val) 128#32) 1#32)
          (IntOp.divsi .vector (BitVec.ofNat 32 l.val) 128#32)) = BitVec.ofNat 32 (l.val / 128) := by
  decide +kernel

theorem key1_apply : X.key1 (ix2 i x) = X.keyAt 1 i x := by
  unfold keyAt; pointwise [key1, k0_pay38]

theorem val1_apply : X.val1 (ix2 i x) = X.valAt 1 i x := by
  unfold valAt; pointwise [val1, k0_pay39]

theorem qry1_apply : X.qry1 (ix2 l x) = X.qryAt 1 l x := by
  unfold qryAt; pointwise [qry1, k0_pay40]
  split_ifs <;> refine congrArg _ ((ix2_inj ..).2 ⟨Fin.ext ?_, Fin.ext ?_⟩) <;> dsimp only <;> omega

theorem cot1_apply : X.cot1 (ix2 l x) = X.cotAt 1 l x := by
  unfold cotAt; pointwise [cot1, k0_pay41]
  split_ifs <;> refine congrArg _ ((ix2_inj ..).2 ⟨Fin.ext ?_, Fin.ext ?_⟩) <;> dsimp only <;> omega

theorem sinkRow1_apply : X.sinkRow1 (ix2 0 l) = X.sinkAt 1 l := by
  unfold sinkAt; pointwise [sinkRow1, k0_pay44, k0_pay42, k0_pay43]
  rw [head1_word l]
  obtain ⟨a, ha⟩ : ∃ a : Fin 4, l.val / 128 = a.val := ⟨⟨_, by omega⟩, rfl⟩
  simp only [ha]
  fin_cases a <;> rfl

/-! ### The values of each head -/

theorem score0_eq : score X.mask X.key0 X.qry0 l = X.scoreAt 0 l :=
  funext fun i => by
    unfold score scoreAt; simp only [X.key0_apply, X.qry0_apply, X.mask_apply]

theorem vprod0_eq : vprod X.val0 X.cot0 l = X.vprodAt 0 l :=
  funext fun i => by
    unfold vprod vprodAt; simp only [X.val0_apply, X.cot0_apply]

theorem num0_apply : X.num0 (ix2 i l) = num (X.scoreAt 0 l) (X.sinkAt 0 l) i := by
  rw [← X.score0_eq, ← X.sinkRow0_apply]; exact pay18_apply _ _ _ _ _ _ _ _ _ _ _ _ _ _

theorem snk0_apply : X.snk0 (ix2 0 l) = sinkNum (X.scoreAt 0 l) (X.sinkAt 0 l) := by
  rw [← X.score0_eq, ← X.sinkRow0_apply]; exact pay19_apply _ _ _ _ _ _ _ _ _ _ _ _ _

theorem qryGrad0_apply : k0_pay25 X.key0 X.val0 X.cot0 X.num0 X.snk0 (ix2 x l) = X.qryGradAt 0 l x := by
  rw [k0_pay25_apply _ _ _ _ _ (X.num0_apply) (X.snk0_apply)]
  simp only [X.vprod0_eq, X.key0_apply]; rfl

theorem keyGrad0_apply : k0_pay30 X.val0 X.qry0 X.cot0 X.num0 X.snk0 (ix2 i x) = X.keyGradAt 0 i x := by
  rw [k0_pay30_apply _ _ _ _ _ (X.num0_apply) (X.snk0_apply)]
  simp only [X.vprod0_eq, X.qry0_apply]; rfl

theorem valGrad0_apply : k0_pay31 X.cot0 X.num0 X.snk0 (ix2 i x) = X.valGradAt 0 i x := by
  rw [k0_pay31_apply _ _ _ (X.num0_apply) (X.snk0_apply)]
  simp only [X.cot0_apply]; rfl

theorem sinkGrad0_apply : k0_pay32 X.val0 X.cot0 X.num0 X.snk0 (ix2 0 l) = X.sinkGradAt 0 l := by
  rw [k0_pay32_apply _ _ _ (X.num0_apply) (X.snk0_apply), X.vprod0_eq]; rfl

theorem score1_eq : score X.mask X.key1 X.qry1 l = X.scoreAt 1 l :=
  funext fun i => by
    unfold score scoreAt; simp only [X.key1_apply, X.qry1_apply, X.mask_apply]

theorem vprod1_eq : vprod X.val1 X.cot1 l = X.vprodAt 1 l :=
  funext fun i => by
    unfold vprod vprodAt; simp only [X.val1_apply, X.cot1_apply]

theorem sco1_apply : X.sco1 (ix2 i l) = X.scoreAt 1 l i := by
  rw [← X.score1_eq]; exact pay45_apply _ _ _ _ _

theorem max1_apply : X.max1 (ix2 0 l) = Finset.univ.fold max ⊥ (X.scoreAt 1 l) := by
  rw [← X.score1_eq]; exact pay46_apply _ _ _ _

theorem qryGrad1_apply : k0_pay55 X.key1 X.val1 X.cot1 X.sinkRow1 X.sco1 X.max1 (ix2 x l) = X.qryGradAt 1 l x := by
  rw [k0_pay55_apply _ _ _ _ _ X.sinkRow1_apply X.sco1_apply X.max1_apply]
  simp only [X.vprod1_eq, X.key1_apply]; rfl

theorem keyGrad1_apply : k0_pay60 X.val1 X.qry1 X.cot1 X.sinkRow1 X.sco1 X.max1 (ix2 i x) = X.keyGradAt 1 i x := by
  rw [k0_pay60_apply _ _ _ _ _ X.sinkRow1_apply X.sco1_apply X.max1_apply]
  simp only [X.vprod1_eq, X.qry1_apply]; rfl

theorem valGrad1_apply : k0_pay61 X.cot1 X.sinkRow1 X.sco1 X.max1 (ix2 i x) = X.valGradAt 1 i x := by
  rw [k0_pay61_apply _ _ _ X.sinkRow1_apply X.sco1_apply X.max1_apply]
  simp only [X.cot1_apply]; rfl

theorem sinkGrad1_apply : k0_pay62 X.val1 X.cot1 X.sinkRow1 X.sco1 X.max1 (ix2 0 l) = X.sinkGradAt 1 l := by
  rw [k0_pay62_apply _ _ _ X.sinkRow1_apply X.sco1_apply X.max1_apply, X.vprod1_eq]; rfl

/-! ### The results -/

theorem qryGradAt_congr {h h' : Fin 2} {l l' : Fin 512} {x x' : Fin 64} (e1 : h.val = h'.val)
    (e2 : l.val = l'.val) (e3 : x.val = x'.val) : X.qryGradAt h l x = X.qryGradAt h' l' x' := by
  rw [Fin.ext e1, Fin.ext e2, Fin.ext e3]

theorem keyGradAt_congr {h h' : Fin 2} {i i' : Fin 256} {x x' : Fin 64} (e1 : h.val = h'.val)
    (e2 : i.val = i'.val) (e3 : x.val = x'.val) : X.keyGradAt h i x = X.keyGradAt h' i' x' := by
  rw [Fin.ext e1, Fin.ext e2, Fin.ext e3]

theorem valGradAt_congr {h h' : Fin 2} {i i' : Fin 256} {x x' : Fin 64} (e1 : h.val = h'.val)
    (e2 : i.val = i'.val) (e3 : x.val = x'.val) : X.valGradAt h i x = X.valGradAt h' i' x' := by
  rw [Fin.ext e1, Fin.ext e2, Fin.ext e3]

theorem sinkGradAt_congr {h h' : Fin 2} {l l' : Fin 512} (e1 : h.val = h'.val)
    (e2 : l.val = l'.val) : X.sinkGradAt h l = X.sinkGradAt h' l' := by
  rw [Fin.ext e1, Fin.ext e2]

theorem qryOut_apply (r : Fin 128) (z : Fin 512) : X.qryOut (ix2 r z) =
    X.qryGradAt ⟨z.val / 256, by omega⟩ ⟨z.val % 256 / 64 * 128 + r.val, by omega⟩ ⟨z.val % 64, by omega⟩ := by
  pointwise [qryOut, k0_pay66, k0_pay26, k0_pay27, k0_pay28, k0_pay29, k0_pay56, k0_pay57, k0_pay58, k0_pay59,
    X.qryGrad0_apply, X.qryGrad1_apply]
  split_ifs <;> refine X.qryGradAt_congr ?_ ?_ ?_ <;> dsimp only <;> omega

theorem keyGrad_apply (z : Fin 128) : X.keyGrad (ix2 i z) =
    X.keyGradAt ⟨z.val / 64, by omega⟩ i ⟨z.val % 64, by omega⟩ := by
  pointwise [keyGrad, k0_pay68, X.keyGrad0_apply, X.keyGrad1_apply]
  split_ifs <;> refine X.keyGradAt_congr ?_ ?_ ?_ <;> dsimp only <;> omega

theorem valGrad_apply (z : Fin 128) : X.valGrad (ix2 i z) =
    X.valGradAt ⟨z.val / 64, by omega⟩ i ⟨z.val % 64, by omega⟩ := by
  pointwise [valGrad, k0_pay69, X.valGrad0_apply, X.valGrad1_apply]
  split_ifs <;> refine X.valGradAt_congr ?_ ?_ ?_ <;> dsimp only <;> omega

theorem keyLate_apply (r z : Fin 128) : X.keyLate (ix2 r z) =
    X.keyGradAt ⟨z.val / 64, by omega⟩ ⟨128 + r.val, by omega⟩ ⟨z.val % 64, by omega⟩ := by
  rw [← keyGrad_apply]; pointwise [keyLate, keyGrad, k0_pay4, k0_pay72]

theorem valLate_apply (r z : Fin 128) : X.valLate (ix2 r z) =
    X.valGradAt ⟨z.val / 64, by omega⟩ ⟨128 + r.val, by omega⟩ ⟨z.val % 64, by omega⟩ := by
  rw [← valGrad_apply]; pointwise [valLate, k0_pay5]

theorem keyOut_apply (old : Vec Ideal S128x128 .f32) (r z : Fin 128) : X.keyOut old (ix2 r z) =
    (show EReal from old (ix2 r z)) + X.keyGradAt ⟨z.val / 64, by omega⟩ ⟨r.val, by omega⟩ ⟨z.val % 64, by omega⟩ := by
  rw [← keyGrad_apply]; pointwise [keyOut, keyGrad, k0_pay70]

theorem valOut_apply (old : Vec Ideal S128x128 .f32) (r z : Fin 128) : X.valOut old (ix2 r z) =
    (show EReal from old (ix2 r z)) + X.valGradAt ⟨z.val / 64, by omega⟩ ⟨r.val, by omega⟩ ⟨z.val % 64, by omega⟩ := by
  rw [← valGrad_apply]; pointwise [valOut, valGrad, k0_pay71]

theorem sinkOut_apply (old : Vec Ideal S8x128 .f32) (a : Fin 8) (z : Fin 128) : X.sinkOut old (ix2 a z) =
    (show EReal from old (ix2 a z)) + (0 - ∑ r : Fin 128, X.sinkGradAt ⟨a.val / 4, by omega⟩ ⟨a.val % 4 * 128 + r.val, by omega⟩) := by
  pointwise [sinkOut, k0_pay67, k0_pay33, k0_pay34, k0_pay35, k0_pay36, k0_pay37, k0_pay63, k0_pay64, k0_pay65,
    X.sinkGrad0_apply, X.sinkGrad1_apply]
  simp only [Fin.sum_univ_one]
  refine Ideal.add_congr rfl ?_
  split_ifs <;> refine congrArg (0 - ·) (Finset.sum_congr rfl fun r _ => X.sinkGradAt_congr ?_ ?_) <;>
    dsimp only <;> omega

end Blocks
end Cert.KernelIdeal.Attn
end
-- ==== Proof.Attn.Left.lean ====
module
public import proofs.«01_k».proof.Proof.Attn.Body
public import proofs.«01_k».proof.Proof.Attn.Outs
public import Idealize.ShloMosaic.Lib.Pipeline.ValueKit

@[expose] public section

set_option maxRecDepth 16384

/-!
What the body leaves in its output buffers and in the two carries, as the values named in `Body` over the
blocks it read: for generic buffers, in each of the three cases of a grid point.
-/

noncomputable section

namespace Cert.KernelIdeal.Attn

open Idealize.ShloMosaic Idealize.ShloMosaic.TcCoe
open Cert.KernelIdeal Cert.KernelIdeal.Gen Cert.Attn

theorem eq_of_coords (x : S128x128.Idx) (r z : Fin 128) (h0 : (x 0).val = r.val) (h1 : (x 1).val = z.val) :
    x = ix2 r z := by
  funext a
  match a with
  | 0 => exact Fin.ext h0
  | 1 => exact Fin.ext h1

theorem off_half (z : Fin 128) (x : S128x128.Idx) : ¬z.val = 128 + (x 1).val := by
  have := z.isLt; omega

theorem off_half' (z : Fin 128) (x : S128x128.Idx) : ¬128 + z.val = (x 1).val := by
  have : (x 1).val < 128 := (x 1).isLt
  omega

variable {F : FTy → Type} [FloatOps F]
variable (c : Dev nD) (i : grid0.Coords)
  (arg1 : Memref sig .tc .smem S1x8 .f32) (harg1 : arg1.IsWhole)
  (arg2 : Memref sig .tc .vmem S1x256x512 .f32) (harg2 : arg2.IsWhole)
  (arg3 : Memref sig .tc .vmem S128x512 .bf16) (harg3 : arg3.IsWhole)
  (arg4 : Memref sig .tc .vmem S128x512 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x512 .bf16) (harg9 : arg9.IsWhole)
  (arg10 : Memref sig .tc .vmem S128x256 .bf16) (harg10 : arg10.IsWhole)
  (arg11 : Memref sig .tc .vmem S8x128 .f32) (harg11 : arg11.IsWhole)
  (arg12 : Memref sig .tc .vmem S128x128 .f32) (harg12 : arg12.IsWhole)
  (arg13 : Memref sig .tc .vmem S128x128 .f32) (harg13 : arg13.IsWhole)
variable (x0 : Vec F S1x8 .f32) (x1 : Vec F S1x256x512 .f32) (x2 : Vec F S128x512 .bf16) (x3 : Vec F S128x512 .bf16) (x4 : Vec F S128x128 .bf16) (x5 : Vec F S128x128 .bf16) (x6 : Vec F S128x128 .bf16) (x7 : Vec F S128x128 .bf16)
variable (xo10 : Vec F S8x128 .f32) (xs0 : Vec F S128x128 .f32) (xs1 : Vec F S128x128 .f32)

section
variable (hc0 : k0_cond1 i = 1#1) (hc1 : k0_cond2 i = 1#1) (hc2 : ¬k0_cond3 i = 1#1)

theorem leftFirst_dq_eq : leftFirst_dq c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 = (⟨x0, x1, x2, x3, x4, x5, x6, x7⟩ : Blocks F).qryOut := by
  funext y; unfold leftFirst_dq; frame_out; rfl

theorem leftFirst_dsink_eq : leftFirst_dsink c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 = (⟨x0, x1, x2, x3, x4, x5, x6, x7⟩ : Blocks F).sinkOut k0_pay3 := by
  funext y; unfold leftFirst_dsink; frame_out; rfl

theorem leftFirst_kc_eq : leftFirst_kc c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 = (⟨x0, x1, x2, x3, x4, x5, x6, x7⟩ : Blocks F).keyLate := by
  funext y; unfold leftFirst_kc; frame_out; rfl

theorem leftFirst_vc_eq : leftFirst_vc c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 = (⟨x0, x1, x2, x3, x4, x5, x6, x7⟩ : Blocks F).valLate := by
  funext y; unfold leftFirst_vc; frame_out; rfl

theorem leftFirst_dkv_key (r z : Fin 128) :
    leftFirst_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 (ix2 r ⟨z.val, by omega⟩) = (⟨x0, x1, x2, x3, x4, x5, x6, x7⟩ : Blocks F).keyOut k0_pay1 (ix2 r z) := by
  unfold leftFirst_dkv; frame_out
  canon_tiles x hx
  · exact absurd hx1 (off_half z x)
  · rw [eq_of_coords x r z hx0.symm hx1.symm]; rfl

theorem leftFirst_dkv_val (r z : Fin 128) :
    leftFirst_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 hc0 hc1 hc2 (ix2 r ⟨128 + z.val, by omega⟩) = (⟨x0, x1, x2, x3, x4, x5, x6, x7⟩ : Blocks F).valOut k0_pay2 (ix2 r z) := by
  unfold leftFirst_dkv; frame_out
  canon_tiles x hx
  · rw [eq_of_coords x r z hx0.symm (Nat.add_left_cancel hx1).symm]; rfl
  · exact absurd hx1 (off_half' z x)

end

section
variable (hc0 : ¬k0_cond1 i = 1#1) (hc1 : k0_cond2 i = 1#1) (hc2 : ¬k0_cond3 i = 1#1)

theorem leftMid_dq_eq : leftMid_dq c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 = (⟨x0, x1, x2, x3, x4, x5, x6, x7⟩ : Blocks F).qryOut := by
  funext y; unfold leftMid_dq; frame_out; rfl

theorem leftMid_dsink_eq : leftMid_dsink c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 = (⟨x0, x1, x2, x3, x4, x5, x6, x7⟩ : Blocks F).sinkOut xo10 := by
  funext y; unfold leftMid_dsink; frame_out; rfl

theorem leftMid_kc_eq : leftMid_kc c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 = (⟨x0, x1, x2, x3, x4, x5, x6, x7⟩ : Blocks F).keyLate := by
  funext y; unfold leftMid_kc; frame_out; rfl

theorem leftMid_vc_eq : leftMid_vc c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 = (⟨x0, x1, x2, x3, x4, x5, x6, x7⟩ : Blocks F).valLate := by
  funext y; unfold leftMid_vc; frame_out; rfl

theorem leftMid_dkv_key (r z : Fin 128) :
    leftMid_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 (ix2 r ⟨z.val, by omega⟩) = (⟨x0, x1, x2, x3, x4, x5, x6, x7⟩ : Blocks F).keyOut xs0 (ix2 r z) := by
  unfold leftMid_dkv; frame_out
  canon_tiles x hx
  · exact absurd hx1 (off_half z x)
  · rw [eq_of_coords x r z hx0.symm hx1.symm]; rfl

theorem leftMid_dkv_val (r z : Fin 128) :
    leftMid_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xo10 xs0 xs1 hc0 hc1 hc2 (ix2 r ⟨128 + z.val, by omega⟩) = (⟨x0, x1, x2, x3, x4, x5, x6, x7⟩ : Blocks F).valOut xs1 (ix2 r z) := by
  unfold leftMid_dkv; frame_out
  canon_tiles x hx
  · rw [eq_of_coords x r z hx0.symm (Nat.add_left_cancel hx1).symm]; rfl
  · exact absurd hx1 (off_half' z x)

end

section
variable (hc0 : ¬k0_cond1 i = 1#1) (hc1 : ¬k0_cond2 i = 1#1) (hc2 : k0_cond3 i = 1#1)

theorem leftLast_dkv_key (r z : Fin 128) :
    leftLast_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xs0 xs1 hc0 hc1 hc2 (ix2 r ⟨z.val, by omega⟩) = k0_pay6 xs0 (ix2 r z) := by
  unfold leftLast_dkv; frame_out
  canon_tiles x hx
  · exact absurd hx1 (off_half z x)
  · rw [eq_of_coords x r z hx0.symm hx1.symm]

theorem leftLast_dkv_val (r z : Fin 128) :
    leftLast_dkv c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 xs0 xs1 hc0 hc1 hc2 (ix2 r ⟨128 + z.val, by omega⟩) = k0_pay7 xs1 (ix2 r z) := by
  unfold leftLast_dkv; frame_out
  canon_tiles x hx
  · rw [eq_of_coords x r z hx0.symm (Nat.add_left_cancel hx1).symm]
  · exact absurd hx1 (off_half' z x)
end

end Cert.KernelIdeal.Attn
end
-- ==== Proof.Attn.State.lean ====
module
public import proofs.«01_k».proof.Proof.Attn.Left
public import proofs.«01_k».proof.Proof.Attn.Frame

@[expose] public section

set_option maxRecDepth 16384

/-!
What each grid point leaves in the three outputs' buffers and in the two carries, as the body's values
over the point's blocks.
-/

noncomputable section

namespace Cert.KernelIdeal.Attn

open Idealize.ShloMosaic Idealize.ShloMosaic.TcCoe
open Cert.KernelIdeal Cert.KernelIdeal.Gen Cert.Attn

section
variable {F : FTy → Type} [FloatOps F]
variable (m : (ℓ : Loc nD τ sig) → Buf (Elt F) ℓ) (c : Dev nD) (t : Fin cfg0.N)

/-- The blocks the body reads at the point `t`. -/
def blocks : Blocks F :=
  ⟨iblk m c 0 t, iblk m c 1 t, X0_2 m c t, iblk m c 3 t, iblk m c 4 t, iblk m c 5 t, iblk m c 6 t, iblk m c 7 t⟩

section
variable (h : t.val = 0)

theorem first_qry : (first m c t h).1 = (blocks m c t).qryOut := by
  unfold first; dsimp only
  exact leftFirst_dq_eq (F := F) ..

theorem first_sink : (first m c t h).2.2.1 = (blocks m c t).sinkOut k0_pay3 := by
  unfold first; dsimp only
  exact leftFirst_dsink_eq (F := F) ..

theorem first_keyLate : (first m c t h).2.2.2.1 = (blocks m c t).keyLate := by
  unfold first; dsimp only
  exact leftFirst_kc_eq (F := F) ..

theorem first_valLate : (first m c t h).2.2.2.2 = (blocks m c t).valLate := by
  unfold first; dsimp only
  exact leftFirst_vc_eq (F := F) ..

end

section
variable (h0 : t.val ≠ 0) (h1 : t.val < 65) (s : State F)

theorem middle_qry : (middle m c t h0 h1 s).1 = (blocks m c t).qryOut := by
  unfold middle; dsimp only
  exact leftMid_dq_eq (F := F) ..

theorem middle_sink : (middle m c t h0 h1 s).2.2.1 = (blocks m c t).sinkOut s.2.2.1 := by
  unfold middle; dsimp only
  exact leftMid_dsink_eq (F := F) ..

theorem middle_keyLate : (middle m c t h0 h1 s).2.2.2.1 = (blocks m c t).keyLate := by
  unfold middle; dsimp only
  exact leftMid_kc_eq (F := F) ..

theorem middle_valLate : (middle m c t h0 h1 s).2.2.2.2 = (blocks m c t).valLate := by
  unfold middle; dsimp only
  exact leftMid_vc_eq (F := F) ..

theorem middle_key (r z : Fin 128) : (middle m c t h0 h1 s).2.1 (ix2 r ⟨z.val, by omega⟩)
    = (blocks m c t).keyOut s.2.2.2.1 (ix2 r z) := by
  unfold middle; dsimp only
  exact leftMid_dkv_key (F := F) ..

theorem middle_val (r z : Fin 128) : (middle m c t h0 h1 s).2.1 (ix2 r ⟨128 + z.val, by omega⟩)
    = (blocks m c t).valOut s.2.2.2.2 (ix2 r z) := by
  unfold middle; dsimp only
  exact leftMid_dkv_val (F := F) ..

end

section
variable (h1 : ¬t.val < 65) (s : State F)

theorem last_key' (r z : Fin 128) : (last m c t h1 s).2.1 (ix2 r ⟨z.val, by omega⟩)
    = k0_pay6 s.2.2.2.1 (ix2 r z) := by
  unfold last; dsimp only
  exact leftLast_dkv_key (F := F) ..

theorem last_val' (r z : Fin 128) : (last m c t h1 s).2.1 (ix2 r ⟨128 + z.val, by omega⟩)
    = k0_pay7 s.2.2.2.2 (ix2 r z) := by
  unfold last; dsimp only
  exact leftLast_dkv_val (F := F) ..

end

/-- Up to the last point the query gradient's buffer holds the point's value. -/
theorem after_qry (h : t.val < 65) : (after m c t.val t.isLt).1 = (blocks m c t).qryOut := by
  by_cases h0 : t.val = 0
  · rw [after_first m c t h0, first_qry]
  · rw [after_middle m c t h0 h, middle_qry]

/-- The last point leaves the one before's. -/
theorem last_qry (t' : Fin cfg0.N) (h : ¬t.val < 65) (h' : t'.val + 1 = t.val) :
    (after m c t.val t.isLt).1 = (after m c t'.val t'.isLt).1 := by
  obtain ⟨n, hn⟩ := t
  obtain ⟨k, hk⟩ := t'
  obtain rfl : k + 1 = n := h'
  rw [after_last m c ⟨k + 1, hn⟩ (Nat.succ_ne_zero k) h]
  unfold last
  rfl

theorem after_keyLate (h : t.val < 65) : (after m c t.val t.isLt).2.2.2.1 = (blocks m c t).keyLate := by
  by_cases h0 : t.val = 0
  · rw [after_first m c t h0, first_keyLate]
  · rw [after_middle m c t h0 h, middle_keyLate]

theorem after_valLate (h : t.val < 65) : (after m c t.val t.isLt).2.2.2.2 = (blocks m c t).valLate := by
  by_cases h0 : t.val = 0
  · rw [after_first m c t h0, first_valLate]
  · rw [after_middle m c t h0 h, middle_valLate]

variable (t' : Fin cfg0.N) (h' : t'.val + 1 = t.val)
include h'

/-- The key gradient of a middle point: the carry of the point before and the point's own first half. -/
theorem after_key (h : t.val < 65) (r z : Fin 128) :
    (after m c t.val t.isLt).2.1 (ix2 r ⟨z.val, by omega⟩)
      = (blocks m c t).keyOut (blocks m c t').keyLate (ix2 r z) := by
  rw [← after_keyLate m c t' (by omega)]
  obtain ⟨n, hn⟩ := t
  obtain ⟨k, hk⟩ := t'
  obtain rfl : k + 1 = n := h'
  rw [after_middle m c ⟨k + 1, hn⟩ (Nat.succ_ne_zero k) h]
  exact middle_key ..

theorem after_val (h : t.val < 65) (r z : Fin 128) :
    (after m c t.val t.isLt).2.1 (ix2 r ⟨128 + z.val, by omega⟩)
      = (blocks m c t).valOut (blocks m c t').valLate (ix2 r z) := by
  rw [← after_valLate m c t' (by omega)]
  obtain ⟨n, hn⟩ := t
  obtain ⟨k, hk⟩ := t'
  obtain rfl : k + 1 = n := h'
  rw [after_middle m c ⟨k + 1, hn⟩ (Nat.succ_ne_zero k) h]
  exact middle_val ..

/-- At the last point it is the carry alone. -/
theorem last_key (h : ¬t.val < 65) (r z : Fin 128) (h2 : t'.val < 65) :
    (after m c t.val t.isLt).2.1 (ix2 r ⟨z.val, by omega⟩) = k0_pay6 (blocks m c t').keyLate (ix2 r z) := by
  rw [← after_keyLate m c t' h2]
  obtain ⟨n, hn⟩ := t
  obtain ⟨k, hk⟩ := t'
  obtain rfl : k + 1 = n := h'
  rw [after_last m c ⟨k + 1, hn⟩ (Nat.succ_ne_zero k) h]
  exact last_key' ..

theorem last_val (h : ¬t.val < 65) (r z : Fin 128) (h2 : t'.val < 65) :
    (after m c t.val t.isLt).2.1 (ix2 r ⟨128 + z.val, by omega⟩) = k0_pay7 (blocks m c t').valLate (ix2 r z) := by
  rw [← after_valLate m c t' h2]
  obtain ⟨n, hn⟩ := t
  obtain ⟨k, hk⟩ := t'
  obtain rfl : k + 1 = n := h'
  rw [after_last m c ⟨k + 1, hn⟩ (Nat.succ_ne_zero k) h]
  exact last_val' ..

theorem last_sink (h : ¬t.val < 65) : (after m c t.val t.isLt).2.2.1 = (after m c t'.val t'.isLt).2.2.1 := by
  obtain ⟨n, hn⟩ := t
  obtain ⟨k, hk⟩ := t'
  obtain rfl : k + 1 = n := h'
  rw [after_last m c ⟨k + 1, hn⟩ (Nat.succ_ne_zero k) h]
  unfold last
  rfl

end

/-! ## The sink sum -/

variable (m : (ℓ : Loc nD τ sig) → Buf (Elt Ideal) ℓ) (c : Dev nD)

theorem k0_pay3_apply (a : Fin 8) (z : Fin 128) : k0_pay3 (F := Ideal) (ix2 a z) = 0 := by
  pointwise [k0_pay3]

/-- What the point `t` adds to the gradient of the sink `a`. -/
def sinkStep (t : Fin cfg0.N) (a : Fin 8) : EReal :=
  0 - ∑ r : Fin 128, (blocks m c t).sinkGradAt ⟨a.val / 4, by omega⟩ ⟨a.val % 4 * 128 + r.val, by omega⟩

/-- After the point `n` the buffer holds the sum of the steps so far. -/
theorem after_sink (a : Fin 8) (z : Fin 128) : ∀ (n : ℕ) (h : n < cfg0.N) (h5 : n < 65),
    (after m c n h).2.2.1 (ix2 a z) = ∑ k : Fin (n + 1), sinkStep m c ⟨k.val, by omega⟩ a
  | 0, h, h5 => by
    rw [after_first m c ⟨0, h⟩ rfl, first_sink]
    refine (Blocks.sinkOut_apply (blocks m c ⟨0, h⟩) _ a z).trans ?_
    refine (congrArg (· + _) (k0_pay3_apply a z)).trans ?_
    rw [zero_add, Fin.sum_univ_one]
    rfl
  | n + 1, h, h5 => by
    rw [after_middle m c ⟨n + 1, h⟩ (Nat.succ_ne_zero n) h5, middle_sink]
    refine (Blocks.sinkOut_apply (blocks m c ⟨n + 1, h⟩) _ a z).trans ?_
    refine Eq.trans ?_ (Fin.sum_univ_castSucc fun k : Fin (n + 2) => sinkStep m c ⟨k.val, by omega⟩ a).symm
    exact congrArg₂ (· + ·) (after_sink a z n (by omega) (by omega)) rfl

end Cert.KernelIdeal.Attn
end
-- ==== Proof.Attn.Spec.lean ====
module
public import proofs.«01_k».proof.Proof.Attn.Row
public import proofs.«01_k».proof.Proof.Attn.Pay

@[expose] public section

set_option maxRecDepth 16384

/-!
The gradients of the attention as functions of its arguments: the queries, keys and values `A`, the
gradient `B` of the output and the sinks `S`. A block is 128 rows; the query row `l` of a block and a key
head is the row `l % 128` of the query head `l / 128` of that head's four; the keys of a block are its own
rows, numbers 128 to 255, and the rows of the block before, numbers 0 to 127.
-/

noncomputable section

namespace Cert.Attn

open Idealize.ShloMosaic Idealize.ShloMosaic.TcCoe
open Cert.KernelIdeal Cert.KernelIdeal.Attn

/-- The key `i` of the block `t` is one that the row `l` attends to: within the window of 128 behind the row,
and not of the 112 rows of padding. -/
def Seen (t : Fin 65) (l : Fin 512) (i : Fin 256) : Prop :=
  l.val % 128 < i.val ∧ i.val ≤ l.val % 128 + 128 ∧ 240 ≤ t.val * 128 + i.val

instance (t : Fin 65) (l : Fin 512) (i : Fin 256) : Decidable (Seen t l i) := by unfold Seen; infer_instance

variable (A : S8320x768.Idx → EReal) (B : S8320x512.Idx → EReal) (S : S1x8.Idx → EReal)

/-- The column `o + 64 h + x` of the key `i` of the block `t`; nothing lies before the first block. -/
def keyCol (o : Fin 641) (t : Fin 65) (h : Fin 2) (i : Fin 256) (x : Fin 64) : EReal :=
  if hi : t.val * 128 + i.val < 128 then 0
  else A (ix2 ⟨t.val * 128 + i.val - 128, by omega⟩ ⟨o.val + h.val * 64 + x.val, by omega⟩)

/-- The key. -/
def keyS := keyCol A 512
/-- The value. -/
def valS := keyCol A 640
/-- The query. -/
def qryS (t : Fin 65) (h : Fin 2) (l : Fin 512) (x : Fin 64) : EReal :=
  A (ix2 ⟨t.val * 128 + l.val % 128, by omega⟩ ⟨h.val * 256 + l.val / 128 * 64 + x.val, by omega⟩)
/-- The gradient of the output. -/
def cotS (t : Fin 65) (h : Fin 2) (l : Fin 512) (x : Fin 64) : EReal :=
  B (ix2 ⟨t.val * 128 + l.val % 128, by omega⟩ ⟨h.val * 256 + l.val / 128 * 64 + x.val, by omega⟩)
/-- The sink. -/
def sinkS (h : Fin 2) (l : Fin 512) : EReal := S (ix2 0 ⟨h.val * 4 + l.val / 128, by omega⟩)
/-- The score. -/
def scoreS (t : Fin 65) (h : Fin 2) (l : Fin 512) (i : Fin 256) : EReal :=
  if Seen t l i then (∑ x : Fin 64, keyS A t h i x * qryS A t h l x) * eighth else ⊥
/-- The product of the value with the gradient of the output. -/
def vprodS (t : Fin 65) (h : Fin 2) (l : Fin 512) (i : Fin 256) : EReal :=
  ∑ x : Fin 64, valS A t h i x * cotS B t h l x
/-- The gradient of the product of query and key. -/
def gradS (t : Fin 65) (h : Fin 2) (l : Fin 512) (i : Fin 256) : EReal :=
  grad (scoreS A t h l) (sinkS S h l) (vprodS A B t h l) i * eighth
/-- The gradient of the query. -/
def qryG (t : Fin 65) (h : Fin 2) (l : Fin 512) (x : Fin 64) : EReal :=
  ∑ i, keyS A t h i x * gradS A B S t h l i
/-- The gradient of the key from one block of queries. -/
def keyG (t : Fin 65) (h : Fin 2) (i : Fin 256) (x : Fin 64) : EReal :=
  ∑ l, gradS A B S t h l i * qryS A t h l x
/-- The gradient of the value from one block of queries. -/
def valG (t : Fin 65) (h : Fin 2) (i : Fin 256) (x : Fin 64) : EReal :=
  ∑ l, prob (scoreS A t h l) (sinkS S h l) i * cotS B t h l x
/-- What one query row takes from the gradient of its sink. -/
def sinkG (t : Fin 65) (h : Fin 2) (l : Fin 512) : EReal :=
  sinkProb (scoreS A t h l) (sinkS S h l) * delta (scoreS A t h l) (sinkS S h l) (vprodS A B t h l)

/-- A row of a block's keys gets a gradient from its own block of queries and from the next. -/
def joined (G : Fin 65 → Fin 2 → Fin 256 → Fin 64 → EReal) (R : Fin 8320) (z : Fin 128) : EReal :=
  G ⟨R.val / 128, by omega⟩ ⟨z.val / 64, by omega⟩ ⟨128 + R.val % 128, by omega⟩ ⟨z.val % 64, by omega⟩
    + if h : R.val / 128 + 1 < 65 then
        G ⟨R.val / 128 + 1, h⟩ ⟨z.val / 64, by omega⟩ ⟨R.val % 128, by omega⟩ ⟨z.val % 64, by omega⟩
      else 0

/-- The gradient of the queries. -/
def dqG (R : Fin 8320) (z : Fin 512) : EReal :=
  qryG A B S ⟨R.val / 128, by omega⟩ ⟨z.val / 256, by omega⟩
    ⟨z.val % 256 / 64 * 128 + R.val % 128, by omega⟩ ⟨z.val % 64, by omega⟩
/-- The gradients of keys and values, side by side. -/
def dkvG (R : Fin 8320) (z : Fin 256) : EReal :=
  if hz : z.val < 128 then joined (keyG A B S) R ⟨z.val, hz⟩ else joined (valG A B S) R ⟨z.val - 128, by omega⟩
/-- The gradient of a sink. -/
def dsinkG (a : Fin 8) : EReal :=
  ∑ t : Fin 65, (0 - ∑ r : Fin 128, sinkG A B S t ⟨a.val / 4, by omega⟩ ⟨a.val % 4 * 128 + r.val, by omega⟩)

/-! ## Finite arguments -/

section
variable {A : S8320x768.Idx → EReal} {B : S8320x512.Idx → EReal} {S : S1x8.Idx → EReal}

theorem real_sum {n : ℕ} {f : Fin n → EReal} (h : ∀ i, ∃ x : ℝ, f i = x) : ∃ x : ℝ, ∑ i, f i = x := by
  choose g hg using h
  exact ⟨∑ i, g i, by rw [coe_sum]; exact Finset.sum_congr rfl fun i _ => hg i⟩

theorem real_mul {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem eighth_real : ∃ x : ℝ, eighth = x := ⟨_, rfl⟩

theorem sinkS_real (hS : ∀ j, ∃ x : ℝ, S j = x) (h : Fin 2) (l : Fin 512) : ∃ x : ℝ, sinkS S h l = x := hS _

variable (hA : ∀ j, ∃ x : ℝ, A j = x)
include hA

theorem keyCol_real (o : Fin 641) (t : Fin 65) (h : Fin 2) (i : Fin 256) (x : Fin 64) :
    ∃ y : ℝ, keyCol A o t h i x = y := by
  unfold keyCol
  split
  · exact ⟨0, rfl⟩
  · exact hA _

theorem scoreS_real (t : Fin 65) (h : Fin 2) (l : Fin 512) (i : Fin 256) :
    scoreS A t h l i = ⊥ ∨ ∃ x : ℝ, scoreS A t h l i = x := by
  unfold scoreS
  split
  · exact .inr (real_mul (real_sum fun x => real_mul (keyCol_real hA _ _ _ _ _) (hA _)) eighth_real)
  · exact .inl rfl

theorem vprodS_real (hB : ∀ j, ∃ x : ℝ, B j = x) (t : Fin 65) (h : Fin 2) (l : Fin 512) (i : Fin 256) :
    ∃ x : ℝ, vprodS A B t h l i = x :=
  real_sum fun x => real_mul (keyCol_real hA _ _ _ _ _) (hB _)

end

end Cert.Attn
end
-- ==== Proof.Attn.Bias.lean ====
module
public import proofs.«01_k».proof.Proof.Attn.Frame
public import proofs.«01_k».proof.Proof.Attn.Spec
public import Idealize.ShloMosaic.Lib.Claim
public import Idealize.ShloMosaic.Lib.WordCmp

@[expose] public section

set_option maxRecDepth 16384

/-! The three tables of the mask that the host prepares, at an index. -/

noncomputable section

namespace Cert.KernelIdeal.Attn

open Idealize.ShloMosaic Idealize.ShloMosaic.TcCoe Idealize.ShloMosaic.WordCmp
open Cert.KernelIdeal Cert.KernelIdeal.Gen Cert.Attn

/-- The position of a key, one per row. -/
def keyPos : IVec S256x512 32 := iotaInDim S256x512 32 0
/-- The position of the query within its block, one per column. -/
def rowPos : IVec S256x512 32 :=
  andi (iotaInDim S256x512 32 1) (broadcastInDim S256x512 ![] bcast_S_S256x512 (constantI S_ 32 127#32))
/-- The window. -/
def band : IVec S256x512 1 :=
  andi (cmpi .sgt keyPos rowPos)
    (cmpi .sle keyPos (addi rowPos (broadcastInDim S256x512 ![] bcast_S_S256x512 (constantI S_ 32 128#32))))
/-- The table of a block whose keys start at the word `o`. -/
def table (o : BitVec 32) : FVec Ideal S256x512 .f32 :=
  select (andi band (cmpi .sge (addi (broadcastInDim S256x512 ![] bcast_S_S256x512 (constantI S_ 32 o)) keyPos)
      (broadcastInDim S256x512 ![] bcast_S_S256x512 (constantI S_ 32 112#32))))
    (broadcastInDim S256x512 ![] bcast_S_S256x512 (constant S_ .f32 0x00000000#32))
    (broadcastInDim S256x512 ![] bcast_S_S256x512 (constant S_ .f32 0xFF800000#32))

/-- The host's lines before the tables are put together. -/
abbrev early : List (HloOp τ sig (Elt Ideal)) :=
  hostOps0 ++ (hostOps0_1 ++ (hostOps0_2 ++ (hostOps0_3 ++ (hostOps0_4 ++ hostOps0_5))))

theorem flat : (List.flatten [hostOps0, hostOps0_1, hostOps0_2, hostOps0_3, hostOps0_4, hostOps0_5, hostOps0_6]
    : List (HloOp τ sig (Elt Ideal))) = early ++ hostOps0_6 := by
  simp only [List.flatten_cons, List.flatten_nil, List.append_nil, List.append_assoc]

theorem joined_tables (σ : Valuation τ sig (Elt Ideal)) :
    (StableHlo.after hostOps0_6 σ (Proc.devRef .tc main_v31) : S3x256x512.Idx → EReal)
      = concatenate S3x256x512 0
          [⟨S1x256x512, broadcastInDim S1x256x512 ![1, 2] bcast_S256x512_S1x256x512_1_2 (σ (Proc.devRef .tc main_v14) : S256x512.Idx → EReal)⟩,
           ⟨S1x256x512, broadcastInDim S1x256x512 ![1, 2] bcast_S256x512_S1x256x512_1_2 (σ (Proc.devRef .tc main_v20) : S256x512.Idx → EReal)⟩,
           ⟨S1x256x512, broadcastInDim S1x256x512 ![1, 2] bcast_S256x512_S1x256x512_1_2 (σ (Proc.devRef .tc main_v26) : S256x512.Idx → EReal)⟩]
          concatenates_S1x256x512_S1x256x512_S1x256x512_S3x256x512_d0 := by
  rfl

variable (m : (ℓ : Loc nD τ sig) → Buf (Elt Ideal) ℓ) (c : Dev nD)

set_option maxHeartbeats 1600000 in
theorem table0 : (StableHlo.after early (fun b => m (c, b)) (Proc.devRef .tc main_v14) : S256x512.Idx → EReal) = table 4294967168#32 := by
  simp only [early, List.cons_append, List.nil_append]
  after_results
  rfl

set_option maxHeartbeats 1600000 in
theorem table1 : (StableHlo.after early (fun b => m (c, b)) (Proc.devRef .tc main_v20) : S256x512.Idx → EReal) = table 0#32 := by
  simp only [early, List.cons_append, List.nil_append]
  after_results
  rfl

set_option maxHeartbeats 1600000 in
theorem table2 : (StableHlo.after early (fun b => m (c, b)) (Proc.devRef .tc main_v26) : S256x512.Idx → EReal) = table 128#32 := by
  simp only [early, List.cons_append, List.nil_append]
  after_results
  rfl

theorem low_bits : ∀ l : Fin 512, IntOp.andi (BitVec.ofNat 32 l.val) 127#32 = BitVec.ofNat 32 (l.val % 128) := by
  decide +kernel
theorem past_pad0 : ∀ i : Fin 256, IntOp.cmpi .sge (IntOp.addi 4294967168#32 (BitVec.ofNat 32 i.val)) 112#32
    = BitVec.ofBool (decide (240 ≤ 0 * 128 + i.val)) := by decide +kernel
theorem past_pad1 : ∀ i : Fin 256, IntOp.cmpi .sge (IntOp.addi 0#32 (BitVec.ofNat 32 i.val)) 112#32
    = BitVec.ofBool (decide (240 ≤ 1 * 128 + i.val)) := by decide +kernel
theorem past_pad2 : ∀ i : Fin 256, IntOp.cmpi .sge (IntOp.addi 128#32 (BitVec.ofNat 32 i.val)) 112#32
    = BitVec.ofBool (decide (240 ≤ 2 * 128 + i.val)) := by decide +kernel

/-- The table at an index: zero where the row attends to the key, else `⊥`. -/
theorem table_apply (o : BitVec 32) (i : Fin 256) (l : Fin 512) (k : ℕ)
    (h : IntOp.cmpi .sge (IntOp.addi o (BitVec.ofNat 32 i.val)) 112#32 = BitVec.ofBool (decide (240 ≤ k * 128 + i.val))) :
    table o (ix2 i l) = if l.val % 128 < i.val ∧ i.val ≤ l.val % 128 + 128 ∧ 240 ≤ k * 128 + i.val then 0 else ⊥ := by
  pointwise [table, band, keyPos, rowPos]
  have h128 : IntOp.addi (BitVec.ofNat 32 (l.val % 128)) 128#32 = BitVec.ofNat 32 (l.val % 128 + 128) := by
    unfold IntOp.addi; rw [← BitVec.ofNat_add]
  rw [h, low_bits, h128, cmpi_sgt_ofNat (by omega) (by omega), cmpi_sle_ofNat (by omega) (by omega),
    andi_ofBool, andi_ofBool, ← Bool.decide_and, ← Bool.decide_and, select_decide, ofBits_bot]
  simp only [and_assoc]

/-- The host's table of the block number `b`. -/
theorem bias_apply (b : Fin 3) (i : Fin 256) (l : Fin 512) :
    (V m c main_v31 : S3x256x512.Idx → EReal) (ix3 b i l)
      = if l.val % 128 < i.val ∧ i.val ≤ l.val % 128 + 128 ∧ 240 ≤ b.val * 128 + i.val then (0 : EReal) else ⊥ := by
  unfold V
  rw [flat, StableHlo.after_append, joined_tables, table0, table1, table2]
  match b with
  | 0 => exact (by pointwise : _ = table 4294967168#32 (ix2 i l)).trans (table_apply _ i l 0 (past_pad0 i))
  | 1 => exact (by pointwise : _ = table 0#32 (ix2 i l)).trans (table_apply _ i l 1 (past_pad1 i))
  | 2 => exact (by pointwise : _ = table 128#32 (ix2 i l)).trans (table_apply _ i l 2 (past_pad2 i))

end Cert.KernelIdeal.Attn
end
-- ==== Proof.Attn.Reads.lean ====
module
public import proofs.«01_k».proof.Proof.Attn.State
public import proofs.«01_k».proof.Proof.Attn.Bias

@[expose] public section

set_option maxRecDepth 16384

/-! The blocks a point reads, as entries of the arguments. -/

noncomputable section

namespace Cert.KernelIdeal.Attn

open Idealize.ShloMosaic Idealize.ShloMosaic.TcCoe
open Cert.KernelIdeal Cert.KernelIdeal.Gen Cert.Attn

theorem idx : ∀ t : Fin cfg0.N,
    win0_0.index t = ![0, 0] ∧ win0_1.index t = ![min t.val 2, 0, 0] ∧ win0_2.index t = ![min t.val 64, 0]
      ∧ win0_3.index t = ![min t.val 64, 0] ∧ win0_4.index t = ![min t.val 64 - 1, 4]
      ∧ win0_5.index t = ![min t.val 64, 4] ∧ win0_6.index t = ![min t.val 64 - 1, 5]
      ∧ win0_7.index t = ![min t.val 64, 5] ∧ win0_8.index t = ![min t.val 64, 0]
      ∧ win0_9.index t = ![t.val - 1, 0] ∧ win0_10.index t = ![0, 0] :=
  (by decide +kernel : ∀ t : Fin grid0.N, _)

variable (m : (ℓ : Loc nD τ sig) → Buf (Elt Ideal) ℓ) (c : Dev nD) (t : Fin cfg0.N) (ht : t.val < 65)

theorem q_read (a : Fin 128) (b : Fin 512) : (blocks m c t).q (ix2 a b)
    = (m ((c.tc : Thread nD τ).loc main_arg0) : S8320x768.Idx → EReal) (ix2 ⟨t.val * 128 + a.val, by omega⟩ ⟨b.val, by omega⟩) := by
  show X0_2 m c t (ix2 a b) = _
  unfold X0_2
  unfold Pipeline.Window.fill
  rw [dif_pos (moved0_2 t _)]
  blk_ext! [iblk, V, idx t]

theorem ct_read (a : Fin 128) (b : Fin 512) : (blocks m c t).ct (ix2 a b)
    = (m ((c.tc : Thread nD τ).loc main_arg1) : S8320x512.Idx → EReal) (ix2 ⟨t.val * 128 + a.val, by omega⟩ b) := by
  show iblk m c 3 t (ix2 a b) = _
  blk_ext! [iblk, V, idx t]

theorem kc_read (a : Fin 128) (b : Fin 128) : (blocks m c t).kc (ix2 a b)
    = (m ((c.tc : Thread nD τ).loc main_arg0) : S8320x768.Idx → EReal) (ix2 ⟨t.val * 128 + a.val, by omega⟩ ⟨512 + b.val, by omega⟩) := by
  show iblk m c 5 t (ix2 a b) = _
  blk_ext! [iblk, V, idx t]

theorem vc_read (a : Fin 128) (b : Fin 128) : (blocks m c t).vc (ix2 a b)
    = (m ((c.tc : Thread nD τ).loc main_arg0) : S8320x768.Idx → EReal) (ix2 ⟨t.val * 128 + a.val, by omega⟩ ⟨640 + b.val, by omega⟩) := by
  show iblk m c 7 t (ix2 a b) = _
  blk_ext! [iblk, V, idx t]

theorem kp_read (a : Fin 128) (b : Fin 128) : (blocks m c t).kp (ix2 a b)
    = (m ((c.tc : Thread nD τ).loc main_arg0) : S8320x768.Idx → EReal) (ix2 ⟨(t.val - 1) * 128 + a.val, by omega⟩ ⟨512 + b.val, by omega⟩) := by
  show iblk m c 4 t (ix2 a b) = _
  blk_ext! [iblk, V, idx t]

theorem vp_read (a : Fin 128) (b : Fin 128) : (blocks m c t).vp (ix2 a b)
    = (m ((c.tc : Thread nD τ).loc main_arg0) : S8320x768.Idx → EReal) (ix2 ⟨(t.val - 1) * 128 + a.val, by omega⟩ ⟨640 + b.val, by omega⟩) := by
  show iblk m c 6 t (ix2 a b) = _
  blk_ext! [iblk, V, idx t]

omit ht in
theorem sink_read (b : Fin 8) : (blocks m c t).sink (ix2 0 b)
    = (m ((c.tc : Thread nD τ).loc main_arg2) : S1x8.Idx → EReal) (ix2 0 b) := by
  show iblk m c 0 t (ix2 0 b) = _
  blk_ext! [iblk, V, idx t]

theorem bias_read (i : Fin 256) (l : Fin 512) : (blocks m c t).bias (ix3 0 i l)
    = if Seen ⟨t.val, ht⟩ l i then 0 else ⊥ := by
  show iblk m c 1 t (ix3 0 i l) = _
  have h : iblk m c 1 t (ix3 0 i l) = (V m c main_v31 : S3x256x512.Idx → EReal) (ix3 ⟨min t.val 2, by omega⟩ i l) := by
    blk_ext! [iblk, idx t]
  rw [h, bias_apply]
  refine if_congr ?_ rfl rfl
  unfold Seen
  dsimp only
  omega

end Cert.KernelIdeal.Attn
end
-- ==== Proof.Attn.Point.lean ====
module
public import proofs.«01_k».proof.Proof.Attn.Reads

@[expose] public section

set_option maxRecDepth 16384

/-! What one point computes, from the arguments. -/

noncomputable section

namespace Cert.KernelIdeal.Attn

open Idealize.ShloMosaic Idealize.ShloMosaic.TcCoe
open Cert.KernelIdeal Cert.KernelIdeal.Gen Cert.Attn

variable (m : (ℓ : Loc nD τ sig) → Buf (Elt Ideal) ℓ) (c : Dev nD) (t : Fin cfg0.N) (ht : t.val < 65)

/-- The queries, keys and values. -/
abbrev argA : S8320x768.Idx → EReal := m ((c.tc : Thread nD τ).loc main_arg0)
/-- The gradient of the output. -/
abbrev argB : S8320x512.Idx → EReal := m ((c.tc : Thread nD τ).loc main_arg1)
/-- The sinks. -/
abbrev argS : S1x8.Idx → EReal := m ((c.tc : Thread nD τ).loc main_arg2)

variable (h : Fin 2) (l : Fin 512) (i : Fin 256) (x : Fin 64)

theorem qryAt_eq : (blocks m c t).qryAt h l x = qryS (argA m c) ⟨t.val, ht⟩ h l x := by
  unfold Blocks.qryAt
  rw [q_read m c t ht]
  rfl

theorem cotAt_eq : (blocks m c t).cotAt h l x = cotS (argB m c) ⟨t.val, ht⟩ h l x := by
  unfold Blocks.cotAt
  rw [ct_read m c t ht]
  rfl

omit ht in
theorem sinkAt_eq : (blocks m c t).sinkAt h l = sinkS (argS m c) h l := by
  unfold Blocks.sinkAt
  rw [sink_read m c t]
  rfl

theorem keyAt_eq (hi : 128 ≤ t.val * 128 + i.val) : (blocks m c t).keyAt h i x = keyS (argA m c) ⟨t.val, ht⟩ h i x := by
  unfold Blocks.keyAt keyS keyCol
  have hn : ¬((⟨t.val, ht⟩ : Fin 65).val * 128 + i.val < 128) := Nat.not_lt.2 hi
  rw [dif_neg hn]
  split
  · rw [kp_read m c t ht]
    refine congrArg _ ((ix2_inj ..).2 ⟨Fin.ext ?_, Fin.ext ?_⟩)
    · exact (by omega : (t.val - 1) * 128 + i.val = t.val * 128 + i.val - 128)
    · exact (by omega : 512 + (h.val * 64 + x.val) = 512 + h.val * 64 + x.val)
  · rw [kc_read m c t ht]
    refine congrArg _ ((ix2_inj ..).2 ⟨Fin.ext ?_, Fin.ext ?_⟩)
    · exact (by omega : t.val * 128 + (i.val - 128) = t.val * 128 + i.val - 128)
    · exact (by omega : 512 + (h.val * 64 + x.val) = 512 + h.val * 64 + x.val)

theorem valAt_eq (hi : 128 ≤ t.val * 128 + i.val) : (blocks m c t).valAt h i x = valS (argA m c) ⟨t.val, ht⟩ h i x := by
  unfold Blocks.valAt valS keyCol
  have hn : ¬((⟨t.val, ht⟩ : Fin 65).val * 128 + i.val < 128) := Nat.not_lt.2 hi
  rw [dif_neg hn]
  split
  · rw [vp_read m c t ht]
    refine congrArg _ ((ix2_inj ..).2 ⟨Fin.ext ?_, Fin.ext ?_⟩)
    · exact (by omega : (t.val - 1) * 128 + i.val = t.val * 128 + i.val - 128)
    · exact (by omega : 640 + (h.val * 64 + x.val) = 640 + h.val * 64 + x.val)
  · rw [vc_read m c t ht]
    refine congrArg _ ((ix2_inj ..).2 ⟨Fin.ext ?_, Fin.ext ?_⟩)
    · exact (by omega : t.val * 128 + (i.val - 128) = t.val * 128 + i.val - 128)
    · exact (by omega : 640 + (h.val * 64 + x.val) = 640 + h.val * 64 + x.val)

theorem scoreAt_eq : (blocks m c t).scoreAt h l = scoreS (argA m c) ⟨t.val, ht⟩ h l := by
  funext i
  unfold Blocks.scoreAt scoreS
  rw [bias_read m c t ht]
  split
  · rename_i hs
    have hi : 128 ≤ t.val * 128 + i.val := by have := hs.2.2; simp only at this; omega
    rw [add_zero]
    congr 1
    refine Finset.sum_congr rfl fun x _ => ?_
    rw [keyAt_eq m c t ht h i x hi, qryAt_eq m c t ht]
  · exact EReal.add_bot _

theorem vprodAt_eq (hi : 128 ≤ t.val * 128 + i.val) :
    (blocks m c t).vprodAt h l i = vprodS (argA m c) (argB m c) ⟨t.val, ht⟩ h l i := by
  refine Finset.sum_congr rfl fun x _ => ?_
  rw [valAt_eq m c t ht h i x hi, cotAt_eq m c t ht]

theorem seen_of_ne_bot {A : S8320x768.Idx → EReal} {t : Fin 65} {h : Fin 2} {l : Fin 512} {i : Fin 256}
    (hs : scoreS A t h l i ≠ ⊥) : 128 ≤ t.val * 128 + i.val := by
  unfold scoreS at hs
  split at hs
  · rename_i h'; have := h'.2.2; omega
  · exact absurd rfl hs

theorem vprodAt_seen (i : Fin 256) (hs : scoreS (argA m c) ⟨t.val, ht⟩ h l i ≠ ⊥) :
    (blocks m c t).vprodAt h l i = vprodS (argA m c) (argB m c) ⟨t.val, ht⟩ h l i :=
  vprodAt_eq m c t ht h l i (seen_of_ne_bot (t := ⟨t.val, ht⟩) hs)

variable (hA : ∀ j, ∃ x : ℝ, argA m c j = x) (hS : ∀ j, ∃ x : ℝ, argS m c j = x)
include hA hS

theorem gradAt_eq : (blocks m c t).gradAt h l i = gradS (argA m c) (argB m c) (argS m c) ⟨t.val, ht⟩ h l i := by
  unfold Blocks.gradAt gradS
  rw [scoreAt_eq m c t ht, sinkAt_eq,
    grad_congr (s := scoreS (argA m c) ⟨t.val, ht⟩ h l) (σ := sinkS (argS m c) h l)
      (scoreS_real (A := argA m c) hA ⟨t.val, ht⟩ h l) (sinkS_real (S := argS m c) hS h l) (vprodAt_seen m c t ht h l)]

theorem sinkGradAt_eq : (blocks m c t).sinkGradAt h l = sinkG (argA m c) (argB m c) (argS m c) ⟨t.val, ht⟩ h l := by
  unfold Blocks.sinkGradAt sinkG
  rw [scoreAt_eq m c t ht, sinkAt_eq,
    delta_congr (s := scoreS (argA m c) ⟨t.val, ht⟩ h l) (σ := sinkS (argS m c) h l)
      (scoreS_real (A := argA m c) hA ⟨t.val, ht⟩ h l) (sinkS_real (S := argS m c) hS h l) (vprodAt_seen m c t ht h l)]

theorem qryGradAt_eq : (blocks m c t).qryGradAt h l x = qryG (argA m c) (argB m c) (argS m c) ⟨t.val, ht⟩ h l x := by
  refine Finset.sum_congr rfl fun i _ => ?_
  rw [gradAt_eq m c t ht h l i hA hS]
  by_cases hs : scoreS (argA m c) ⟨t.val, ht⟩ h l i = ⊥
  · rw [gradS, grad_masked (s := scoreS (argA m c) ⟨t.val, ht⟩ h l) (σ := sinkS (argS m c) h l)
      (scoreS_real (A := argA m c) hA ⟨t.val, ht⟩ h l) (sinkS_real (S := argS m c) hS h l) hs, zero_mul, mul_zero, mul_zero]
  · rw [keyAt_eq m c t ht h i x (seen_of_ne_bot (t := ⟨t.val, ht⟩) hs)]

theorem keyGradAt_eq : (blocks m c t).keyGradAt h i x = keyG (argA m c) (argB m c) (argS m c) ⟨t.val, ht⟩ h i x := by
  refine Finset.sum_congr rfl fun l _ => ?_
  rw [gradAt_eq m c t ht h l i hA hS, qryAt_eq m c t ht]

omit hA hS in
theorem valGradAt_eq : (blocks m c t).valGradAt h i x = valG (argA m c) (argB m c) (argS m c) ⟨t.val, ht⟩ h i x := by
  refine Finset.sum_congr rfl fun l _ => ?_
  rw [scoreAt_eq m c t ht, sinkAt_eq, cotAt_eq m c t ht]

theorem sinkStep_eq (a : Fin 8) : sinkStep m c t a
    = 0 - ∑ r : Fin 128, sinkG (argA m c) (argB m c) (argS m c) ⟨t.val, ht⟩ ⟨a.val / 4, by omega⟩ ⟨a.val % 4 * 128 + r.val, by omega⟩ := by
  unfold sinkStep
  refine congrArg (fun z : EReal => 0 - z) (Finset.sum_congr rfl fun r _ => ?_)
  rw [sinkGradAt_eq m c t ht _ _ hA hS]

end Cert.KernelIdeal.Attn
end
-- ==== Proof.Attn.Arrays.lean ====
module
public import proofs.«01_k».proof.Proof.Attn.Point

@[expose] public section

set_option maxRecDepth 16384

/-! The three arrays after the run. -/

noncomputable section

namespace Cert.KernelIdeal.Attn

open Idealize.ShloMosaic Idealize.ShloMosaic.TcCoe
open Cert.KernelIdeal Cert.KernelIdeal.Gen Cert.Attn

variable (m : (ℓ : Loc nD τ sig) → Buf (Elt Ideal) ℓ) (c : Dev nD)
variable (hA : ∀ j, ∃ x : ℝ, argA m c j = x) (hS : ∀ j, ∃ x : ℝ, argS m c j = x)

theorem flush8 : ∀ t : Fin cfg0.N, (cfg0.win 8).flush t = true → t.val ≠ 64 := by decide +kernel
theorem flush9 : ∀ t : Fin cfg0.N, (cfg0.win 9).flush t = true → t.val ≠ 0 := by decide +kernel
theorem flush10 : ∀ t : Fin cfg0.N, (cfg0.win 10).flush t = true → ¬t.val < 65 := by decide +kernel

/-- The point whose block the query gradient's buffer holds. -/
def near (t : Fin cfg0.N) : Fin cfg0.N := ⟨min t.val 64, Nat.lt_of_le_of_lt (Nat.min_le_left ..) t.isLt⟩

theorem after_near (t : Fin cfg0.N) : (after m c t.val t.isLt).1 = (blocks m c (near t)).qryOut := by
  by_cases h : t.val < 65
  · rw [after_qry m c t h]
    congr 2
    exact Fin.ext (by dsimp only [near]; omega)
  · have hn : (near t).val + 1 = t.val := by
      have : t.val < 66 := t.isLt
      dsimp only [near]; omega
    rw [last_qry m c t (near t) h hn, after_qry m c (near t) (by dsimp only [near]; omega)]

theorem emb8 (t : Fin cfg0.N) (a : Fin 128) (b : Fin 512) :
    (((cfg0.win 8).blk t).view.emb (ix2 a b) : S8320x512.Idx) = ix2 ⟨min t.val 64 * 128 + a.val, by omega⟩ b := by
  blk_ext! [idx t]

theorem emb9 (t : Fin cfg0.N) (a : Fin 128) (b : Fin 256) :
    (((cfg0.win 9).blk t).view.emb (ix2 a b) : S8320x256.Idx)
      = ix2 ⟨(t.val - 1) * 128 + a.val, by have : t.val < 66 := t.isLt; omega⟩ b := by
  blk_ext! [idx t]

theorem emb10 (t : Fin cfg0.N) (a : Fin 8) (b : Fin 128) :
    (((cfg0.win 10).blk t).view.emb (ix2 a b) : S8x128.Idx) = ix2 a b := by
  blk_ext! [idx t]

theorem near_lt (t : Fin cfg0.N) : (near t).val < 65 := by dsimp only [near]; omega

/-- The point before. -/
def prior (t : Fin cfg0.N) : Fin cfg0.N := ⟨t.val - 1, Nat.lt_of_le_of_lt (Nat.sub_le ..) t.isLt⟩

theorem prior_succ (t : Fin cfg0.N) (h : t.val ≠ 0) : (prior t).val + 1 = t.val := by dsimp only [prior]; omega
theorem prior_lt (t : Fin cfg0.N) (h : t.val ≠ 0) : (prior t).val < 65 := by
  have : t.val < 66 := t.isLt
  dsimp only [prior]; omega

section
variable {G G' : Fin 65 → Fin 2 → Fin 256 → Fin 64 → EReal}

theorem joined_apply (k : Fin 65) (a z : Fin 128) : joined G ⟨k.val * 128 + a.val, by omega⟩ z
    = G k ⟨z.val / 64, by omega⟩ ⟨128 + a.val, by omega⟩ ⟨z.val % 64, by omega⟩
      + if h : k.val + 1 < 65 then G ⟨k.val + 1, h⟩ ⟨z.val / 64, by omega⟩ ⟨a.val, by omega⟩ ⟨z.val % 64, by omega⟩
        else 0 := by
  have e1 : (k.val * 128 + a.val) / 128 = k.val := by omega
  have e2 : (k.val * 128 + a.val) % 128 = a.val := by omega
  unfold joined
  simp only [e1, e2]

end

theorem pay6_apply (v : Vec Ideal S128x128 .f32) (a z : Fin 128) :
    k0_pay6 v (ix2 a z) = (show EReal from v (ix2 a z)) := by
  pointwise [k0_pay6]

theorem pay7_apply (v : Vec Ideal S128x128 .f32) (a z : Fin 128) :
    k0_pay7 v (ix2 a z) = (show EReal from v (ix2 a z)) := by
  pointwise [k0_pay7]

include hA hS

theorem dq_array : (dats m 0 c).arrAt 8 cfg0.N
    = fun j : S8320x512.Idx => dqG (argA m c) (argB m c) (argS m c) (j 0) (j 1) := by
  refine (dats m 0 c).arrAt_eq_of_covers 8 _ (by decide +kernel) fun t hf y => ?_
  rw [after8, after_near]
  idx_vars y
  rw [emb8]
  refine (Blocks.qryOut_apply (blocks m c (near t)) y0 y1).trans ?_
  rw [qryGradAt_eq m c (near t) (near_lt t) _ _ _ hA hS]
  have e1 : (min t.val 64 * 128 + y0.val) / 128 = min t.val 64 := by omega
  have e2 : (min t.val 64 * 128 + y0.val) % 128 = y0.val := by omega
  show _ = dqG (argA m c) (argB m c) (argS m c) ⟨min t.val 64 * 128 + y0.val, _⟩ y1
  unfold dqG near
  simp only [e1, e2]

/-- A block of the key gradients. -/
theorem key_block (t : Fin cfg0.N) (h : t.val ≠ 0) (a z : Fin 128) :
    (after m c t.val t.isLt).2.1 (ix2 a ⟨z.val, by omega⟩)
      = joined (keyG (argA m c) (argB m c) (argS m c)) ⟨(t.val - 1) * 128 + a.val, by have : t.val < 66 := t.isLt; omega⟩ z := by
  have hp := prior_lt t h
  refine Eq.trans ?_ (joined_apply ⟨(prior t).val, hp⟩ a z).symm
  by_cases h5 : t.val < 65
  · rw [after_key m c t (prior t) (prior_succ t h) h5, Blocks.keyOut_apply, Blocks.keyLate_apply,
      keyGradAt_eq m c (prior t) hp _ _ _ hA hS, keyGradAt_eq m c t h5 _ _ _ hA hS,
      dif_pos (by dsimp only [prior]; omega)]
    have e : t.val = (prior t).val + 1 := (prior_succ t h).symm
    congr 2
    exact Fin.ext e
  · rw [last_key m c t (prior t) (prior_succ t h) h5 a z hp, dif_neg (by dsimp only [prior]; omega), add_zero]
    refine (pay6_apply _ a z).trans ?_
    rw [Blocks.keyLate_apply, keyGradAt_eq m c (prior t) hp _ _ _ hA hS]

/-- A block of the value gradients. -/
theorem val_block (t : Fin cfg0.N) (h : t.val ≠ 0) (a z : Fin 128) :
    (after m c t.val t.isLt).2.1 (ix2 a ⟨128 + z.val, by omega⟩)
      = joined (valG (argA m c) (argB m c) (argS m c)) ⟨(t.val - 1) * 128 + a.val, by have : t.val < 66 := t.isLt; omega⟩ z := by
  have hp := prior_lt t h
  refine Eq.trans ?_ (joined_apply ⟨(prior t).val, hp⟩ a z).symm
  by_cases h5 : t.val < 65
  · rw [after_val m c t (prior t) (prior_succ t h) h5, Blocks.valOut_apply, Blocks.valLate_apply,
      valGradAt_eq m c (prior t) hp, valGradAt_eq m c t h5,
      dif_pos (by dsimp only [prior]; omega)]
    have e : t.val = (prior t).val + 1 := (prior_succ t h).symm
    congr 2
    exact Fin.ext e
  · rw [last_val m c t (prior t) (prior_succ t h) h5 a z hp, dif_neg (by dsimp only [prior]; omega), add_zero]
    refine (pay7_apply _ a z).trans ?_
    rw [Blocks.valLate_apply, valGradAt_eq m c (prior t) hp]

theorem dkv_array : (dats m 0 c).arrAt 9 cfg0.N
    = fun j : S8320x256.Idx => dkvG (argA m c) (argB m c) (argS m c) (j 0) (j 1) := by
  refine (dats m 0 c).arrAt_eq_of_covers 9 _ (by decide +kernel) fun t hf y => ?_
  rw [after9]
  idx_vars y
  rw [emb9]
  show _ = dkvG (argA m c) (argB m c) (argS m c) ⟨(t.val - 1) * 128 + y0.val, _⟩ y1
  unfold dkvG
  split
  · rename_i hz
    exact key_block m c hA hS t (flush9 t hf) y0 ⟨y1.val, hz⟩
  · rename_i hz
    refine Eq.trans (congrArg (fun b => (after m c t.val t.isLt).2.1 (ix2 y0 b)) (Fin.ext ?_)) (val_block m c hA hS t (flush9 t hf) y0 ⟨y1.val - 128, by omega⟩)
    exact (by omega : y1.val = 128 + (y1.val - 128))

theorem dsink_array : (dats m 0 c).arrAt 10 cfg0.N
    = fun j : S8x128.Idx => dsinkG (argA m c) (argB m c) (argS m c) (j 0) := by
  refine (dats m 0 c).arrAt_eq_of_covers 10 _ (by decide +kernel) fun t hf y => ?_
  rw [after10]
  idx_vars y
  rw [emb10]
  show _ = dsinkG (argA m c) (argB m c) (argS m c) y0
  have h5 := flush10 t hf
  have h0 : t.val ≠ 0 := by omega
  have e : (prior t).val = 64 := by
    have : t.val < 66 := t.isLt
    dsimp only [prior]; omega
  rw [last_sink m c t (prior t) (prior_succ t h0) h5]
  refine (after_sink m c y0 y1 (prior t).val (prior t).isLt (by omega)).trans ?_
  unfold dsinkG
  have key : ∀ n (hn : n = 64) (hN : n < cfg0.N), (∑ k : Fin (n + 1), sinkStep m c ⟨k.val, by omega⟩ y0)
      = ∑ t : Fin 65, (0 - ∑ r : Fin 128, sinkG (argA m c) (argB m c) (argS m c) t ⟨y0.val / 4, by omega⟩ ⟨y0.val % 4 * 128 + r.val, by omega⟩) := by
    rintro n rfl hN
    exact Finset.sum_congr rfl fun k _ => sinkStep_eq m c ⟨k.val, by omega⟩ k.isLt hA hS y0
  exact key _ e (prior t).isLt

end Cert.KernelIdeal.Attn
end
-- ==== Proof.Attn.RefArgs.lean ====
module
public import proofs.«01_k».proof.Proof.Gen.ReferenceIdeal.Run
public import proofs.«01_k».proof.Proof.Attn.Spec
public import Idealize.ShloMosaic.Lib.Pipeline.ValueKit
public import Idealize.ShloMosaic.Lib.WordCmp

@[expose] public section

set_option maxRecDepth 16384

/-! The reference's queries, keys, values and mask at an index. -/

noncomputable section

namespace Cert.ReferenceIdeal.Attn

open Idealize.ShloMosaic Idealize.ShloMosaic.TcCoe Idealize.ShloMosaic.WordCmp
open Cert.ReferenceIdeal Cert.ReferenceIdeal.Gen Cert.ReferenceIdeal.Value Cert.Attn Cert.KernelIdeal.Attn

variable (V0 : Valuation τ sig (Elt Ideal))

/-- The queries, keys and values. -/
abbrev argA : S8320x768.Idx → EReal := V0 (Proc.devRef .tc main_arg0)
/-- The gradient of the output. -/
abbrev argB : S8320x512.Idx → EReal := V0 (Proc.devRef .tc main_arg1)
/-- The sinks. -/
abbrev argS : S1x8.Idx → EReal := V0 (Proc.devRef .tc main_arg2)

/-- The number of the row `r` of the query head `g` among the 512 of a key head. -/
def lane (g : Fin 4) (r : Fin 128) : Fin 512 := ⟨g.val * 128 + r.val, by omega⟩

variable (t : Fin 65) (h : Fin 2) (g : Fin 4) (r : Fin 128) (i : Fin 256) (x : Fin 64)

theorem v4_apply : res_main_v4 V0 (ix5 t r h g x) = qryS (argA V0) t h (lane g r) x := by
  unfold qryS lane
  pointwise [res_main_v4, res_main_v0]
  refine congrArg _ ((ix2_inj ..).2 ⟨Fin.ext ?_, Fin.ext ?_⟩)
  · exact (by omega : t.val * 128 + r.val = t.val * 128 + (g.val * 128 + r.val) % 128)
  · exact (by omega : h.val * 256 + g.val * 64 + x.val = h.val * 256 + (g.val * 128 + r.val) / 128 * 64 + x.val)

theorem v5_apply (a : Fin 128) : res_main_v5 V0 (ix4 t a h x)
    = argA V0 (ix2 ⟨t.val * 128 + a.val, by omega⟩ ⟨512 + h.val * 64 + x.val, by omega⟩) := by
  pointwise [res_main_v5, res_main_v0]
  refine congrArg _ ((ix2_inj ..).2 ⟨Fin.ext ?_, Fin.ext ?_⟩)
  · exact (by omega : t.val * 128 + a.val = t.val * 128 + a.val)
  · exact (by omega : 512 + (h.val * 64 + x.val) = 512 + h.val * 64 + x.val)

theorem v12_apply : res_main_v12 V0 (ix4 t i h x) = keyS (argA V0) t h i x := by
  pointwise [res_main_v12, v5_apply V0]
  unfold keyS keyCol
  by_cases hi : i.val < 128
  · rw [dif_pos hi]
    by_cases ht : t.val < 1
    · rw [dif_pos ht, dif_pos (by omega : t.val * 128 + i.val < 128)]
    · rw [dif_neg ht, dif_neg (by omega : ¬ t.val * 128 + i.val < 128)]
      refine congrArg _ ((ix2_inj ..).2 ⟨Fin.ext ?_, rfl⟩)
      exact (by omega : (t.val - 1) * 128 + i.val = t.val * 128 + i.val - 128)
  · rw [dif_neg hi, dif_neg (by omega : ¬ t.val * 128 + i.val < 128)]
    refine congrArg _ ((ix2_inj ..).2 ⟨Fin.ext ?_, rfl⟩)
    exact (by omega : t.val * 128 + (i.val - 128) = t.val * 128 + i.val - 128)

theorem v6_apply (a : Fin 128) : res_main_v6 V0 (ix4 t a h x)
    = argA V0 (ix2 ⟨t.val * 128 + a.val, by omega⟩ ⟨640 + h.val * 64 + x.val, by omega⟩) := by
  pointwise [res_main_v6, res_main_v0]
  refine congrArg _ ((ix2_inj ..).2 ⟨Fin.ext ?_, Fin.ext ?_⟩)
  · exact (by omega : t.val * 128 + a.val = t.val * 128 + a.val)
  · exact (by omega : 640 + (h.val * 64 + x.val) = 640 + h.val * 64 + x.val)

theorem v18_apply : res_main_v18 V0 (ix4 t i h x) = valS (argA V0) t h i x := by
  pointwise [res_main_v18, v6_apply V0]
  unfold valS keyCol
  by_cases hi : i.val < 128
  · rw [dif_pos hi]
    by_cases ht : t.val < 1
    · rw [dif_pos ht, dif_pos (by omega : t.val * 128 + i.val < 128)]
    · rw [dif_neg ht, dif_neg (by omega : ¬ t.val * 128 + i.val < 128)]
      refine congrArg _ ((ix2_inj ..).2 ⟨Fin.ext ?_, rfl⟩)
      exact (by omega : (t.val - 1) * 128 + i.val = t.val * 128 + i.val - 128)
  · rw [dif_neg hi, dif_neg (by omega : ¬ t.val * 128 + i.val < 128)]
    refine congrArg _ ((ix2_inj ..).2 ⟨Fin.ext ?_, rfl⟩)
    exact (by omega : t.val * 128 + (i.val - 128) = t.val * 128 + i.val - 128)

theorem v103_apply : res_main_v103 V0 (ix5 t h x g r) = cotS (argB V0) t h (lane g r) x := by
  unfold cotS lane
  pointwise [res_main_v103]
  refine congrArg _ ((ix2_inj ..).2 ⟨Fin.ext ?_, Fin.ext ?_⟩)
  · exact (by omega : t.val * 128 + r.val = t.val * 128 + (g.val * 128 + r.val) % 128)
  · exact (by omega : h.val * 256 + g.val * 64 + x.val = h.val * 256 + (g.val * 128 + r.val) / 128 * 64 + x.val)

theorem v56_apply : res_main_v56 V0 (ix5 0 h g 0 0) = sinkS (argS V0) h (lane g r) := by
  unfold sinkS lane
  pointwise [res_main_v56]
  refine congrArg _ ((ix2_inj ..).2 ⟨rfl, Fin.ext ?_⟩)
  exact (by omega : h.val * 4 + g.val = h.val * 4 + (g.val * 128 + r.val) / 128)

theorem ofInt_sub' (a b : ℤ) : BitVec.ofInt 32 (a - b) = BitVec.ofInt 32 a - BitVec.ofInt 32 b := by
  rw [Int.sub_eq_add_neg, BitVec.ofInt_add, BitVec.ofInt_neg, BitVec.sub_eq_add_neg]

theorem toInt_small (z : ℤ) (h₀ : -65536 ≤ z) (h₁ : z < 65536) : (BitVec.ofInt 32 z).toInt = z := by
  rw [BitVec.toInt_ofInt]
  exact Int.bmod_eq_of_le (by omega) (by omega)

theorem v38_apply : res_main_v38 V0 (ix2 t i) = BitVec.ofInt 32 ((t.val : ℤ) * 128 - 128 + i.val) := by
  pointwise [res_main_v38, res_main_v26]
  simp only [IntOp.addi, IntOp.subi, IntOp.muli]
  rw [BitVec.ofInt_add, ofInt_sub', BitVec.ofInt_mul, BitVec.ofInt_natCast, BitVec.ofInt_natCast]
  rfl

theorem v43_apply : res_main_v43 V0 (ix3 t r i) = BitVec.ofInt 32 ((r.val : ℤ) + 128 - i.val) := by
  pointwise [res_main_v43, res_main_v26, v38_apply V0]
  simp only [IntOp.addi, IntOp.subi, IntOp.muli]
  rw [show BitVec.ofNat 32 t.val = BitVec.ofInt 32 (t.val : ℤ) from (BitVec.ofInt_natCast ..).symm,
    show BitVec.ofNat 32 r.val = BitVec.ofInt 32 (r.val : ℤ) from (BitVec.ofInt_natCast ..).symm,
    show (128#32) = BitVec.ofInt 32 128 from rfl, ← BitVec.ofInt_mul, ← BitVec.ofInt_add, ← ofInt_sub']
  exact congrArg _ (by ring)

theorem v55_1_apply : res_main_v55_1 V0 (ix5 t h g r i) = BitVec.ofBool (decide (Seen t (lane g r) i)) := by
  pointwise [res_main_v55_1, v38_apply V0, v43_apply V0]
  rw [cmpi_sge_eq, cmpi_slt_eq, cmpi_sge_eq, toInt_small _ (by omega) (by omega),
    toInt_small _ (by omega) (by omega), andi_ofBool, andi_ofBool]
  refine congrArg BitVec.ofBool ?_
  rw [show (0#32).toInt = 0 from rfl, show (128#32).toInt = 128 from rfl, show (112#32).toInt = 112 from rfl,
    ← Bool.decide_and, ← Bool.decide_and]
  refine decide_eq_decide.2 ?_
  unfold Seen lane
  dsimp only
  omega

end Cert.ReferenceIdeal.Attn
end
-- ==== Proof.Attn.RefRows.lean ====
module
public import proofs.«01_k».proof.Proof.Attn.RefArgs
public import Idealize.ShloMosaic.Lib.IdealHost

@[expose] public section

set_option maxRecDepth 16384

/-! The reference's softmax rows and their gradients at an index. -/

noncomputable section

namespace Cert.ReferenceIdeal.Attn

open Idealize.ShloMosaic Idealize.ShloMosaic.TcCoe Idealize.ShloMosaic.WordCmp
open Cert.ReferenceIdeal Cert.ReferenceIdeal.Gen Cert.ReferenceIdeal.Value Cert.Attn Cert.KernelIdeal.Attn

variable (V0 : Valuation τ sig (Elt Ideal))

variable (t : Fin 65) (h : Fin 2) (g : Fin 4) (r : Fin 128) (i : Fin 256) (x : Fin 64)

/-- The scores of a row. -/
abbrev sc : Fin 256 → EReal := scoreS (argA V0) t h (lane g r)
/-- The sink of a row. -/
abbrev sk : EReal := sinkS (argS V0) h (lane g r)
/-- The value products of a row. -/
abbrev vp : Fin 256 → EReal := vprodS (argA V0) (argB V0) t h (lane g r)

/-- The largest of a row's scores. -/
def top (s : Fin 256 → EReal) : EReal := Finset.univ.fold max ⊥ s

theorem peak_eq (s : Fin 256 → EReal) (σ : EReal) : peak s σ = max (top s) σ := rfl

theorem sum_one (f : Fin 1 → EReal) : ∑ x, f x = f 0 := Fintype.sum_unique _

theorem v55_apply : res_main_v55_0 V0 (ix5 t h g r i) = sc V0 t h g r i := by
  unfold sc scoreS
  pointwise [res_main_v55_0, v55_1_apply V0, v12_apply V0, v4_apply V0]
  refine if_congr Iff.rfl rfl ?_
  exact ofBits_bot

theorem v57_apply : res_main_v57 V0 (ix4 t h g r) = top (sc V0 t h g r) := by
  pointwise [res_main_v57, v55_apply V0]
  unfold top
  rw [ofBits_bot]
  refine (Shape.ReducesTo.fold_fiber_r5_a4 _ _ (max : EReal → EReal → EReal) _ _).trans ?_
  exact congrArg (Finset.univ.fold (max : EReal → EReal → EReal) (⊥ : EReal)) (funext fun i => v55_apply V0 t h g r i)

theorem v63_apply : res_main_v63 V0 (ix5 t h g r 0) = top (sc V0 t h g r) := by
  pointwise [res_main_v63, v57_apply V0]

theorem one_real : (FloatOps.uitofp .f32 (BitVec.ofBool true) : Ideal .f32) = (1 : EReal) := by
  show (((1 : Nat) : ℝ) : EReal) = 1
  rw [Nat.cast_one, EReal.coe_one]
theorem zero_real : (FloatOps.uitofp .f32 (BitVec.ofBool false) : Ideal .f32) = (0 : EReal) := by
  show (((0 : Nat) : ℝ) : EReal) = 0
  rw [Nat.cast_zero, EReal.coe_zero]

theorem v61_apply : res_main_v61 V0 (ix5 t h g r i)
    = (show EReal from if sc V0 t h g r i = top (sc V0 t h g r) then 1 else 0) := by
  pointwise [res_main_v61, v57_apply V0, v55_apply V0]
  by_cases hc : sc V0 t h g r i = top (sc V0 t h g r)
  · rw [if_pos hc, decide_eq_true hc]
    exact one_real
  · rw [if_neg hc, decide_eq_false hc]
    exact zero_real

theorem v64_apply : (broadcastInDim S65x2x4x128x1 ![0, 1, 2, 3, 4] bcast_S1x2x4x1x1_S65x2x4x128x1_0_1_2_3_4
    (res_main_v56 V0) : S65x2x4x128x1.Idx → EReal) (ix5 t h g r 0) = sk V0 h g r := by
  pointwise [v56_apply V0 h g r]

theorem max_apply (a b : S65x2x4x128x1.Idx → EReal) (j : S65x2x4x128x1.Idx) (u v : EReal) (hu : a j = u)
    (hv : b j = v) : (maximumf (F := Ideal) (φ := .f32) a b : S65x2x4x128x1.Idx → EReal) j = max u v := by
  rw [← hu, ← hv]
  exact congrFun (congrFun Ideal.maximumf_eq_max _) _

theorem v65_apply : res_main_v65 V0 (ix5 t h g r 0) = peak (sc V0 t h g r) (sk V0 h g r) :=
  max_apply (res_main_v63 V0) _ (ix5 t h g r 0) _ _ (v63_apply V0 t h g r) (v64_apply V0 t h g r)

theorem v86_apply : res_main_v86 V0 (ix5 t h g r i) = num (sc V0 t h g r) (sk V0 h g r) i := by
  unfold num
  pointwise [res_main_v86, v55_apply V0, v65_apply V0]

theorem v91_apply : res_main_v91 V0 (ix5 t h g r 0) = sinkNum (sc V0 t h g r) (sk V0 h g r) := by
  unfold sinkNum
  pointwise [res_main_v91, v56_apply V0 h g r, v65_apply V0]

theorem v92_apply : res_main_v92 V0 (ix5 t h g r 0) = total (sc V0 t h g r) (sk V0 h g r) := by
  unfold total
  pointwise [res_main_v92, v91_apply V0, v86_apply V0]

theorem v94_apply : res_main_v94 V0 (ix5 t h g r i)
    = Ideal.div (num (sc V0 t h g r) (sk V0 h g r) i) (total (sc V0 t h g r) (sk V0 h g r)) := by
  pointwise [res_main_v94, v92_apply V0, v86_apply V0]

theorem v104_apply : res_main_v104 V0 (ix5 t h g r i) = vp V0 t h g r i := by
  show (res_main_v104 V0 (ix5 t h g r i) : EReal) = _
  unfold vp vprodS
  pointwise [res_main_v104, v103_apply V0, v18_apply V0]
  exact Finset.sum_congr (M := EReal) rfl fun x _ => mul_comm (cotS (argB V0) t h (lane g r) x) _

theorem v112_apply : res_main_v112 V0 (ix5 t h g r 0)
    = back (sc V0 t h g r) (sk V0 h g r) (vp V0 t h g r) := by
  unfold back
  pointwise [res_main_v112, v104_apply V0, v92_apply V0, v86_apply V0]

theorem v115_apply : res_main_v115 V0 (ix5 t h g r 0)
    = back (sc V0 t h g r) (sk V0 h g r) (vp V0 t h g r) * sinkNum (sc V0 t h g r) (sk V0 h g r) := by
  pointwise [res_main_v115, v112_apply V0, v91_apply V0]

theorem v122_apply : res_main_v122 V0 (ix5 t h g r i)
    = backGrad (sc V0 t h g r) (sk V0 h g r) (vp V0 t h g r) i := by
  unfold backGrad
  pointwise [res_main_v122, v104_apply V0, v92_apply V0, v86_apply V0, v112_apply V0]
  refine Ideal.mul_congr (Ideal.add_congr rfl ?_) rfl
  exact (sum_one _).trans (v112_apply V0 t h g r)

theorem v126_apply : res_main_v126 V0 (ix5 t h g r 0)
    = -(back (sc V0 t h g r) (sk V0 h g r) (vp V0 t h g r) * sinkNum (sc V0 t h g r) (sk V0 h g r))
      + ∑ i, -(backGrad (sc V0 t h g r) (sk V0 h g r) (vp V0 t h g r) i) := by
  pointwise [res_main_v126, v115_apply V0, v122_apply V0]

end Cert.ReferenceIdeal.Attn
end
-- ==== Proof.Attn.RefGrad.lean ====
module
public import proofs.«01_k».proof.Proof.Attn.RefRows

@[expose] public section

set_option maxRecDepth 16384

/-! The reference's gradients at an index. -/

noncomputable section

namespace Cert.ReferenceIdeal.Attn

open Idealize.ShloMosaic Idealize.ShloMosaic.TcCoe Idealize.ShloMosaic.WordCmp
open Cert.ReferenceIdeal Cert.ReferenceIdeal.Gen Cert.ReferenceIdeal.Value Cert.Attn Cert.KernelIdeal.Attn

/-- A sum over the 512 rows of a key head, head by head. -/
theorem sum_lane (f : Fin 512 → EReal) : ∑ l, f l = ∑ g : Fin 4, ∑ r : Fin 128, f (lane g r) :=
  Fin.sum_univ_tiles 4 128 rfl f

variable (V0 : Valuation τ sig (Elt Ideal))
variable (hA : ∀ j, ∃ x : ℝ, argA V0 j = x) (hB : ∀ j, ∃ x : ℝ, argB V0 j = x) (hS : ∀ j, ∃ x : ℝ, argS V0 j = x)

variable (t : Fin 65) (h : Fin 2) (g : Fin 4) (r : Fin 128) (i : Fin 256) (x : Fin 64)

include hA hS in
theorem v94_prob : res_main_v94 V0 (ix5 t h g r i) = prob (sc V0 t h g r) (sk V0 h g r) i :=
  (v94_apply V0 t h g r i).trans (div_total (s := sc V0 t h g r) (σ := sk V0 h g r)
    (scoreS_real hA t h (lane g r)) (sinkS_real hS h (lane g r)) i)

include hA hB hS in
theorem v126_zero : res_main_v126 V0 (ix5 t h g r 0) = (show EReal from 0) :=
  (v126_apply V0 t h g r).trans (back_rest (s := sc V0 t h g r) (σ := sk V0 h g r) (g := vp V0 t h g r)
    (scoreS_real hA t h (lane g r)) (sinkS_real hS h (lane g r)) (vprodS_real hA hB t h (lane g r)))

include hA hB hS in
theorem v122_grad : res_main_v122 V0 (ix5 t h g r i) = grad (sc V0 t h g r) (sk V0 h g r) (vp V0 t h g r) i :=
  (v122_apply V0 t h g r i).trans (backGrad_eq (s := sc V0 t h g r) (σ := sk V0 h g r) (g := vp V0 t h g r)
    (scoreS_real hA t h (lane g r)) (sinkS_real hS h (lane g r)) (vprodS_real hA hB t h (lane g r)) i)

include hA hB hS in
theorem v115_sink : res_main_v115 V0 (ix5 t h g r 0)
    = -(sinkG (argA V0) (argB V0) (argS V0) t h (lane g r)) :=
  (v115_apply V0 t h g r).trans (back_sink (s := sc V0 t h g r) (σ := sk V0 h g r) (g := vp V0 t h g r)
    (scoreS_real hA t h (lane g r)) (sinkS_real hS h (lane g r)) (vprodS_real hA hB t h (lane g r)))

/-- What the derivative of the row's maximum adds: nothing, as long as the row's sum is not zero. -/
theorem quot_apply (a s : FVec Ideal S65x2x4x128x1 .f32) (c : FVec Ideal S65x2x4x128x256 .f32)
    (ha : a (ix5 t h g r 0) = (show EReal from 0)) (hc : (∑ i, c (ix5 t h g r i) : EReal) ≠ 0) :
    (Host.divf (Host.reduceAdd (mulf a s) (constant S_ .f32 0x00000000#32)
        reducesTo_S65x2x4x128x1_S65x2x4x128_d4 h_S_)
      (Host.reduceAdd c (constant S_ .f32 0x00000000#32) reducesTo_S65x2x4x128x256_S65x2x4x128_d4 h_S_) :
      FVec Ideal S65x2x4x128 .f32) (ix4 t h g r) = (show EReal from 0) := by
  pointwise []
  rw [sum_one, ha]
  show Ideal.div ((0 : EReal) * s (ix5 t h g r 0)) _ = (0 : EReal)
  rw [zero_mul, Ideal.div, if_neg hc, zero_mul]

theorem eq_zero_of_ne_one {b : BitVec 1} (hb : b ≠ 1#1) : b = 0#1 := by
  revert b; decide

/-- The gradient of the scores, as it reads at an index. -/
theorem masked_apply (m : IVec S65x2x4x128x256 1) (a c : FVec Ideal S65x2x4x128x256 .f32)
    (q : FVec Ideal S65x2x4x128 .f32) :
    (transpose S65x2x256x128x4 [0, 1, 4, 3, 2] (mulf (select m (addf a (mulf
        (broadcastInDim S65x2x4x128x256 ![0, 1, 2, 3] bcast_S65x2x4x128_S65x2x4x128x256_0_1_2_3 q) c))
        (broadcastInDim S65x2x4x128x256 ![] bcast_S_S65x2x4x128x256 (constant S_ .f32 0x00000000#32)))
        (broadcastInDim S65x2x4x128x256 ![] bcast_S_S65x2x4x128x256 (constant S_ .f32 0x3E000000#32)))
      transposes_S65x2x4x128x256_S65x2x256x128x4_0_1_4_3_2 : FVec Ideal S65x2x256x128x4 .f32) (ix5 t h i r g)
    = (if m (ix5 t h g r i) = 1#1 then
        (show EReal from a (ix5 t h g r i)) + q (ix4 t h g r) * c (ix5 t h g r i) else 0) * eighth := by
  unfold eighth
  pointwise []
  by_cases hm : m (ix5 t h g r i) = 1#1
  · rw [if_pos hm, hm]; rfl
  · rw [if_neg hm, zero_mul, eq_zero_of_ne_one hm]; rfl

include hA hB hS in
theorem v141_apply : res_main_v141 V0 (ix5 t h i r g)
    = gradS (argA V0) (argB V0) (argS V0) t h (lane g r) i := by
  unfold res_main_v141
  refine (masked_apply t h g r i _ _ _ _).trans ?_
  rw [v55_1_apply V0, v122_grad V0 hA hB hS, quot_apply t h g r _ _ _ (v126_zero V0 hA hB hS t h g r) ?_]
  · unfold gradS
    refine Ideal.mul_congr ?_ rfl
    by_cases hm : Seen t (lane g r) i
    · rw [if_pos ((ofBool_decide_eq_one_iff _).2 hm)]
      show grad _ _ _ i + (0 : EReal) * _ = _
      rw [zero_mul, add_zero]
    · rw [if_neg fun e => hm ((ofBool_decide_eq_one_iff _).1 e)]
      refine (grad_masked (s := sc V0 t h g r) (σ := sk V0 h g r) (scoreS_real hA t h (lane g r))
        (sinkS_real hS h (lane g r)) ?_).symm
      exact if_neg hm
  · refine fun e => count_ne_zero (sc V0 t h g r) (Eq.trans ?_ e)
    exact Finset.sum_congr (M := EReal) rfl fun i _ => (v61_apply V0 t h g r i).symm

include hA hB hS in
theorem v145_apply : res_main_v145 V0 (ix4 t i h x)
    = keyG (argA V0) (argB V0) (argS V0) t h i x := by
  unfold keyG
  pointwise [res_main_v145, v141_apply V0 hA hB hS, v4_apply V0]
  exact ((sum_lane fun l => gradS (argA V0) (argB V0) (argS V0) t h l i * qryS (argA V0) t h l x).trans
    Finset.sum_comm).symm

include hA hS in
theorem v106_apply : res_main_v106 V0 (ix4 t i h x)
    = valG (argA V0) (argB V0) (argS V0) t h i x := by
  unfold valG
  pointwise [res_main_v106, v94_prob V0 hA hS, v103_apply V0]
  rw [sum_lane]
  exact Finset.sum_congr (M := EReal) rfl fun g _ => Finset.sum_congr (M := EReal) rfl fun r _ =>
    mul_comm (cotS (argB V0) t h (lane g r) x) _

end Cert.ReferenceIdeal.Attn
end
-- ==== Proof.Attn.RefOut.lean ====
module
public import proofs.«01_k».proof.Proof.Attn.RefGrad

@[expose] public section

set_option maxRecDepth 16384

/-! The reference's results at an index. -/

noncomputable section

namespace Cert.ReferenceIdeal.Attn

open Idealize.ShloMosaic Idealize.ShloMosaic.TcCoe Idealize.ShloMosaic.WordCmp
open Cert.ReferenceIdeal Cert.ReferenceIdeal.Gen Cert.ReferenceIdeal.Value Cert.Attn Cert.KernelIdeal.Attn

variable (V0 : Valuation τ sig (Elt Ideal))
variable (hA : ∀ j, ∃ x : ℝ, argA V0 j = x) (hB : ∀ j, ∃ x : ℝ, argB V0 j = x) (hS : ∀ j, ∃ x : ℝ, argS V0 j = x)

/-- The gradient of the queries. -/
abbrev dqRef (a : FVec Ideal S65x2x256x128x4 .f32) (b : FVec Ideal S65x256x2x64 .f32) : FVec Ideal S8320x512 .bf16 :=
  truncf .bf16 (shapeCast _ (transpose S65x128x2x4x64 [0, 2, 1, 3, 4] (Host.dotGeneral dot_S65x2x256x128x4_S65x256x2x64_S65x2x128x4x64_2_1_34_3_01_02 none a b) transposes_S65x2x128x4x64_S65x128x2x4x64_0_2_1_3_4) shapeCasts_S65x128x2x4x64_S8320x512) bitsLt_bf16_f32

/-- A row's gradient from its own block and the next. -/
abbrev joinRef (a : FVec Ideal S65x256x2x64 .f32) (b : FVec Ideal S65x128x2x64 .f32) : FVec Ideal S8320x128 .f32 :=
  shapeCast _ (addf (extractStridedSlice S65x128x2x64 ![0, 128, 0, 0] a slices_S65x256x2x64_S65x128x2x64_0_128_0_0) (pad S65x128x2x64 ![0, 0, 0, 0] ![1, 0, 0, 0] ![0, 0, 0, 0] (extractStridedSlice S64x128x2x64 ![1, 0, 0, 0] b slices_S65x128x2x64_S64x128x2x64_1_0_0_0) (constant S_ .f32 0x00000000#32) pads_S64x128x2x64_S65x128x2x64_010_000_000_000 h_S_)) shapeCasts_S65x128x2x64_S8320x128

/-- The gradients of keys and values. -/
abbrev dkvRef : FVec Ideal S8320x256 .bf16 :=
  truncf .bf16 (concatenate S8320x256 1 [⟨S8320x128, joinRef (res_main_v145 V0) (res_main_v152 V0)⟩, ⟨S8320x128, joinRef (res_main_v106 V0) (res_main_v146 V0)⟩] concatenates_S8320x128_S8320x128_S8320x256_d1) bitsLt_bf16_f32

/-- The gradient of the sinks. -/
abbrev sinkRef (u v : FVec Ideal S65x2x4x128x1 .f32) : FVec Ideal S8x128 .f32 :=
  broadcastInDim S8x128 ![0, 1] bcast_S8x1_S8x128_0_1 (shapeCast _ (shapeCast _ (addf (shapeCast _ (Host.reduceAdd u (constant S_ .f32 0x00000000#32) reducesTo_S65x2x4x128x1_S2x4x1_d0_3 h_S_) shapeCasts_S2x4x1_S1x2x4x1x1) (shapeCast _ (Host.reduceAdd v (constant S_ .f32 0x00000000#32) reducesTo_S65x2x4x128x1_S2x4x1_d0_3 h_S_) shapeCasts_S2x4x1_S1x2x4x1x1)) shapeCasts_S1x2x4x1x1_S1x8) shapeCasts_S1x8_S8x1)

theorem dqRef_apply (a : FVec Ideal S65x2x256x128x4 .f32) (b : FVec Ideal S65x256x2x64 .f32)
    (G : Fin 65 → Fin 2 → Fin 512 → Fin 256 → EReal) (K : Fin 65 → Fin 2 → Fin 256 → Fin 64 → EReal)
    (ha : ∀ t h i r g, a (ix5 t h i r g) = G t h (lane g r) i) (hb : ∀ t i h x, b (ix4 t i h x) = K t h i x)
    (R : Fin 8320) (z : Fin 512) : dqRef a b (ix2 R z) = (show EReal from ∑ i,
      K ⟨R.val / 128, by omega⟩ ⟨z.val / 256, by omega⟩ i ⟨z.val % 64, by omega⟩
      * G ⟨R.val / 128, by omega⟩ ⟨z.val / 256, by omega⟩ (lane ⟨z.val % 256 / 64, by omega⟩ ⟨R.val % 128, by omega⟩) i) := by
  pointwise [ha, hb]
  refine Finset.sum_congr (M := EReal) rfl fun i _ => ?_
  refine (mul_comm (_ : EReal) _).trans ?_
  have hG : ∀ t h (g g' : Fin 4) r, g.val = g'.val → G t h (lane g r) i = G t h (lane g' r) i :=
    fun t h g g' r e => by rw [Fin.ext e]
  exact Ideal.mul_congr rfl (hG _ _ _ _ _ (by omega : z.val / 64 % 4 = z.val % 256 / 64))

theorem joinRef_apply (a : FVec Ideal S65x256x2x64 .f32) (b : FVec Ideal S65x128x2x64 .f32)
    (G : Fin 65 → Fin 2 → Fin 256 → Fin 64 → EReal) (ha : ∀ t h i x, a (ix4 t i h x) = G t h i x)
    (hb : ∀ t h (i : Fin 128) x, b (ix4 t i h x) = G t h ⟨i.val, by omega⟩ x) (R : Fin 8320) (z : Fin 128) :
    joinRef a b (ix2 R z) = joined G R z := by
  unfold joined
  pointwise [ha, hb]
  have hG : ∀ (t t' : Fin 65) h i x, t.val = t'.val → G t h i x = G t' h i x :=
    fun t t' h i x e => by rw [Fin.ext e]
  refine Ideal.add_congr rfl ?_
  by_cases hR : R.val / 128 + 1 < 65
  · refine Eq.trans (dif_pos ⟨by omega, by omega, by omega, by omega⟩) (Eq.trans ?_ (dif_pos hR).symm)
    refine hG _ _ _ _ _ ?_
    dsimp only
    omega
  · exact Eq.trans (dif_neg fun e => hR (by omega)) (Eq.symm (dif_neg hR))

include hA hB hS in
theorem v152_apply (t : Fin 65) (h : Fin 2) (i : Fin 128) (x : Fin 64) : res_main_v152 V0 (ix4 t i h x)
    = keyG (argA V0) (argB V0) (argS V0) t h ⟨i.val, by omega⟩ x := by
  pointwise [res_main_v152, v145_apply V0 hA hB hS]

include hA hS in
theorem v146_apply (t : Fin 65) (h : Fin 2) (i : Fin 128) (x : Fin 64) : res_main_v146 V0 (ix4 t i h x)
    = valG (argA V0) (argB V0) (argS V0) t h ⟨i.val, by omega⟩ x := by
  pointwise [res_main_v146, v106_apply V0 hA hS]

include hA hB hS in
theorem dkvRef_apply (R : Fin 8320) (z : Fin 256) :
    dkvRef V0 (ix2 R z) = dkvG (argA V0) (argB V0) (argS V0) R z := by
  have e₁ := joinRef_apply (res_main_v145 V0) (res_main_v152 V0) _ (fun t h i x => v145_apply V0 hA hB hS t h i x)
    (fun t h i x => v152_apply V0 hA hB hS t h i x)
  have e₂ := joinRef_apply (res_main_v106 V0) (res_main_v146 V0) _ (fun t h i x => v106_apply V0 hA hS t h i x)
    (fun t h i x => v146_apply V0 hA hS t h i x)
  unfold dkvG
  unfold dkvRef
  generalize joinRef (res_main_v145 V0) (res_main_v152 V0) = p at e₁ ⊢
  generalize joinRef (res_main_v106 V0) (res_main_v146 V0) = q at e₂ ⊢
  pointwise [e₁, e₂]

theorem sum_rows (u : S65x2x4x128x1.Idx → EReal) (h : Fin 2) (g : Fin 4) :
    ∑ i ∈ Finset.univ.filter (fun i => reducesTo_S65x2x4x128x1_S2x4x1_d0_3.drop i = ix3 h g 0), u i
      = ∑ t : Fin 65, ∑ r : Fin 128, u (ix5 t h g r 0) := by
  rw [← Finset.sum_product']
  refine Finset.sum_filter_eq_sum_of_fiber _ (fun k : Fin 65 × Fin 128 => (ix5 k.1 h g k.2 0 : S65x2x4x128x1.Idx))
    (fun k k' e => Prod.ext (congrFun e 0) (congrFun e 3)) (fun i => ⟨fun e => ⟨(i 0, i 3), ?_⟩, ?_⟩) u
  · funext a
    apply Fin.ext
    match a with
    | ⟨0, _⟩ => rfl
    | ⟨1, _⟩ => exact (congrArg Fin.val (congrFun e (0 : Fin 3))).symm
    | ⟨2, _⟩ => exact (congrArg Fin.val (congrFun e (1 : Fin 3))).symm
    | ⟨3, _⟩ => rfl
    | ⟨4, _⟩ => exact (congrArg Fin.val (congrFun e (2 : Fin 3))).symm
  · rintro ⟨k, rfl⟩
    funext b
    apply Fin.ext
    match b with
    | ⟨0, _⟩ => rfl
    | ⟨1, _⟩ => rfl
    | ⟨2, _⟩ => rfl

theorem sinkRef_apply (u v : FVec Ideal S65x2x4x128x1 .f32) (a : Fin 8) (z : Fin 128) :
    sinkRef u v (ix2 a z) = (show EReal from
      (∑ t : Fin 65, ∑ r : Fin 128, u (ix5 t ⟨a.val / 4, by omega⟩ ⟨a.val % 4, by omega⟩ r 0))
      + ∑ t : Fin 65, ∑ r : Fin 128, v (ix5 t ⟨a.val / 4, by omega⟩ ⟨a.val % 4, by omega⟩ r 0)) := by
  pointwise []
  refine Ideal.add_congr ?_ ?_
  · exact (zero_add _).trans (sum_rows u _ _)
  · exact (zero_add _).trans (sum_rows v _ _)

theorem neg_sum {n : ℕ} {f : Fin n → EReal} (hf : ∀ i, ∃ x : ℝ, f i = x) : ∑ i, -(f i) = 0 - ∑ i, f i := by
  choose g hg using hf
  rw [Finset.sum_congr rfl fun i _ => hg i, ← coe_sum, ← EReal.coe_zero, ← EReal.coe_sub, zero_sub,
    ← Finset.sum_neg_distrib, coe_sum]
  exact Finset.sum_congr rfl fun i _ => by rw [hg, EReal.coe_neg]

include hA hB hS in
theorem sinkRef_sum (sel : FVec Ideal S65x2x4x128x1 .f32) (a : Fin 8) (z : Fin 128) :
    sinkRef (res_main_v115 V0) (mulf (res_main_v126 V0) sel) (ix2 a z)
      = dsinkG (argA V0) (argB V0) (argS V0) a := by
  refine (sinkRef_apply _ _ a z).trans ?_
  have e : ∀ t h g r, (mulf (res_main_v126 V0) sel : S65x2x4x128x1.Idx → EReal) (ix5 t h g r 0) = 0 := by
    intro t h g r
    refine (mulf_apply (res_main_v126 V0) sel _).trans ?_
    rw [v126_zero V0 hA hB hS]
    exact zero_mul (sel (ix5 t h g r 0) : EReal)
  refine (congrArg (fun y : EReal => _ + y) (Finset.sum_eq_zero fun t _ => Finset.sum_eq_zero fun r _ => e t _ _ r)).trans ?_
  rw [add_zero]
  unfold dsinkG
  refine Finset.sum_congr (M := EReal) rfl fun t _ => ?_
  refine Eq.trans (Finset.sum_congr (M := EReal) rfl fun r _ => v115_sink V0 hA hB hS t _ _ r) ?_
  exact neg_sum fun r => sink_real (scoreS_real hA t _ _) (sinkS_real hS _ _) (vprodS_real hA hB t _ _)

end Cert.ReferenceIdeal.Attn
end
-- ==== Proof.Attn.Finite.lean ====
module
public import proofs.«01_k».proof.Defs
public import proofs.«01_k».proof.Proof.Gen.Pre_finite
public import Idealize.ShloMosaic.Lib.Pipeline.ValueKit
public import Idealize.ShloMosaic.Lib.ReduceAll
public import Idealize.ShloMosaic.Lib.WordCmp

@[expose] public section

set_option maxRecDepth 16384

/-! What the precondition says: every entry of every argument is a real number. -/

noncomputable section

namespace Cert.Finite

open Idealize.ShloMosaic Idealize.ShloMosaic.WordCmp Cert.Pre_finite

instance : Cert.Pre_finite.Facts := Cert.Pre_finite.Gen.facts

theorem top_word : Ideal.ofBits .f32 0x7F800000#32 = ⊤ := by
  simp [Ideal.ofBits, Ideal.ieee]

/-- A number whose absolute value is below infinity is real. -/
theorem real_of_lt {x : EReal} (h : max x (-x) < ⊤) : ∃ y : ℝ, x = y := by
  induction x using EReal.rec with
  | bot => simp at h
  | coe y => exact ⟨y, rfl⟩
  | top => simp at h

/-- One array's part of the precondition. -/
theorem entry {s : Shape} {axes : List (Fin s.rank)} (v : FVec Ideal s .f32) (hb : S_.BroadcastsInDim s ![])
    (h : s.ReducesTo axes S_) (hu : 0 < S_.numel)
    (e : Host.reduce IntOp.andi (cmpf .olt (Host.absf v) (broadcastInDim s ![] hb (constant S_ .f32 0x7F800000#32)))
      (constantI S_ 1 1#1) h hu ix0 = 1#1) (j : s.Idx) : ∃ y : ℝ, (v j : EReal) = y := by
  haveI : Subsingleton S_.Idx := ⟨fun a b => funext fun k => k.elim0⟩
  have h1 := Host.reduce_andi_all _ _ h hu ix0 e j
  have h2 : BitVec.ofBool (decide (max (v j : EReal) (-(v j)) < Ideal.ofBits .f32 0x7F800000#32)) = 1#1 := h1
  rw [ofBool_decide_eq_one_iff, top_word] at h2
  exact real_of_lt h2

theorem andi_split {a b : BitVec 1} (h : IntOp.andi a b = 1#1) : a = 1#1 ∧ b = 1#1 := by
  revert a b; decide

theorem real_of_pre (a : FVec Ideal S8320x768 .bf16) (b : FVec Ideal S8320x512 .bf16) (s : FVec Ideal S1x8 .f32)
    (h : fn a b s ix0 = 1#1) : (∀ j, ∃ y : ℝ, (a j : EReal) = y) ∧ (∀ j, ∃ y : ℝ, (b j : EReal) = y)
      ∧ ∀ j, ∃ y : ℝ, (s j : EReal) = y := by
  obtain ⟨h12, h3⟩ := andi_split h
  obtain ⟨h1, h2⟩ := andi_split h12
  exact ⟨fun j => entry _ _ _ _ h1 j, fun j => entry _ _ _ _ h2 j, fun j => entry _ _ _ _ h3 j⟩

end Cert.Finite
end
-- ==== Proof.Attn.Equal.lean ====
module
public import proofs.«01_k».proof.Proof.Attn.Arrays
public import proofs.«01_k».proof.Proof.Attn.RefOut
public import proofs.«01_k».proof.Proof.Attn.Finite

@[expose] public section

set_option maxRecDepth 16384

/-! The kernel's results and the reference's, from the same arguments, are the same arrays. -/

noncomputable section

namespace Cert.KernelIdeal.Attn

open Idealize.ShloMosaic Idealize.ShloMosaic.TcCoe Idealize.SL.Sem
open Cert.KernelIdeal Cert.KernelIdeal.Gen Cert.Attn

/-- The kernel's run, its three results as functions of the arguments. -/
theorem run_values (m : (ℓ : Loc nD τ sig) → Buf (Elt Ideal) ℓ) (ρ : Dev nD → PrngReg)
    (hA : ∀ c j, ∃ x : ℝ, argA m c j = x) (hS : ∀ c j, ∃ x : ℝ, argS m c j = x) :
    θ_run defs (onTc (τ := τ) (main (F := Ideal))) ⟨m, fun _ => 0, ρ⟩ fun r => ∀ c : Dev nD,
      r.2.mem ((c.tc : Thread nD τ).loc main_v32_0)
        = (fun j : S8320x512.Idx => dqG (argA m c) (argB m c) (argS m c) (j 0) (j 1))
      ∧ r.2.mem ((c.tc : Thread nD τ).loc main_v32_1)
        = (fun j : S8320x256.Idx => dkvG (argA m c) (argB m c) (argS m c) (j 0) (j 1))
      ∧ r.2.mem ((c.tc : Thread nD τ).loc main_v32_2)
        = (fun j : S8x128.Idx => dsinkG (argA m c) (argB m c) (argS m c) (j 0)) :=
  (θ_run defs _ _).mono (fun r h c => ⟨((h c).1 8).trans (dq_array m c (hA c) (hS c)),
    ((h c).1 9).trans (dkv_array m c (hA c) (hS c)), ((h c).1 10).trans (dsink_array m c (hA c) (hS c))⟩) (run_main m ρ)

end Cert.KernelIdeal.Attn

namespace Cert.ReferenceIdeal.Attn

open Idealize.ShloMosaic Idealize.ShloMosaic.TcCoe Idealize.SL.Sem
open Idealize.ShloMosaic.StableHlo
open Cert.ReferenceIdeal Cert.ReferenceIdeal.Gen Cert.ReferenceIdeal.Value Cert.Attn

section
variable (V0 : Valuation τ sig (Elt Ideal))
variable (hA : ∀ j, ∃ x : ℝ, argA V0 j = x) (hB : ∀ j, ∃ x : ℝ, argB V0 j = x) (hS : ∀ j, ∃ x : ℝ, argS V0 j = x)
include hA hB hS

theorem dqRef_eq (j : S8320x512.Idx) : dqRef (res_main_v141 V0) (res_main_v12 V0) j
    = dqG (argA V0) (argB V0) (argS V0) (j 0) (j 1) := by
  refine (congrArg (dqRef (res_main_v141 V0) (res_main_v12 V0)) (eq_ix2 j)).trans ?_
  exact dqRef_apply _ _ (fun t h l i => gradS (argA V0) (argB V0) (argS V0) t h l i) (fun t h i x => keyS (argA V0) t h i x)
    (fun t h i r g => v141_apply V0 hA hB hS t h g r i) (fun t i h x => v12_apply V0 t h i x) (j 0) (j 1)

theorem dkvRef_eq (j : S8320x256.Idx) : dkvRef V0 j = dkvG (argA V0) (argB V0) (argS V0) (j 0) (j 1) := by
  refine (congrArg (dkvRef V0) (eq_ix2 j)).trans ?_
  exact dkvRef_apply V0 hA hB hS (j 0) (j 1)

theorem sinkRef_eq (sel : FVec Ideal S65x2x4x128x1 .f32) (j : S8x128.Idx) :
    sinkRef (res_main_v115 V0) (mulf (res_main_v126 V0) sel) j = dsinkG (argA V0) (argB V0) (argS V0) (j 0) := by
  refine (congrArg (sinkRef (res_main_v115 V0) (mulf (res_main_v126 V0) sel)) (eq_ix2 j)).trans ?_
  exact sinkRef_sum V0 hA hB hS sel (j 0) (j 1)

end

/-- The reference's run, its three results as the same functions. -/
theorem run_values (m : (ℓ : Loc nD τ sig) → Buf (Elt Ideal) ℓ) (ρ : Dev nD → PrngReg)
    (A : Dev nD → S8320x768.Idx → EReal) (B : Dev nD → S8320x512.Idx → EReal) (S : Dev nD → S1x8.Idx → EReal)
    (eA : ∀ c : Dev nD, m ((c.tc : Thread nD τ).loc main_arg0) = A c) (eB : ∀ c : Dev nD, m ((c.tc : Thread nD τ).loc main_arg1) = B c)
    (eS : ∀ c : Dev nD, m ((c.tc : Thread nD τ).loc main_arg2) = S c)
    (hA : ∀ c j, ∃ x : ℝ, A c j = x) (hB : ∀ c j, ∃ x : ℝ, B c j = x) (hS : ∀ c j, ∃ x : ℝ, S c j = x) :
    θ_run defs (onTc (τ := τ) (main (F := Ideal))) ⟨m, fun _ => 0, ρ⟩ fun r => ∀ c : Dev nD,
      r.2.mem ((c.tc : Thread nD τ).loc main_v162)
        = (fun j : S8320x512.Idx => dqG (A c) (B c) (S c) (j 0) (j 1))
      ∧ r.2.mem ((c.tc : Thread nD τ).loc main_v163)
        = (fun j : S8320x256.Idx => dkvG (A c) (B c) (S c) (j 0) (j 1))
      ∧ r.2.mem ((c.tc : Thread nD τ).loc main_v165)
        = (fun j : S8x128.Idx => dsinkG (A c) (B c) (S c) (j 0)) := by
  have lA : ∀ c, argA (launchContents m c) = A c := fun c => (show _ = m ((c.tc : Thread nD τ).loc main_arg0) from rfl).trans (eA c)
  have lB : ∀ c, argB (launchContents m c) = B c := fun c => (show _ = m ((c.tc : Thread nD τ).loc main_arg1) from rfl).trans (eB c)
  have lS : ∀ c, argS (launchContents m c) = S c := fun c => (show _ = m ((c.tc : Thread nD τ).loc main_arg2) from rfl).trans (eS c)
  refine (θ_run defs _ _).mono (fun r h c => ?_) (run m ρ)
  have qA : ∀ j, ∃ x : ℝ, argA (launchContents m c) j = x := by rw [lA]; exact hA c
  have qB : ∀ j, ∃ x : ℝ, argB (launchContents m c) j = x := by rw [lB]; exact hB c
  have qS : ∀ j, ∃ x : ℝ, argS (launchContents m c) j = x := by rw [lS]; exact hS c
  obtain ⟨h0, h1, h2, _⟩ := h c
  refine ⟨h0.trans ?_, h1.trans ?_, h2.trans ?_⟩
  · funext j
    rw [← lA, ← lB, ← lS]
    exact dqRef_eq _ qA qB qS j
  · funext j
    rw [← lA, ← lB, ← lS]
    exact dkvRef_eq _ qA qB qS j
  · funext j
    rw [← lA, ← lB, ← lS]
    exact sinkRef_eq _ qA qB qS _ j

end Cert.ReferenceIdeal.Attn
end
-- ==== Proof.Ffn.Spec.lean ====
module
public import Idealize.ShloMosaic.Lib.Pointwise
public import Idealize.ShloMosaic.Lib.IdealHost

@[expose] public section

set_option maxRecDepth 16384

/-!
The feed-forward layer of one device over the extended reals: the scaled rows, the squared
rectifier, and the gradients of the layer's two weights. `H` are the layer's input rows, `G` the
norm's scale, `A` and `B` the weights, `D` the gradient of the layer's output.
-/

noncomputable section

namespace Cert.Ffn

open Idealize.ShloMosaic

/-- One row over the root of its mean square, times the scale. -/
def normed (h g : Fin 1024 → EReal) (k : Fin 1024) : EReal :=
  h k * Ideal.rsqrt (Ideal.div (∑ x, h x * h x) (Ideal.ofBits FTy.f32 0x44800000#32)
    + Ideal.ofBits FTy.f32 0x358637BD#32) * g k

/-- The squared rectifier. -/
def square (z : EReal) : EReal := max z 0 * max z 0

/-- The rectifier's slope read back from its square. -/
def slope (s : EReal) : EReal := Ideal.ofBits FTy.f32 0x40000000#32 * Ideal.sqrt s

section
variable (H : Fin 8320 → Fin 1024 → EReal) (G : Fin 1024 → EReal) (A : Fin 1024 → Fin 4096 → EReal)
  (B : Fin 4096 → Fin 1024 → EReal) (D : Fin 8320 → Fin 1024 → EReal)

/-- The hidden layer before its rectifier. -/
def pre (r : Fin 8320) (f : Fin 4096) : EReal := ∑ x, normed (H r) G x * A x f
/-- The gradient of the hidden layer after its rectifier. -/
def back (r : Fin 8320) (f : Fin 4096) : EReal := ∑ x, D r x * B f x
/-- The gradient of the hidden layer before its rectifier. -/
def gate (r : Fin 8320) (f : Fin 4096) : EReal := back B D r f * slope (square (pre H G A r f))
/-- The gradient of the first weight. -/
def grad1 (k : Fin 1024) (f : Fin 4096) : EReal := ∑ r, normed (H r) G k * gate H G A B D r f
/-- The gradient of the second weight. -/
def grad2 (f : Fin 4096) (k : Fin 1024) : EReal := ∑ r, square (pre H G A r f) * D r k
end

/-- The root of the square of a nonnegative value is the value. -/
theorem sqrt_square (x : EReal) (h : 0 ≤ x) : Ideal.sqrt (x * x) = x := by
  induction x using EReal.rec with
  | bot => exact absurd h (by simp)
  | top => simp
  | coe r =>
    have hr : 0 ≤ r := by exact_mod_cast h
    rw [← EReal.coe_mul, Ideal.sqrt_coe, if_neg (not_lt.mpr (mul_nonneg hr hr)), Real.sqrt_mul_self hr]

/-- The derivative by cases, `2 * max z 0` where `z` is positive, is the slope of the square. -/
theorem slope_square (d z : EReal) :
    d * slope (square z) = if 0 < z then d * (Ideal.ofBits FTy.f32 0x40000000#32 * max z 0) else 0 := by
  unfold slope square
  rw [sqrt_square _ (le_max_right _ _)]
  split
  · rfl
  · rename_i h
    rw [max_eq_right (not_lt.mp h), mul_zero, mul_zero]

end Cert.Ffn
end
-- ==== Proof.Ffn.Blocks.lean ====
module
public import proofs.«01_k».proof.Proof.Gen.Kernel2Ideal.Frame
public import proofs.«01_k».proof.Proof.Ffn.Spec
public import Idealize.ShloMosaic.Lib.Pipeline.ValueKit

@[expose] public section

set_option maxRecDepth 16384

/-! What one grid point of each call computes, entry by entry. -/

noncomputable section

namespace Cert.Kernel2Ideal.Ffn

open Idealize.ShloMosaic Idealize.ShloMosaic.TcCoe
open Cert.Kernel2Ideal Cert.Kernel2Ideal.Gen Cert.Ffn

theorem normed_block (x0 : Vec Ideal S640x1024 .f32) (x1 : Vec Ideal S1x1024 .f32) (a : Fin 640) (k : Fin 1024) :
    k0_pay3 x0 x1 (ix2 a k) = normed (fun i => x0 (ix2 a i)) (fun i => x1 (ix2 0 i)) k := by
  pointwise [k0_pay3]
  rfl

section
variable (u : Vec Ideal S640x1024 .bf16) (w : Vec Ideal S1024x1024 .bf16) (x0 : Vec Ideal S640x1024 .f32)
  (x1 : Vec Ideal S1x1024 .f32) (a : Fin 640) (q : Fin 1024)

theorem up2 : k0_pay2 u w (ix2 a q) = square (∑ x, u (ix2 a x) * w (ix2 x q) : EReal) := by
  pointwise [k0_pay2]
  rfl
theorem up4 : k0_pay4 x0 x1 w (ix2 a q) = square (∑ x, k0_pay3 x0 x1 (ix2 a x) * w (ix2 x q) : EReal) :=
  up2 (k0_pay3 x0 x1) w a q
theorem up5 : k0_pay5 x0 x1 w (ix2 a q) = square (∑ x, k0_pay3 x0 x1 (ix2 a x) * w (ix2 x q) : EReal) :=
  up2 (k0_pay3 x0 x1) w a q
theorem up6 : k0_pay1 (k0_pay6 x0 x1 w) (ix2 a q) = square (∑ x, k0_pay3 x0 x1 (ix2 a x) * w (ix2 x q) : EReal) :=
  up2 (k0_pay3 x0 x1) w a q

variable (s : Vec Ideal S640x1024 .bf16)

theorem down2 : k1_pay2 u w s (ix2 a q) = (∑ x, u (ix2 a x) * w (ix2 x q) : EReal) * slope (s (ix2 a q)) := by
  pointwise [k1_pay2]
  rfl
theorem down3 : k1_pay3 u w s (ix2 a q) = (∑ x, u (ix2 a x) * w (ix2 x q) : EReal) * slope (s (ix2 a q)) :=
  down2 u w a q s
theorem down4 : k1_pay4 u w s (ix2 a q) = (∑ x, u (ix2 a x) * w (ix2 x q) : EReal) * slope (s (ix2 a q)) :=
  down2 u w a q s
theorem down1 : k1_pay1 (k1_pay5 u w) (k1_pay6 s) (k1_pay7 (F := Ideal)) (ix2 a q)
    = (∑ x, u (ix2 a x) * w (ix2 x q) : EReal) * slope (s (ix2 a q)) :=
  down2 u w a q s
end

section
variable (v : Vec Ideal S1024x4096 .bf16) (i : Fin 1024) (j : Fin 1024) (k : Fin 4096)

theorem cols0 (h : k.val = j.val) : View.ld v r0_2 (ix2 i j) = v (ix2 i k) := by
  refine congrArg v (funext fun d => Fin.ext ?_)
  match d with
  | 0 => show 0 + 1 * i.val = i.val; omega
  | 1 => show 0 + 1 * j.val = k.val; omega
theorem cols1 (h : k.val = 1024 + j.val) : View.ld v r0_4 (ix2 i j) = v (ix2 i k) := by
  refine congrArg v (funext fun d => Fin.ext ?_)
  match d with
  | 0 => show 0 + 1 * i.val = i.val; omega
  | 1 => show 1024 + 1 * j.val = k.val; omega
theorem cols2 (h : k.val = 2048 + j.val) : View.ld v r0_6 (ix2 i j) = v (ix2 i k) := by
  refine congrArg v (funext fun d => Fin.ext ?_)
  match d with
  | 0 => show 0 + 1 * i.val = i.val; omega
  | 1 => show 2048 + 1 * j.val = k.val; omega
theorem cols3 (h : k.val = 3072 + j.val) : View.ld v r0_8 (ix2 i j) = v (ix2 i k) := by
  refine congrArg v (funext fun d => Fin.ext ?_)
  match d with
  | 0 => show 0 + 1 * i.val = i.val; omega
  | 1 => show 3072 + 1 * j.val = k.val; omega
end

section
variable (v : Vec Ideal S640x4096 .bf16) (i : Fin 640) (j : Fin 1024) (k : Fin 4096)

theorem rows0 (h : k.val = j.val) : View.ld v r1_2 (ix2 i j) = v (ix2 i k) := by
  refine congrArg v (funext fun d => Fin.ext ?_)
  match d with
  | 0 => show 0 + 1 * i.val = i.val; omega
  | 1 => show 0 + 1 * j.val = k.val; omega
theorem rows1 (h : k.val = 1024 + j.val) : View.ld v r1_4 (ix2 i j) = v (ix2 i k) := by
  refine congrArg v (funext fun d => Fin.ext ?_)
  match d with
  | 0 => show 0 + 1 * i.val = i.val; omega
  | 1 => show 1024 + 1 * j.val = k.val; omega
theorem rows2 (h : k.val = 2048 + j.val) : View.ld v r1_6 (ix2 i j) = v (ix2 i k) := by
  refine congrArg v (funext fun d => Fin.ext ?_)
  match d with
  | 0 => show 0 + 1 * i.val = i.val; omega
  | 1 => show 2048 + 1 * j.val = k.val; omega
theorem rows3 (h : k.val = 3072 + j.val) : View.ld v r1_8 (ix2 i j) = v (ix2 i k) := by
  refine congrArg v (funext fun d => Fin.ext ?_)
  match d with
  | 0 => show 0 + 1 * i.val = i.val; omega
  | 1 => show 3072 + 1 * j.val = k.val; omega
end

section
variable (x0 : Vec Ideal S640x1024 .f32) (x1 : Vec Ideal S1x1024 .f32) (x2 : Vec Ideal S1024x4096 .bf16) (a : Fin 640)

theorem normed_out (k : Fin 1024) :
    out0_4 x0 x1 x2 (ix2 a k) = normed (fun i => x0 (ix2 a i)) (fun i => x1 (ix2 0 i)) k := by
  unfold out0_4
  frame_out
  exact normed_block x0 x1 a k

theorem square_cols (q : Fin 1024) (k : Fin 4096) (w : Vec Ideal S1024x1024 .bf16)
    (hw : ∀ y, w (ix2 y q) = x2 (ix2 y k)) :
    square (∑ y, k0_pay3 x0 x1 (ix2 a y) * w (ix2 y q) : EReal)
      = square (∑ y, normed (fun i => x0 (ix2 a i)) (fun i => x1 (ix2 0 i)) y * x2 (ix2 y k)) :=
  congrArg square (Finset.sum_congr rfl fun y _ => by rw [normed_block, hw])

theorem square_out (k : Fin 4096) : out0_3 x0 x1 x2 (ix2 a k)
    = square (∑ x, normed (fun i => x0 (ix2 a i)) (fun i => x1 (ix2 0 i)) x * x2 (ix2 x k)) := by
  have e0 : View.ld x0 r0_0 = x0 := View.ld_unit_zero (S := S640x1024) (by decide) _ _
  have e1 : View.ld x1 r0_1 = x1 := View.ld_unit_zero (S := S1x1024) (by decide) _ _
  unfold out0_3
  rw [e0, e1]
  canon_tiles x hx
  all_goals
    obtain ⟨p, q, rfl⟩ : ∃ (p : Fin 640) (q : Fin 1024), x = ix2 p q := ⟨x 0, x 1, eq_ix2 x⟩
    obtain rfl : a = p := Fin.ext hx0
  · exact (up2 ..).trans (square_cols x0 x1 x2 a q k _ fun y => cols3 x2 y q k hx1)
  · exact (up6 ..).trans (square_cols x0 x1 x2 a q k _ fun y => cols2 x2 y q k hx1)
  · exact (up5 ..).trans (square_cols x0 x1 x2 a q k _ fun y => cols1 x2 y q k hx1)
  · exact (up4 ..).trans (square_cols x0 x1 x2 a q k _ fun y => cols0 x2 y q k hx1)
end

section
variable (x0 : Vec Ideal S640x1024 .bf16) (x1 : Vec Ideal S1024x4096 .bf16) (x2 : Vec Ideal S640x4096 .bf16)
  (a : Fin 640)

theorem gate_cols (q : Fin 1024) (k : Fin 4096) (w : Vec Ideal S1024x1024 .bf16) (s : Vec Ideal S640x1024 .bf16)
    (hw : ∀ y, w (ix2 y q) = x1 (ix2 y k)) (hs : s (ix2 a q) = x2 (ix2 a k)) :
    ((∑ y, x0 (ix2 a y) * w (ix2 y q) : EReal) * slope (s (ix2 a q)) : EReal)
      = (∑ y, x0 (ix2 a y) * x1 (ix2 y k) : EReal) * slope (x2 (ix2 a k)) := by
  rw [hs]
  exact congrArg (· * slope (x2 (ix2 a k))) (Finset.sum_congr rfl fun y _ => by rw [hw])

theorem gate_out (k : Fin 4096) : out1_3 x0 x1 x2 (ix2 a k)
    = (∑ y, x0 (ix2 a y) * x1 (ix2 y k) : EReal) * slope (x2 (ix2 a k)) := by
  have e0 : View.ld x0 r1_0 = x0 := View.ld_unit_zero (S := S640x1024) (by decide) _ _
  unfold out1_3
  rw [e0]
  canon_tiles x hx
  all_goals
    obtain ⟨p, q, rfl⟩ : ∃ (p : Fin 640) (q : Fin 1024), x = ix2 p q := ⟨x 0, x 1, eq_ix2 x⟩
    obtain rfl : a = p := Fin.ext hx0
  · exact (down2 ..).trans (gate_cols x0 x1 x2 a q k _ _ (fun y => cols3 x1 y q k hx1) (rows3 x2 a q k hx1))
  · exact (down1 ..).trans (gate_cols x0 x1 x2 a q k _ _ (fun y => cols2 x1 y q k hx1) (rows2 x2 a q k hx1))
  · exact (down4 ..).trans (gate_cols x0 x1 x2 a q k _ _ (fun y => cols1 x1 y q k hx1) (rows1 x2 a q k hx1))
  · exact (down3 ..).trans (gate_cols x0 x1 x2 a q k _ _ (fun y => cols0 x1 y q k hx1) (rows0 x2 a q k hx1))
end

end Cert.Kernel2Ideal.Ffn
end
-- ==== Proof.Ffn.Tiles.lean ====
module
public import proofs.«01_k».proof.Proof.Ffn.Blocks

@[expose] public section

set_option maxRecDepth 16384

/-! The arrays the first two calls leave, from the arrays they find. -/

noncomputable section

namespace Cert.Kernel2Ideal.Ffn

open Idealize.ShloMosaic Idealize.ShloMosaic.TcCoe
open Cert.Kernel2Ideal Cert.Kernel2Ideal.Gen Cert.Ffn

theorem idx0 : ∀ t : Fin cfg0.N,
    win0_0.index t = ![t.val, 0] ∧ win0_1.index t = ![0, 0] ∧ win0_2.index t = ![0, 0]
      ∧ win0_3.index t = ![t.val, 0] ∧ win0_4.index t = ![t.val, 0] :=
  (by decide +kernel : ∀ t : Fin grid0.N, _)

theorem idx1 : ∀ t : Fin cfg1.N,
    win1_0.index t = ![t.val, 0] ∧ win1_1.index t = ![0, 0] ∧ win1_2.index t = ![t.val, 0]
      ∧ win1_3.index t = ![t.val, 0] :=
  (by decide +kernel : ∀ t : Fin grid1.N, _)

variable (V : (c : Dev nD) → (b : Ref sig .tc) → Buf (Elt Ideal) ((c.tc : Thread nD τ).loc b)) (c : Dev nD)

/-- The arrays by row and column. -/
def arrH (r : Fin 8320) (k : Fin 1024) : EReal := (V c main_arg0 : S8320x1024.Idx → EReal) (ix2 r k)
def arrG (k : Fin 1024) : EReal := (V c main_arg1 : S1x1024.Idx → EReal) (ix2 0 k)
def arrA (k : Fin 1024) (f : Fin 4096) : EReal := (V c main_arg2 : S1024x4096.Idx → EReal) (ix2 k f)
def arrD (r : Fin 8320) (k : Fin 1024) : EReal := (V c main_arg4 : S8320x1024.Idx → EReal) (ix2 r k)
def arrB (k : Fin 1024) (f : Fin 4096) : EReal := (V c main_v1 : S1024x4096.Idx → EReal) (ix2 k f)
def arrS (r : Fin 8320) (f : Fin 4096) : EReal := (V c main_v0_0 : S8320x4096.Idx → EReal) (ix2 r f)
def arrU (r : Fin 8320) (k : Fin 1024) : EReal := (V c main_v0_1 : S8320x1024.Idx → EReal) (ix2 r k)
def arrE (r : Fin 8320) (f : Fin 4096) : EReal := (V c main_v2 : S8320x4096.Idx → EReal) (ix2 r f)

section
variable (t : Fin cfg0.N)

theorem row0_lt (a : Fin 640) : t.val * 640 + a.val < 8320 := by
  have : t.val < 13 := t.isLt
  omega

theorem h_read (a : Fin 640) (k : Fin 1024) : iblk0 V c 0 t (ix2 a k)
    = arrH V c ⟨t.val * 640 + a.val, row0_lt t a⟩ k := by
  unfold arrH; blk_ext! [iblk0, idx0 t]
theorem g_read (k : Fin 1024) : iblk0 V c 1 t (ix2 0 k) = arrG V c k := by
  unfold arrG; blk_ext! [iblk0, idx0 t]
theorem a_read (k : Fin 1024) (f : Fin 4096) :
    iblk0 V c 2 t (ix2 k f) = arrA V c k f := by
  unfold arrA; blk_ext! [iblk0, idx0 t]
theorem emb0_3 (a : Fin 640) (f : Fin 4096) : (((cfg0.win 3).blk t).view.emb (ix2 a f) : S8320x4096.Idx)
    = ix2 ⟨t.val * 640 + a.val, row0_lt t a⟩ f := by
  blk_ext! [idx0 t]
theorem emb0_4 (a : Fin 640) (k : Fin 1024) : (((cfg0.win 4).blk t).view.emb (ix2 a k) : S8320x1024.Idx)
    = ix2 ⟨t.val * 640 + a.val, row0_lt t a⟩ k := by
  blk_ext! [idx0 t]
end

theorem h_row (t : Fin cfg0.N) (a : Fin 640) :
    (fun i => iblk0 V c 0 t (ix2 a i)) = arrH V c ⟨t.val * 640 + a.val, row0_lt t a⟩ :=
  funext fun i => h_read V c t a i
theorem g_row (t : Fin cfg0.N) : (fun i => iblk0 V c 1 t (ix2 0 i)) = arrG V c := funext fun i => g_read V c t i

theorem normed_point (t : Fin cfg0.N) (a : Fin 640) (k : Fin 1024) :
    out0_4 (iblk0 V c 0 t) (iblk0 V c 1 t) (iblk0 V c 2 t) (ix2 a k)
      = normed (arrH V c ⟨t.val * 640 + a.val, row0_lt t a⟩) (arrG V c) k :=
  (normed_out (iblk0 V c 0 t) (iblk0 V c 1 t) (iblk0 V c 2 t) a k).trans
    ((congrArg (fun h => normed h (fun i => iblk0 V c 1 t (ix2 0 i)) k) (h_row V c t a)).trans
      (congrArg (fun g => normed (arrH V c ⟨t.val * 640 + a.val, row0_lt t a⟩) g k) (g_row V c t)))

theorem square_point (t : Fin cfg0.N) (a : Fin 640) (f : Fin 4096) :
    out0_3 (iblk0 V c 0 t) (iblk0 V c 1 t) (iblk0 V c 2 t) (ix2 a f)
      = square (∑ x, normed (arrH V c ⟨t.val * 640 + a.val, row0_lt t a⟩) (arrG V c) x * arrA V c x f) := by
  refine (square_out (iblk0 V c 0 t) (iblk0 V c 1 t) (iblk0 V c 2 t) a f).trans ?_
  refine congrArg square (Finset.sum_congr rfl fun x _ => ?_)
  exact Ideal.mul_congr
    ((congrArg (fun h => normed h (fun i => iblk0 V c 1 t (ix2 0 i)) x) (h_row V c t a)).trans
      (congrArg (fun g => normed (arrH V c ⟨t.val * 640 + a.val, row0_lt t a⟩) g x) (g_row V c t)))
    (a_read V c t x f)

theorem covers0_4 : (cfg0.win 4).Covers := by decide +kernel
theorem covers0_3 : (cfg0.win 3).Covers := by decide +kernel

/-- The scaled rows. -/
def normedArr (j : S8320x1024.Idx) : EReal := normed (arrH V c (j 0)) (arrG V c) (j 1)
/-- The squared rectifier of the hidden layer. -/
def squareArr (j : S8320x4096.Idx) : EReal := square (∑ x, normed (arrH V c (j 0)) (arrG V c) x * arrA V c x (j 1))

theorem normed_after (t : Fin cfg0.N) (y : S640x1024.Idx) :
    (dat0 V c).after 4 t y = normedArr V c (((cfg0.win 4).blk t).view.emb y) := by
  rw [after0_4]
  idx_vars y
  rw [emb0_4]
  exact normed_point V c t y0 y1
theorem square_after (t : Fin cfg0.N) (y : S640x4096.Idx) :
    (dat0 V c).after 3 t y = squareArr V c (((cfg0.win 3).blk t).view.emb y) := by
  rw [after0_3]
  idx_vars y
  rw [emb0_3]
  exact square_point V c t y0 y1

theorem normed_array : (dat0 V c).arrAt 4 cfg0.N = normedArr V c :=
  (dat0 V c).arrAt_eq_of_covers 4 _ covers0_4 fun t _ y => normed_after V c t y
theorem square_array : (dat0 V c).arrAt 3 cfg0.N = squareArr V c :=
  (dat0 V c).arrAt_eq_of_covers 3 _ covers0_3 fun t _ y => square_after V c t y

section
variable (t : Fin cfg1.N)

theorem row1_lt (a : Fin 640) : t.val * 640 + a.val < 8320 := by
  have : t.val < 13 := t.isLt
  omega

theorem d_read (a : Fin 640) (k : Fin 1024) : iblk1 V c 0 t (ix2 a k)
    = arrD V c ⟨t.val * 640 + a.val, row1_lt t a⟩ k := by
  unfold arrD; blk_ext! [iblk1, idx1 t]
theorem b_read (k : Fin 1024) (f : Fin 4096) :
    iblk1 V c 1 t (ix2 k f) = arrB V c k f := by
  unfold arrB; blk_ext! [iblk1, idx1 t]
theorem s_read (a : Fin 640) (f : Fin 4096) : iblk1 V c 2 t (ix2 a f)
    = arrS V c ⟨t.val * 640 + a.val, row1_lt t a⟩ f := by
  unfold arrS; blk_ext! [iblk1, idx1 t]
theorem emb1_3 (a : Fin 640) (f : Fin 4096) : (((cfg1.win 3).blk t).view.emb (ix2 a f) : S8320x4096.Idx)
    = ix2 ⟨t.val * 640 + a.val, row1_lt t a⟩ f := by
  blk_ext! [idx1 t]
end

/-- The gradient of the hidden layer before its rectifier. -/
def gateArr (j : S8320x4096.Idx) : EReal :=
  (∑ y, arrD V c (j 0) y * arrB V c y (j 1)) * slope (arrS V c (j 0) (j 1))

theorem gate_point (t : Fin cfg1.N) (a : Fin 640) (f : Fin 4096) :
    out1_3 (iblk1 V c 0 t) (iblk1 V c 1 t) (iblk1 V c 2 t) (ix2 a f)
      = (∑ y, arrD V c ⟨t.val * 640 + a.val, row1_lt t a⟩ y * arrB V c y f)
        * slope (arrS V c ⟨t.val * 640 + a.val, row1_lt t a⟩ f) := by
  refine (gate_out (iblk1 V c 0 t) (iblk1 V c 1 t) (iblk1 V c 2 t) a f).trans ?_
  exact Ideal.mul_congr (Finset.sum_congr rfl fun y _ => Ideal.mul_congr (d_read V c t a y) (b_read V c t y f))
    (congrArg slope (s_read V c t a f))

theorem covers1_3 : (cfg1.win 3).Covers := by decide +kernel

theorem gate_after (t : Fin cfg1.N) (y : S640x4096.Idx) :
    (dat1 V c).after 3 t y = gateArr V c (((cfg1.win 3).blk t).view.emb y) := by
  rw [after1_3]
  idx_vars y
  rw [emb1_3]
  exact gate_point V c t y0 y1

theorem gate_array : (dat1 V c).arrAt 3 cfg1.N = gateArr V c :=
  (dat1 V c).arrAt_eq_of_covers 3 _ covers1_3 fun t _ y => gate_after V c t y

end Cert.Kernel2Ideal.Ffn
end
-- ==== Proof.Ffn.Acc.lean ====
module
public import proofs.«01_k».proof.Proof.Ffn.Tiles

@[expose] public section

set_option maxRecDepth 16384

/-! What one point of the third call leaves in its two accumulators. -/

noncomputable section

namespace Cert.Kernel2Ideal.Ffn

open Idealize.ShloMosaic Idealize.ShloMosaic.TcCoe
open Cert.Kernel2Ideal Cert.Kernel2Ideal.Gen Cert.Ffn

section
variable {F : FTy → Type} [FloatOps F]
variable (c : Dev nD) (i : grid2.Coords) (arg2 : Memref sig .tc .vmem S1664x1024 .bf16) (harg2 : arg2.IsWhole) (arg3 : Memref sig .tc .vmem S1664x1024 .bf16) (harg3 : arg3.IsWhole) (arg4 : Memref sig .tc .vmem S1664x1024 .bf16) (harg4 : arg4.IsWhole) (arg5 : Memref sig .tc .vmem S1664x1024 .bf16) (harg5 : arg5.IsWhole) (arg6 : Memref sig .tc .vmem S1024x1024 .f32) (harg6 : arg6.IsWhole) (arg7 : Memref sig .tc .vmem S1024x1024 .f32) (harg7 : arg7.IsWhole)
  (x0 x1 x2 x3 : Vec F S1664x1024 .bf16) (xo4 xo5 : Vec F S1024x1024 .f32)

theorem first4 (hc0 : cond2_0 i) :
    out2_A_4 c i arg2 harg2 arg3 harg3 arg4 harg4 arg5 harg5 arg6 harg6 arg7 harg7 hc0 x0 x1 x2 x3 = k2_pay3 (k2_pay1 (F := F)) x0 x1 := by
  unfold out2_A_4
  rw [View.read_writes_eq_canon _ _ _ (cover2_A_4 c i arg2 harg2 arg3 harg3 arg4 harg4 arg5 harg5 arg6 harg6 arg7 harg7 hc0 x0 x1 x2 x3)]
  unfold kernelRun2_A
  dsimp only
  sl_unfold_words
  rw [View.canon_cons_unit_zero (S := S1024x1024) (by decide)]
  simp only [View.readAt_eq_ld, harg2.read_unread, harg3.read_unread, harg4.read_unread, harg5.read_unread,
    harg6.read_unread, harg7.read_unread]
  refine (congrArg (fun z => k2_pay3 z _ _) (View.readCov_unit_zero (Val := Elt F) (S := S1024x1024) arg6.view (by decide) _ _)).trans ?_
  rw [View.ld_unit_zero (S := S1664x1024) (by decide),
    View.ld_unit_zero (S := S1664x1024) (by decide)]
theorem first5 (hc0 : cond2_0 i) :
    out2_A_5 c i arg2 harg2 arg3 harg3 arg4 harg4 arg5 harg5 arg6 harg6 arg7 harg7 hc0 x0 x1 x2 x3 = k2_pay4 (k2_pay2 (F := F)) x2 x3 := by
  unfold out2_A_5
  rw [View.read_writes_eq_canon _ _ _ (cover2_A_5 c i arg2 harg2 arg3 harg3 arg4 harg4 arg5 harg5 arg6 harg6 arg7 harg7 hc0 x0 x1 x2 x3)]
  unfold kernelRun2_A
  dsimp only
  sl_unfold_words
  rw [View.canon_cons_unit_zero (S := S1024x1024) (by decide)]
  simp only [View.readAt_eq_ld, harg2.read_unread, harg3.read_unread, harg4.read_unread, harg5.read_unread,
    harg6.read_unread, harg7.read_unread]
  refine (congrArg (fun z => k2_pay4 z _ _) (View.readCov_unit_zero (Val := Elt F) (S := S1024x1024) arg7.view (by decide) _ _)).trans ?_
  rw [View.ld_unit_zero (S := S1664x1024) (by decide),
    View.ld_unit_zero (S := S1664x1024) (by decide)]
theorem later4 (hc0 : ¬cond2_0 i) :
    out2_B_4 c i arg2 harg2 arg3 harg3 arg4 harg4 arg5 harg5 arg6 harg6 arg7 harg7 hc0 x0 x1 x2 x3 xo4 xo5 = k2_pay3 xo4 x0 x1 := by
  unfold out2_B_4
  rw [View.read_writes_eq_canon _ _ _ (cover2_B_4 c i arg2 harg2 arg3 harg3 arg4 harg4 arg5 harg5 arg6 harg6 arg7 harg7 hc0 x0 x1 x2 x3 xo4 xo5)]
  unfold kernelRun2_B
  dsimp only
  sl_unfold_words
  rw [View.canon_cons_unit_zero (S := S1024x1024) (by decide)]
  simp only [View.readAt_eq_ld, harg2.read_unread, harg3.read_unread, harg4.read_unread, harg5.read_unread,
    harg6.read_unread, harg7.read_unread]
  rw [View.ld_unit_zero (S := S1024x1024) (by decide), View.ld_unit_zero (S := S1664x1024) (by decide),
    View.ld_unit_zero (S := S1664x1024) (by decide)]
theorem later5 (hc0 : ¬cond2_0 i) :
    out2_B_5 c i arg2 harg2 arg3 harg3 arg4 harg4 arg5 harg5 arg6 harg6 arg7 harg7 hc0 x0 x1 x2 x3 xo4 xo5 = k2_pay4 xo5 x2 x3 := by
  unfold out2_B_5
  rw [View.read_writes_eq_canon _ _ _ (cover2_B_5 c i arg2 harg2 arg3 harg3 arg4 harg4 arg5 harg5 arg6 harg6 arg7 harg7 hc0 x0 x1 x2 x3 xo4 xo5)]
  unfold kernelRun2_B
  dsimp only
  sl_unfold_words
  rw [View.canon_cons_unit_zero (S := S1024x1024) (by decide)]
  simp only [View.readAt_eq_ld, harg2.read_unread, harg3.read_unread, harg4.read_unread, harg5.read_unread,
    harg6.read_unread, harg7.read_unread]
  rw [View.ld_unit_zero (S := S1024x1024) (by decide), View.ld_unit_zero (S := S1664x1024) (by decide),
    View.ld_unit_zero (S := S1664x1024) (by decide)]
end

end Cert.Kernel2Ideal.Ffn
end
-- ==== Proof.Ffn.Weights.lean ====
module
public import proofs.«01_k».proof.Proof.Ffn.Acc

@[expose] public section

set_option maxRecDepth 16384

/-!
The two arrays the third call leaves: each column chunk is summed over the five row tiles, in the
accumulator's order, which is the sum over all rows.
-/

noncomputable section

namespace Cert.Kernel2Ideal.Ffn

open Idealize.ShloMosaic Idealize.ShloMosaic.TcCoe
open Cert.Kernel2Ideal Cert.Kernel2Ideal.Gen Cert.Ffn

theorem idx2 : ∀ t : Fin cfg2.N,
    win2_0.index t = ![t.val % 5, 0] ∧ win2_1.index t = ![t.val % 5, t.val / 5]
      ∧ win2_2.index t = ![t.val % 5, t.val / 5] ∧ win2_3.index t = ![t.val % 5, 0]
      ∧ win2_4.index t = ![0, t.val / 5] ∧ win2_5.index t = ![t.val / 5, 0] :=
  (by decide +kernel : ∀ t : Fin grid2.N, _)

/-- Row `a` of row tile `i`. -/
def rowAt (i : ℕ) (a : Fin 1664) : Fin 8320 := ⟨(i * 1664 + a.val) % 8320, Nat.mod_lt _ (by decide)⟩

theorem rowAt_eq (i : ℕ) (h : i < 5) (a : Fin 1664) : rowAt i a = ⟨i * 1664 + a.val, by omega⟩ :=
  Fin.ext (Nat.mod_eq_of_lt (by omega))

/-- Column `q` of the chunk of point `n`. -/
def colAt (n : ℕ) (q : Fin 1024) : Fin 4096 := ⟨(n / 5 * 1024 + q.val) % 4096, Nat.mod_lt _ (by decide)⟩

theorem colAt_eq (n : ℕ) (h : n < 20) (q : Fin 1024) : colAt n q = ⟨n / 5 * 1024 + q.val, by omega⟩ :=
  Fin.ext (Nat.mod_eq_of_lt (by omega))

variable (V : (c : Dev nD) → (b : Ref sig .tc) → Buf (Elt Ideal) ((c.tc : Thread nD τ).loc b)) (c : Dev nD)

section
variable (t : Fin cfg2.N)

theorem point_lt : t.val < 20 := t.isLt

theorem u_read (a : Fin 1664) (k : Fin 1024) : iblk2 V c 0 t (ix2 a k) = arrU V c (rowAt (t.val % 5) a) k := by
  rw [rowAt_eq _ (Nat.mod_lt _ (by decide))]
  unfold arrU; blk_ext! [iblk2, idx2 t]
theorem e_read (a : Fin 1664) (q : Fin 1024) :
    iblk2 V c 1 t (ix2 a q) = arrE V c (rowAt (t.val % 5) a) (colAt t.val q) := by
  rw [rowAt_eq _ (Nat.mod_lt _ (by decide)), colAt_eq _ (point_lt t)]
  unfold arrE; blk_ext! [iblk2, idx2 t]
theorem s2_read (a : Fin 1664) (q : Fin 1024) :
    iblk2 V c 2 t (ix2 a q) = arrS V c (rowAt (t.val % 5) a) (colAt t.val q) := by
  rw [rowAt_eq _ (Nat.mod_lt _ (by decide)), colAt_eq _ (point_lt t)]
  unfold arrS; blk_ext! [iblk2, idx2 t]
theorem d2_read (a : Fin 1664) (k : Fin 1024) : iblk2 V c 3 t (ix2 a k) = arrD V c (rowAt (t.val % 5) a) k := by
  rw [rowAt_eq _ (Nat.mod_lt _ (by decide))]
  unfold arrD; blk_ext! [iblk2, idx2 t]
theorem emb2_4 (k q : Fin 1024) :
    (((cfg2.win 4).blk t).view.emb (ix2 k q) : S1024x4096.Idx) = ix2 k (colAt t.val q) := by
  rw [colAt_eq _ (point_lt t)]
  blk_ext! [idx2 t]
theorem emb2_5 (q k : Fin 1024) :
    (((cfg2.win 5).blk t).view.emb (ix2 q k) : S4096x1024.Idx) = ix2 (colAt t.val q) k := by
  rw [colAt_eq _ (point_lt t)]
  blk_ext! [idx2 t]
end

/-- What row tile `i` adds to the gradients. -/
def part1 (i : ℕ) (k : Fin 1024) (f : Fin 4096) : EReal := ∑ a, arrU V c (rowAt i a) k * arrE V c (rowAt i a) f
def part2 (i : ℕ) (f : Fin 4096) (k : Fin 1024) : EReal := ∑ a, arrS V c (rowAt i a) f * arrD V c (rowAt i a) k

theorem step3 (acc : Vec Ideal S1024x1024 .f32) (x y : Vec Ideal S1664x1024 .bf16) (a b : Fin 1024) :
    k2_pay3 acc x y (ix2 a b) = (acc (ix2 a b) + ∑ r, x (ix2 r a) * y (ix2 r b) : EReal) := by
  pointwise [k2_pay3]
theorem step4 (acc : Vec Ideal S1024x1024 .f32) (x y : Vec Ideal S1664x1024 .bf16) (a b : Fin 1024) :
    k2_pay4 acc x y (ix2 a b) = (acc (ix2 a b) + ∑ r, x (ix2 r a) * y (ix2 r b) : EReal) := by
  pointwise [k2_pay4]
theorem start1 (a b : Fin 1024) : k2_pay1 (F := Ideal) (ix2 a b) = (show EReal from 0) := by
  pointwise [k2_pay1]
theorem start2 (a b : Fin 1024) : k2_pay2 (F := Ideal) (ix2 a b) = (show EReal from 0) := by
  pointwise [k2_pay2]

theorem block1 (t : Fin cfg2.N) (x y : Vec Ideal S1664x1024 .bf16) (hx : x = iblk2 V c 0 t) (hy : y = iblk2 V c 1 t)
    (k q : Fin 1024) : (∑ r, x (ix2 r k) * y (ix2 r q) : EReal) = part1 V c (t.val % 5) k (colAt t.val q) := by
  subst hx hy
  exact Finset.sum_congr rfl fun r _ => Ideal.mul_congr (u_read V c t r k) (e_read V c t r q)
theorem block2 (t : Fin cfg2.N) (x y : Vec Ideal S1664x1024 .bf16) (hx : x = iblk2 V c 2 t) (hy : y = iblk2 V c 3 t)
    (q k : Fin 1024) : (∑ r, x (ix2 r q) * y (ix2 r k) : EReal) = part2 V c (t.val % 5) (colAt t.val q) k := by
  subst hx hy
  exact Finset.sum_congr rfl fun r _ => Ideal.mul_congr (s2_read V c t r q) (d2_read V c t r k)

theorem first_point1 (t : Fin cfg2.N) (h : t.val % 5 = 0) (k q : Fin 1024) :
    (outsAt2 V c t.val t.isLt).1 (ix2 k q) = part1 V c (t.val % 5) k (colAt t.val q) := by
  rw [outsAt2_A V c t h]
  dsimp only
  rw [first4]
  refine (step3 _ _ _ k q).trans ((Ideal.add_congr (start1 k q) (block1 V c t _ _ rfl rfl k q)).trans (zero_add _))
theorem first_point2 (t : Fin cfg2.N) (h : t.val % 5 = 0) (q k : Fin 1024) :
    (outsAt2 V c t.val t.isLt).2 (ix2 q k) = part2 V c (t.val % 5) (colAt t.val q) k := by
  rw [outsAt2_A V c t h]
  dsimp only
  rw [first5]
  refine (step4 _ _ _ q k).trans ((Ideal.add_congr (start2 q k) (block2 V c t _ _ rfl rfl q k)).trans (zero_add _))
theorem later_point1 (t : Fin cfg2.N) (h : ¬t.val % 5 = 0) (k q : Fin 1024) :
    (outsAt2 V c t.val t.isLt).1 (ix2 k q)
      = ((outsAt2 V c (t.val - 1) (Nat.lt_of_le_of_lt (Nat.sub_le _ _) t.isLt)).1 (ix2 k q)
        + part1 V c (t.val % 5) k (colAt t.val q) : EReal) := by
  rw [outsAt2_B V c t h]
  dsimp only
  rw [later4]
  exact (step3 _ _ _ k q).trans (Ideal.add_congr rfl (block1 V c t _ _ rfl rfl k q))
theorem later_point2 (t : Fin cfg2.N) (h : ¬t.val % 5 = 0) (q k : Fin 1024) :
    (outsAt2 V c t.val t.isLt).2 (ix2 q k)
      = ((outsAt2 V c (t.val - 1) (Nat.lt_of_le_of_lt (Nat.sub_le _ _) t.isLt)).2 (ix2 q k)
        + part2 V c (t.val % 5) (colAt t.val q) k : EReal) := by
  rw [outsAt2_B V c t h]
  dsimp only
  rw [later5]
  exact (step4 _ _ _ q k).trans (Ideal.add_congr rfl (block2 V c t _ _ rfl rfl q k))

theorem colAt_succ (n : ℕ) (h : ¬(n + 1) % 5 = 0) (q : Fin 1024) : colAt n q = colAt (n + 1) q := by
  have : n / 5 = (n + 1) / 5 := by omega
  unfold colAt
  simp only [this]

/-- The accumulators hold the row tiles added so far. -/
theorem acc1 (k q : Fin 1024) : ∀ (n : ℕ) (hn : n < cfg2.N), (outsAt2 V c n hn).1 (ix2 k q)
    = (∑ i ∈ Finset.range (n % 5 + 1), part1 V c i k (colAt n q) : EReal) := by
  intro n
  induction n with
  | zero => intro hn; exact (first_point1 V c ⟨0, hn⟩ rfl k q).trans (Finset.sum_range_one fun i => part1 V c i k (colAt 0 q)).symm
  | succ n ih =>
    intro hn
    by_cases h : (n + 1) % 5 = 0
    · refine (first_point1 V c ⟨n + 1, hn⟩ h k q).trans ?_
      dsimp only
      rw [h]
      exact (Finset.sum_range_one fun i => part1 V c i k (colAt (n + 1) q)).symm
    · refine (later_point1 V c ⟨n + 1, hn⟩ h k q).trans ?_
      have e : (n + 1) % 5 = n % 5 + 1 := by omega
      refine (Ideal.add_congr (ih (Nat.lt_of_succ_lt hn)) rfl).trans ?_
      dsimp only
      rw [e, colAt_succ n h q]
      exact (Finset.sum_range_succ _ _).symm

theorem acc2 (q k : Fin 1024) : ∀ (n : ℕ) (hn : n < cfg2.N), (outsAt2 V c n hn).2 (ix2 q k)
    = (∑ i ∈ Finset.range (n % 5 + 1), part2 V c i (colAt n q) k : EReal) := by
  intro n
  induction n with
  | zero => intro hn; exact (first_point2 V c ⟨0, hn⟩ rfl q k).trans (Finset.sum_range_one fun i => part2 V c i (colAt 0 q) k).symm
  | succ n ih =>
    intro hn
    by_cases h : (n + 1) % 5 = 0
    · refine (first_point2 V c ⟨n + 1, hn⟩ h q k).trans ?_
      dsimp only
      rw [h]
      exact (Finset.sum_range_one fun i => part2 V c i (colAt (n + 1) q) k).symm
    · refine (later_point2 V c ⟨n + 1, hn⟩ h q k).trans ?_
      have e : (n + 1) % 5 = n % 5 + 1 := by omega
      refine (Ideal.add_congr (ih (Nat.lt_of_succ_lt hn)) rfl).trans ?_
      dsimp only
      rw [e, colAt_succ n h q]
      exact (Finset.sum_range_succ _ _).symm

/-- Five row tiles are all rows. -/
theorem tiles_sum (g : Fin 8320 → EReal) : ∑ i ∈ Finset.range (4 + 1), ∑ a, g (rowAt i a) = ∑ r, g r := by
  rw [Finset.sum_range, Fin.sum_univ_tiles 5 1664 rfl g]
  refine Finset.sum_congr rfl fun i _ => Finset.sum_congr rfl fun a _ => congrArg g ?_
  exact rowAt_eq i.val i.isLt a

/-- The gradients of the two weights, from the arrays the call finds. -/
def weight1 (j : S1024x4096.Idx) : EReal := ∑ r, arrU V c r (j 0) * arrE V c r (j 1)
def weight2 (j : S4096x1024.Idx) : EReal := ∑ r, arrS V c r (j 0) * arrD V c r (j 1)

theorem flush2_4 : ∀ t : Fin cfg2.N, (cfg2.win 4).flush t = true → t.val % 5 = 4 := by decide +kernel
theorem flush2_5 : ∀ t : Fin cfg2.N, (cfg2.win 5).flush t = true → t.val % 5 = 4 := by decide +kernel
theorem covers2_4 : (cfg2.win 4).Covers := by decide +kernel
theorem covers2_5 : (cfg2.win 5).Covers := by decide +kernel

theorem weight1_after (t : Fin cfg2.N) (h : t.val % 5 = 4) (y : S1024x1024.Idx) :
    (dat2 V c).after 4 t y = weight1 V c (((cfg2.win 4).blk t).view.emb y) := by
  rw [after2_4]
  idx_vars y
  rw [emb2_4]
  refine (acc1 V c y0 y1 t.val t.isLt).trans ?_
  rw [h]
  exact tiles_sum fun r => arrU V c r y0 * arrE V c r (colAt t.val y1)
theorem weight2_after (t : Fin cfg2.N) (h : t.val % 5 = 4) (y : S1024x1024.Idx) :
    (dat2 V c).after 5 t y = weight2 V c (((cfg2.win 5).blk t).view.emb y) := by
  rw [after2_5]
  idx_vars y
  rw [emb2_5]
  refine (acc2 V c y0 y1 t.val t.isLt).trans ?_
  rw [h]
  exact tiles_sum fun r => arrS V c r (colAt t.val y0) * arrD V c r y1

theorem weight1_array : (dat2 V c).arrAt 4 cfg2.N = weight1 V c :=
  (dat2 V c).arrAt_eq_of_covers 4 _ covers2_4 fun t hf y => weight1_after V c t (flush2_4 t hf) y
theorem weight2_array : (dat2 V c).arrAt 5 cfg2.N = weight2 V c :=
  (dat2 V c).arrAt_eq_of_covers 5 _ covers2_5 fun t hf y => weight2_after V c t (flush2_5 t hf) y

end Cert.Kernel2Ideal.Ffn
end
-- ==== Proof.Ffn.Chain.lean ====
module
public import proofs.«01_k».proof.Proof.Ffn.Weights
public import Idealize.ShloMosaic.Lib.StableHlo.Run

@[expose] public section

set_option maxRecDepth 16384

/-! The three calls one after the other: the two results in terms of the program's arguments. -/

noncomputable section

namespace Cert.Kernel2Ideal.Ffn

open Idealize.ShloMosaic Idealize.ShloMosaic.TcCoe
open Cert.Kernel2Ideal Cert.Kernel2Ideal.Gen Cert.Ffn

variable (m : (ℓ : Loc nD τ sig) → Buf (Elt Ideal) ℓ) (ρ : Dev nD → PrngReg) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memA (k : Fin 1024) (f : Fin 4096) : EReal := (m ((c.tc : Thread nD τ).loc main_arg2) : S1024x4096.Idx → EReal) (ix2 k f)
def memB (f : Fin 4096) (k : Fin 1024) : EReal := (m ((c.tc : Thread nD τ).loc main_arg3) : S4096x1024.Idx → EReal) (ix2 f k)
def memD (r : Fin 8320) (k : Fin 1024) : EReal := (m ((c.tc : Thread nD τ).loc main_arg4) : S8320x1024.Idx → EReal) (ix2 r k)

theorem arrH_first : arrH (V0 m ρ) c = memH m c := rfl
theorem arrG_first : arrG (V0 m ρ) c = memG m c := rfl
theorem arrA_first : arrA (V0 m ρ) c = memA m c := rfl

theorem squared (r : Fin 8320) (f : Fin 4096) :
    squareArr (V0 m ρ) c (ix2 r f) = square (pre (memH m c) (memG m c) (memA m c) r f) := rfl
theorem scaled (r : Fin 8320) (k : Fin 1024) :
    normedArr (V0 m ρ) c (ix2 r k) = normed (memH m c r) (memG m c) k := rfl

/-- What the second call finds. -/
theorem v00_second : V2 m ρ c main_v0_0 = squareArr (V0 m ρ) c :=
  (W2_of m ρ c main_v0_0 (by decide)).trans ((W1_arr m ρ c 3).trans (square_array (V0 m ρ) c))
theorem v01_second : V2 m ρ c main_v0_1 = normedArr (V0 m ρ) c :=
  (W2_of m ρ c main_v0_1 (by decide)).trans ((W1_arr m ρ c 4).trans (normed_array (V0 m ρ) c))
theorem arg4_second : V2 m ρ c main_arg4 = m ((c.tc : Thread nD τ).loc main_arg4) :=
  W2_args m ρ c main_arg4 (by decide)
theorem v1_second : V2 m ρ c main_v1
    = transpose S1024x4096 [1, 0] (m ((c.tc : Thread nD τ).loc main_arg3) : Vec Ideal S4096x1024 .bf16) transposes_S4096x1024_S1024x4096_1_0 := by
  show StableHlo.after hostOps1 (W1 m ρ c) (Proc.devRef .tc main_v1) = _
  after_results
  exact congrArg (fun z => transpose S1024x4096 [1, 0] z transposes_S4096x1024_S1024x4096_1_0) (W1_args m ρ c main_arg3 (by decide))

theorem arrS_second (r : Fin 8320) (f : Fin 4096) :
    arrS (V2 m ρ) c r f = square (pre (memH m c) (memG m c) (memA m c) r f) :=
  (congrFun (v00_second m ρ c) (ix2 r f)).trans (squared m ρ c r f)
theorem arrD_second (r : Fin 8320) (k : Fin 1024) : arrD (V2 m ρ) c r k = memD m c r k :=
  congrFun (arg4_second m ρ c) (ix2 r k)
theorem transposed (x : Vec Ideal S4096x1024 .bf16) (k : Fin 1024) (f : Fin 4096) :
    transpose S1024x4096 [1, 0] x transposes_S4096x1024_S1024x4096_1_0 (ix2 k f) = x (ix2 f k) := by
  pointwise []
theorem arrB_second (k : Fin 1024) (f : Fin 4096) : arrB (V2 m ρ) c k f = memB m c f k :=
  (congrFun (v1_second m ρ c) (ix2 k f)).trans (transposed _ k f)

theorem gated (r : Fin 8320) (f : Fin 4096) :
    gateArr (V2 m ρ) c (ix2 r f) = gate (memH m c) (memG m c) (memA m c) (memB m c) (memD m c) r f := by
  show (∑ y, arrD (V2 m ρ) c r y * arrB (V2 m ρ) c y f) * slope (arrS (V2 m ρ) c r f) = _
  unfold gate back
  rw [arrS_second]
  simp only [arrD_second, arrB_second]

/-- What the third call finds. -/
theorem v00_third : V3 m ρ c main_v0_0 = squareArr (V0 m ρ) c :=
  (W3_of m ρ c main_v0_0 (by decide)).trans (v00_second m ρ c)
theorem v01_third : V3 m ρ c main_v0_1 = normedArr (V0 m ρ) c :=
  (W3_of m ρ c main_v0_1 (by decide)).trans (v01_second m ρ c)
theorem v2_third : V3 m ρ c main_v2 = gateArr (V2 m ρ) c :=
  (W3_arr m ρ c 3).trans (gate_array (V2 m ρ) c)
theorem arg4_third : V3 m ρ c main_arg4 = m ((c.tc : Thread nD τ).loc main_arg4) :=
  W3_args m ρ c main_arg4 (by decide)

theorem arrS_third (r : Fin 8320) (f : Fin 4096) :
    arrS (V3 m ρ) c r f = square (pre (memH m c) (memG m c) (memA m c) r f) :=
  (congrFun (v00_third m ρ c) (ix2 r f)).trans (squared m ρ c r f)
theorem arrU_third (r : Fin 8320) (k : Fin 1024) : arrU (V3 m ρ) c r k = normed (memH m c r) (memG m c) k :=
  (congrFun (v01_third m ρ c) (ix2 r k)).trans (scaled m ρ c r k)
theorem arrE_third (r : Fin 8320) (f : Fin 4096) :
    arrE (V3 m ρ) c r f = gate (memH m c) (memG m c) (memA m c) (memB m c) (memD m c) r f :=
  (congrFun (v2_third m ρ c) (ix2 r f)).trans (gated m ρ c r f)
theorem arrD_third (r : Fin 8320) (k : Fin 1024) : arrD (V3 m ρ) c r k = memD m c r k :=
  congrFun (arg4_third m ρ c) (ix2 r k)

/-- The two results. -/
def res1 (j : S1024x4096.Idx) : EReal := grad1 (memH m c) (memG m c) (memA m c) (memB m c) (memD m c) (j 0) (j 1)
def res2 (j : S4096x1024.Idx) : EReal := grad2 (memH m c) (memG m c) (memA m c) (memD m c) (j 0) (j 1)

theorem result1 : W4 m ρ c (Proc.devRef .tc main_v3_0) = res1 m c :=
  (W4_arr m ρ c 4).trans ((weight1_array (V3 m ρ) c).trans (funext fun j =>
    Finset.sum_congr rfl fun r _ => Ideal.mul_congr (arrU_third m ρ c r (j 0)) (arrE_third m ρ c r (j 1))))
theorem result2 : W4 m ρ c (Proc.devRef .tc main_v3_1) = res2 m c :=
  (W4_arr m ρ c 5).trans ((weight2_array (V3 m ρ) c).trans (funext fun j =>
    Finset.sum_congr rfl fun r _ => Ideal.mul_congr (arrS_third m ρ c r (j 0)) (arrD_third m ρ c r (j 1))))

end Cert.Kernel2Ideal.Ffn
end
-- ==== Proof.Ffn.Run.lean ====
module
public import proofs.«01_k».proof.Proof.Ffn.Chain
public import Idealize.ShloMosaic.Lib.Claim

@[expose] public section

set_option maxRecDepth 16384

/-! The run of the three calls, with its two results. -/

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Ffn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v3_0) = res1 m c
      ∧ r.2.mem ((c.tc : Thread nD τ).loc main_v3_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (result1 m ρ c),
       (h c _ (mem_uc main_v3_1 (by decide))).trans (result2 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel2Ideal.Ffn
end
-- ==== Proof.Ffn.Ref.lean ====
module
public import proofs.«01_k».proof.Proof.Gen.Reference2Ideal.Run
public import proofs.«01_k».proof.Proof.Ffn.Spec
public import Idealize.ShloMosaic.Lib.IdealHost

@[expose] public section

set_option maxRecDepth 16384

/-! The reference's gradients of the two weights, entry by entry. -/

noncomputable section

namespace Cert.Reference2Ideal.Ffn

open Idealize.ShloMosaic Idealize.ShloMosaic.TcCoe Idealize.SL.Sem
open Cert.Reference2Ideal Cert.Reference2Ideal.Gen Cert.Ffn

theorem scaled_apply (H : FVec Ideal S8320x1024 .f32) (g : FVec Ideal S1x1024 .f32) (r : Fin 8320) (k : Fin 1024) :
   (mulf (mulf H (broadcastInDim S8320x1024 ![0, 1] bcast_S8320x1_S8320x1024_0_1 (Host.rsqrt (addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024))) : FVec Ideal S8320x1024 .f32) (ix2 r k) = normed (fun i => H (ix2 r i)) (fun i => g (ix2 0 i)) k := by
  pointwise []
  rfl

theorem hidden_apply (U : FVec Ideal S8320x1024 .f32) (A : FVec Ideal S1024x4096 .bf16) (r : Fin 8320) (f : Fin 4096) :
   (Host.dotGeneral dot_S8320x1024_S1024x4096_S8320x4096_1_0_0_1_n_n none U (extf .f32 A bitsLt_bf16_f32) : FVec Ideal S8320x4096 .f32) (ix2 r f) = (∑ x, U (ix2 r x) * A (ix2 x f) : EReal) := by
  pointwise []

theorem gated_apply (Z : FVec Ideal S8320x4096 .f32) (D : FVec Ideal S8320x1024 .bf16) (B : FVec Ideal S4096x1024 .bf16) (r : Fin 8320) (f : Fin 4096) :
   (select (cmpf .ogt Z (broadcastInDim S8320x4096 ![] bcast_S_S8320x4096 (constant S_ .f32 0x00000000#32))) (mulf (Host.dotGeneral dot_S8320x1024_S4096x1024_S8320x4096_1_1_0_0_n_n none (extf .f32 D bitsLt_bf16_f32) (extf .f32 B bitsLt_bf16_f32)) (mulf (broadcastInDim S8320x4096 ![] bcast_S_S8320x4096 (constant S_ .f32 0x40000000#32)) (maximumf Z (broadcastInDim S8320x4096 ![] bcast_S_S8320x4096 (constant S_ .f32 0x00000000#32))))) (broadcastInDim S8320x4096 ![] bcast_S_S8320x4096 (constant S_ .f32 0x00000000#32)) : FVec Ideal S8320x4096 .f32) (ix2 r f) = (∑ x, D (ix2 r x) * B (ix2 f x) : EReal) * slope (square (Z (ix2 r f))) := by
  rw [slope_square]
  pointwise []

theorem first_apply (E : FVec Ideal S8320x4096 .f32) (U : FVec Ideal S8320x1024 .f32) (k : Fin 1024) (f : Fin 4096) :
   (transpose S1024x4096 [1, 0] (Host.dotGeneral dot_S8320x4096_S8320x1024_S4096x1024_0_0_1_1_n_n none E U) transposes_S4096x1024_S1024x4096_1_0 : FVec Ideal S1024x4096 .f32) (ix2 k f) = (∑ r, E (ix2 r f) * U (ix2 r k) : EReal) := by
  pointwise []

theorem second_apply (Z : FVec Ideal S8320x4096 .f32) (D : FVec Ideal S8320x1024 .bf16) (f : Fin 4096) (k : Fin 1024) :
   (transpose S4096x1024 [1, 0] (Host.dotGeneral dot_S8320x1024_S8320x4096_S1024x4096_0_0_1_1_n_n none (extf .f32 D bitsLt_bf16_f32) (mulf (maximumf Z (broadcastInDim S8320x4096 ![] bcast_S_S8320x4096 (constant S_ .f32 0x00000000#32))) (maximumf Z (broadcastInDim S8320x4096 ![] bcast_S_S8320x4096 (constant S_ .f32 0x00000000#32))))) transposes_S1024x4096_S4096x1024_1_0 : FVec Ideal S4096x1024 .f32) (ix2 f k) = (∑ r, D (ix2 r k) * square (Z (ix2 r f)) : EReal) := by
  pointwise []
  rfl

section
variable (m : (ℓ : Loc nD τ sig) → Buf (Elt Ideal) ℓ) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memA (k : Fin 1024) (f : Fin 4096) : EReal := (m ((c.tc : Thread nD τ).loc main_arg2) : S1024x4096.Idx → EReal) (ix2 k f)
def memB (f : Fin 4096) (k : Fin 1024) : EReal := (m ((c.tc : Thread nD τ).loc main_arg3) : S4096x1024.Idx → EReal) (ix2 f k)
def memD (r : Fin 8320) (k : Fin 1024) : EReal := (m ((c.tc : Thread nD τ).loc main_arg4) : S8320x1024.Idx → EReal) (ix2 r k)

/-- The two results. -/
def res1 (j : S1024x4096.Idx) : EReal := grad1 (memH m c) (memG m c) (memA m c) (memB m c) (memD m c) (j 0) (j 1)
def res2 (j : S4096x1024.Idx) : EReal := grad2 (memH m c) (memG m c) (memA m c) (memD m c) (j 0) (j 1)

theorem run (ρ : Dev nD → PrngReg) : θ_run defs (onTc (τ := τ) (main (F := Ideal))) ⟨m, fun _ => 0, ρ⟩ fun r => ∀ c : Dev nD,
      r.2.mem ((c.tc : Thread nD τ).loc main_v33) = res1 m c
      ∧ r.2.mem ((c.tc : Thread nD τ).loc main_v27) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (funext fun j => ?_), (h c).2.1.trans (funext fun j => ?_), (h c).2.2⟩)
    (Cert.Reference2Ideal.Value.run m ρ)
  · obtain ⟨k, f, rfl⟩ : ∃ (k : Fin 1024) (f : Fin 4096), j = ix2 k f := ⟨j 0, j 1, eq_ix2 j⟩
    refine (first_apply _ _ k f).trans ?_
    change _ = grad1 (memH m c) (memG m c) (memA m c) (memB m c) (memD m c) k f
    unfold grad1 gate back pre
    refine Finset.sum_congr rfl fun r _ => ?_
    refine (Ideal.mul_congr (gated_apply _ _ _ r f) (scaled_apply _ _ r k)).trans ((mul_comm _ _).trans ?_)
    refine Ideal.mul_congr rfl (Ideal.mul_congr rfl (congrArg (fun z => slope (square z)) ?_))
    exact (hidden_apply _ _ r f).trans (Finset.sum_congr rfl fun x _ => Ideal.mul_congr (scaled_apply _ _ r x) rfl)
  · obtain ⟨f, k, rfl⟩ : ∃ (f : Fin 4096) (k : Fin 1024), j = ix2 f k := ⟨j 0, j 1, eq_ix2 j⟩
    refine (second_apply _ _ f k).trans ?_
    change _ = grad2 (memH m c) (memG m c) (memA m c) (memD m c) f k
    unfold grad2 pre
    refine Finset.sum_congr rfl fun r _ => ?_
    refine (mul_comm _ _).trans (Ideal.mul_congr (congrArg square ?_) rfl)
    exact (hidden_apply _ _ r f).trans (Finset.sum_congr rfl fun x _ => Ideal.mul_congr (scaled_apply _ _ r x) rfl)
end

end Cert.Reference2Ideal.Ffn
end
-- ==== Proof.Norm.Spec.lean ====
module
public import Idealize.ShloMosaic.Lib.Pointwise
public import Idealize.ShloMosaic.Lib.IdealHost

@[expose] public section

set_option maxRecDepth 16384

/-!
The gradient of the root-mean-square norm over the extended reals, for one row `h` of the norm's
input, the scale `g` and the cotangent `d` of the scaled row. A kernel projects the cotangent off
the scaled row; the derivative of the formula goes through the mean of squares. Both are equal on
all extended reals, because the row's factor, one over a root, is a real number that is not negative.
-/

noncomputable section

namespace Cert.Norm

open Idealize.ShloMosaic

/-- A row's mean of squares, with the small constant. -/
def meanSq (h : Fin 1024 → EReal) : EReal :=
  Ideal.div (∑ x, h x * h x) (Ideal.ofBits FTy.f32 0x44800000#32) + Ideal.ofBits FTy.f32 0x358637BD#32
/-- The factor of a row: one over the root of its mean of squares. -/
def inv (h : Fin 1024 → EReal) : EReal := Ideal.rsqrt (meanSq h)
/-- The row times its factor. -/
def hat (h : Fin 1024 → EReal) (k : Fin 1024) : EReal := h k * inv h
/-- The gradient of the row: the scaled cotangent `b` less its part along the row, times the factor. -/
def through (h b : Fin 1024 → EReal) (k : Fin 1024) : EReal :=
  inv h * (b k - hat h k * Ideal.div (∑ x, b x * hat h x) (Ideal.ofBits FTy.f32 0x44800000#32))
/-- What the derivative of the mean of squares gives each entry of the row, half of it. -/
def half (h b : Fin 1024 → EReal) : EReal :=
  Ideal.div ((∑ x, h x * b x) * (Ideal.ofBits FTy.f32 0xBF000000#32 * Ideal.div (inv h) (meanSq h)))
    (Ideal.ofBits FTy.f32 0x44800000#32)

theorem word_width : Ideal.ofBits FTy.f32 0x44800000#32 = ((1024 : ℝ) : EReal) := by
  simp [Ideal.ofBits, Ideal.ieee, -EReal.coe_mul, -EReal.coe_neg]; norm_num
theorem word_half : Ideal.ofBits FTy.f32 0xBF000000#32 = ((-(1 / 2) : ℝ) : EReal) := by
  simp [Ideal.ofBits, Ideal.ieee, -EReal.coe_mul, -EReal.coe_neg]; norm_num
theorem word_eps : ∃ e : ℝ, 0 < e ∧ Ideal.ofBits FTy.f32 0x358637BD#32 = (e : EReal) := by
  refine ⟨(8796093 : ℝ) * 2 ^ (-43 : ℤ), by positivity, ?_⟩
  simp [Ideal.ofBits, Ideal.ieee, -EReal.coe_mul, -EReal.coe_neg]

/-- The factor is a real number, not negative, and over the mean of squares it is its own cube. -/
theorem inv_real (h : Fin 1024 → EReal) :
    ∃ i : ℝ, 0 ≤ i ∧ inv h = (i : EReal) ∧ Ideal.div (inv h) (meanSq h) = ((i * i * i : ℝ) : EReal) := by
  obtain ⟨e, he, hw⟩ := word_eps
  have hq : 0 ≤ Ideal.div (∑ x, h x * h x) (Ideal.ofBits FTy.f32 0x44800000#32) := by
    rw [word_width, Ideal.div_coe (by norm_num)]
    refine EReal.mul_nonneg (Finset.sum_nonneg fun x _ => ?_) (by norm_num)
    induction h x using EReal.rec with
    | bot => simp
    | top => simp
    | coe r => rw [← EReal.coe_mul]; exact_mod_cast mul_self_nonneg r
  unfold inv meanSq
  rw [hw]
  generalize Ideal.div (∑ x, h x * h x) (Ideal.ofBits FTy.f32 0x44800000#32) = q at hq
  induction q using EReal.rec with
  | bot => exact absurd hq (by simp)
  | top => exact ⟨0, le_refl _, by simp, by simp [Ideal.div]⟩
  | coe r =>
    have hr : 0 ≤ r := by exact_mod_cast hq
    have hs : 0 < r + e := by linarith
    have hroot : 0 < Real.sqrt (r + e) := Real.sqrt_pos.mpr hs
    have hi : Ideal.rsqrt ((r : EReal) + (e : EReal)) = (((Real.sqrt (r + e))⁻¹ : ℝ) : EReal) := by
      rw [← EReal.coe_add, Ideal.rsqrt_coe, if_neg (not_lt.mpr hs.le), if_neg hs.ne']
    refine ⟨(Real.sqrt (r + e))⁻¹, inv_nonneg.mpr hroot.le, hi, ?_⟩
    rw [hi, ← EReal.coe_add, Ideal.div_coe hs.ne', ← EReal.coe_mul]
    congr 1
    rw [mul_assoc, ← mul_inv, Real.mul_self_sqrt hs.le, one_div]

/-- A factor that is not negative and not infinite goes into a sum. -/
theorem mul_sum (i : ℝ) (hi : 0 ≤ i) {n : ℕ} (f : Fin n → EReal) : (i : EReal) * ∑ x, f x = ∑ x, (i : EReal) * f x := by
  classical
  refine Finset.induction_on (Finset.univ : Finset (Fin n)) (by simp) fun a s ha ih => ?_
  rw [Finset.sum_insert ha, Finset.sum_insert ha,
    EReal.left_distrib_of_nonneg_of_ne_top (by exact_mod_cast hi) (EReal.coe_ne_top i), ih]

theorem twice (x : EReal) : x + x = x * ((2 : ℝ) : EReal) := by
  induction x using EReal.rec with
  | bot => rw [EReal.bot_mul_coe_of_pos (by norm_num)]; rfl
  | top => rw [EReal.top_mul_coe_of_pos (by norm_num)]; rfl
  | coe r => rw [← EReal.coe_add, ← EReal.coe_mul]; congr 1; ring

/-- The projection is the derivative of the formula. -/
theorem through_eq (h b : Fin 1024 → EReal) (k : Fin 1024) :
    through h b k = b k * inv h + (h k * half h b + half h b * h k) := by
  obtain ⟨i, hi, hinv, hcube⟩ := inv_real h
  have hsum : (∑ x, b x * hat h x) = (i : EReal) * ∑ x, h x * b x := by
    rw [mul_sum i hi]
    refine Finset.sum_congr rfl fun x _ => ?_
    unfold hat
    rw [hinv]
    ac_rfl
  have hhalf : half h b = (∑ x, h x * b x) * ((-(i * i * i) / 2048 : ℝ) : EReal) := by
    unfold half
    rw [hcube, word_half, word_width, Ideal.div_coe (by norm_num), mul_assoc, ← EReal.coe_mul, ← EReal.coe_mul]
    congr 2
    ring
  unfold through
  rw [hsum, word_width, Ideal.div_coe (by norm_num), hhalf]
  unfold hat
  rw [hinv]
  generalize (∑ x, h x * b x) = S
  rw [sub_eq_add_neg, EReal.left_distrib_of_nonneg_of_ne_top (by exact_mod_cast hi) (EReal.coe_ne_top i),
    mul_comm (S * _) (h k), twice, mul_comm (i : EReal) (b k)]
  congr 1
  rw [mul_neg]
  have e1 : (i : EReal) * (h k * (i : EReal) * ((i : EReal) * S * ((1 / 1024 : ℝ) : EReal)))
      = h k * S * ((i * i * i * (1 / 1024) : ℝ) : EReal) := by
    rw [EReal.coe_mul, EReal.coe_mul, EReal.coe_mul]
    ac_rfl
  have e2 : h k * (S * ((-(i * i * i) / 2048 : ℝ) : EReal)) * ((2 : ℝ) : EReal)
      = h k * S * ((-(i * i * i * (1 / 1024)) : ℝ) : EReal) := by
    rw [← mul_assoc (h k), mul_assoc (h k * S), ← EReal.coe_mul]
    congr 2
    ring
  rw [e1, e2, EReal.coe_neg, mul_neg]

end Cert.Norm
end
-- ==== Proof.FfnX.Blocks.lean ====
module
public import proofs.«01_k».proof.Proof.Gen.Kernel3Ideal.Frame
public import proofs.«01_k».proof.Proof.Norm.Spec
public import Idealize.ShloMosaic.Lib.Pipeline.ValueKit

@[expose] public section

set_option maxRecDepth 16384

/-! What one grid point of the call computes, entry by entry. -/

noncomputable section

namespace Cert.Kernel3Ideal.FfnX

open Idealize.ShloMosaic Idealize.ShloMosaic.TcCoe
open Cert.Kernel3Ideal Cert.Kernel3Ideal.Gen Cert.Norm

section
variable (h dy : Vec Ideal S640x1024 .f32) (g old : Vec Ideal S1x1024 .f32) (e : Vec Ideal S640x4096 .bf16)
  (w : Vec Ideal S4096x1024 .bf16) (a : Fin 640) (k : Fin 1024)

theorem inv_block : k0_pay3 h (ix2 a 0) = inv (fun i => h (ix2 a i)) := by
  pointwise [k0_pay3]
  rfl
theorem hat_block : k0_pay4 h (ix2 a k) = hat (fun i => h (ix2 a i)) k := by
  pointwise [k0_pay4, inv_block]
  rfl
theorem prod_block : k0_pay5 e w (ix2 a k) = (∑ f, e (ix2 a f) * w (ix2 f k) : EReal) := by
  pointwise [k0_pay5]
theorem scale_block : k0_pay1 (k0_pay6 h e w) old (ix2 0 k)
    = (old (ix2 0 k) + ∑ a, (∑ f, e (ix2 a f) * w (ix2 f k)) * hat (fun i => h (ix2 a i)) k : EReal) := by
  pointwise [k0_pay1, k0_pay6, hat_block, prod_block]
theorem start_block : k0_pay2 (F := Ideal) (ix2 0 k) = (show EReal from 0) := by
  pointwise [k0_pay2]
theorem row_block : k0_pay7 g h e w dy (ix2 a k)
    = (dy (ix2 a k) + through (fun i => h (ix2 a i)) (fun x => (∑ f, e (ix2 a f) * w (ix2 f x)) * g (ix2 0 x)) k : EReal) := by
  pointwise [k0_pay7, inv_block, hat_block, prod_block]
  rfl
end

section
variable {F : FTy → Type} [FloatOps F]
variable (c : Dev nD) (i : grid0.Coords) (arg1 : Memref sig .tc .vmem S640x4096 .bf16) (harg1 : arg1.IsWhole) (arg2 : Memref sig .tc .vmem S4096x1024 .bf16) (harg2 : arg2.IsWhole) (arg3 : Memref sig .tc .vmem S640x1024 .f32) (harg3 : arg3.IsWhole) (arg4 : Memref sig .tc .vmem S640x1024 .f32) (harg4 : arg4.IsWhole) (arg5 : Memref sig .tc .vmem S1x1024 .f32) (harg5 : arg5.IsWhole) (arg6 : Memref sig .tc .vmem S640x1024 .f32) (harg6 : arg6.IsWhole) (arg7 : Memref sig .tc .vmem S1x1024 .f32) (harg7 : arg7.IsWhole)
  (x0 : Vec F S640x4096 .bf16) (x1 : Vec F S4096x1024 .bf16) (x2 x3 : Vec F S640x1024 .f32) (x4 xo6 : Vec F S1x1024 .f32)

theorem first5 (hc0 : cond0_0 i) :
    out0_A_5 c i arg1 harg1 arg2 harg2 arg3 harg3 arg4 harg4 arg5 harg5 arg6 harg6 arg7 harg7 hc0 x0 x1 x2 x3 x4 = k0_pay7 x4 x2 x0 x1 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S640x1024) (by decide)]
  simp only [View.readAt_eq_ld, harg1.read_unread, harg2.read_unread, harg3.read_unread, harg4.read_unread, harg5.read_unread,
    harg6.read_unread, harg7.read_unread]
  rw [View.ld_unit_zero (S := S1x1024) (by decide), View.ld_unit_zero (S := S640x1024) (by decide),
    View.ld_unit_zero (S := S640x4096) (by decide), View.ld_unit_zero (S := S4096x1024) (by decide),
    View.ld_unit_zero (S := S640x1024) (by decide)]
theorem later5 (hc0 : ¬cond0_0 i) :
    out0_B_5 c i arg1 harg1 arg2 harg2 arg3 harg3 arg4 harg4 arg5 harg5 arg6 harg6 arg7 harg7 hc0 x0 x1 x2 x3 x4 xo6 = k0_pay7 x4 x2 x0 x1 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  sl_unfold_words
  rw [View.canon_cons_unit_zero (S := S640x1024) (by decide)]
  simp only [View.readAt_eq_ld, harg1.read_unread, harg2.read_unread, harg3.read_unread, harg4.read_unread, harg5.read_unread,
    harg6.read_unread, harg7.read_unread]
  rw [View.ld_unit_zero (S := S1x1024) (by decide), View.ld_unit_zero (S := S640x1024) (by decide),
    View.ld_unit_zero (S := S640x4096) (by decide), View.ld_unit_zero (S := S4096x1024) (by decide),
    View.ld_unit_zero (S := S640x1024) (by decide)]
theorem first6 (hc0 : cond0_0 i) :
    out0_A_6 c i arg1 harg1 arg2 harg2 arg3 harg3 arg4 harg4 arg5 harg5 arg6 harg6 arg7 harg7 hc0 x0 x1 x2 x3 x4 = k0_pay1 (k0_pay6 x2 x0 x1) (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x1024) (by decide)]
  simp only [View.readAt_eq_ld, harg1.read_unread, harg2.read_unread, harg3.read_unread, harg4.read_unread, harg5.read_unread,
    harg6.read_unread, harg7.read_unread]
  refine (congrArg (fun z => k0_pay1 _ z) (View.readCov_unit_zero (Val := Elt F) (S := S1x1024) arg7.view (by decide) _ _)).trans ?_
  rw [View.ld_unit_zero (S := S640x1024) (by decide),
    View.ld_unit_zero (S := S640x4096) (by decide), View.ld_unit_zero (S := S4096x1024) (by decide)]
theorem later6 (hc0 : ¬cond0_0 i) :
    out0_B_6 c i arg1 harg1 arg2 harg2 arg3 harg3 arg4 harg4 arg5 harg5 arg6 harg6 arg7 harg7 hc0 x0 x1 x2 x3 x4 xo6 = k0_pay1 (k0_pay6 x2 x0 x1) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  sl_unfold_words
  rw [View.canon_cons_unit_zero (S := S1x1024) (by decide)]
  simp only [View.readAt_eq_ld, harg1.read_unread, harg2.read_unread, harg3.read_unread, harg4.read_unread, harg5.read_unread,
    harg6.read_unread, harg7.read_unread]
  rw [View.ld_unit_zero (S := S640x1024) (by decide),
    View.ld_unit_zero (S := S640x4096) (by decide), View.ld_unit_zero (S := S4096x1024) (by decide),
    View.ld_unit_zero (S := S1x1024) (by decide)]
end

end Cert.Kernel3Ideal.FfnX
end
-- ==== Proof.Norm.Rows.lean ====
module
public import Idealize.ShloMosaic.Lib.Pointwise
public import Idealize.ShloMosaic.Lib.IdealHost

@[expose] public section

/-! The 8320 rows as thirteen tiles of 640. -/

noncomputable section

namespace Cert.Norm

open Idealize.ShloMosaic

/-- Row `a` of row tile `i`. -/
def rowAt (i : ℕ) (a : Fin 640) : Fin 8320 := ⟨(i * 640 + a.val) % 8320, Nat.mod_lt _ (by decide)⟩

theorem rowAt_eq (i : ℕ) (h : i < 13) (a : Fin 640) : rowAt i a = ⟨i * 640 + a.val, by omega⟩ :=
  Fin.ext (Nat.mod_eq_of_lt (by omega))

/-- Thirteen row tiles are all rows. -/
theorem tiles_sum (g : Fin 8320 → EReal) : ∑ i ∈ Finset.range (12 + 1), ∑ a, g (rowAt i a) = ∑ r, g r := by
  rw [Finset.sum_range, Fin.sum_univ_tiles 13 640 rfl g]
  refine Finset.sum_congr rfl fun i _ => Finset.sum_congr rfl fun a _ => congrArg g ?_
  exact rowAt_eq i.val i.isLt a

end Cert.Norm
end
-- ==== Proof.FfnX.Arrays.lean ====
module
public import proofs.«01_k».proof.Proof.FfnX.Blocks
public import proofs.«01_k».proof.Proof.Norm.Rows
public import proofs.«01_k».proof.Proof.Gen.Kernel3Ideal.Value

@[expose] public section

set_option maxRecDepth 16384

/-!
The two arrays the call leaves: every row tile of the rows' gradient from that tile alone, and the
scale's gradient added up over the thirteen row tiles.
-/

noncomputable section

namespace Cert.Kernel3Ideal.FfnX

open Idealize.ShloMosaic Idealize.ShloMosaic.TcCoe Idealize.SL.Sem
open Cert.Kernel3Ideal Cert.Kernel3Ideal.Gen Cert.Norm

theorem idx0 : ∀ t : Fin cfg0.N,
    win0_0.index t = ![t.val, 0] ∧ win0_1.index t = ![0, 0] ∧ win0_2.index t = ![t.val, 0]
      ∧ win0_3.index t = ![t.val, 0] ∧ win0_4.index t = ![0, 0] ∧ win0_5.index t = ![t.val, 0]
      ∧ win0_6.index t = ![0, 0] :=
  (by decide +kernel : ∀ t : Fin grid0.N, _)

theorem point_lt (t : Fin cfg0.N) : t.val < 13 := t.isLt

variable (m : (ℓ : Loc nD τ sig) → Buf (Elt Ideal) ℓ) (c : Dev nD)

/-- The arguments by row and column. -/
def memE (r : Fin 8320) (f : Fin 4096) : EReal := (m ((c.tc : Thread nD τ).loc main_arg0) : S8320x4096.Idx → EReal) (ix2 r f)
def memW (k : Fin 1024) (f : Fin 4096) : EReal := (m ((c.tc : Thread nD τ).loc main_arg1) : S1024x4096.Idx → EReal) (ix2 k f)
def memH (r : Fin 8320) (k : Fin 1024) : EReal := (m ((c.tc : Thread nD τ).loc main_arg2) : S8320x1024.Idx → EReal) (ix2 r k)
def memY (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)

/-- The region finds the transposed weight. -/
theorem weight_found : V m c main_v0
    = transpose S4096x1024 [1, 0] (m ((c.tc : Thread nD τ).loc main_arg1) : Vec Ideal S1024x4096 .bf16) transposes_S1024x4096_S4096x1024_1_0 := by
  show StableHlo.after hostOps0 (fun b => m (c, b)) (Proc.devRef .tc main_v0) = _
  after_results
theorem transposed (x : Vec Ideal S1024x4096 .bf16) (k : Fin 1024) (f : Fin 4096) :
    transpose S4096x1024 [1, 0] x transposes_S1024x4096_S4096x1024_1_0 (ix2 f k) = x (ix2 k f) := by
  pointwise []

section
variable (t : Fin cfg0.N) (a : Fin 640) (k : Fin 1024) (f : Fin 4096)

theorem e_found : iblk m c 0 t (ix2 a f) = (V m c main_arg0 : S8320x4096.Idx → EReal) (ix2 (rowAt t.val a) f) := by
  rw [rowAt_eq _ (point_lt t)]
  generalize hx : V m c main_arg0 = x
  unfold iblk
  rw [show V m c (Pipeline.arrRef spec0 0) = x from hx]
  blk_ext! [idx0 t]
theorem w_found : iblk m c 1 t (ix2 f k) = (V m c main_v0 : S4096x1024.Idx → EReal) (ix2 f k) := by
  generalize hx : V m c main_v0 = x
  unfold iblk
  rw [show V m c (Pipeline.arrRef spec0 1) = x from hx]
  blk_ext! [idx0 t]
theorem h_found : iblk m c 2 t (ix2 a k) = (V m c main_arg2 : S8320x1024.Idx → EReal) (ix2 (rowAt t.val a) k) := by
  rw [rowAt_eq _ (point_lt t)]
  generalize hx : V m c main_arg2 = x
  unfold iblk
  rw [show V m c (Pipeline.arrRef spec0 2) = x from hx]
  blk_ext! [idx0 t]
theorem y_found : iblk m c 3 t (ix2 a k) = (V m c main_arg3 : S8320x1024.Idx → EReal) (ix2 (rowAt t.val a) k) := by
  rw [rowAt_eq _ (point_lt t)]
  generalize hx : V m c main_arg3 = x
  unfold iblk
  rw [show V m c (Pipeline.arrRef spec0 3) = x from hx]
  blk_ext! [idx0 t]
theorem g_found : iblk m c 4 t (ix2 0 k) = (V m c main_arg4 : S1x1024.Idx → EReal) (ix2 0 k) := by
  generalize hx : V m c main_arg4 = x
  unfold iblk
  rw [show V m c (Pipeline.arrRef spec0 4) = x from hx]
  blk_ext! [idx0 t]
theorem emb5 : (((cfg0.win 5).blk t).view.emb (ix2 a k) : S8320x1024.Idx) = ix2 (rowAt t.val a) k := by
  rw [rowAt_eq _ (point_lt t)]
  blk_ext! [idx0 t]
theorem emb6 : (((cfg0.win 6).blk t).view.emb (ix2 0 k) : S1x1024.Idx) = ix2 0 k := by
  blk_ext! [idx0 t]

theorem e_read : iblk m c 0 t (ix2 a f) = memE m c (rowAt t.val a) f :=
  (e_found m c t a f).trans (congrFun (V_main_arg0 m c) (ix2 (rowAt t.val a) f))
theorem w_read : iblk m c 1 t (ix2 f k) = memW m c k f :=
  (w_found m c t k f).trans ((congrFun (weight_found m c) (ix2 f k)).trans (transposed _ k f))
theorem h_read : iblk m c 2 t (ix2 a k) = memH m c (rowAt t.val a) k :=
  (h_found m c t a k).trans (congrFun (V_main_arg2 m c) (ix2 (rowAt t.val a) k))
theorem y_read : iblk m c 3 t (ix2 a k) = memY m c (rowAt t.val a) k :=
  (y_found m c t a k).trans (congrFun (V_main_arg3 m c) (ix2 (rowAt t.val a) k))
theorem g_read : iblk m c 4 t (ix2 0 k) = memG m c k :=
  (g_found m c t k).trans (congrFun (V_main_arg4 m c) (ix2 0 k))
end

/-- The cotangent of the scaled rows: the hidden layer's gradient through the weight. -/
def cot (r : Fin 8320) (k : Fin 1024) : EReal := ∑ f, memE m c r f * memW m c k f
/-- The gradient of the rows, with the part that passes the layer by. -/
def res1 (j : S8320x1024.Idx) : EReal :=
  memY m c (j 0) (j 1) + through (memH m c (j 0)) (fun x => cot m c (j 0) x * memG m c x) (j 1)
/-- The gradient of the scale. -/
def res2 (j : S1x1024.Idx) : EReal := ∑ r, cot m c r (j 1) * hat (memH m c r) (j 1)
/-- What row tile `i` adds to the gradient of the scale. -/
def part (i : ℕ) (k : Fin 1024) : EReal := ∑ a, cot m c (rowAt i a) k * hat (memH m c (rowAt i a)) k

section
variable (t : Fin cfg0.N) (e : Vec Ideal S640x4096 .bf16) (w : Vec Ideal S4096x1024 .bf16)
  (h y : Vec Ideal S640x1024 .f32) (g : Vec Ideal S1x1024 .f32)
  (he : e = iblk m c 0 t) (hw : w = iblk m c 1 t) (hh : h = iblk m c 2 t) (hy : y = iblk m c 3 t) (hg : g = iblk m c 4 t)
include he hw

theorem cot_block (a : Fin 640) (k : Fin 1024) : (∑ f, e (ix2 a f) * w (ix2 f k) : EReal) = cot m c (rowAt t.val a) k := by
  subst he hw
  exact Finset.sum_congr rfl fun f _ => Ideal.mul_congr (e_read m c t a f) (w_read m c t k f)

include hh
theorem row_eq (a : Fin 640) : (fun i => h (ix2 a i)) = memH m c (rowAt t.val a) := by
  subst hh
  exact funext fun i => h_read m c t a i
theorem part_block (k : Fin 1024) :
    (∑ a, (∑ f, e (ix2 a f) * w (ix2 f k)) * hat (fun i => h (ix2 a i)) k : EReal) = part m c t.val k :=
  Finset.sum_congr rfl fun a _ => Ideal.mul_congr (cot_block m c t e w he hw a k)
    (congrArg (fun z => hat z k) (row_eq m c t e w h he hw hh a))

include hy hg
theorem row_point (a : Fin 640) (k : Fin 1024) :
    k0_pay7 g h e w y (ix2 a k) = res1 m c (ix2 (rowAt t.val a) k) := by
  refine (row_block h y g e w a k).trans ?_
  rw [row_eq m c t e w h he hw hh a]
  refine Ideal.add_congr (by subst hy; exact y_read m c t a k) (congrArg (fun z => through _ z k) (funext fun x => ?_))
  exact Ideal.mul_congr (cot_block m c t e w he hw a x) (by subst hg; exact g_read m c t x)
end

theorem row_after (t : Fin cfg0.N) (y : S640x1024.Idx) :
    (dats m 0 c).after 5 t y = res1 m c (((cfg0.win 5).blk t).view.emb y) := by
  rw [after0_5]
  idx_vars y
  rw [emb5]
  by_cases h : t.val % 13 = 0
  · rw [outsAt0_A m c t h]
    dsimp only
    rw [first5]
    exact row_point m c t _ _ _ _ _ rfl rfl rfl rfl rfl y0 y1
  · rw [outsAt0_B m c t h]
    dsimp only
    rw [later5]
    exact row_point m c t _ _ _ _ _ rfl rfl rfl rfl rfl y0 y1

theorem first_point (t : Fin cfg0.N) (h : t.val % 13 = 0) (k : Fin 1024) :
    (outsAt0 m c t.val t.isLt).2 (ix2 0 k) = part m c t.val k := by
  rw [outsAt0_A m c t h]
  dsimp only
  rw [first6]
  refine (scale_block _ _ _ _ k).trans ((Ideal.add_congr (start_block k) (part_block m c t _ _ _ rfl rfl rfl k)).trans (zero_add _))
theorem later_point (t : Fin cfg0.N) (h : ¬t.val % 13 = 0) (k : Fin 1024) :
    (outsAt0 m c t.val t.isLt).2 (ix2 0 k)
      = ((outsAt0 m c (t.val - 1) (Nat.lt_of_le_of_lt (Nat.sub_le _ _) t.isLt)).2 (ix2 0 k) + part m c t.val k : EReal) := by
  rw [outsAt0_B m c t h]
  dsimp only
  rw [later6]
  exact (scale_block _ _ _ _ k).trans (Ideal.add_congr rfl (part_block m c t _ _ _ rfl rfl rfl k))

/-- The accumulator holds the row tiles added so far. -/
theorem acc (k : Fin 1024) : ∀ (n : ℕ) (hn : n < cfg0.N), (outsAt0 m c n hn).2 (ix2 0 k)
    = (∑ i ∈ Finset.range (n + 1), part m c i k : EReal) := by
  intro n
  induction n with
  | zero => intro hn; exact (first_point m c ⟨0, hn⟩ rfl k).trans (Finset.sum_range_one fun i => part m c i k).symm
  | succ n ih =>
    intro hn
    have h13 : n + 1 < 13 := hn
    refine (later_point m c ⟨n + 1, hn⟩ (by dsimp only; omega) k).trans ?_
    refine (Ideal.add_congr (ih (Nat.lt_of_succ_lt hn)) rfl).trans ?_
    exact (Finset.sum_range_succ _ _).symm

theorem covers5 : (cfg0.win 5).Covers := by decide +kernel
theorem covers6 : (cfg0.win 6).Covers := by decide +kernel

theorem scale_after (t : Fin cfg0.N) (h : t.val % 13 = 12) (y : S1x1024.Idx) :
    (dats m 0 c).after 6 t y = res2 m c (((cfg0.win 6).blk t).view.emb y) := by
  rw [after0_6]
  obtain ⟨k, rfl⟩ : ∃ k : Fin 1024, y = ix2 0 k := ⟨y 1, by rw [eq_ix2 y]; exact congrArg (fun z => ix2 z _) (Subsingleton.elim _ _)⟩
  rw [emb6]
  have h12 : t.val = 12 := by have := point_lt t; omega
  refine (acc m c k t.val t.isLt).trans ?_
  rw [h12]
  exact tiles_sum fun r => cot m c r k * hat (memH m c r) k

theorem row_array : (dats m 0 c).arrAt 5 cfg0.N = res1 m c :=
  (dats m 0 c).arrAt_eq_of_covers 5 _ covers5 fun t _ y => row_after m c t y
theorem scale_array : (dats m 0 c).arrAt 6 cfg0.N = res2 m c :=
  (dats m 0 c).arrAt_eq_of_covers 6 _ covers6 fun t hf y => scale_after m c t ((flush0_6 t).mp hf) y

theorem run (ρ : Dev nD → PrngReg) : θ_run defs (onTc (τ := τ) (main (F := Ideal))) ⟨m, fun _ => 0, ρ⟩ fun r => ∀ c : Dev nD,
      r.2.mem ((c.tc : Thread nD τ).loc main_v1_0) = res1 m c
      ∧ r.2.mem ((c.tc : Thread nD τ).loc main_v1_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (row_array m c), (h c).2.1.trans (scale_array m c), (h c).2.2⟩)
    (Value.run_blocks m ρ)

end Cert.Kernel3Ideal.FfnX
end
-- ==== Proof.FfnX.Ref.lean ====
module
public import proofs.«01_k».proof.Proof.Gen.Reference3Ideal.Run
public import proofs.«01_k».proof.Proof.Norm.Spec

@[expose] public section

set_option maxRecDepth 16384

/-! The reference's gradients of the norm's rows and of its scale, entry by entry. -/

noncomputable section

namespace Cert.Reference3Ideal.FfnX

open Idealize.ShloMosaic Idealize.ShloMosaic.TcCoe Idealize.SL.Sem
open Cert.Reference3Ideal Cert.Reference3Ideal.Gen Cert.Norm

section
variable (H Y B D : FVec Ideal S8320x1024 .f32) (Q : FVec Ideal S8320x1 .f32) (T : FVec Ideal S8320 .f32)
  (g : FVec Ideal S1x1024 .f32) (E : FVec Ideal S8320x4096 .bf16) (W : FVec Ideal S1024x4096 .bf16)
  (r : Fin 8320) (k : Fin 1024)

theorem mean_apply :
   (addf (Host.divf (broadcastInDim S8320x1 ![0] bcast_S8320_S8320x1_0 (Host.reduceAdd (mulf H H) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)) : FVec Ideal S8320x1 .f32) (ix2 r 0) = meanSq (fun i => H (ix2 r i)) := by
  pointwise []
  rfl

/-- The derivative through the mean of squares, given that mean. -/
theorem half_apply (hQ : Q (ix2 r 0) = meanSq (fun i => H (ix2 r i))) :
   (Host.reduceAdd (Host.divf (mulf (shapeCast _ (Host.reduceAdd (mulf H B) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt Q) Q))) (broadcastInDim S8320x1 ![] bcast_S_S8320x1 (constant S_ .f32 0x44800000#32))) (constant S_ .f32 0x00000000#32) reducesTo_S8320x1_S8320_d1 h_S_ : FVec Ideal S8320 .f32) (ix1 r) = half (fun i => H (ix2 r i)) (fun i => B (ix2 r i)) := by
  unfold half Norm.inv
  rw [← hQ]
  pointwise []
  exact Fin.sum_univ_one _

theorem rows_apply (hQ : Q (ix2 r 0) = meanSq (fun i => H (ix2 r i)))
    (hT : T (ix1 r) = half (fun i => H (ix2 r i)) (fun i => B (ix2 r i))) :
   (addf (addf (addf Y (mulf B (broadcastInDim S8320x1024 ![0, 1] bcast_S8320x1_S8320x1024_0_1 (Host.rsqrt Q)))) (mulf H (broadcastInDim S8320x1024 ![0] bcast_S8320_S8320x1024_0 T))) (mulf (broadcastInDim S8320x1024 ![0] bcast_S8320_S8320x1024_0 T) H) : FVec Ideal S8320x1024 .f32) (ix2 r k)
     = (Y (ix2 r k) + through (fun i => H (ix2 r i)) (fun i => B (ix2 r i)) k : EReal) := by
  rw [through_eq]
  unfold Norm.inv
  rw [← hQ, ← hT]
  refine Eq.trans ?_ ((add_assoc _ _ _).trans (add_assoc _ _ _))
  pointwise []

theorem scale_apply (hQ : ∀ r, Q (ix2 r 0) = meanSq (fun i => H (ix2 r i))) :
   (broadcastInDim S1x1024 ![1] bcast_S1024_S1x1024_1 (Host.reduceAdd (shapeCast _ (Host.reduceAdd (mulf (mulf H (broadcastInDim S8320x1024 ![0, 1] bcast_S8320x1_S8320x1024_0_1 (Host.rsqrt Q))) D) (constant S_ .f32 0x00000000#32) reducesTo_S8320x1024_S1024_d0 h_S_) shapeCasts_S1024_S1x1024) (constant S_ .f32 0x00000000#32) reducesTo_S1x1024_S1024_d0 h_S_) : FVec Ideal S1x1024 .f32) (ix2 0 k)
     = (∑ r, D (ix2 r k) * hat (fun i => H (ix2 r i)) k : EReal) := by
  have hs : ∀ r : Fin 8320, (D (ix2 r k) * hat (fun i => H (ix2 r i)) k : EReal) = H (ix2 r k) * Ideal.rsqrt (Q (ix2 r 0)) * D (ix2 r k) :=
    fun r => by rw [hQ r]; exact mul_comm _ _
  rw [Finset.sum_congr rfl fun r _ => hs r]
  pointwise []
  exact Fin.sum_univ_one _

theorem cot_apply :
   (Host.dotGeneral dot_S8320x4096_S1024x4096_S8320x1024_1_1_0_0_n_n none (extf .f32 E bitsLt_bf16_f32) (extf .f32 W bitsLt_bf16_f32) : FVec Ideal S8320x1024 .f32) (ix2 r k) = (∑ f, E (ix2 r f) * W (ix2 k f) : EReal) := by
  pointwise []

theorem scaled_apply :
   (mulf D (broadcastInDim S8320x1024 ![0, 1] bcast_S1x1024_S8320x1024_0_1 (broadcastInDim S1x1024 ![1] bcast_S1024_S1x1024_1 (shapeCast _ g shapeCasts_S1x1024_S1024))) : FVec Ideal S8320x1024 .f32) (ix2 r k) = (D (ix2 r k) * g (ix2 0 k) : EReal) := by
  pointwise []
end

section
variable (m : (ℓ : Loc nD τ sig) → Buf (Elt Ideal) ℓ) (c : Dev nD)

/-- The arguments by row and column. -/
def memE (r : Fin 8320) (f : Fin 4096) : EReal := (m ((c.tc : Thread nD τ).loc main_arg0) : S8320x4096.Idx → EReal) (ix2 r f)
def memW (k : Fin 1024) (f : Fin 4096) : EReal := (m ((c.tc : Thread nD τ).loc main_arg1) : S1024x4096.Idx → EReal) (ix2 k f)
def memH (r : Fin 8320) (k : Fin 1024) : EReal := (m ((c.tc : Thread nD τ).loc main_arg2) : S8320x1024.Idx → EReal) (ix2 r k)
def memY (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)

/-- The cotangent of the scaled rows. -/
def cot (r : Fin 8320) (k : Fin 1024) : EReal := ∑ f, memE m c r f * memW m c k f
/-- The two results. -/
def res1 (j : S8320x1024.Idx) : EReal :=
  memY m c (j 0) (j 1) + through (memH m c (j 0)) (fun x => cot m c (j 0) x * memG m c x) (j 1)
def res2 (j : S1x1024.Idx) : EReal := ∑ r, cot m c r (j 1) * hat (memH m c r) (j 1)

theorem run (ρ : Dev nD → PrngReg) : θ_run defs (onTc (τ := τ) (main (F := Ideal))) ⟨m, fun _ => 0, ρ⟩ fun r => ∀ c : Dev nD,
      r.2.mem ((c.tc : Thread nD τ).loc main_v41) = res1 m c
      ∧ r.2.mem ((c.tc : Thread nD τ).loc main_v42) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (funext fun j => ?_), (h c).2.1.trans (funext fun j => ?_), (h c).2.2⟩)
    (Cert.Reference3Ideal.Value.run m ρ)
  · obtain ⟨r, k, rfl⟩ : ∃ (r : Fin 8320) (k : Fin 1024), j = ix2 r k := ⟨j 0, j 1, eq_ix2 j⟩
    unfold Value.res_main_v41
    refine (rows_apply _ _ _ _ _ r k (mean_apply _ r) (half_apply _ _ _ r (mean_apply _ r))).trans ?_
    refine Ideal.add_congr rfl (congrArg (fun z => through _ z k) (funext fun x => ?_))
    exact (scaled_apply _ _ r x).trans (Ideal.mul_congr (cot_apply _ _ r x) rfl)
  · obtain ⟨k, rfl⟩ : ∃ k : Fin 1024, j = ix2 0 k := ⟨j 1, by rw [eq_ix2 j]; exact congrArg (fun z => ix2 z _) (Subsingleton.elim _ _)⟩
    refine (scale_apply _ _ _ k fun r => mean_apply _ r).trans ?_
    exact Finset.sum_congr rfl fun r _ => Ideal.mul_congr (cot_apply _ _ r k) rfl
end

end Cert.Reference3Ideal.FfnX
end
-- ==== Proof.InProj.Blocks.lean ====
module
public import proofs.«01_k».proof.Proof.Gen.Kernel5Ideal.Frame
public import proofs.«01_k».proof.Proof.Norm.Spec
public import Idealize.ShloMosaic.Lib.Pipeline.ValueKit

@[expose] public section

set_option maxRecDepth 16384

/-! What one grid point of the call computes, entry by entry. -/

noncomputable section

namespace Cert.Kernel5Ideal.InProj

open Idealize.ShloMosaic Idealize.ShloMosaic.TcCoe
open Cert.Kernel5Ideal Cert.Kernel5Ideal.Gen Cert.Norm

section
variable {F : FTy → Type} [FloatOps F]

/-- The weight's rows for the queries, for the keys and values, and for the recurrence and the gate. -/
def cutQ (w : Vec F S1792x1024 .bf16) : Vec F S512x1024 .bf16 := View.ld (S := S1792x1024) (e' := .bf16) (Val := Elt F) w (Rect.unit (s := S1792x1024) ![0, 0] S512x1024.size inb_S1792x1024_S512x1024_0_0)
def cutK (w : Vec F S1792x1024 .bf16) : Vec F S256x1024 .bf16 := View.ld (S := S1792x1024) (e' := .bf16) (Val := Elt F) w (Rect.unit (s := S1792x1024) ![512, 0] S256x1024.size inb_S1792x1024_S256x1024_512_0)
def cutZ (w : Vec F S1792x1024 .bf16) : Vec F S1024x1024 .bf16 := View.ld (S := S1792x1024) (e' := .bf16) (Val := Elt F) w (Rect.unit (s := S1792x1024) ![768, 0] S1024x1024.size inb_S1792x1024_S1024x1024_768_0)

/-- What a grid point writes of the rows' gradient. -/
def rowPart (h : Vec F S640x1024 .f32) (g : Vec F S1x1024 .f32) (y : Vec F S640x1024 .f32) (q : Vec F S640x512 .bf16)
    (kv : Vec F S640x256 .bf16) (z : Vec F S640x1024 .bf16) (w : Vec F S1792x1024 .bf16) : FVec F S640x1024 .f32 :=
  k0_pay1 (k0_pay4 h) (k0_pay5 h) (k0_pay7 g q kv z (cutQ w) (cutK w) (cutZ w)) y
/-- What it leaves of the scale's gradient, over `old`. -/
def scalePart (h : Vec F S640x1024 .f32) (q : Vec F S640x512 .bf16)
    (kv : Vec F S640x256 .bf16) (z : Vec F S640x1024 .bf16) (w : Vec F S1792x1024 .bf16) (old : Vec F S1x1024 .f32) : FVec F S1x1024 .f32 :=
  k0_pay2 (k0_pay5 h) (k0_pay6 q kv z (cutQ w) (cutK w) (cutZ w)) old

variable (c : Dev nD) (i : grid0.Coords) (arg1 : Memref sig .tc .vmem S640x1024 .f32) (harg1 : arg1.IsWhole) (arg2 : Memref sig .tc .vmem S1x1024 .f32) (harg2 : arg2.IsWhole) (arg3 : Memref sig .tc .vmem S640x1024 .f32) (harg3 : arg3.IsWhole) (arg4 : Memref sig .tc .vmem S640x512 .bf16) (harg4 : arg4.IsWhole) (arg5 : Memref sig .tc .vmem S640x256 .bf16) (harg5 : arg5.IsWhole) (arg6 : Memref sig .tc .vmem S640x1024 .bf16) (harg6 : arg6.IsWhole) (arg7 : Memref sig .tc .vmem S1792x1024 .bf16) (harg7 : arg7.IsWhole) (arg8 : Memref sig .tc .vmem S640x1024 .f32) (harg8 : arg8.IsWhole) (arg9 : Memref sig .tc .vmem S1x1024 .f32) (harg9 : arg9.IsWhole)
  (x0 : Vec F S640x1024 .f32) (x1 : Vec F S1x1024 .f32) (x2 : Vec F S640x1024 .f32) (x3 : Vec F S640x512 .bf16)
  (x4 : Vec F S640x256 .bf16) (x5 : Vec F S640x1024 .bf16) (x6 : Vec F S1792x1024 .bf16) (xo8 : Vec F S1x1024 .f32)

theorem first7 (hc0 : cond0_0 i) :
    out0_A_7 c i arg1 harg1 arg2 harg2 arg3 harg3 arg4 harg4 arg5 harg5 arg6 harg6 arg7 harg7 arg8 harg8 arg9 harg9 hc0 x0 x1 x2 x3 x4 x5 x6 = rowPart x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide),
    View.ld_unit_zero (S := S640x512) (off := ![0, 0]) (by decide), View.ld_unit_zero (S := S640x256) (off := ![0, 0]) (by decide)]
  rfl
theorem later7 (hc0 : ¬cond0_0 i) :
    out0_B_7 c i arg1 harg1 arg2 harg2 arg3 harg3 arg4 harg4 arg5 harg5 arg6 harg6 arg7 harg7 arg8 harg8 arg9 harg9 hc0 x0 x1 x2 x3 x4 x5 x6 xo8 = rowPart x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide),
    View.ld_unit_zero (S := S640x512) (off := ![0, 0]) (by decide), View.ld_unit_zero (S := S640x256) (off := ![0, 0]) (by decide)]
  rfl
theorem first8 (hc0 : cond0_0 i) :
    out0_A_8 c i arg1 harg1 arg2 harg2 arg3 harg3 arg4 harg4 arg5 harg5 arg6 harg6 arg7 harg7 arg8 harg8 arg9 harg9 hc0 x0 x1 x2 x3 x4 x5 x6 = scalePart x0 x3 x4 x5 x6 (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide),
    View.ld_unit_zero (S := S640x512) (off := ![0, 0]) (by decide), View.ld_unit_zero (S := S640x256) (off := ![0, 0]) (by decide)]
  exact congrArg (fun z => k0_pay2 _ _ z) (View.readCov_unit_zero (Val := Elt F) (S := S1x1024) arg9.view (by decide) _ _)
theorem later8 (hc0 : ¬cond0_0 i) :
    out0_B_8 c i arg1 harg1 arg2 harg2 arg3 harg3 arg4 harg4 arg5 harg5 arg6 harg6 arg7 harg7 arg8 harg8 arg9 harg9 hc0 x0 x1 x2 x3 x4 x5 x6 xo8 = scalePart x0 x3 x4 x5 x6 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide),
    View.ld_unit_zero (S := S640x512) (off := ![0, 0]) (by decide), View.ld_unit_zero (S := S640x256) (off := ![0, 0]) (by decide)]
  rfl
end

section
variable (h y : Vec Ideal S640x1024 .f32) (g old : Vec Ideal S1x1024 .f32) (q : Vec Ideal S640x512 .bf16)
  (kv : Vec Ideal S640x256 .bf16) (z : Vec Ideal S640x1024 .bf16) (w : Vec Ideal S1792x1024 .bf16) (a : Fin 640) (k : Fin 1024)

theorem cutQ_apply (f : Fin 512) : cutQ w (ix2 f k) = w (ix2 ⟨f.val, by omega⟩ k) := by
  unfold cutQ
  rw [View.ld_unit]
  pointwise []
theorem cutK_apply (f : Fin 256) : cutK w (ix2 f k) = w (ix2 ⟨512 + f.val, by omega⟩ k) := by
  unfold cutK
  rw [View.ld_unit]
  pointwise []
theorem cutZ_apply (f : Fin 1024) : cutZ w (ix2 f k) = w (ix2 ⟨768 + f.val, by omega⟩ k) := by
  unfold cutZ
  rw [View.ld_unit]
  pointwise []

/-- The cotangent of the scaled rows in a block: three products, one for each part of the projection. -/
def blockCot (x : Fin 1024) : EReal :=
  ∑ f : Fin 512, q (ix2 a f) * w (ix2 ⟨f.val, by omega⟩ x) + ∑ f : Fin 256, kv (ix2 a f) * w (ix2 ⟨512 + f.val, by omega⟩ x)
    + ∑ f : Fin 1024, z (ix2 a f) * w (ix2 ⟨768 + f.val, by omega⟩ x)

theorem inv_block : k0_pay4 h (ix2 a 0) = Norm.inv (fun i => h (ix2 a i)) := by
  pointwise [k0_pay4]
  rfl
theorem hat_block : k0_pay5 h (ix2 a k) = hat (fun i => h (ix2 a i)) k := by
  pointwise [k0_pay5, inv_block]
  rfl
theorem cot_block : k0_pay6 q kv z (cutQ w) (cutK w) (cutZ w) (ix2 a k) = blockCot q kv z w a k := by
  unfold blockCot
  pointwise [k0_pay6, cutQ_apply, cutK_apply, cutZ_apply]
theorem scaled_block : k0_pay7 g q kv z (cutQ w) (cutK w) (cutZ w) (ix2 a k) = (blockCot q kv z w a k * g (ix2 0 k) : EReal) := by
  pointwise [k0_pay7, cot_block]
theorem scale_block : scalePart h q kv z w old (ix2 0 k)
    = (old (ix2 0 k) + ∑ a, blockCot q kv z w a k * hat (fun i => h (ix2 a i)) k : EReal) := by
  pointwise [scalePart, k0_pay2, hat_block, cot_block]
theorem start_block : k0_pay3 (F := Ideal) (ix2 0 k) = (show EReal from 0) := by
  pointwise [k0_pay3]
theorem row_block : rowPart h g y q kv z w (ix2 a k)
    = (y (ix2 a k) + through (fun i => h (ix2 a i)) (fun x => blockCot q kv z w a x * g (ix2 0 x)) k : EReal) := by
  pointwise [rowPart, k0_pay1, inv_block, hat_block, scaled_block]
  rfl
end

end Cert.Kernel5Ideal.InProj
end
-- ==== Proof.InProj.Arrays.lean ====
module
public import proofs.«01_k».proof.Proof.InProj.Blocks
public import proofs.«01_k».proof.Proof.Norm.Rows
public import proofs.«01_k».proof.Proof.Gen.Kernel5Ideal.Value

@[expose] public section

set_option maxRecDepth 16384

/-!
The two arrays the call leaves: every row tile of the rows' gradient from that tile alone, and the
scale's gradient added up over the thirteen row tiles.
-/

noncomputable section

namespace Cert.Kernel5Ideal.InProj

open Idealize.ShloMosaic Idealize.ShloMosaic.TcCoe Idealize.SL.Sem
open Cert.Kernel5Ideal Cert.Kernel5Ideal.Gen Cert.Norm

theorem idx0 : ∀ t : Fin cfg0.N,
    win0_0.index t = ![t.val, 0] ∧ win0_1.index t = ![0, 0] ∧ win0_2.index t = ![t.val, 0]
      ∧ win0_3.index t = ![t.val, 0] ∧ win0_4.index t = ![t.val, 0] ∧ win0_5.index t = ![t.val, 0]
      ∧ win0_6.index t = ![0, 0] ∧ win0_7.index t = ![t.val, 0] ∧ win0_8.index t = ![0, 0] :=
  (by decide +kernel : ∀ t : Fin grid0.N, _)

theorem point_lt (t : Fin cfg0.N) : t.val < 13 := t.isLt

variable (m : (ℓ : Loc nD τ sig) → Buf (Elt Ideal) ℓ) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memY (r : Fin 8320) (k : Fin 1024) : EReal := (m ((c.tc : Thread nD τ).loc main_arg2) : S8320x1024.Idx → EReal) (ix2 r k)
def memQ (r : Fin 8320) (f : Fin 512) : EReal := (m ((c.tc : Thread nD τ).loc main_arg3) : S8320x512.Idx → EReal) (ix2 r f)
def memK (r : Fin 8320) (f : Fin 256) : EReal := (m ((c.tc : Thread nD τ).loc main_arg4) : S8320x256.Idx → EReal) (ix2 r f)
def memZ (r : Fin 8320) (f : Fin 1024) : EReal := (m ((c.tc : Thread nD τ).loc main_arg5) : S8320x1024.Idx → EReal) (ix2 r f)
def memW (k : Fin 1024) (f : Fin 1792) : EReal := (m ((c.tc : Thread nD τ).loc main_arg6) : S1024x1792.Idx → EReal) (ix2 k f)

/-- The region finds the transposed weight. -/
theorem weight_found : V m c main_v0
    = transpose S1792x1024 [1, 0] (m ((c.tc : Thread nD τ).loc main_arg6) : Vec Ideal S1024x1792 .bf16) transposes_S1024x1792_S1792x1024_1_0 := by
  show StableHlo.after hostOps0 (fun b => m (c, b)) (Proc.devRef .tc main_v0) = _
  after_results
theorem transposed (x : Vec Ideal S1024x1792 .bf16) (k : Fin 1024) (f : Fin 1792) :
    transpose S1792x1024 [1, 0] x transposes_S1024x1792_S1792x1024_1_0 (ix2 f k) = x (ix2 k f) := by
  pointwise []

section
variable (t : Fin cfg0.N) (a : Fin 640) (k : Fin 1024) (f5 : Fin 512) (f2 : Fin 256) (f : Fin 1792)

theorem h_found : iblk m c 0 t (ix2 a k) = (V m c main_arg0 : S8320x1024.Idx → EReal) (ix2 (rowAt t.val a) k) := by
  rw [rowAt_eq _ (point_lt t)]
  generalize hx : V m c main_arg0 = x
  unfold iblk
  rw [show V m c (Pipeline.arrRef spec0 0) = x from hx]
  blk_ext! [idx0 t]
theorem g_found : iblk m c 1 t (ix2 0 k) = (V m c main_arg1 : S1x1024.Idx → EReal) (ix2 0 k) := by
  generalize hx : V m c main_arg1 = x
  unfold iblk
  rw [show V m c (Pipeline.arrRef spec0 1) = x from hx]
  blk_ext! [idx0 t]
theorem y_found : iblk m c 2 t (ix2 a k) = (V m c main_arg2 : S8320x1024.Idx → EReal) (ix2 (rowAt t.val a) k) := by
  rw [rowAt_eq _ (point_lt t)]
  generalize hx : V m c main_arg2 = x
  unfold iblk
  rw [show V m c (Pipeline.arrRef spec0 2) = x from hx]
  blk_ext! [idx0 t]
theorem q_found : iblk m c 3 t (ix2 a f5) = (V m c main_arg3 : S8320x512.Idx → EReal) (ix2 (rowAt t.val a) f5) := by
  rw [rowAt_eq _ (point_lt t)]
  generalize hx : V m c main_arg3 = x
  unfold iblk
  rw [show V m c (Pipeline.arrRef spec0 3) = x from hx]
  blk_ext! [idx0 t]
theorem kv_found : iblk m c 4 t (ix2 a f2) = (V m c main_arg4 : S8320x256.Idx → EReal) (ix2 (rowAt t.val a) f2) := by
  rw [rowAt_eq _ (point_lt t)]
  generalize hx : V m c main_arg4 = x
  unfold iblk
  rw [show V m c (Pipeline.arrRef spec0 4) = x from hx]
  blk_ext! [idx0 t]
theorem z_found : iblk m c 5 t (ix2 a k) = (V m c main_arg5 : S8320x1024.Idx → EReal) (ix2 (rowAt t.val a) k) := by
  rw [rowAt_eq _ (point_lt t)]
  generalize hx : V m c main_arg5 = x
  unfold iblk
  rw [show V m c (Pipeline.arrRef spec0 5) = x from hx]
  blk_ext! [idx0 t]
theorem w_found : iblk m c 6 t (ix2 f k) = (V m c main_v0 : S1792x1024.Idx → EReal) (ix2 f k) := by
  generalize hx : V m c main_v0 = x
  unfold iblk
  rw [show V m c (Pipeline.arrRef spec0 6) = x from hx]
  blk_ext! [idx0 t]
theorem emb7 : (((cfg0.win 7).blk t).view.emb (ix2 a k) : S8320x1024.Idx) = ix2 (rowAt t.val a) k := by
  rw [rowAt_eq _ (point_lt t)]
  blk_ext! [idx0 t]
theorem emb8 : (((cfg0.win 8).blk t).view.emb (ix2 0 k) : S1x1024.Idx) = ix2 0 k := by
  blk_ext! [idx0 t]

theorem h_read : iblk m c 0 t (ix2 a k) = memH m c (rowAt t.val a) k :=
  (h_found m c t a k).trans (congrFun (V_main_arg0 m c) (ix2 (rowAt t.val a) k))
theorem g_read : iblk m c 1 t (ix2 0 k) = memG m c k :=
  (g_found m c t k).trans (congrFun (V_main_arg1 m c) (ix2 0 k))
theorem y_read : iblk m c 2 t (ix2 a k) = memY m c (rowAt t.val a) k :=
  (y_found m c t a k).trans (congrFun (V_main_arg2 m c) (ix2 (rowAt t.val a) k))
theorem q_read : iblk m c 3 t (ix2 a f5) = memQ m c (rowAt t.val a) f5 :=
  (q_found m c t a f5).trans (congrFun (V_main_arg3 m c) (ix2 (rowAt t.val a) f5))
theorem kv_read : iblk m c 4 t (ix2 a f2) = memK m c (rowAt t.val a) f2 :=
  (kv_found m c t a f2).trans (congrFun (V_main_arg4 m c) (ix2 (rowAt t.val a) f2))
theorem z_read : iblk m c 5 t (ix2 a k) = memZ m c (rowAt t.val a) k :=
  (z_found m c t a k).trans (congrFun (V_main_arg5 m c) (ix2 (rowAt t.val a) k))
theorem w_read : iblk m c 6 t (ix2 f k) = memW m c k f :=
  (w_found m c t k f).trans ((congrFun (weight_found m c) (ix2 f k)).trans (transposed _ k f))
end

/-- The cotangent of the scaled rows: the gradients of the projection's three parts through the weight. -/
def cot (r : Fin 8320) (k : Fin 1024) : EReal :=
  ∑ f : Fin 512, memQ m c r f * memW m c k ⟨f.val, by omega⟩ + ∑ f : Fin 256, memK m c r f * memW m c k ⟨512 + f.val, by omega⟩
    + ∑ f : Fin 1024, memZ m c r f * memW m c k ⟨768 + f.val, by omega⟩
/-- The gradient of the rows, with the part that passes the layer by. -/
def res1 (j : S8320x1024.Idx) : EReal :=
  memY m c (j 0) (j 1) + through (memH m c (j 0)) (fun x => cot m c (j 0) x * memG m c x) (j 1)
/-- The gradient of the scale. -/
def res2 (j : S1x1024.Idx) : EReal := ∑ r, cot m c r (j 1) * hat (memH m c r) (j 1)
/-- What row tile `i` adds to the gradient of the scale. -/
def part (i : ℕ) (k : Fin 1024) : EReal := ∑ a, cot m c (rowAt i a) k * hat (memH m c (rowAt i a)) k

section
variable (t : Fin cfg0.N) (h y : Vec Ideal S640x1024 .f32) (g : Vec Ideal S1x1024 .f32) (q : Vec Ideal S640x512 .bf16)
  (kv : Vec Ideal S640x256 .bf16) (z : Vec Ideal S640x1024 .bf16) (w : Vec Ideal S1792x1024 .bf16)
  (hh : h = iblk m c 0 t) (hg : g = iblk m c 1 t) (hy : y = iblk m c 2 t) (hq : q = iblk m c 3 t) (hk : kv = iblk m c 4 t)
  (hz : z = iblk m c 5 t) (hw : w = iblk m c 6 t)
include hq hk hz hw

theorem cot_point (a : Fin 640) (k : Fin 1024) : blockCot q kv z w a k = cot m c (rowAt t.val a) k := by
  subst hq hk hz hw
  unfold blockCot cot
  exact Ideal.add_congr (Ideal.add_congr
    (Finset.sum_congr rfl fun f _ => Ideal.mul_congr (q_read m c t a f) (w_read m c t k _))
    (Finset.sum_congr rfl fun f _ => Ideal.mul_congr (kv_read m c t a f) (w_read m c t k _)))
    (Finset.sum_congr rfl fun f _ => Ideal.mul_congr (z_read m c t a f) (w_read m c t k _))

include hh
theorem row_eq (a : Fin 640) : (fun i => h (ix2 a i)) = memH m c (rowAt t.val a) := by
  subst hh
  exact funext fun i => h_read m c t a i
theorem part_block (k : Fin 1024) :
    (∑ a, blockCot q kv z w a k * hat (fun i => h (ix2 a i)) k : EReal) = part m c t.val k :=
  Finset.sum_congr rfl fun a _ => Ideal.mul_congr (cot_point m c t q kv z w hq hk hz hw a k)
    (congrArg (fun z => hat z k) (row_eq m c t h q kv z w hh hq hk hz hw a))

include hy hg
theorem row_point (a : Fin 640) (k : Fin 1024) :
    rowPart h g y q kv z w (ix2 a k) = res1 m c (ix2 (rowAt t.val a) k) := by
  refine (row_block h y g q kv z w a k).trans ?_
  rw [row_eq m c t h q kv z w hh hq hk hz hw a]
  refine Ideal.add_congr (by subst hy; exact y_read m c t a k) (congrArg (fun z => through _ z k) (funext fun x => ?_))
  exact Ideal.mul_congr (cot_point m c t q kv z w hq hk hz hw a x) (by subst hg; exact g_read m c t x)
end

theorem row_after (t : Fin cfg0.N) (y : S640x1024.Idx) :
    (dats m 0 c).after 7 t y = res1 m c (((cfg0.win 7).blk t).view.emb y) := by
  rw [after0_7]
  idx_vars y
  rw [emb7]
  by_cases h : t.val % 13 = 0
  · rw [outsAt0_A m c t h]
    dsimp only
    rw [first7]
    exact row_point m c t _ _ _ _ _ _ _ rfl rfl rfl rfl rfl rfl rfl y0 y1
  · rw [outsAt0_B m c t h]
    dsimp only
    rw [later7]
    exact row_point m c t _ _ _ _ _ _ _ rfl rfl rfl rfl rfl rfl rfl y0 y1

theorem first_point (t : Fin cfg0.N) (h : t.val % 13 = 0) (k : Fin 1024) :
    (outsAt0 m c t.val t.isLt).2 (ix2 0 k) = part m c t.val k := by
  rw [outsAt0_A m c t h]
  dsimp only
  rw [first8]
  refine (scale_block _ _ _ _ _ _ k).trans ((Ideal.add_congr (start_block k) (part_block m c t _ _ _ _ _ rfl rfl rfl rfl rfl k)).trans (zero_add _))
theorem later_point (t : Fin cfg0.N) (h : ¬t.val % 13 = 0) (k : Fin 1024) :
    (outsAt0 m c t.val t.isLt).2 (ix2 0 k)
      = ((outsAt0 m c (t.val - 1) (Nat.lt_of_le_of_lt (Nat.sub_le _ _) t.isLt)).2 (ix2 0 k) + part m c t.val k : EReal) := by
  rw [outsAt0_B m c t h]
  dsimp only
  rw [later8]
  exact (scale_block _ _ _ _ _ _ k).trans (Ideal.add_congr rfl (part_block m c t _ _ _ _ _ rfl rfl rfl rfl rfl k))

/-- The accumulator holds the row tiles added so far. -/
theorem acc (k : Fin 1024) : ∀ (n : ℕ) (hn : n < cfg0.N), (outsAt0 m c n hn).2 (ix2 0 k)
    = (∑ i ∈ Finset.range (n + 1), part m c i k : EReal) := by
  intro n
  induction n with
  | zero => intro hn; exact (first_point m c ⟨0, hn⟩ rfl k).trans (Finset.sum_range_one fun i => part m c i k).symm
  | succ n ih =>
    intro hn
    have h13 : n + 1 < 13 := hn
    refine (later_point m c ⟨n + 1, hn⟩ (by dsimp only; omega) k).trans ?_
    refine (Ideal.add_congr (ih (Nat.lt_of_succ_lt hn)) rfl).trans ?_
    exact (Finset.sum_range_succ _ _).symm

theorem covers7 : (cfg0.win 7).Covers := by decide +kernel
theorem covers8 : (cfg0.win 8).Covers := by decide +kernel

theorem scale_after (t : Fin cfg0.N) (h : t.val % 13 = 12) (y : S1x1024.Idx) :
    (dats m 0 c).after 8 t y = res2 m c (((cfg0.win 8).blk t).view.emb y) := by
  rw [after0_8]
  obtain ⟨k, rfl⟩ : ∃ k : Fin 1024, y = ix2 0 k := ⟨y 1, by rw [eq_ix2 y]; exact congrArg (fun z => ix2 z _) (Subsingleton.elim _ _)⟩
  rw [emb8]
  have h12 : t.val = 12 := by have := point_lt t; omega
  refine (acc m c k t.val t.isLt).trans ?_
  rw [h12]
  exact tiles_sum fun r => cot m c r k * hat (memH m c r) k

theorem row_array : (dats m 0 c).arrAt 7 cfg0.N = res1 m c :=
  (dats m 0 c).arrAt_eq_of_covers 7 _ covers7 fun t _ y => row_after m c t y
theorem scale_array : (dats m 0 c).arrAt 8 cfg0.N = res2 m c :=
  (dats m 0 c).arrAt_eq_of_covers 8 _ covers8 fun t hf y => scale_after m c t ((flush0_8 t).mp hf) y

theorem run (ρ : Dev nD → PrngReg) : θ_run defs (onTc (τ := τ) (main (F := Ideal))) ⟨m, fun _ => 0, ρ⟩ fun r => ∀ c : Dev nD,
      r.2.mem ((c.tc : Thread nD τ).loc main_v1_0) = res1 m c
      ∧ r.2.mem ((c.tc : Thread nD τ).loc main_v1_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (row_array m c), (h c).2.1.trans (scale_array m c), (h c).2.2⟩)
    (Value.run_blocks m ρ)

end Cert.Kernel5Ideal.InProj
end
-- ==== Proof.InProj.Ref.lean ====
module
public import proofs.«01_k».proof.Proof.Gen.Reference5Ideal.Run
public import proofs.«01_k».proof.Proof.FfnX.Ref

@[expose] public section

set_option maxRecDepth 16384

/-!
The reference's gradients of the projection's rows and of its norm's scale, entry by entry. The
norm's derivative has the same operations as the feed-forward layer's, so its lemmas serve.
-/

noncomputable section

namespace Cert.Reference5Ideal.InProj

open Idealize.ShloMosaic Idealize.ShloMosaic.TcCoe Idealize.SL.Sem
open Cert.Reference5Ideal Cert.Reference5Ideal.Gen Cert.Norm

/-- A sum over the projection's columns is a sum over its three parts. -/
theorem three_parts (p : Fin 1792 → EReal) : ∑ f, p f
    = ∑ f : Fin 512, p ⟨f.val, by omega⟩ + ∑ f : Fin 256, p ⟨512 + f.val, by omega⟩ + ∑ f : Fin 1024, p ⟨768 + f.val, by omega⟩ :=
  (Fin.sum_univ_add (a := 768) (b := 1024) p).trans
    (congrArg (· + _) (Fin.sum_univ_add (a := 512) (b := 256) fun f => p (Fin.castAdd 1024 f)))

section
variable (Q : FVec Ideal S8320x512 .bf16) (K : FVec Ideal S8320x256 .bf16) (Z : FVec Ideal S8320x1024 .bf16)
  (W : FVec Ideal S1024x1792 .bf16) (r : Fin 8320) (k : Fin 1024)

theorem joinQ (f : Fin 512) : (concatenate S8320x1792 1 [⟨S8320x512, (Q : (⟨S8320x512, .bf16⟩ : BufTy).Contents (Elt Ideal))⟩, ⟨S8320x256, (K : (⟨S8320x256, .bf16⟩ : BufTy).Contents (Elt Ideal))⟩, ⟨S8320x1024, (Z : (⟨S8320x1024, .bf16⟩ : BufTy).Contents (Elt Ideal))⟩] concatenates_S8320x512_S8320x256_S8320x1024_S8320x1792_d1 : (⟨S8320x1792, .bf16⟩ : BufTy).Contents (Elt Ideal)) (ix2 r ⟨f.val, by omega⟩) = Q (ix2 r f) := by
  have := f.isLt
  pointwise []
theorem joinK (f : Fin 256) : (concatenate S8320x1792 1 [⟨S8320x512, (Q : (⟨S8320x512, .bf16⟩ : BufTy).Contents (Elt Ideal))⟩, ⟨S8320x256, (K : (⟨S8320x256, .bf16⟩ : BufTy).Contents (Elt Ideal))⟩, ⟨S8320x1024, (Z : (⟨S8320x1024, .bf16⟩ : BufTy).Contents (Elt Ideal))⟩] concatenates_S8320x512_S8320x256_S8320x1024_S8320x1792_d1 : (⟨S8320x1792, .bf16⟩ : BufTy).Contents (Elt Ideal)) (ix2 r ⟨512 + f.val, by omega⟩) = K (ix2 r f) := by
  have := f.isLt
  pointwise []
theorem joinZ (f : Fin 1024) : (concatenate S8320x1792 1 [⟨S8320x512, (Q : (⟨S8320x512, .bf16⟩ : BufTy).Contents (Elt Ideal))⟩, ⟨S8320x256, (K : (⟨S8320x256, .bf16⟩ : BufTy).Contents (Elt Ideal))⟩, ⟨S8320x1024, (Z : (⟨S8320x1024, .bf16⟩ : BufTy).Contents (Elt Ideal))⟩] concatenates_S8320x512_S8320x256_S8320x1024_S8320x1792_d1 : (⟨S8320x1792, .bf16⟩ : BufTy).Contents (Elt Ideal)) (ix2 r ⟨768 + f.val, by omega⟩) = Z (ix2 r f) := by
  have := f.isLt
  pointwise []
  rw [dif_neg (by omega), dif_neg (by omega)]
  exact congrArg (fun x => Z (ix2 r x)) (Fin.ext (by dsimp only; omega))

theorem dot_apply (X : FVec Ideal S8320x1792 .bf16) :
   (Host.dotGeneral dot_S8320x1792_S1024x1792_S8320x1024_1_1_0_0_n_n none (extf .f32 X bitsLt_bf16_f32) (extf .f32 W bitsLt_bf16_f32) : FVec Ideal S8320x1024 .f32) (ix2 r k) = (∑ f, X (ix2 r f) * W (ix2 k f) : EReal) := by
  pointwise []
theorem cot_apply :
   (Host.dotGeneral dot_S8320x1792_S1024x1792_S8320x1024_1_1_0_0_n_n none (extf .f32 (concatenate S8320x1792 1 [⟨S8320x512, (Q : (⟨S8320x512, .bf16⟩ : BufTy).Contents (Elt Ideal))⟩, ⟨S8320x256, (K : (⟨S8320x256, .bf16⟩ : BufTy).Contents (Elt Ideal))⟩, ⟨S8320x1024, (Z : (⟨S8320x1024, .bf16⟩ : BufTy).Contents (Elt Ideal))⟩] concatenates_S8320x512_S8320x256_S8320x1024_S8320x1792_d1 : (⟨S8320x1792, .bf16⟩ : BufTy).Contents (Elt Ideal)) bitsLt_bf16_f32) (extf .f32 W bitsLt_bf16_f32) : FVec Ideal S8320x1024 .f32) (ix2 r k)
    = (∑ f : Fin 512, Q (ix2 r f) * W (ix2 k ⟨f.val, by omega⟩) + ∑ f : Fin 256, K (ix2 r f) * W (ix2 k ⟨512 + f.val, by omega⟩)
      + ∑ f : Fin 1024, Z (ix2 r f) * W (ix2 k ⟨768 + f.val, by omega⟩) : EReal) := by
  refine (dot_apply W r k _).trans ((three_parts _).trans ?_)
  exact Ideal.add_congr (Ideal.add_congr (Finset.sum_congr rfl fun f _ => Ideal.mul_congr (joinQ Q K Z r f) rfl)
    (Finset.sum_congr rfl fun f _ => Ideal.mul_congr (joinK Q K Z r f) rfl))
    (Finset.sum_congr rfl fun f _ => Ideal.mul_congr (joinZ Q K Z r f) rfl)
end

section
variable (m : (ℓ : Loc nD τ sig) → Buf (Elt Ideal) ℓ) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memY (r : Fin 8320) (k : Fin 1024) : EReal := (m ((c.tc : Thread nD τ).loc main_arg2) : S8320x1024.Idx → EReal) (ix2 r k)
def memQ (r : Fin 8320) (f : Fin 512) : EReal := (m ((c.tc : Thread nD τ).loc main_arg3) : S8320x512.Idx → EReal) (ix2 r f)
def memK (r : Fin 8320) (f : Fin 256) : EReal := (m ((c.tc : Thread nD τ).loc main_arg4) : S8320x256.Idx → EReal) (ix2 r f)
def memZ (r : Fin 8320) (f : Fin 1024) : EReal := (m ((c.tc : Thread nD τ).loc main_arg5) : S8320x1024.Idx → EReal) (ix2 r f)
def memW (k : Fin 1024) (f : Fin 1792) : EReal := (m ((c.tc : Thread nD τ).loc main_arg6) : S1024x1792.Idx → EReal) (ix2 k f)

/-- The cotangent of the scaled rows: the gradients of the projection's three parts through the weight. -/
def cot (r : Fin 8320) (k : Fin 1024) : EReal :=
  ∑ f : Fin 512, memQ m c r f * memW m c k ⟨f.val, by omega⟩ + ∑ f : Fin 256, memK m c r f * memW m c k ⟨512 + f.val, by omega⟩
    + ∑ f : Fin 1024, memZ m c r f * memW m c k ⟨768 + f.val, by omega⟩
/-- The gradient of the rows, with the part that passes the layer by. -/
def res1 (j : S8320x1024.Idx) : EReal :=
  memY m c (j 0) (j 1) + through (memH m c (j 0)) (fun x => cot m c (j 0) x * memG m c x) (j 1)
/-- The gradient of the scale. -/
def res2 (j : S1x1024.Idx) : EReal := ∑ r, cot m c r (j 1) * hat (memH m c r) (j 1)

theorem run (ρ : Dev nD → PrngReg) : θ_run defs (onTc (τ := τ) (main (F := Ideal))) ⟨m, fun _ => 0, ρ⟩ fun r => ∀ c : Dev nD,
      r.2.mem ((c.tc : Thread nD τ).loc main_v42) = res1 m c
      ∧ r.2.mem ((c.tc : Thread nD τ).loc main_v43) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans (funext fun j => ?_), (h c).2.1.trans (funext fun j => ?_), (h c).2.2⟩)
    (Cert.Reference5Ideal.Value.run m ρ)
  · obtain ⟨r, k, rfl⟩ : ∃ (r : Fin 8320) (k : Fin 1024), j = ix2 r k := ⟨j 0, j 1, eq_ix2 j⟩
    unfold Value.res_main_v42
    refine (Cert.Reference3Ideal.FfnX.rows_apply _ _ _ _ _ r k (Cert.Reference3Ideal.FfnX.mean_apply _ r) (Cert.Reference3Ideal.FfnX.half_apply _ _ _ r (Cert.Reference3Ideal.FfnX.mean_apply _ r))).trans ?_
    refine Ideal.add_congr rfl (congrArg (fun z => through _ z k) (funext fun x => ?_))
    exact (Cert.Reference3Ideal.FfnX.scaled_apply _ _ r x).trans (Ideal.mul_congr (cot_apply _ _ _ _ r x) rfl)
  · obtain ⟨k, rfl⟩ : ∃ k : Fin 1024, j = ix2 0 k := ⟨j 1, by rw [eq_ix2 j]; exact congrArg (fun z => ix2 z _) (Subsingleton.elim _ _)⟩
    refine (Cert.Reference3Ideal.FfnX.scale_apply _ _ _ k fun r => Cert.Reference3Ideal.FfnX.mean_apply _ r).trans ?_
    exact Finset.sum_congr rfl fun r _ => Ideal.mul_congr (cot_apply _ _ _ _ r k) rfl
end

end Cert.Reference5Ideal.InProj
end
-- ==== Proof.Loss.Spec.lean ====
module
public import proofs.«01_k».proof.Proof.Norm.Spec

@[expose] public section

set_option maxRecDepth 16384

/-!
The loss over the extended reals: half the mean of the squared errors, added up over the rows after
the first block. A kernel multiplies by one over the width and masks the first block; the formula
divides and leaves that block out.
-/

noncomputable section

namespace Cert.Loss

open Idealize.ShloMosaic Cert.Norm

/-- A row's error: the row that passes the layer by and the scaled norm of the layer's output, less the target. -/
def miss (f h t g : Fin 1024 → EReal) (k : Fin 1024) : EReal := h k + hat f k * g k - t k

section
variable (f h t : Fin 8320 → Fin 1024 → EReal) (g : Fin 1024 → EReal)

/-- The error of a row: zero in the first block. -/
def err (r : Fin 8320) (k : Fin 1024) : EReal := if 128 ≤ r.val then miss (f r) (h r) (t r) g k else 0
/-- The gradient of the layer's sum, of its output before the norm, and of the norm's scale. -/
def gradY (r : Fin 8320) (k : Fin 1024) : EReal := err f h t g r k * Ideal.ofBits FTy.f32 0x3A800000#32
def gradF (r : Fin 8320) (k : Fin 1024) : EReal := through (f r) (fun x => gradY f h t g r x * g x) k
def gradG (k : Fin 1024) : EReal := ∑ r, gradY f h t g r k * hat (f r) k
/-- The loss. -/
def loss : EReal := Ideal.ofBits FTy.f32 0x3A000000#32 * ∑ r, ∑ x, err f h t g r x * err f h t g r x

/-- The first block adds nothing to the loss. -/
theorem loss_rows : ∑ r, ∑ x, err f h t g r x * err f h t g r x
    = ∑ r : Fin 8192, ∑ x, miss (f ⟨128 + r.val, by omega⟩) (h ⟨128 + r.val, by omega⟩) (t ⟨128 + r.val, by omega⟩) g x
        * miss (f ⟨128 + r.val, by omega⟩) (h ⟨128 + r.val, by omega⟩) (t ⟨128 + r.val, by omega⟩) g x := by
  refine (Fin.sum_univ_add (a := 128) (b := 8192) fun r => ∑ x, err f h t g r x * err f h t g r x).trans ?_
  rw [Finset.sum_eq_zero, zero_add]
  · refine Finset.sum_congr rfl fun r _ => Finset.sum_congr rfl fun x _ => ?_
    have hr : 128 ≤ (Fin.natAdd 128 r).val := Nat.le_add_right _ _
    unfold err
    rw [if_pos hr]
    rfl
  · intro r _
    refine Finset.sum_eq_zero fun x _ => ?_
    have hr : ¬128 ≤ (Fin.castAdd 8192 r).val := by simp
    unfold err
    rw [if_neg hr, zero_mul]
end

theorem word_over : Ideal.ofBits FTy.f32 0x3A800000#32 = ((1 / 1024 : ℝ) : EReal) := by
  simp [Ideal.ofBits, Ideal.ieee, -EReal.coe_mul, -EReal.coe_neg]; norm_num
theorem word_half_over : Ideal.ofBits FTy.f32 0x3A000000#32 = ((1 / 2048 : ℝ) : EReal) := by
  simp [Ideal.ofBits, Ideal.ieee, -EReal.coe_mul, -EReal.coe_neg]; norm_num
theorem word_one_half : Ideal.ofBits FTy.f32 0x3F000000#32 = ((1 / 2 : ℝ) : EReal) := by
  simp [Ideal.ofBits, Ideal.ieee, -EReal.coe_mul, -EReal.coe_neg]; norm_num
theorem word_one : Ideal.ofBits FTy.f32 0x3F800000#32 = ((1 : ℝ) : EReal) := by
  simp [Ideal.ofBits, Ideal.ieee, -EReal.coe_mul, -EReal.coe_neg]; norm_num
theorem word_two : Ideal.ofBits FTy.f32 0x40000000#32 = ((2 : ℝ) : EReal) := by
  simp [Ideal.ofBits, Ideal.ieee, -EReal.coe_mul, -EReal.coe_neg]; norm_num

/-- The formula's factors on an error make one over the width. -/
theorem grad_eq (x : EReal) :
    Ideal.div (Ideal.ofBits FTy.f32 0x3F000000#32 * Ideal.ofBits FTy.f32 0x3F800000#32) (Ideal.ofBits FTy.f32 0x44800000#32)
      * (Ideal.ofBits FTy.f32 0x40000000#32 * x) = x * Ideal.ofBits FTy.f32 0x3A800000#32 := by
  rw [word_one_half, word_one, word_width, word_two, word_over, Ideal.div_coe (by norm_num), ← EReal.coe_mul, ← EReal.coe_mul,
    ← mul_assoc, ← EReal.coe_mul, mul_comm]
  congr 2
  norm_num

/-- A sum of means, halved, is the sum of the row sums over twice the width. -/
theorem loss_eq {n : ℕ} (s : Fin n → EReal) :
    Ideal.ofBits FTy.f32 0x3F000000#32 * ∑ r, Ideal.div (s r) (Ideal.ofBits FTy.f32 0x44800000#32)
      = Ideal.ofBits FTy.f32 0x3A000000#32 * ∑ r, s r := by
  rw [word_one_half, word_width, word_half_over, mul_sum _ (by norm_num), mul_sum _ (by norm_num)]
  refine Finset.sum_congr rfl fun r _ => ?_
  rw [Ideal.div_coe (by norm_num), mul_comm (s r), ← mul_assoc, ← EReal.coe_mul]
  congr 2
  norm_num

end Cert.Loss
end
-- ==== Proof.Loss.Blocks.lean ====
module
public import proofs.«01_k».proof.Proof.Gen.Kernel4Ideal.Frame
public import proofs.«01_k».proof.Proof.Loss.Spec
public import Idealize.ShloMosaic.Lib.Pipeline.ValueKit

@[expose] public section

set_option maxRecDepth 16384

/-! What one grid point of the call computes, entry by entry. -/

noncomputable section

namespace Cert.Kernel4Ideal.Loss

open Idealize.ShloMosaic Idealize.ShloMosaic.TcCoe
open Cert.Kernel4Ideal Cert.Kernel4Ideal.Gen Cert.Norm Cert.Loss

section
variable {F : FTy → Type} [FloatOps F]
variable (c : Dev nD) (i : grid0.Coords) (arg1 : Memref sig .tc .vmem S640x4096 .bf16) (harg1 : arg1.IsWhole) (arg2 : Memref sig .tc .vmem S4096x1024 .bf16) (harg2 : arg2.IsWhole) (arg3 : Memref sig .tc .vmem S640x1024 .f32) (harg3 : arg3.IsWhole) (arg4 : Memref sig .tc .vmem S640x1024 .f32) (harg4 : arg4.IsWhole) (arg5 : Memref sig .tc .vmem S1x1024 .f32) (harg5 : arg5.IsWhole) (arg6 : Memref sig .tc .vmem S640x1024 .f32) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S8x128 .f32) (harg9 : arg9.IsWhole)
  (x0 : Vec F S640x4096 .bf16) (x1 : Vec F S4096x1024 .bf16) (x2 x3 : Vec F S640x1024 .f32) (x4 xo7 : Vec F S1x1024 .f32) (xo8 : Vec F S8x128 .f32)

theorem first5 (hc0 : cond0_0 i) :
    out0_A_5 c i arg1 harg1 arg2 harg2 arg3 harg3 arg4 harg4 arg5 harg5 arg6 harg6 arg7 harg7 arg8 harg8 arg9 harg9 hc0 x0 x1 x2 x3 x4 = k0_pay2 (k0_pay10 i x4 x0 x1 x2 x3) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

theorem later5 (hc0 : ¬cond0_0 i) :
    out0_B_5 c i arg1 harg1 arg2 harg2 arg3 harg3 arg4 harg4 arg5 harg5 arg6 harg6 arg7 harg7 arg8 harg8 arg9 harg9 hc0 x0 x1 x2 x3 x4 xo7 xo8 = k0_pay2 (k0_pay10 i x4 x0 x1 x2 x3) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

theorem first6 (hc0 : cond0_0 i) :
    out0_A_6 c i arg1 harg1 arg2 harg2 arg3 harg3 arg4 harg4 arg5 harg5 arg6 harg6 arg7 harg7 arg8 harg8 arg9 harg9 hc0 x0 x1 x2 x3 x4 = k0_pay3 x4 (k0_pay8 x0 x1) (k0_pay9 x0 x1) (k0_pay10 i x4 x0 x1 x2 x3) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

theorem later6 (hc0 : ¬cond0_0 i) :
    out0_B_6 c i arg1 harg1 arg2 harg2 arg3 harg3 arg4 harg4 arg5 harg5 arg6 harg6 arg7 harg7 arg8 harg8 arg9 harg9 hc0 x0 x1 x2 x3 x4 xo7 xo8 = k0_pay3 x4 (k0_pay8 x0 x1) (k0_pay9 x0 x1) (k0_pay10 i x4 x0 x1 x2 x3) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_cons_unit_zero (S := S640x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

theorem first7 (hc0 : cond0_0 i) :
    out0_A_7 c i arg1 harg1 arg2 harg2 arg3 harg3 arg4 harg4 arg5 harg5 arg6 harg6 arg7 harg7 arg8 harg8 arg9 harg9 hc0 x0 x1 x2 x3 x4 = k0_pay4 (k0_pay9 x0 x1) (k0_pay10 i x4 x0 x1 x2 x3) (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]
  exact congrArg (fun z => k0_pay4 _ _ z) (View.readCov_unit_zero (Val := Elt F) (S := S1x1024) arg8.view (by decide) _ _)
theorem later7 (hc0 : ¬cond0_0 i) :
    out0_B_7 c i arg1 harg1 arg2 harg2 arg3 harg3 arg4 harg4 arg5 harg5 arg6 harg6 arg7 harg7 arg8 harg8 arg9 harg9 hc0 x0 x1 x2 x3 x4 xo7 xo8 = k0_pay4 (k0_pay9 x0 x1) (k0_pay10 i x4 x0 x1 x2 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

theorem first8 (hc0 : cond0_0 i) :
    out0_A_8 c i arg1 harg1 arg2 harg2 arg3 harg3 arg4 harg4 arg5 harg5 arg6 harg6 arg7 harg7 arg8 harg8 arg9 harg9 hc0 x0 x1 x2 x3 x4 = k0_pay1 (k0_pay11 (k0_pay6 (F := F))) (k0_pay12 i x4 x0 x1 x2 x3) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x128) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]
  exact congrArg (fun z => k0_pay1 (k0_pay11 z) _) (View.readCov_unit_zero (Val := Elt F) (S := S8x128) arg9.view (by decide) _ _)
theorem later8 (hc0 : ¬cond0_0 i) :
    out0_B_8 c i arg1 harg1 arg2 harg2 arg3 harg3 arg4 harg4 arg5 harg5 arg6 harg6 arg7 harg7 arg8 harg8 arg9 harg9 hc0 x0 x1 x2 x3 x4 xo7 xo8 = k0_pay1 (k0_pay11 xo8) (k0_pay12 i x4 x0 x1 x2 x3) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_cons_unit_zero (S := S8x128) (by decide)]
  simp only [View.readAt_eq_ld, harg1.read_unread, harg2.read_unread, harg3.read_unread, harg4.read_unread, harg5.read_unread, harg6.read_unread, harg7.read_unread, harg8.read_unread, harg9.read_unread, View.ld_unit_zero (S := S1x1024) (off := ![0, 0]) (by decide),
    View.ld_unit_zero (S := S640x1024) (off := ![0, 0]) (by decide), View.ld_unit_zero (S := S8x128) (off := ![0, 0]) (by decide),
    View.ld_unit_zero (S := S640x4096) (off := ![0, 0]) (by decide), View.ld_unit_zero (S := S4096x1024) (off := ![0, 0]) (by decide)]

end

section
variable (i : grid0.Coords) (h y v : Vec Ideal S640x1024 .f32) (g old : Vec Ideal S1x1024 .f32) (sum : Vec Ideal S8x128 .f32)
  (e : Vec Ideal S640x4096 .bf16) (w : Vec Ideal S4096x1024 .bf16) (a : Fin 640) (k : Fin 1024)

/-- A row of the layer's output before the norm. -/
def blockRow (x : Fin 1024) : EReal := ∑ f, e (ix2 a f) * w (ix2 f x)
/-- The masked error of a block. -/
def blockErr : EReal :=
  if 128 ≤ (i 0).val * 640 + a.val then miss (blockRow e w a) (fun x => h (ix2 a x)) (fun x => y (ix2 a x)) (fun x => g (ix2 0 x)) k else 0

theorem prod_block : k0_pay7 e w (ix2 a k) = blockRow e w a k := by
  unfold blockRow
  pointwise [k0_pay7]
theorem inv_block : k0_pay8 e w (ix2 a 0) = Norm.inv (blockRow e w a) := by
  pointwise [k0_pay8, prod_block]
  rfl
theorem hat_block : k0_pay9 e w (ix2 a k) = hat (blockRow e w a) k := by
  pointwise [k0_pay9, inv_block, prod_block]
  rfl
/-- The mask's comparison of words is one of numbers. -/
theorem mask_word : IntOp.cmpi CmpIPredicate.sge (IntOp.addi (Scalar.muli (BitVec.ofNat 32 (i 0).val) 640#32) (BitVec.ofNat 32 a.val)) 128#32
    = BitVec.ofBool (decide (128 ≤ (i 0).val * 640 + a.val)) := by
  have hi : (i 0).val < 13 := (i 0).isLt
  have hw : IntOp.addi (Scalar.muli (BitVec.ofNat 32 (i 0).val) 640#32) (BitVec.ofNat 32 a.val) = BitVec.ofNat 32 ((i 0).val * 640 + a.val) := by
    rw [BitVec.ofNat_add, BitVec.ofNat_mul]
    rfl
  rw [hw]
  exact WordCmp.cmpi_sge_ofNat (by omega) (by omega)
theorem err_block : k0_pay10 i g e w h y (ix2 a k) = blockErr i h y g e w a k := by
  unfold blockErr miss
  pointwise [k0_pay10, hat_block]
  rw [mask_word]
  by_cases hm : 128 ≤ (i 0).val * 640 + a.val
  · rw [if_pos hm, decide_eq_true hm]
    rfl
  · rw [if_neg hm, decide_eq_false hm]
    rfl
theorem grad_block : k0_pay2 (F := Ideal) v (ix2 a k) = (v (ix2 a k) * Ideal.ofBits FTy.f32 0x3A800000#32 : EReal) := by
  pointwise [k0_pay2]
theorem back_block : k0_pay3 g (k0_pay8 e w) (k0_pay9 e w) v (ix2 a k)
    = through (blockRow e w a) (fun x => v (ix2 a x) * Ideal.ofBits FTy.f32 0x3A800000#32 * g (ix2 0 x)) k := by
  pointwise [k0_pay3, grad_block, hat_block, inv_block]
  rfl
theorem scale_block : k0_pay4 (k0_pay9 e w) v old (ix2 0 k)
    = (old (ix2 0 k) + ∑ a, v (ix2 a k) * Ideal.ofBits FTy.f32 0x3A800000#32 * hat (blockRow e w a) k : EReal) := by
  pointwise [k0_pay4, grad_block, hat_block]
theorem start_block : k0_pay5 (F := Ideal) (ix2 0 k) = (show EReal from 0) := by
  pointwise [k0_pay5]
theorem start_loss (p : Fin 8) (l : Fin 128) : k0_pay6 (F := Ideal) (ix2 p l) = (show EReal from 0) := by
  pointwise [k0_pay6]
theorem loss_block (p : Fin 8) (l : Fin 128) : k0_pay1 (k0_pay11 sum) (k0_pay12 i g e w h y) (ix2 p l)
    = (sum (ix2 p l) + Ideal.ofBits FTy.f32 0x3A000000#32 * ∑ a, ∑ x, blockErr i h y g e w a x * blockErr i h y g e w a x : EReal) := by
  pointwise [k0_pay1, k0_pay11, k0_pay12, err_block]
end

end Cert.Kernel4Ideal.Loss
end
-- ==== Proof.Loss.Arrays.lean ====
module
public import proofs.«01_k».proof.Proof.Loss.Blocks
public import proofs.«01_k».proof.Proof.Norm.Rows
public import proofs.«01_k».proof.Proof.Gen.Kernel4Ideal.Value

@[expose] public section

set_option maxRecDepth 16384

/-!
The four arrays the call leaves: the gradients of the layer's sum and of its output, every row tile
from that tile alone, and the scale's gradient and the loss, added up over the thirteen row tiles.
-/

noncomputable section

namespace Cert.Kernel4Ideal.Loss

open Idealize.ShloMosaic Idealize.ShloMosaic.TcCoe Idealize.SL.Sem
open Cert.Kernel4Ideal Cert.Kernel4Ideal.Gen Cert.Norm Cert.Loss

theorem idx0 : ∀ t : Fin cfg0.N,
    win0_0.index t = ![t.val, 0] ∧ win0_1.index t = ![0, 0] ∧ win0_2.index t = ![t.val, 0]
      ∧ win0_3.index t = ![t.val, 0] ∧ win0_4.index t = ![0, 0] ∧ win0_5.index t = ![t.val, 0]
      ∧ win0_6.index t = ![t.val, 0] ∧ win0_7.index t = ![0, 0] ∧ win0_8.index t = ![0, 0] :=
  (by decide +kernel : ∀ t : Fin grid0.N, _)
theorem coord : ∀ t : Fin cfg0.N, (grid0.coords t 0).val = t.val :=
  (by decide +kernel : ∀ t : Fin grid0.N, (grid0.coords t 0).val = t.val)

theorem point_lt (t : Fin cfg0.N) : t.val < 13 := t.isLt

variable (m : (ℓ : Loc nD τ sig) → Buf (Elt Ideal) ℓ) (c : Dev nD)

/-- The arguments by row and column. -/
def memE (r : Fin 8320) (f : Fin 4096) : EReal := (m ((c.tc : Thread nD τ).loc main_arg0) : S8320x4096.Idx → EReal) (ix2 r f)
def memW (f : Fin 4096) (k : Fin 1024) : EReal := (m ((c.tc : Thread nD τ).loc main_arg1) : S4096x1024.Idx → EReal) (ix2 f k)
def memH (r : Fin 8320) (k : Fin 1024) : EReal := (m ((c.tc : Thread nD τ).loc main_arg2) : S8320x1024.Idx → EReal) (ix2 r k)
def memT (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)
/-- The layer's output before the norm. -/
def out (r : Fin 8320) (k : Fin 1024) : EReal := ∑ f, memE m c r f * memW m c f k

section
variable (t : Fin cfg0.N) (a : Fin 640) (k : Fin 1024) (f : Fin 4096)

theorem e_found : iblk m c 0 t (ix2 a f) = (V m c main_arg0 : S8320x4096.Idx → EReal) (ix2 (rowAt t.val a) f) := by
  rw [rowAt_eq _ (point_lt t)]
  generalize hx : V m c main_arg0 = x
  unfold iblk
  rw [show V m c (Pipeline.arrRef spec0 0) = x from hx]
  blk_ext! [idx0 t]
theorem w_found : iblk m c 1 t (ix2 f k) = (V m c main_arg1 : S4096x1024.Idx → EReal) (ix2 f k) := by
  generalize hx : V m c main_arg1 = x
  unfold iblk
  rw [show V m c (Pipeline.arrRef spec0 1) = x from hx]
  blk_ext! [idx0 t]
theorem h_found : iblk m c 2 t (ix2 a k) = (V m c main_arg2 : S8320x1024.Idx → EReal) (ix2 (rowAt t.val a) k) := by
  rw [rowAt_eq _ (point_lt t)]
  generalize hx : V m c main_arg2 = x
  unfold iblk
  rw [show V m c (Pipeline.arrRef spec0 2) = x from hx]
  blk_ext! [idx0 t]
theorem t_found : iblk m c 3 t (ix2 a k) = (V m c main_arg3 : S8320x1024.Idx → EReal) (ix2 (rowAt t.val a) k) := by
  rw [rowAt_eq _ (point_lt t)]
  generalize hx : V m c main_arg3 = x
  unfold iblk
  rw [show V m c (Pipeline.arrRef spec0 3) = x from hx]
  blk_ext! [idx0 t]
theorem g_found : iblk m c 4 t (ix2 0 k) = (V m c main_arg4 : S1x1024.Idx → EReal) (ix2 0 k) := by
  generalize hx : V m c main_arg4 = x
  unfold iblk
  rw [show V m c (Pipeline.arrRef spec0 4) = x from hx]
  blk_ext! [idx0 t]
theorem emb5 : (((cfg0.win 5).blk t).view.emb (ix2 a k) : S8320x1024.Idx) = ix2 (rowAt t.val a) k := by
  rw [rowAt_eq _ (point_lt t)]
  blk_ext! [idx0 t]
theorem emb6 : (((cfg0.win 6).blk t).view.emb (ix2 a k) : S8320x1024.Idx) = ix2 (rowAt t.val a) k := by
  rw [rowAt_eq _ (point_lt t)]
  blk_ext! [idx0 t]
theorem emb7 : (((cfg0.win 7).blk t).view.emb (ix2 0 k) : S1x1024.Idx) = ix2 0 k := by
  blk_ext! [idx0 t]

theorem e_read : iblk m c 0 t (ix2 a f) = memE m c (rowAt t.val a) f :=
  (e_found m c t a f).trans (congrFun (V_main_arg0 m c) (ix2 (rowAt t.val a) f))
theorem w_read : iblk m c 1 t (ix2 f k) = memW m c f k :=
  (w_found m c t k f).trans (congrFun (V_main_arg1 m c) (ix2 f k))
theorem h_read : iblk m c 2 t (ix2 a k) = memH m c (rowAt t.val a) k :=
  (h_found m c t a k).trans (congrFun (V_main_arg2 m c) (ix2 (rowAt t.val a) k))
theorem t_read : iblk m c 3 t (ix2 a k) = memT m c (rowAt t.val a) k :=
  (t_found m c t a k).trans (congrFun (V_main_arg3 m c) (ix2 (rowAt t.val a) k))
theorem g_read : iblk m c 4 t (ix2 0 k) = memG m c k :=
  (g_found m c t k).trans (congrFun (V_main_arg4 m c) (ix2 0 k))
end

/-- The four results. -/
def res1 (j : S8320x1024.Idx) : EReal := gradY (out m c) (memH m c) (memT m c) (memG m c) (j 0) (j 1)
def res2 (j : S8320x1024.Idx) : EReal := gradF (out m c) (memH m c) (memT m c) (memG m c) (j 0) (j 1)
def res3 (j : S1x1024.Idx) : EReal := gradG (out m c) (memH m c) (memT m c) (memG m c) (j 1)
def res4 (j : S8x128.Idx) : EReal := loss (out m c) (memH m c) (memT m c) (memG m c)

/-- What row tile `i` adds to the gradient of the scale, and to the loss before its factor. -/
def part (i : ℕ) (k : Fin 1024) : EReal :=
  ∑ a, gradY (out m c) (memH m c) (memT m c) (memG m c) (rowAt i a) k * hat (out m c (rowAt i a)) k
def lossPart (i : ℕ) : EReal :=
  ∑ a, ∑ x, err (out m c) (memH m c) (memT m c) (memG m c) (rowAt i a) x * err (out m c) (memH m c) (memT m c) (memG m c) (rowAt i a) x

section
variable (t : Fin cfg0.N) (e : Vec Ideal S640x4096 .bf16) (w : Vec Ideal S4096x1024 .bf16)
  (h y : Vec Ideal S640x1024 .f32) (g : Vec Ideal S1x1024 .f32)
  (he : e = iblk m c 0 t) (hw : w = iblk m c 1 t) (hh : h = iblk m c 2 t) (hy : y = iblk m c 3 t) (hg : g = iblk m c 4 t)
include he hw

theorem row_eq (a : Fin 640) : blockRow e w a = out m c (rowAt t.val a) := by
  subst he hw
  exact funext fun k => Finset.sum_congr rfl fun f _ => Ideal.mul_congr (e_read m c t a f) (w_read m c t k f)

include hh hy hg
theorem err_eq (a : Fin 640) (k : Fin 1024) :
    blockErr (grid0.coords t) h y g e w a k = err (out m c) (memH m c) (memT m c) (memG m c) (rowAt t.val a) k := by
  unfold blockErr err
  have hr : (rowAt t.val a).val = t.val * 640 + a.val := congrArg Fin.val (rowAt_eq t.val (point_lt t) a)
  rw [row_eq m c t e w he hw a, coord t, hr]
  subst hh hy hg
  rw [show (fun x => iblk m c 2 t (ix2 a x)) = memH m c (rowAt t.val a) from funext fun x => h_read m c t a x,
    show (fun x => iblk m c 3 t (ix2 a x)) = memT m c (rowAt t.val a) from funext fun x => t_read m c t a x,
    show (fun x => iblk m c 4 t (ix2 0 x)) = memG m c from funext fun x => g_read m c t x]
theorem word_eq (a : Fin 640) (k : Fin 1024) :
    (k0_pay10 (grid0.coords t) g e w h y (ix2 a k) * Ideal.ofBits FTy.f32 0x3A800000#32 : EReal)
      = gradY (out m c) (memH m c) (memT m c) (memG m c) (rowAt t.val a) k :=
  Ideal.mul_congr ((err_block (grid0.coords t) h y g e w a k).trans (err_eq m c t e w h y g he hw hh hy hg a k)) rfl

theorem sum_point (a : Fin 640) (k : Fin 1024) :
    k0_pay2 (k0_pay10 (grid0.coords t) g e w h y) (ix2 a k) = res1 m c (ix2 (rowAt t.val a) k) :=
  (grad_block _ a k).trans (word_eq m c t e w h y g he hw hh hy hg a k)
theorem back_point (a : Fin 640) (k : Fin 1024) :
    k0_pay3 g (k0_pay8 e w) (k0_pay9 e w) (k0_pay10 (grid0.coords t) g e w h y) (ix2 a k) = res2 m c (ix2 (rowAt t.val a) k) := by
  refine (back_block _ g e w a k).trans ?_
  rw [row_eq m c t e w he hw a]
  refine Eq.trans ?_ (show through (out m c (rowAt t.val a))
    (fun x => gradY (out m c) (memH m c) (memT m c) (memG m c) (rowAt t.val a) x * memG m c x) k = res2 m c (ix2 (rowAt t.val a) k) from rfl)
  refine congrArg (fun z => through (out m c (rowAt t.val a)) z k) (funext fun x => ?_)
  exact Ideal.mul_congr (word_eq m c t e w h y g he hw hh hy hg a x) (by subst hg; exact g_read m c t x)
theorem part_block (k : Fin 1024) :
    (∑ a, k0_pay10 (grid0.coords t) g e w h y (ix2 a k) * Ideal.ofBits FTy.f32 0x3A800000#32 * hat (blockRow e w a) k : EReal) = part m c t.val k :=
  Finset.sum_congr rfl fun a _ => Ideal.mul_congr (word_eq m c t e w h y g he hw hh hy hg a k)
    (congrArg (fun z => hat z k) (row_eq m c t e w he hw a))
theorem loss_part : (∑ a, ∑ x, blockErr (grid0.coords t) h y g e w a x * blockErr (grid0.coords t) h y g e w a x : EReal) = lossPart m c t.val :=
  Finset.sum_congr rfl fun a _ => Finset.sum_congr rfl fun x _ =>
    Ideal.mul_congr (err_eq m c t e w h y g he hw hh hy hg a x) (err_eq m c t e w h y g he hw hh hy hg a x)
end

theorem sum_after (t : Fin cfg0.N) (y : S640x1024.Idx) :
    (dats m 0 c).after 5 t y = res1 m c (((cfg0.win 5).blk t).view.emb y) := by
  rw [after0_5]
  idx_vars y
  rw [emb5]
  by_cases h : t.val % 13 = 0
  · rw [outsAt0_A m c t h]
    dsimp only
    rw [first5]
    exact sum_point m c t _ _ _ _ _ rfl rfl rfl rfl rfl y0 y1
  · rw [outsAt0_B m c t h]
    dsimp only
    rw [later5]
    exact sum_point m c t _ _ _ _ _ rfl rfl rfl rfl rfl y0 y1

theorem back_after (t : Fin cfg0.N) (y : S640x1024.Idx) :
    (dats m 0 c).after 6 t y = res2 m c (((cfg0.win 6).blk t).view.emb y) := by
  rw [after0_6]
  idx_vars y
  rw [emb6]
  by_cases h : t.val % 13 = 0
  · rw [outsAt0_A m c t h]
    dsimp only
    rw [first6]
    exact back_point m c t _ _ _ _ _ rfl rfl rfl rfl rfl y0 y1
  · rw [outsAt0_B m c t h]
    dsimp only
    rw [later6]
    exact back_point m c t _ _ _ _ _ rfl rfl rfl rfl rfl y0 y1

theorem first_point (t : Fin cfg0.N) (h : t.val % 13 = 0) (k : Fin 1024) :
    (outsAt0 m c t.val t.isLt).2.2.1 (ix2 0 k) = part m c t.val k := by
  rw [outsAt0_A m c t h]
  dsimp only
  rw [first7]
  exact (scale_block _ _ _ _ k).trans ((Ideal.add_congr (start_block k) (part_block m c t _ _ _ _ _ rfl rfl rfl rfl rfl k)).trans (zero_add _))
theorem later_point (t : Fin cfg0.N) (h : ¬t.val % 13 = 0) (k : Fin 1024) :
    (outsAt0 m c t.val t.isLt).2.2.1 (ix2 0 k)
      = ((outsAt0 m c (t.val - 1) (Nat.lt_of_le_of_lt (Nat.sub_le _ _) t.isLt)).2.2.1 (ix2 0 k) + part m c t.val k : EReal) := by
  rw [outsAt0_B m c t h]
  dsimp only
  rw [later7]
  exact (scale_block _ _ _ _ k).trans (Ideal.add_congr rfl (part_block m c t _ _ _ _ _ rfl rfl rfl rfl rfl k))

/-- The scale's accumulator holds the row tiles added so far. -/
theorem acc (k : Fin 1024) : ∀ (n : ℕ) (hn : n < cfg0.N), (outsAt0 m c n hn).2.2.1 (ix2 0 k)
    = (∑ i ∈ Finset.range (n + 1), part m c i k : EReal) := by
  intro n
  induction n with
  | zero => intro hn; exact (first_point m c ⟨0, hn⟩ rfl k).trans (Finset.sum_range_one fun i => part m c i k).symm
  | succ n ih =>
    intro hn
    have h13 : n + 1 < 13 := hn
    refine (later_point m c ⟨n + 1, hn⟩ (by dsimp only; omega) k).trans ?_
    refine (Ideal.add_congr (ih (Nat.lt_of_succ_lt hn)) rfl).trans ?_
    exact (Finset.sum_range_succ _ _).symm

/-- A tile's share of the loss. -/
def lossTile (i : ℕ) : EReal := Ideal.ofBits FTy.f32 0x3A000000#32 * lossPart m c i

theorem first_loss (t : Fin cfg0.N) (h : t.val % 13 = 0) (p : Fin 8) (l : Fin 128) :
    (outsAt0 m c t.val t.isLt).2.2.2 (ix2 p l) = lossTile m c t.val := by
  rw [outsAt0_A m c t h]
  dsimp only
  rw [first8]
  exact (loss_block _ _ _ _ _ _ _ p l).trans ((Ideal.add_congr (start_loss p l)
    (Ideal.mul_congr rfl (loss_part m c t _ _ _ _ _ rfl rfl rfl rfl rfl))).trans (zero_add _))
theorem later_loss (t : Fin cfg0.N) (h : ¬t.val % 13 = 0) (p : Fin 8) (l : Fin 128) :
    (outsAt0 m c t.val t.isLt).2.2.2 (ix2 p l)
      = ((outsAt0 m c (t.val - 1) (Nat.lt_of_le_of_lt (Nat.sub_le _ _) t.isLt)).2.2.2 (ix2 p l) + lossTile m c t.val : EReal) := by
  rw [outsAt0_B m c t h]
  dsimp only
  rw [later8]
  exact (loss_block _ _ _ _ _ _ _ p l).trans (Ideal.add_congr rfl (Ideal.mul_congr rfl (loss_part m c t _ _ _ _ _ rfl rfl rfl rfl rfl)))

/-- The loss' accumulator likewise. -/
theorem acc_loss (p : Fin 8) (l : Fin 128) : ∀ (n : ℕ) (hn : n < cfg0.N), (outsAt0 m c n hn).2.2.2 (ix2 p l)
    = (∑ i ∈ Finset.range (n + 1), lossTile m c i : EReal) := by
  intro n
  induction n with
  | zero => intro hn; exact (first_loss m c ⟨0, hn⟩ rfl p l).trans (Finset.sum_range_one fun i => lossTile m c i).symm
  | succ n ih =>
    intro hn
    have h13 : n + 1 < 13 := hn
    refine (later_loss m c ⟨n + 1, hn⟩ (by dsimp only; omega) p l).trans ?_
    refine (Ideal.add_congr (ih (Nat.lt_of_succ_lt hn)) rfl).trans ?_
    exact (Finset.sum_range_succ _ _).symm

theorem loss_tiles : ∑ i ∈ Finset.range (12 + 1), lossTile m c i = loss (out m c) (memH m c) (memT m c) (memG m c) := by
  unfold lossTile loss
  rw [Finset.sum_range, word_half_over, ← mul_sum _ (by norm_num), ← Finset.sum_range (fun i => lossPart m c i)]
  exact congrArg _ (tiles_sum fun r => ∑ x, err (out m c) (memH m c) (memT m c) (memG m c) r x * err (out m c) (memH m c) (memT m c) (memG m c) r x)

theorem covers5 : (cfg0.win 5).Covers := by decide +kernel
theorem covers6 : (cfg0.win 6).Covers := by decide +kernel
theorem covers7 : (cfg0.win 7).Covers := by decide +kernel
theorem covers8 : (cfg0.win 8).Covers := by decide +kernel

theorem scale_after (t : Fin cfg0.N) (h : t.val % 13 = 12) (y : S1x1024.Idx) :
    (dats m 0 c).after 7 t y = res3 m c (((cfg0.win 7).blk t).view.emb y) := by
  rw [after0_7]
  obtain ⟨k, rfl⟩ : ∃ k : Fin 1024, y = ix2 0 k := ⟨y 1, by rw [eq_ix2 y]; exact congrArg (fun z => ix2 z _) (Subsingleton.elim _ _)⟩
  rw [emb7]
  have h12 : t.val = 12 := by have := point_lt t; omega
  refine (acc m c k t.val t.isLt).trans ?_
  rw [h12]
  exact tiles_sum fun r => gradY (out m c) (memH m c) (memT m c) (memG m c) r k * hat (out m c r) k
theorem loss_after (t : Fin cfg0.N) (h : t.val % 13 = 12) (y : S8x128.Idx) :
    (dats m 0 c).after 8 t y = res4 m c (((cfg0.win 8).blk t).view.emb y) := by
  rw [after0_8]
  idx_vars y
  have h12 : t.val = 12 := by have := point_lt t; omega
  refine (acc_loss m c y0 y1 t.val t.isLt).trans ?_
  rw [h12]
  exact loss_tiles m c

theorem sum_array : (dats m 0 c).arrAt 5 cfg0.N = res1 m c :=
  (dats m 0 c).arrAt_eq_of_covers 5 _ covers5 fun t _ y => sum_after m c t y
theorem back_array : (dats m 0 c).arrAt 6 cfg0.N = res2 m c :=
  (dats m 0 c).arrAt_eq_of_covers 6 _ covers6 fun t _ y => back_after m c t y
theorem scale_array : (dats m 0 c).arrAt 7 cfg0.N = res3 m c :=
  (dats m 0 c).arrAt_eq_of_covers 7 _ covers7 fun t hf y => scale_after m c t ((flush0_7 t).mp hf) y
theorem loss_array : (dats m 0 c).arrAt 8 cfg0.N = res4 m c :=
  (dats m 0 c).arrAt_eq_of_covers 8 _ covers8 fun t hf y => loss_after m c t ((flush0_8 t).mp hf) y

theorem run (ρ : Dev nD → PrngReg) : θ_run defs (onTc (τ := τ) (main (F := Ideal))) ⟨m, fun _ => 0, ρ⟩ fun r => ∀ c : Dev nD,
      r.2.mem ((c.tc : Thread nD τ).loc main_v0_0) = res1 m c
      ∧ r.2.mem ((c.tc : Thread nD τ).loc main_v0_1) = res2 m c
      ∧ r.2.mem ((c.tc : Thread nD τ).loc main_v0_2) = res3 m c
      ∧ r.2.mem ((c.tc : Thread nD τ).loc main_v0_3) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (sum_array m c), (h c).2.1.trans (back_array m c),
      (h c).2.2.1.trans (scale_array m c), (h c).2.2.2.1.trans (loss_array m c), (h c).2.2.2.2⟩)
    (Value.run_blocks m ρ)

end Cert.Kernel4Ideal.Loss
end
-- ==== Proof.Loss.Ref.lean ====
module
public import proofs.«01_k».proof.Proof.Gen.Reference4Ideal.Run
public import proofs.«01_k».proof.Proof.FfnX.Ref
public import proofs.«01_k».proof.Proof.Loss.Spec

@[expose] public section

set_option maxRecDepth 16384

/-! The loss of the reference and its gradients, entry by entry. -/

noncomputable section

namespace Cert.Reference4Ideal.Loss

open Idealize.ShloMosaic Idealize.ShloMosaic.TcCoe Idealize.SL.Sem
open Cert.Reference4Ideal Cert.Reference4Ideal.Gen Cert.Norm Cert.Loss

section
variable (D H T B : FVec Ideal S8320x1024 .f32) (Q : FVec Ideal S8320x1 .f32) (V : FVec Ideal S8320 .f32)
  (g : FVec Ideal S1x1024 .f32) (E : FVec Ideal S8320x4096 .bf16) (W : FVec Ideal S4096x1024 .bf16) (M : FVec Ideal S8192x1024 .f32)
  (r : Fin 8320) (k : Fin 1024)

theorem out_apply :
   (Host.dotGeneral dot_S8320x4096_S4096x1024_S8320x1024_1_0_0_1_n_n none (extf .f32 E bitsLt_bf16_f32) (extf .f32 W bitsLt_bf16_f32) : FVec Ideal S8320x1024 .f32) (ix2 r k) = (∑ f, E (ix2 r f) * W (ix2 f k) : EReal) := by
  pointwise []

/-- The error of a row after the first block. -/
theorem miss_apply (q : Fin 8192) (hQ : ∀ r, Q (ix2 r 0) = meanSq (fun i => D (ix2 r i))) :
   (subf (extractStridedSlice S8192x1024 ![128, 0] (addf H (mulf (mulf D (broadcastInDim S8320x1024 ![0, 1] bcast_S8320x1_S8320x1024_0_1 (Host.rsqrt Q))) (broadcastInDim S8320x1024 ![0, 1] bcast_S1x1024_S8320x1024_0_1 (broadcastInDim S1x1024 ![1] bcast_S1024_S1x1024_1 (shapeCast _ g shapeCasts_S1x1024_S1024))))) slices_S8320x1024_S8192x1024_128_0) (extractStridedSlice S8192x1024 ![128, 0] T slices_S8320x1024_S8192x1024_128_0) : FVec Ideal S8192x1024 .f32) (ix2 q k)
     = miss (fun x => D (ix2 ⟨128 + q.val, by omega⟩ x)) (fun x => H (ix2 ⟨128 + q.val, by omega⟩ x)) (fun x => T (ix2 ⟨128 + q.val, by omega⟩ x)) (fun x => g (ix2 0 x)) k := by
  unfold miss hat Norm.inv
  rw [← hQ]
  pointwise []

theorem grad_miss (q : Fin 8192) :
   (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) M) : FVec Ideal S8192x1024 .f32) (ix2 q k)
     = (M (ix2 q k) * Ideal.ofBits FTy.f32 0x3A800000#32 : EReal) := by
  refine Eq.trans ?_ (grad_eq (M (ix2 q k)))
  pointwise []

/-- Rows of zeros stand for the first block. -/
theorem pad_apply :
   (pad S8320x1024 ![128, 0] ![0, 0] ![0, 0] M (constant S_ .f32 0x00000000#32) pads_S8192x1024_S8320x1024_12800_000 h_S_ : FVec Ideal S8320x1024 .f32) (ix2 r k)
     = (if h : 128 ≤ r.val then M (ix2 ⟨r.val - 128, by omega⟩ k) else 0 : EReal) := by
  by_cases h : 128 ≤ r.val
  · rw [dif_pos h]
    pointwise []
    rw [dif_pos ⟨h, by omega⟩]
  · rw [dif_neg h]
    pointwise []
    rw [dif_neg fun e => h e.1]

theorem back_apply (hQ : Q (ix2 r 0) = meanSq (fun i => D (ix2 r i)))
    (hV : V (ix1 r) = half (fun i => D (ix2 r i)) (fun i => B (ix2 r i))) :
   (truncf .bf16 (addf (addf (mulf B (broadcastInDim S8320x1024 ![0, 1] bcast_S8320x1_S8320x1024_0_1 (Host.rsqrt Q))) (mulf D (broadcastInDim S8320x1024 ![0] bcast_S8320_S8320x1024_0 V))) (mulf (broadcastInDim S8320x1024 ![0] bcast_S8320_S8320x1024_0 V) D)) bitsLt_bf16_f32 : FVec Ideal S8320x1024 .bf16) (ix2 r k)
     = through (fun i => D (ix2 r i)) (fun i => B (ix2 r i)) k := by
  rw [through_eq]
  unfold Norm.inv
  rw [← hQ, ← hV]
  refine Eq.trans ?_ (add_assoc _ _ _)
  pointwise []

theorem loss_apply (p : Fin 8) (l : Fin 128) :
   (broadcastInDim S8x128 ![] bcast_S_S8x128 (mulf (constant S_ .f32 0x3F000000#32) (Host.reduceAdd (Host.divf (Host.reduceAdd (mulf M M) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S8x128 .f32) (ix2 p l)
     = (Ideal.ofBits FTy.f32 0x3A000000#32 * ∑ q : Fin 8192, ∑ x : Fin 1024, M (ix2 q x) * M (ix2 q x) : EReal) := by
  refine Eq.trans ?_ (loss_eq fun q : Fin 8192 => ∑ x : Fin 1024, M (ix2 q x) * M (ix2 q x))
  pointwise []
end

section
variable (m : (ℓ : Loc nD τ sig) → Buf (Elt Ideal) ℓ) (c : Dev nD)

/-- The arguments by row and column. -/
def memE (r : Fin 8320) (f : Fin 4096) : EReal := (m ((c.tc : Thread nD τ).loc main_arg0) : S8320x4096.Idx → EReal) (ix2 r f)
def memW (f : Fin 4096) (k : Fin 1024) : EReal := (m ((c.tc : Thread nD τ).loc main_arg1) : S4096x1024.Idx → EReal) (ix2 f k)
def memH (r : Fin 8320) (k : Fin 1024) : EReal := (m ((c.tc : Thread nD τ).loc main_arg2) : S8320x1024.Idx → EReal) (ix2 r k)
def memT (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)
/-- The layer's output before the norm. -/
def out (r : Fin 8320) (k : Fin 1024) : EReal := ∑ f, memE m c r f * memW m c f k

/-- The four results. -/
def res1 (j : S8320x1024.Idx) : EReal := gradY (out m c) (memH m c) (memT m c) (memG m c) (j 0) (j 1)
def res2 (j : S8320x1024.Idx) : EReal := gradF (out m c) (memH m c) (memT m c) (memG m c) (j 0) (j 1)
def res3 (j : S1x1024.Idx) : EReal := gradG (out m c) (memH m c) (memT m c) (memG m c) (j 1)
def res4 (j : S8x128.Idx) : EReal := loss (out m c) (memH m c) (memT m c) (memG m c)

/-- The layer's output as the reference computes it, and the errors. -/
abbrev outV : FVec Ideal S8320x1024 .f32 := Host.dotGeneral dot_S8320x4096_S4096x1024_S8320x1024_1_0_0_1_n_n none (extf .f32 (m ((c.tc : Thread nD τ).loc main_arg0)) bitsLt_bf16_f32) (extf .f32 (m ((c.tc : Thread nD τ).loc main_arg1)) bitsLt_bf16_f32)
abbrev meanV : FVec Ideal S8320x1 .f32 := addf (Host.divf (broadcastInDim S8320x1 ![0] bcast_S8320_S8320x1_0 (Host.reduceAdd (mulf (outV m c) (outV m c)) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
abbrev missV : FVec Ideal S8192x1024 .f32 := subf (extractStridedSlice S8192x1024 ![128, 0] (addf (m ((c.tc : Thread nD τ).loc main_arg2)) (mulf (mulf (outV m c) (broadcastInDim S8320x1024 ![0, 1] bcast_S8320x1_S8320x1024_0_1 (Host.rsqrt (meanV m c)))) (broadcastInDim S8320x1024 ![0, 1] bcast_S1x1024_S8320x1024_0_1 (broadcastInDim S1x1024 ![1] bcast_S1024_S1x1024_1 (shapeCast _ (m ((c.tc : Thread nD τ).loc main_arg4)) shapeCasts_S1x1024_S1024))))) slices_S8320x1024_S8192x1024_128_0) (extractStridedSlice S8192x1024 ![128, 0] (m ((c.tc : Thread nD τ).loc main_arg3)) slices_S8320x1024_S8192x1024_128_0)
abbrev gradV : FVec Ideal S8320x1024 .f32 := pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (missV m c))) (constant S_ .f32 0x00000000#32) pads_S8192x1024_S8320x1024_12800_000 h_S_

theorem outV_apply (r : Fin 8320) : (fun k => outV m c (ix2 r k)) = out m c r := funext fun k => out_apply _ _ r k
theorem meanV_apply (r : Fin 8320) : meanV m c (ix2 r 0) = meanSq (fun i => outV m c (ix2 r i)) :=
  Cert.Reference3Ideal.FfnX.mean_apply (outV m c) r
theorem missV_apply (q : Fin 8192) (k : Fin 1024) : missV m c (ix2 q k)
    = miss (out m c ⟨128 + q.val, by omega⟩) (memH m c ⟨128 + q.val, by omega⟩) (memT m c ⟨128 + q.val, by omega⟩) (memG m c) k :=
  (miss_apply (outV m c) (m ((c.tc : Thread nD τ).loc main_arg2)) (m ((c.tc : Thread nD τ).loc main_arg3)) (meanV m c)
    (m ((c.tc : Thread nD τ).loc main_arg4)) k q (meanV_apply m c)).trans
    (by rw [outV_apply m c]; rfl)
theorem gradV_apply (r : Fin 8320) (k : Fin 1024) :
    gradV m c (ix2 r k) = gradY (out m c) (memH m c) (memT m c) (memG m c) r k := by
  refine (pad_apply _ r k).trans ?_
  unfold gradY err
  by_cases h : 128 ≤ r.val
  · rw [dif_pos h, if_pos h]
    refine (grad_miss _ k _).trans (Ideal.mul_congr ((missV_apply m c _ k).trans ?_) rfl)
    have hr : (⟨128 + (r.val - 128), by omega⟩ : Fin 8320) = r := Fin.ext (by dsimp only; omega)
    dsimp only
    rw [hr]
  · rw [dif_neg h, if_neg h, zero_mul]

theorem run (ρ : Dev nD → PrngReg) : θ_run defs (onTc (τ := τ) (main (F := Ideal))) ⟨m, fun _ => 0, ρ⟩ fun r => ∀ c : Dev nD,
      r.2.mem ((c.tc : Thread nD τ).loc main_v38) = res1 m c
      ∧ r.2.mem ((c.tc : Thread nD τ).loc main_v60) = res2 m c
      ∧ r.2.mem ((c.tc : Thread nD τ).loc main_v59) = res3 m c
      ∧ r.2.mem ((c.tc : Thread nD τ).loc main_v61) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (funext fun j => ?_), (h c).2.1.trans (funext fun j => ?_),
    (h c).2.2.1.trans (funext fun j => ?_), (h c).2.2.2.1.trans (funext fun j => ?_), (h c).2.2.2.2⟩)
    (Cert.Reference4Ideal.Value.run m ρ)
  · obtain ⟨r, k, rfl⟩ : ∃ (r : Fin 8320) (k : Fin 1024), j = ix2 r k := ⟨j 0, j 1, eq_ix2 j⟩
    exact gradV_apply m c r k
  · obtain ⟨r, k, rfl⟩ : ∃ (r : Fin 8320) (k : Fin 1024), j = ix2 r k := ⟨j 0, j 1, eq_ix2 j⟩
    unfold Value.res_main_v60
    refine (back_apply _ _ _ _ r k (meanV_apply m c r) (Cert.Reference3Ideal.FfnX.half_apply (outV m c) _ (meanV m c) r (meanV_apply m c r))).trans ?_
    rw [outV_apply m c r]
    refine Eq.trans ?_ (show through (out m c r)
      (fun x => gradY (out m c) (memH m c) (memT m c) (memG m c) r x * memG m c x) k = res2 m c (ix2 r k) from rfl)
    refine congrArg (fun z => through (out m c r) z k) (funext fun x => ?_)
    exact (Cert.Reference3Ideal.FfnX.scaled_apply _ _ r x).trans (Ideal.mul_congr (gradV_apply m c r x) rfl)
  · obtain ⟨k, rfl⟩ : ∃ k : Fin 1024, j = ix2 0 k := ⟨j 1, by rw [eq_ix2 j]; exact congrArg (fun z => ix2 z _) (Subsingleton.elim _ _)⟩
    refine (Cert.Reference3Ideal.FfnX.scale_apply (outV m c) (gradV m c) (meanV m c) k (meanV_apply m c)).trans ?_
    exact Finset.sum_congr rfl fun r _ => Ideal.mul_congr (gradV_apply m c r k) (congrArg (fun z => hat z k) (outV_apply m c r))
  · obtain ⟨p, l, rfl⟩ : ∃ (p : Fin 8) (l : Fin 128), j = ix2 p l := ⟨j 0, j 1, eq_ix2 j⟩
    refine (loss_apply (missV m c) p l).trans ?_
    refine Eq.trans ?_ (show loss (out m c) (memH m c) (memT m c) (memG m c) = res4 m c (ix2 p l) from rfl)
    unfold loss
    rw [loss_rows]
    exact Ideal.mul_congr rfl (Finset.sum_congr rfl fun q _ => Finset.sum_congr rfl fun x _ =>
      Ideal.mul_congr (missV_apply m c q x) (missV_apply m c q x))
end

end Cert.Reference4Ideal.Loss
end
-- ==== Proof.Norm.Pieces.lean ====
module
public import Idealize.ShloMosaic.Lib.Pipeline.ValueKit

@[expose] public section

/-! A block written in several rectangles, read one entry at a time, the newest rectangle first. -/

noncomputable section

namespace Cert.Norm

open Idealize.ShloMosaic

variable {Val : EltTy → Type} [∀ e, Nonempty (Val e)] {e : EltTy} {n0 n1 o0 o1 s0 s1 : ℕ}
  (inb : ∀ a, (![o0, o1] : Fin 2 → ℕ) a + (![s0, s1] : Fin 2 → ℕ) a ≤ (⟨2, ![n0, n1]⟩ : Shape).size a)
  (w : (Rect.unit (s := ⟨2, ![n0, n1]⟩) ![o0, o1] ![s0, s1] inb).shape.Idx → Val e)
  (L : List (View.Piece Val ⟨2, ![n0, n1]⟩ e)) (p : Fin n0) (q : Fin n1)

/-- An entry inside the newest rectangle is that rectangle's entry. -/
theorem canon_here (a : Fin s0) (b : Fin s1) (hp : p.val = o0 + a.val) (hq : q.val = o1 + b.val) :
    View.canon ((⟨Rect.unit (s := ⟨2, ![n0, n1]⟩) ![o0, o1] ![s0, s1] inb, w⟩ : View.Piece Val _ e) :: L) (ix2 p q)
      = w (ix2 a b) := by
  have hy : (Rect.unit (s := ⟨2, ![n0, n1]⟩) ![o0, o1] ![s0, s1] inb).emb (ix2 a b) = ix2 p q := by
    refine funext fun d => Fin.ext ?_
    refine Fin.forall_fin_two (p := fun d => ((Rect.unit (s := ⟨2, ![n0, n1]⟩) ![o0, o1] ![s0, s1] inb).emb (ix2 a b) d).val
      = ((ix2 p q : (⟨2, ![n0, n1]⟩ : Shape).Idx) d).val) |>.mpr ⟨?_, ?_⟩ d
    · show o0 + 1 * a.val = p.val
      omega
    · show o1 + 1 * b.val = q.val
      omega
  rw [← hy]
  exact View.canon_cons_emb _ w L _

/-- An entry whose row the newest rectangle misses is what the earlier ones left. -/
theorem canon_row (h : p.val < o0 ∨ o0 + s0 ≤ p.val) :
    View.canon ((⟨Rect.unit (s := ⟨2, ![n0, n1]⟩) ![o0, o1] ![s0, s1] inb, w⟩ : View.Piece Val _ e) :: L) (ix2 p q)
      = View.canon L (ix2 p q) := by
  refine View.canon_cons_of_not_mem _ L fun hm => ?_
  have h1 : o0 ≤ p.val ∧ p.val < o0 + s0 := (Rect.mem_set_unit (inb := inb)).mp hm 0
  omega

/-- An entry whose column the newest rectangle misses is what the earlier ones left. -/
theorem canon_col (h : q.val < o1 ∨ o1 + s1 ≤ q.val) :
    View.canon ((⟨Rect.unit (s := ⟨2, ![n0, n1]⟩) ![o0, o1] ![s0, s1] inb, w⟩ : View.Piece Val _ e) :: L) (ix2 p q)
      = View.canon L (ix2 p q) := by
  refine View.canon_cons_of_not_mem _ L fun hm => ?_
  have h1 : o1 ≤ q.val ∧ q.val < o1 + s1 := (Rect.mem_set_unit (inb := inb)).mp hm 1
  omega

/-- What a rectangle of a block written so far reads. -/
theorem readCov_at {sig : RefSig} {κ : Kind} {sp : Space} (v : View sig κ sp ⟨2, ![n0, n1]⟩ e) (a : Fin s0) (b : Fin s1)
    (hp : p.val = o0 + a.val) (hq : q.val = o1 + b.val) :
    v.readCov L (Rect.unit (s := ⟨2, ![n0, n1]⟩) ![o0, o1] ![s0, s1] inb).toLoadRect (ix2 a b) = View.canon L (ix2 p q) := by
  rw [View.readCov_eq_canon']
  refine congrArg (View.canon L) (funext fun d => Fin.ext ?_)
  refine Fin.forall_fin_two (p := fun d => (((Rect.unit (s := ⟨2, ![n0, n1]⟩) ![o0, o1] ![s0, s1] inb).toLoadRect.idx (ix2 a b) d).val
    = ((ix2 p q : (⟨2, ![n0, n1]⟩ : Shape).Idx) d).val)) |>.mpr ⟨?_, ?_⟩ d
  · show o0 + 1 * a.val = p.val
    omega
  · show o1 + 1 * b.val = q.val
    omega

end Cert.Norm
end
-- ==== Proof.InProjW.Blocks.lean ====
module
public import proofs.«01_k».proof.Proof.Gen.Kernel6Ideal.Frame
public import proofs.«01_k».proof.Proof.Norm.Pieces
public import Idealize.ShloMosaic.Lib.Pipeline.ValueKit

@[expose] public section

set_option maxRecDepth 16384

/-! What one grid point of the call computes, entry by entry. -/

noncomputable section

namespace Cert.Kernel6Ideal.InProjW

open Idealize.ShloMosaic Idealize.ShloMosaic.TcCoe
open Cert.Kernel6Ideal Cert.Kernel6Ideal.Gen Cert.Norm

/-- A column of each of the three parts. -/
def colQ (f : Fin 512) : Fin 1792 := ⟨f.val, by omega⟩
def colK (f : Fin 256) : Fin 1792 := ⟨512 + f.val, by omega⟩
def colZ (f : Fin 1024) : Fin 1792 := ⟨768 + f.val, by omega⟩

section
variable (u : Vec Ideal S1664x1024 .bf16) (k : Fin 1024)

theorem zero_block (j : Fin 1792) : k0_pay1 (F := Ideal) (ix2 k j) = (show EReal from 0) := by
  pointwise [k0_pay1]
theorem blockQ (q : Vec Ideal S1024x512 .f32) (p : Vec Ideal S1664x512 .bf16) (f : Fin 512) :
    k0_pay2 u q p (ix2 k f) = (q (ix2 k f) + ∑ a, u (ix2 a k) * p (ix2 a f) : EReal) := by
  pointwise [k0_pay2]
theorem blockK (q : Vec Ideal S1024x256 .f32) (p : Vec Ideal S1664x256 .bf16) (f : Fin 256) :
    k0_pay3 u q p (ix2 k f) = (q (ix2 k f) + ∑ a, u (ix2 a k) * p (ix2 a f) : EReal) := by
  pointwise [k0_pay3]
theorem blockZ (q : Vec Ideal S1024x1024 .f32) (p : Vec Ideal S1664x1024 .bf16) (f : Fin 1024) :
    k0_pay4 u q p (ix2 k f) = (q (ix2 k f) + ∑ a, u (ix2 a k) * p (ix2 a f) : EReal) := by
  pointwise [k0_pay4]
end

section
variable (c : Dev nD) (i : grid0.Coords) (arg1 : Memref sig .tc .vmem S1664x1024 .bf16) (harg1 : arg1.IsWhole) (arg2 : Memref sig .tc .vmem S1664x512 .bf16) (harg2 : arg2.IsWhole) (arg3 : Memref sig .tc .vmem S1664x256 .bf16) (harg3 : arg3.IsWhole) (arg4 : Memref sig .tc .vmem S1664x1024 .bf16) (harg4 : arg4.IsWhole) (arg5 : Memref sig .tc .vmem S1024x1792 .f32) (harg5 : arg5.IsWhole)
  (x0 : Vec Ideal S1664x1024 .bf16) (x1 : Vec Ideal S1664x512 .bf16) (x2 : Vec Ideal S1664x256 .bf16) (x3 : Vec Ideal S1664x1024 .bf16) (xo : Vec Ideal S1024x1792 .f32)
  (k : Fin 1024)

theorem firstQ (f : Fin 512) (hc0 : cond0_0 i) :
    out0_A_4 c i arg1 harg1 arg2 harg2 arg3 harg3 arg4 harg4 arg5 harg5 hc0 x0 x1 x2 x3 (ix2 k (colQ f))
      = (∑ a, x0 (ix2 a k) * x1 (ix2 a f) : EReal) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  rw [canon_col (o1 := 768) (s1 := 1024)]
  swap
  · exact .inl (by show f.val < 768; omega)
  rw [canon_col (o1 := 512) (s1 := 256)]
  swap
  · exact .inl (by show f.val < 512; omega)
  refine Eq.trans (canon_here (Val := Elt Ideal) _ _ _ _ _ k f ?_ ?_) ?_
  · exact (Nat.zero_add _).symm
  · exact (Nat.zero_add _).symm
  refine (blockQ _ k _ _ f).trans ((Ideal.add_congr ?_ rfl).trans (zero_add _))
  refine Eq.trans (readCov_at (Val := Elt Ideal) _ _ k (colQ f) _ k f ?_ ?_) ?_
  · exact (Nat.zero_add _).symm
  · exact (Nat.zero_add _).symm
  refine Eq.trans (canon_here (Val := Elt Ideal) _ _ _ _ _ k (colQ f) ?_ ?_) (zero_block _ _)
  · exact (Nat.zero_add _).symm
  · exact (Nat.zero_add _).symm
theorem laterQ (f : Fin 512) (hc0 : ¬cond0_0 i) :
    out0_B_4 c i arg1 harg1 arg2 harg2 arg3 harg3 arg4 harg4 arg5 harg5 hc0 x0 x1 x2 x3 xo (ix2 k (colQ f))
      = (xo (ix2 k (colQ f)) + ∑ a, x0 (ix2 a k) * x1 (ix2 a f) : EReal) := by
  unfold out0_B_4
  rw [View.read_writes_eq_canon _ _ _ (cover0_B_4 c i arg1 harg1 arg2 harg2 arg3 harg3 arg4 harg4 arg5 harg5 hc0 x0 x1 x2 x3 xo)]
  unfold kernelRun0_B
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  rw [canon_col (o1 := 768) (s1 := 1024)]
  swap
  · exact .inl (by show f.val < 768; omega)
  rw [canon_col (o1 := 512) (s1 := 256)]
  swap
  · exact .inl (by show f.val < 512; omega)
  refine Eq.trans (canon_here (Val := Elt Ideal) _ _ _ _ _ k f ?_ ?_) ?_
  · exact (Nat.zero_add _).symm
  · exact (Nat.zero_add _).symm
  refine (blockQ _ k _ _ f).trans (Ideal.add_congr ?_ rfl)
  refine (congrFun (View.ld_unit (S := S1024x1792) _ _ _ _) _).trans ?_
  pointwise [colQ]
theorem firstK (f : Fin 256) (hc0 : cond0_0 i) :
    out0_A_4 c i arg1 harg1 arg2 harg2 arg3 harg3 arg4 harg4 arg5 harg5 hc0 x0 x1 x2 x3 (ix2 k (colK f))
      = (∑ a, x0 (ix2 a k) * x2 (ix2 a f) : EReal) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  rw [canon_col (o1 := 768) (s1 := 1024)]
  swap
  · exact .inl (by show 512 + f.val < 768; omega)
  refine Eq.trans (canon_here (Val := Elt Ideal) _ _ _ _ _ k f ?_ ?_) ?_
  · exact (Nat.zero_add _).symm
  · rfl
  refine (blockK _ k _ _ f).trans ((Ideal.add_congr ?_ rfl).trans (zero_add _))
  refine Eq.trans (readCov_at (Val := Elt Ideal) _ _ k (colK f) _ k f ?_ ?_) ?_
  · exact (Nat.zero_add _).symm
  · rfl
  rw [canon_col (o1 := 0) (s1 := 512)]
  swap
  · exact .inr (by show 512 ≤ 512 + f.val; omega)
  refine Eq.trans (canon_here (Val := Elt Ideal) _ _ _ _ _ k (colK f) ?_ ?_) (zero_block _ _)
  · exact (Nat.zero_add _).symm
  · exact (Nat.zero_add _).symm
theorem laterK (f : Fin 256) (hc0 : ¬cond0_0 i) :
    out0_B_4 c i arg1 harg1 arg2 harg2 arg3 harg3 arg4 harg4 arg5 harg5 hc0 x0 x1 x2 x3 xo (ix2 k (colK f))
      = (xo (ix2 k (colK f)) + ∑ a, x0 (ix2 a k) * x2 (ix2 a f) : EReal) := by
  unfold out0_B_4
  rw [View.read_writes_eq_canon _ _ _ (cover0_B_4 c i arg1 harg1 arg2 harg2 arg3 harg3 arg4 harg4 arg5 harg5 hc0 x0 x1 x2 x3 xo)]
  unfold kernelRun0_B
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  rw [canon_col (o1 := 768) (s1 := 1024)]
  swap
  · exact .inl (by show 512 + f.val < 768; omega)
  refine Eq.trans (canon_here (Val := Elt Ideal) _ _ _ _ _ k f ?_ ?_) ?_
  · exact (Nat.zero_add _).symm
  · rfl
  refine (blockK _ k _ _ f).trans (Ideal.add_congr ?_ rfl)
  refine (congrFun (View.ld_unit (S := S1024x1792) _ _ _ _) _).trans ?_
  pointwise [colK]
theorem firstZ (f : Fin 1024) (hc0 : cond0_0 i) :
    out0_A_4 c i arg1 harg1 arg2 harg2 arg3 harg3 arg4 harg4 arg5 harg5 hc0 x0 x1 x2 x3 (ix2 k (colZ f))
      = (∑ a, x0 (ix2 a k) * x3 (ix2 a f) : EReal) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  refine Eq.trans (canon_here (Val := Elt Ideal) _ _ _ _ _ k f ?_ ?_) ?_
  · exact (Nat.zero_add _).symm
  · rfl
  refine (blockZ _ k _ _ f).trans ((Ideal.add_congr ?_ rfl).trans (zero_add _))
  refine Eq.trans (readCov_at (Val := Elt Ideal) _ _ k (colZ f) _ k f ?_ ?_) ?_
  · exact (Nat.zero_add _).symm
  · rfl
  rw [canon_col (o1 := 512) (s1 := 256)]
  swap
  · exact .inr (by show 768 ≤ 768 + f.val; omega)
  rw [canon_col (o1 := 0) (s1 := 512)]
  swap
  · exact .inr (by show 512 ≤ 768 + f.val; omega)
  refine Eq.trans (canon_here (Val := Elt Ideal) _ _ _ _ _ k (colZ f) ?_ ?_) (zero_block _ _)
  · exact (Nat.zero_add _).symm
  · exact (Nat.zero_add _).symm
theorem laterZ (f : Fin 1024) (hc0 : ¬cond0_0 i) :
    out0_B_4 c i arg1 harg1 arg2 harg2 arg3 harg3 arg4 harg4 arg5 harg5 hc0 x0 x1 x2 x3 xo (ix2 k (colZ f))
      = (xo (ix2 k (colZ f)) + ∑ a, x0 (ix2 a k) * x3 (ix2 a f) : EReal) := by
  unfold out0_B_4
  rw [View.read_writes_eq_canon _ _ _ (cover0_B_4 c i arg1 harg1 arg2 harg2 arg3 harg3 arg4 harg4 arg5 harg5 hc0 x0 x1 x2 x3 xo)]
  unfold kernelRun0_B
  dsimp only
  sl_unfold_words
  simp only [View.readAt_eq_ld, harg1.read_unread, harg2.read_unread, harg3.read_unread, harg4.read_unread, harg5.read_unread]
  simp only [View.ld_unit_zero (S := S1664x1024) (off := ![0, 0]) (by decide), View.ld_unit_zero (S := S1664x512) (off := ![0, 0]) (by decide),
    View.ld_unit_zero (S := S1664x256) (off := ![0, 0]) (by decide)]
  refine Eq.trans (canon_here (Val := Elt Ideal) _ _ _ _ _ k f ?_ ?_) ?_
  · exact (Nat.zero_add _).symm
  · rfl
  refine (blockZ _ k _ _ f).trans (Ideal.add_congr ?_ rfl)
  refine (congrFun (View.ld_unit (S := S1024x1792) _ _ _ _) _).trans ?_
  pointwise [colZ]
end

end Cert.Kernel6Ideal.InProjW
end
-- ==== Proof.InProjW.Arrays.lean ====
module
public import proofs.«01_k».proof.Proof.InProjW.Blocks
public import proofs.«01_k».proof.Proof.Ffn.Weights
public import proofs.«01_k».proof.Proof.Gen.Kernel6Ideal.Value

@[expose] public section

set_option maxRecDepth 16384

/-! The array the call leaves: the weight's gradient, added up over the five row tiles. -/

noncomputable section

namespace Cert.Kernel6Ideal.InProjW

open Idealize.ShloMosaic Idealize.ShloMosaic.TcCoe Idealize.SL.Sem
open Cert.Kernel6Ideal Cert.Kernel6Ideal.Gen
open Cert.Kernel2Ideal.Ffn (rowAt rowAt_eq tiles_sum)

theorem idx0 : ∀ t : Fin cfg0.N,
    win0_0.index t = ![t.val, 0] ∧ win0_1.index t = ![t.val, 0] ∧ win0_2.index t = ![t.val, 0]
      ∧ win0_3.index t = ![t.val, 0] ∧ win0_4.index t = ![0, 0] :=
  (by decide +kernel : ∀ t : Fin grid0.N, _)

theorem point_lt (t : Fin cfg0.N) : t.val < 5 := t.isLt

variable (m : (ℓ : Loc nD τ sig) → Buf (Elt Ideal) ℓ) (c : Dev nD)

/-- The arguments by row and column. -/
def memU (r : Fin 8320) (k : Fin 1024) : EReal := (m ((c.tc : Thread nD τ).loc main_arg0) : S8320x1024.Idx → EReal) (ix2 r k)
def memQ (r : Fin 8320) (f : Fin 512) : EReal := (m ((c.tc : Thread nD τ).loc main_arg1) : S8320x512.Idx → EReal) (ix2 r f)
def memK (r : Fin 8320) (f : Fin 256) : EReal := (m ((c.tc : Thread nD τ).loc main_arg2) : S8320x256.Idx → EReal) (ix2 r f)
def memZ (r : Fin 8320) (f : Fin 1024) : EReal := (m ((c.tc : Thread nD τ).loc main_arg3) : S8320x1024.Idx → EReal) (ix2 r f)

/-- The three cotangents next to each other. -/
def side (r : Fin 8320) (f : Fin 1792) : EReal :=
  if h : f.val < 512 then memQ m c r ⟨f.val, h⟩
  else if h' : f.val < 768 then memK m c r ⟨f.val - 512, by omega⟩ else memZ m c r ⟨f.val - 768, by omega⟩
/-- The weight's gradient. -/
def res (j : S1024x1792.Idx) : EReal := ∑ r, memU m c r (j 0) * side m c r (j 1)

theorem sideQ (r : Fin 8320) (f : Fin 512) : side m c r (colQ f) = memQ m c r f := dif_pos f.isLt
theorem sideK (r : Fin 8320) (f : Fin 256) : side m c r (colK f) = memK m c r f :=
  (dif_neg (by show ¬(512 + f.val < 512); omega)).trans ((dif_pos (by show 512 + f.val < 768; omega)).trans
    (congrArg (memK m c r) (Fin.ext (by show 512 + f.val - 512 = f.val; omega))))
theorem sideZ (r : Fin 8320) (f : Fin 1024) : side m c r (colZ f) = memZ m c r f :=
  (dif_neg (by show ¬(768 + f.val < 512); omega)).trans ((dif_neg (by show ¬(768 + f.val < 768); omega)).trans
    (congrArg (memZ m c r) (Fin.ext (by show 768 + f.val - 768 = f.val; omega))))
theorem col_cases (j : Fin 1792) : (∃ f, j = colQ f) ∨ (∃ f, j = colK f) ∨ ∃ f, j = colZ f := by
  by_cases h : j.val < 512
  · exact .inl ⟨⟨j.val, h⟩, rfl⟩
  by_cases h' : j.val < 768
  · exact .inr (.inl ⟨⟨j.val - 512, by omega⟩, Fin.ext (by show j.val = 512 + (j.val - 512); omega)⟩)
  · exact .inr (.inr ⟨⟨j.val - 768, by omega⟩, Fin.ext (by show j.val = 768 + (j.val - 768); omega)⟩)

section
variable (t : Fin cfg0.N) (a : Fin 1664) (k : Fin 1024) (h : Fin 512) (l : Fin 256) (f : Fin 1792)

theorem u_found : iblk m c 0 t (ix2 a k) = (V m c main_arg0 : S8320x1024.Idx → EReal) (ix2 (rowAt t.val a) k) := by
  rw [rowAt_eq _ (point_lt t)]
  generalize hx : V m c main_arg0 = x
  unfold iblk
  rw [show V m c (Pipeline.arrRef spec0 0) = x from hx]
  blk_ext! [idx0 t]
theorem q_found : iblk m c 1 t (ix2 a h) = (V m c main_arg1 : S8320x512.Idx → EReal) (ix2 (rowAt t.val a) h) := by
  rw [rowAt_eq _ (point_lt t)]
  generalize hx : V m c main_arg1 = x
  unfold iblk
  rw [show V m c (Pipeline.arrRef spec0 1) = x from hx]
  blk_ext! [idx0 t]
theorem k_found : iblk m c 2 t (ix2 a l) = (V m c main_arg2 : S8320x256.Idx → EReal) (ix2 (rowAt t.val a) l) := by
  rw [rowAt_eq _ (point_lt t)]
  generalize hx : V m c main_arg2 = x
  unfold iblk
  rw [show V m c (Pipeline.arrRef spec0 2) = x from hx]
  blk_ext! [idx0 t]
theorem z_found : iblk m c 3 t (ix2 a k) = (V m c main_arg3 : S8320x1024.Idx → EReal) (ix2 (rowAt t.val a) k) := by
  rw [rowAt_eq _ (point_lt t)]
  generalize hx : V m c main_arg3 = x
  unfold iblk
  rw [show V m c (Pipeline.arrRef spec0 3) = x from hx]
  blk_ext! [idx0 t]
theorem emb4 : (((cfg0.win 4).blk t).view.emb (ix2 k f) : S1024x1792.Idx) = ix2 k f := by
  blk_ext! [idx0 t]

theorem u_read : iblk m c 0 t (ix2 a k) = memU m c (rowAt t.val a) k :=
  (u_found m c t a k).trans (congrFun (V_main_arg0 m c) (ix2 (rowAt t.val a) k))
theorem q_read : iblk m c 1 t (ix2 a h) = memQ m c (rowAt t.val a) h :=
  (q_found m c t a h).trans (congrFun (V_main_arg1 m c) (ix2 (rowAt t.val a) h))
theorem k_read : iblk m c 2 t (ix2 a l) = memK m c (rowAt t.val a) l :=
  (k_found m c t a l).trans (congrFun (V_main_arg2 m c) (ix2 (rowAt t.val a) l))
theorem z_read : iblk m c 3 t (ix2 a k) = memZ m c (rowAt t.val a) k :=
  (z_found m c t a k).trans (congrFun (V_main_arg3 m c) (ix2 (rowAt t.val a) k))
end

/-- What one row tile adds. -/
def part (i : ℕ) (k : Fin 1024) (f : Fin 1792) : EReal := ∑ a, memU m c (rowAt i a) k * side m c (rowAt i a) f

section
variable (t : Fin cfg0.N) (k : Fin 1024) (u z : Vec Ideal S1664x1024 .bf16) (q : Vec Ideal S1664x512 .bf16) (p : Vec Ideal S1664x256 .bf16)
  (hu : u = iblk m c 0 t)
include hu

theorem partQ (hq : q = iblk m c 1 t) (f : Fin 512) :
    (∑ a, u (ix2 a k) * q (ix2 a f) : EReal) = part m c t.val k (colQ f) := by
  subst hu hq
  exact Finset.sum_congr rfl fun a _ => Ideal.mul_congr (u_read m c t a k) ((q_read m c t a f).trans (sideQ m c _ f).symm)
theorem partK (hp : p = iblk m c 2 t) (f : Fin 256) :
    (∑ a, u (ix2 a k) * p (ix2 a f) : EReal) = part m c t.val k (colK f) := by
  subst hu hp
  exact Finset.sum_congr rfl fun a _ => Ideal.mul_congr (u_read m c t a k) ((k_read m c t a f).trans (sideK m c _ f).symm)
theorem partZ (hz : z = iblk m c 3 t) (f : Fin 1024) :
    (∑ a, u (ix2 a k) * z (ix2 a f) : EReal) = part m c t.val k (colZ f) := by
  subst hu hz
  exact Finset.sum_congr rfl fun a _ => Ideal.mul_congr (u_read m c t a k) ((z_read m c t a f).trans (sideZ m c _ f).symm)
end

theorem first_point (t : Fin cfg0.N) (h : t.val % 5 = 0) (k : Fin 1024) (j : Fin 1792) :
    outsAt0 m c t.val t.isLt (ix2 k j) = part m c t.val k j := by
  rw [outsAt0_A m c t h]
  obtain ⟨f, rfl⟩ | ⟨f, rfl⟩ | ⟨f, rfl⟩ := col_cases j
  · exact (firstQ ..).trans (partQ m c t k _ _ rfl rfl f)
  · exact (firstK ..).trans (partK m c t k _ _ rfl rfl f)
  · exact (firstZ ..).trans (partZ m c t k _ _ rfl rfl f)
theorem later_point (t : Fin cfg0.N) (h : ¬t.val % 5 = 0) (k : Fin 1024) (j : Fin 1792) :
    outsAt0 m c t.val t.isLt (ix2 k j)
      = (outsAt0 m c (t.val - 1) (Nat.lt_of_le_of_lt (Nat.sub_le _ _) t.isLt) (ix2 k j) + part m c t.val k j : EReal) := by
  rw [outsAt0_B m c t h]
  obtain ⟨f, rfl⟩ | ⟨f, rfl⟩ | ⟨f, rfl⟩ := col_cases j
  · exact (laterQ ..).trans (Ideal.add_congr rfl (partQ m c t k _ _ rfl rfl f))
  · exact (laterK ..).trans (Ideal.add_congr rfl (partK m c t k _ _ rfl rfl f))
  · exact (laterZ ..).trans (Ideal.add_congr rfl (partZ m c t k _ _ rfl rfl f))

/-- The accumulator holds the row tiles added so far. -/
theorem acc (k : Fin 1024) (j : Fin 1792) : ∀ (n : ℕ) (hn : n < cfg0.N), outsAt0 m c n hn (ix2 k j)
    = (∑ i ∈ Finset.range (n + 1), part m c i k j : EReal) := by
  intro n
  induction n with
  | zero => intro hn; exact (first_point m c ⟨0, hn⟩ rfl k j).trans (Finset.sum_range_one fun i => part m c i k j).symm
  | succ n ih =>
    intro hn
    have h5 : n + 1 < 5 := hn
    refine (later_point m c ⟨n + 1, hn⟩ (by dsimp only; omega) k j).trans ?_
    refine (Ideal.add_congr (ih (Nat.lt_of_succ_lt hn)) rfl).trans ?_
    exact (Finset.sum_range_succ _ _).symm

theorem covers4 : (cfg0.win 4).Covers := by decide +kernel

theorem weight_after (t : Fin cfg0.N) (h : t.val % 5 = 4) (y : S1024x1792.Idx) :
    (dats m 0 c).after 4 t y = res m c (((cfg0.win 4).blk t).view.emb y) := by
  rw [after0_4]
  idx_vars y
  rw [emb4]
  have h4 : t.val = 4 := by have := point_lt t; omega
  refine (acc m c y0 y1 t.val t.isLt).trans ?_
  rw [h4]
  exact tiles_sum fun r => memU m c r y0 * side m c r y1

theorem weight_array : (dats m 0 c).arrAt 4 cfg0.N = res m c :=
  (dats m 0 c).arrAt_eq_of_covers 4 _ covers4 fun t hf y => weight_after m c t ((flush0_4 t).mp hf) y

theorem run (ρ : Dev nD → PrngReg) : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (weight_array m c), (h c).2⟩)
    (Value.run_blocks m ρ)

end Cert.Kernel6Ideal.InProjW
end
-- ==== Proof.InProjW.Ref.lean ====
module
public import proofs.«01_k».proof.Proof.Gen.Reference6Ideal.Run
public import proofs.«01_k».proof.Proof.InProj.Ref

@[expose] public section

set_option maxRecDepth 16384

/-! The reference's gradient of the input projection's weight, entry by entry. -/

noncomputable section

namespace Cert.Reference6Ideal.InProjW

open Idealize.ShloMosaic Idealize.ShloMosaic.TcCoe Idealize.SL.Sem
open Cert.Reference6Ideal Cert.Reference6Ideal.Gen

section
variable (U : FVec Ideal S8320x1024 .bf16) (X : FVec Ideal S8320x1792 .bf16) (r : Fin 8320) (k : Fin 1024) (f : Fin 1792)

theorem weight_apply :
   (transpose S1024x1792 [1, 0] (Host.dotGeneral dot_S8320x1792_S8320x1024_S1792x1024_0_0_1_1_n_n none (extf .f32 X bitsLt_bf16_f32) (extf .f32 U bitsLt_bf16_f32)) transposes_S1792x1024_S1024x1792_1_0 : FVec Ideal S1024x1792 .f32) (ix2 k f)
     = (∑ r, U (ix2 r k) * X (ix2 r f) : EReal) := by
  refine Eq.trans ?_ (Finset.sum_congr rfl fun r _ => mul_comm (X (ix2 r f) : EReal) (U (ix2 r k)))
  pointwise []
end

section
variable (Q : FVec Ideal S8320x512 .bf16) (K : FVec Ideal S8320x256 .bf16) (Z : FVec Ideal S8320x1024 .bf16) (r : Fin 8320) (f : Fin 1792)

/-- The three cotangents next to each other. -/
theorem side_apply :
   (concatenate S8320x1792 1 [⟨S8320x512, (Q : (⟨S8320x512, .bf16⟩ : BufTy).Contents (Elt Ideal))⟩, ⟨S8320x256, (K : (⟨S8320x256, .bf16⟩ : BufTy).Contents (Elt Ideal))⟩, ⟨S8320x1024, (Z : (⟨S8320x1024, .bf16⟩ : BufTy).Contents (Elt Ideal))⟩] concatenates_S8320x512_S8320x256_S8320x1024_S8320x1792_d1 : (⟨S8320x1792, .bf16⟩ : BufTy).Contents (Elt Ideal)) (ix2 r f)
     = (if h : f.val < 512 then Q (ix2 r ⟨f.val, h⟩)
        else if h' : f.val < 768 then K (ix2 r ⟨f.val - 512, by omega⟩) else Z (ix2 r ⟨f.val - 768, by omega⟩) : EReal) := by
  by_cases h : f.val < 512
  · rw [dif_pos h]
    exact Cert.Reference5Ideal.InProj.joinQ Q K Z r ⟨f.val, h⟩
  by_cases h' : f.val < 768
  · rw [dif_neg h, dif_pos h']
    obtain ⟨g, rfl⟩ : ∃ g : Fin 256, f = ⟨512 + g.val, Nat.lt_of_lt_of_le (Nat.add_lt_add_left g.isLt 512) (by decide)⟩ :=
      ⟨⟨f.val - 512, by omega⟩, Fin.ext (by show f.val = 512 + (f.val - 512); omega)⟩
    exact (Cert.Reference5Ideal.InProj.joinK Q K Z r g).trans
      (congrArg (fun x => K (ix2 r x)) (Fin.ext (by show g.val = 512 + g.val - 512; omega)))
  · rw [dif_neg h, dif_neg h']
    obtain ⟨g, rfl⟩ : ∃ g : Fin 1024, f = ⟨768 + g.val, Nat.lt_of_lt_of_le (Nat.add_lt_add_left g.isLt 768) (by decide)⟩ :=
      ⟨⟨f.val - 768, by omega⟩, Fin.ext (by show f.val = 768 + (f.val - 768); omega)⟩
    exact (Cert.Reference5Ideal.InProj.joinZ Q K Z r g).trans
      (congrArg (fun x => Z (ix2 r x)) (Fin.ext (by show g.val = 768 + g.val - 768; omega)))
end

section
variable (m : (ℓ : Loc nD τ sig) → Buf (Elt Ideal) ℓ) (c : Dev nD)

/-- The arguments by row and column. -/
def memU (r : Fin 8320) (k : Fin 1024) : EReal := (m ((c.tc : Thread nD τ).loc main_arg0) : S8320x1024.Idx → EReal) (ix2 r k)
def memQ (r : Fin 8320) (f : Fin 512) : EReal := (m ((c.tc : Thread nD τ).loc main_arg1) : S8320x512.Idx → EReal) (ix2 r f)
def memK (r : Fin 8320) (f : Fin 256) : EReal := (m ((c.tc : Thread nD τ).loc main_arg2) : S8320x256.Idx → EReal) (ix2 r f)
def memZ (r : Fin 8320) (f : Fin 1024) : EReal := (m ((c.tc : Thread nD τ).loc main_arg3) : S8320x1024.Idx → EReal) (ix2 r f)

/-- The three cotangents next to each other. -/
def side (r : Fin 8320) (f : Fin 1792) : EReal :=
  if h : f.val < 512 then memQ m c r ⟨f.val, h⟩
  else if h' : f.val < 768 then memK m c r ⟨f.val - 512, by omega⟩ else memZ m c r ⟨f.val - 768, by omega⟩
/-- The weight's gradient. -/
def res (j : S1024x1792.Idx) : EReal := ∑ r, memU m c r (j 0) * side m c r (j 1)

theorem run (ρ : Dev nD → PrngReg) : θ_run defs (onTc (τ := τ) (main (F := Ideal))) ⟨m, fun _ => 0, ρ⟩ fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (funext fun j => ?_), (h c).2⟩)
    (Cert.Reference6Ideal.Value.run m ρ)
  obtain ⟨k, f, rfl⟩ : ∃ (k : Fin 1024) (f : Fin 1792), j = ix2 k f := ⟨j 0, j 1, eq_ix2 j⟩
  refine (weight_apply _ _ k f).trans (Finset.sum_congr rfl fun r _ => Ideal.mul_congr rfl ?_)
  exact side_apply _ _ _ r f
end

end Cert.Reference6Ideal.InProjW
end
-- ==== Proof.OutProj.Blocks.lean ====
module
public import proofs.«01_k».proof.Proof.Gen.Kernel7Ideal.Frame
public import proofs.«01_k».proof.Proof.Norm.Spec
public import proofs.«01_k».proof.Proof.Norm.Pieces
public import Idealize.ShloMosaic.Lib.Pipeline.ValueKit

@[expose] public section

set_option maxRecDepth 16384

/-! What one grid point of the call computes, entry by entry. -/

noncomputable section

namespace Cert.Kernel7Ideal.OutProj

open Idealize.ShloMosaic Idealize.ShloMosaic.TcCoe
open Cert.Kernel7Ideal Cert.Kernel7Ideal.Gen Cert.Norm

/-- A place among the first 512 of 1024, and among the last 512. -/
def up (a : Fin 512) : Fin 1024 := ⟨a.val, by omega⟩
def low (a : Fin 512) : Fin 1024 := ⟨512 + a.val, by omega⟩

section
variable (x d : Vec Ideal S640x1024 .f32) (g old : Vec Ideal S1x1024 .f32) (b : FVec Ideal S640x1024 .bf16)
  (w : Vec Ideal S1024x1024 .bf16) (q : Vec Ideal S512x1024 .f32) (p : Vec Ideal S640x512 .bf16)
  (a : Fin 640) (k : Fin 1024) (f : Fin 512)

theorem inv_block : k0_pay8 x (ix2 a 0) = Norm.inv (fun i => x (ix2 a i)) := by
  pointwise [k0_pay8]
  rfl
theorem hat_block : k0_pay9 x (ix2 a k) = hat (fun i => x (ix2 a i)) k := by
  pointwise [k0_pay9, inv_block]
  rfl
theorem back_block : k0_pay10 g x d (ix2 a k)
    = through (fun i => x (ix2 a i)) (fun i => d (ix2 a i) * g (ix2 0 i)) k := by
  pointwise [k0_pay10, inv_block, hat_block]
  rfl
theorem scale_block : k0_pay11 x d old (ix2 0 k)
    = (old (ix2 0 k) + ∑ a, d (ix2 a k) * hat (fun i => x (ix2 a i)) k : EReal) := by
  pointwise [k0_pay11, hat_block]
theorem start_block : k0_pay7 (F := Ideal) (ix2 0 k) = (show EReal from 0) := by
  pointwise [k0_pay7]
theorem left_block : k0_pay2 b w (ix2 a f) = (∑ k, b (ix2 a k) * w (ix2 k (up f)) : EReal) := by
  pointwise [k0_pay2, k0_pay1, up]
theorem right_block : k0_pay3 b w (ix2 a f) = (∑ k, b (ix2 a k) * w (ix2 k (low f)) : EReal) := by
  pointwise [k0_pay3, k0_pay1, low]
theorem upper_block : k0_pay4 b q p (ix2 f k) = (q (ix2 f k) + ∑ a, p (ix2 a f) * b (ix2 a k) : EReal) := by
  pointwise [k0_pay4]
theorem lower_block : k0_pay5 b q p (ix2 f k) = (q (ix2 f k) + ∑ a, p (ix2 a f) * b (ix2 a k) : EReal) := by
  pointwise [k0_pay5]
theorem zero_block (j : Fin 1024) : k0_pay6 (F := Ideal) (ix2 j k) = (show EReal from 0) := by
  pointwise [k0_pay6]
end

section
variable {F : FTy → Type} [FloatOps F]
variable (c : Dev nD) (i : grid0.Coords) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S640x512 .bf16) (harg5 : arg5.IsWhole) (arg6 : Memref sig .tc .vmem S640x512 .bf16) (harg6 : arg6.IsWhole) (arg7 : Memref sig .tc .vmem S640x512 .bf16) (harg7 : arg7.IsWhole) (arg8 : Memref sig .tc .vmem S640x512 .f32) (harg8 : arg8.IsWhole) (arg9 : Memref sig .tc .vmem S1024x1024 .f32) (harg9 : arg9.IsWhole) (arg10 : Memref sig .tc .vmem S1x1024 .f32) (harg10 : arg10.IsWhole)
  (x0 x1 : Vec F S640x1024 .f32) (x2 xo9 : Vec F S1x1024 .f32) (x3 : Vec F S1024x1024 .bf16) (x4 x5 : Vec F S640x512 .bf16) (xo8 : Vec F S1024x1024 .f32)

theorem first6 (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5
      = k0_pay2 (k0_pay10 x2 x1 x0) x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S640x512) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
theorem first7 (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5
      = k0_pay3 (k0_pay10 x2 x1 x0) x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S640x512) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
theorem later6 (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 x4 x5 xo8 xo9
      = k0_pay2 (k0_pay10 x2 x1 x0) x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  rw [View.canon_cons_unit_zero (S := S640x512) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
theorem later7 (hc0 : ¬cond0_0 i) :
    out0_B_7 c i arg1 harg1 arg2 harg2 arg3 harg3 arg4 harg4 arg5 harg5 arg6 harg6 arg7 harg7 arg8 harg8 arg9 harg9 arg10 harg10 hc0 x0 x1 x2 x3 x4 x5 xo8 xo9
      = k0_pay3 (k0_pay10 x2 x1 x0) x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  rw [View.canon_cons_unit_zero (S := S640x512) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
theorem first9 (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5
      = k0_pay11 x1 x0 (k0_pay7 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
  exact congrArg (fun z => k0_pay11 _ _ z) (View.readCov_unit_zero (Val := Elt F) (S := S1x1024) arg10.view (by decide) _ _)
theorem later9 (hc0 : ¬cond0_0 i) :
    out0_B_9 c i arg1 harg1 arg2 harg2 arg3 harg3 arg4 harg4 arg5 harg5 arg6 harg6 arg7 harg7 arg8 harg8 arg9 harg9 arg10 harg10 hc0 x0 x1 x2 x3 x4 x5 xo8 xo9
      = k0_pay11 x1 x0 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  rw [View.canon_cons_unit_zero (S := S1x1024) (by decide)]
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
end

section
variable (c : Dev nD) (i : grid0.Coords) (arg1 : Memref sig .tc .vmem S640x1024 .f32) (harg1 : arg1.IsWhole) (arg2 : Memref sig .tc .vmem S640x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S640x512 .bf16) (harg5 : arg5.IsWhole) (arg6 : Memref sig .tc .vmem S640x512 .bf16) (harg6 : arg6.IsWhole) (arg7 : Memref sig .tc .vmem S640x512 .bf16) (harg7 : arg7.IsWhole) (arg8 : Memref sig .tc .vmem S640x512 .f32) (harg8 : arg8.IsWhole) (arg9 : Memref sig .tc .vmem S1024x1024 .f32) (harg9 : arg9.IsWhole) (arg10 : Memref sig .tc .vmem S1x1024 .f32) (harg10 : arg10.IsWhole)
  (x0 x1 : Vec Ideal S640x1024 .f32) (x2 xo9 : Vec Ideal S1x1024 .f32) (x3 : Vec Ideal S1024x1024 .bf16) (x4 x5 : Vec Ideal S640x512 .bf16) (xo8 : Vec Ideal S1024x1024 .f32)
  (f : Fin 512) (k : Fin 1024)

theorem first8_up (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 (ix2 (up f) k)
      = (∑ a, x4 (ix2 a f) * k0_pay10 x2 x1 x0 (ix2 a k) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
  rw [canon_row (o0 := 512) (s0 := 512)]
  swap
  · exact .inl f.isLt
  refine Eq.trans (canon_here (Val := Elt Ideal) _ _ _ _ _ f k ?_ ?_) ?_
  · exact (Nat.zero_add _).symm
  · exact (Nat.zero_add _).symm
  refine (upper_block _ _ _ k f).trans ((Ideal.add_congr ?_ rfl).trans (zero_add _))
  refine Eq.trans (readCov_at (Val := Elt Ideal) _ _ (up f) k _ f k ?_ ?_) ?_
  · exact (Nat.zero_add _).symm
  · exact (Nat.zero_add _).symm
  refine Eq.trans (canon_here (Val := Elt Ideal) _ _ _ _ _ (up f) k ?_ ?_) (zero_block _ _)
  · exact (Nat.zero_add _).symm
  · exact (Nat.zero_add _).symm
theorem first8_low (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 (ix2 (low f) k)
      = (∑ a, x5 (ix2 a f) * k0_pay10 x2 x1 x0 (ix2 a k) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
  refine Eq.trans (canon_here (Val := Elt Ideal) _ _ _ _ _ f k ?_ ?_) ?_
  · rfl
  · exact (Nat.zero_add _).symm
  refine (lower_block _ _ _ k f).trans ((Ideal.add_congr ?_ rfl).trans (zero_add _))
  refine Eq.trans (readCov_at (Val := Elt Ideal) _ _ (low f) k _ f k ?_ ?_) ?_
  · rfl
  · exact (Nat.zero_add _).symm
  rw [canon_row (o0 := 0) (s0 := 512)]
  swap
  · exact .inr (by show 0 + 512 ≤ 512 + f.val; omega)
  refine Eq.trans (canon_here (Val := Elt Ideal) _ _ _ _ _ (low f) k ?_ ?_) (zero_block _ _)
  · exact (Nat.zero_add _).symm
  · exact (Nat.zero_add _).symm
theorem later8_up (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 xo8 xo9 (ix2 (up f) k)
      = (xo8 (ix2 (up f) k) + ∑ a, x4 (ix2 a f) * k0_pay10 x2 x1 x0 (ix2 a k) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
  rw [canon_row (o0 := 512) (s0 := 512)]
  swap
  · exact .inl f.isLt
  refine Eq.trans (canon_here (Val := Elt Ideal) _ _ _ _ _ f k ?_ ?_) ?_
  · exact (Nat.zero_add _).symm
  · exact (Nat.zero_add _).symm
  refine (upper_block _ _ _ k f).trans (Ideal.add_congr ?_ rfl)
  refine (congrFun (View.ld_unit (S := S1024x1024) _ _ _ _) _).trans ?_
  pointwise [up]
theorem later8_low (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 xo8 xo9 (ix2 (low f) k)
      = (xo8 (ix2 (low f) k) + ∑ a, x5 (ix2 a f) * k0_pay10 x2 x1 x0 (ix2 a k) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo8 xo9)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [View.ld_unit_zero (S := S1x1024) (off := ![0, 0]) (by decide), View.ld_unit_zero (S := S640x1024) (off := ![0, 0]) (by decide),
    View.ld_unit_zero (S := S1024x1024) (off := ![0, 0]) (by decide), View.ld_unit_zero (S := S640x512) (off := ![0, 0]) (by decide)]
  refine Eq.trans (canon_here (Val := Elt Ideal) _ _ _ _ _ f k ?_ ?_) ?_
  · rfl
  · exact (Nat.zero_add _).symm
  refine (lower_block _ _ _ k f).trans (Ideal.add_congr ?_ rfl)
  refine (congrFun (View.ld_unit (S := S1024x1024) _ _ _ _) _).trans ?_
  pointwise [low]
end

end Cert.Kernel7Ideal.OutProj
end
-- ==== Proof.OutProj.Arrays.lean ====
module
public import proofs.«01_k».proof.Proof.OutProj.Blocks
public import proofs.«01_k».proof.Proof.Norm.Rows
public import proofs.«01_k».proof.Proof.Gen.Kernel7Ideal.Value

@[expose] public section

set_option maxRecDepth 16384

/-!
The four arrays the call leaves: every row tile of the two halves' gradients from that tile alone, the
weight's and the scale's gradients added up over the thirteen row tiles.
-/

noncomputable section

namespace Cert.Kernel7Ideal.OutProj

open Idealize.ShloMosaic Idealize.ShloMosaic.TcCoe Idealize.SL.Sem
open Cert.Kernel7Ideal Cert.Kernel7Ideal.Gen Cert.Norm

theorem idx0 : ∀ t : Fin cfg0.N,
    win0_0.index t = ![t.val, 0] ∧ win0_1.index t = ![t.val, 0] ∧ win0_2.index t = ![0, 0]
      ∧ win0_3.index t = ![0, 0] ∧ win0_4.index t = ![t.val, 0] ∧ win0_5.index t = ![t.val, 0]
      ∧ win0_6.index t = ![t.val, 0] ∧ win0_7.index t = ![t.val, 0] ∧ win0_8.index t = ![0, 0]
      ∧ win0_9.index t = ![0, 0] :=
  (by decide +kernel : ∀ t : Fin grid0.N, _)

theorem point_lt (t : Fin cfg0.N) : t.val < 13 := t.isLt

variable (m : (ℓ : Loc nD τ sig) → Buf (Elt Ideal) ℓ) (c : Dev nD)

/-- The arguments by row and column. -/
def memD (r : Fin 8320) (k : Fin 1024) : EReal := (m ((c.tc : Thread nD τ).loc main_arg0) : S8320x1024.Idx → EReal) (ix2 r k)
def memM (r : Fin 8320) (k : Fin 1024) : EReal := (m ((c.tc : Thread nD τ).loc main_arg1) : S8320x1024.Idx → EReal) (ix2 r k)
def memG (k : Fin 1024) : EReal := (m ((c.tc : Thread nD τ).loc main_arg2) : S1x1024.Idx → EReal) (ix2 0 k)
def memW (f k : Fin 1024) : EReal := (m ((c.tc : Thread nD τ).loc main_arg3) : S1024x1024.Idx → EReal) (ix2 f k)
def memA (r : Fin 8320) (f : Fin 512) : EReal := (m ((c.tc : Thread nD τ).loc main_arg4) : S8320x512.Idx → EReal) (ix2 r f)
def memR (r : Fin 8320) (f : Fin 512) : EReal := (m ((c.tc : Thread nD τ).loc main_arg5) : S8320x512.Idx → EReal) (ix2 r f)

/-- The gradient through the norm. -/
def back (r : Fin 8320) (k : Fin 1024) : EReal := through (memM m c r) (fun x => memD m c r x * memG m c x) k
/-- The two inputs of the product next to each other. -/
def side (r : Fin 8320) (f : Fin 1024) : EReal :=
  if h : f.val < 512 then memA m c r ⟨f.val, h⟩ else memR m c r ⟨f.val - 512, by omega⟩
/-- The gradients of the two inputs, of the weight and of the scale. -/
def res1 (j : S8320x512.Idx) : EReal := ∑ k, back m c (j 0) k * memW m c (up (j 1)) k
def res2 (j : S8320x512.Idx) : EReal := ∑ k, back m c (j 0) k * memW m c (low (j 1)) k
def res3 (j : S1024x1024.Idx) : EReal := ∑ r, side m c r (j 0) * back m c r (j 1)
def res4 (j : S1x1024.Idx) : EReal := ∑ r, memD m c r (j 1) * hat (memM m c r) (j 1)

theorem side_up (r : Fin 8320) (f : Fin 512) : side m c r (up f) = memA m c r f := dif_pos f.isLt
theorem side_low (r : Fin 8320) (f : Fin 512) : side m c r (low f) = memR m c r f :=
  (dif_neg (by show ¬(512 + f.val < 512); omega)).trans
    (congrArg (memR m c r) (Fin.ext (by show 512 + f.val - 512 = f.val; omega)))
theorem up_or_low (j : Fin 1024) : (∃ f, j = up f) ∨ ∃ f, j = low f := by
  by_cases h : j.val < 512
  · exact .inl ⟨⟨j.val, h⟩, rfl⟩
  · exact .inr ⟨⟨j.val - 512, by omega⟩, Fin.ext (by show j.val = 512 + (j.val - 512); omega)⟩

/-- The region finds the transposed weight. -/
theorem weight_found : V m c main_v0
    = transpose S1024x1024 [1, 0] (m ((c.tc : Thread nD τ).loc main_arg3) : Vec Ideal S1024x1024 .bf16) transposes_S1024x1024_S1024x1024_1_0 := by
  show StableHlo.after hostOps0 (fun b => m (c, b)) (Proc.devRef .tc main_v0) = _
  after_results
theorem transposed (x : Vec Ideal S1024x1024 .bf16) (k f : Fin 1024) :
    transpose S1024x1024 [1, 0] x transposes_S1024x1024_S1024x1024_1_0 (ix2 k f) = x (ix2 f k) := by
  pointwise []

section
variable (t : Fin cfg0.N) (a : Fin 640) (k f : Fin 1024) (h : Fin 512)

theorem d_found : iblk m c 0 t (ix2 a k) = (V m c main_arg0 : S8320x1024.Idx → EReal) (ix2 (rowAt t.val a) k) := by
  rw [rowAt_eq _ (point_lt t)]
  generalize hx : V m c main_arg0 = x
  unfold iblk
  rw [show V m c (Pipeline.arrRef spec0 0) = x from hx]
  blk_ext! [idx0 t]
theorem m_found : iblk m c 1 t (ix2 a k) = (V m c main_arg1 : S8320x1024.Idx → EReal) (ix2 (rowAt t.val a) k) := by
  rw [rowAt_eq _ (point_lt t)]
  generalize hx : V m c main_arg1 = x
  unfold iblk
  rw [show V m c (Pipeline.arrRef spec0 1) = x from hx]
  blk_ext! [idx0 t]
theorem g_found : iblk m c 2 t (ix2 0 k) = (V m c main_arg2 : S1x1024.Idx → EReal) (ix2 0 k) := by
  generalize hx : V m c main_arg2 = x
  unfold iblk
  rw [show V m c (Pipeline.arrRef spec0 2) = x from hx]
  blk_ext! [idx0 t]
theorem w_found : iblk m c 3 t (ix2 k f) = (V m c main_v0 : S1024x1024.Idx → EReal) (ix2 k f) := by
  generalize hx : V m c main_v0 = x
  unfold iblk
  rw [show V m c (Pipeline.arrRef spec0 3) = x from hx]
  blk_ext! [idx0 t]
theorem a_found : iblk m c 4 t (ix2 a h) = (V m c main_arg4 : S8320x512.Idx → EReal) (ix2 (rowAt t.val a) h) := by
  rw [rowAt_eq _ (point_lt t)]
  generalize hx : V m c main_arg4 = x
  unfold iblk
  rw [show V m c (Pipeline.arrRef spec0 4) = x from hx]
  blk_ext! [idx0 t]
theorem r_found : iblk m c 5 t (ix2 a h) = (V m c main_arg5 : S8320x512.Idx → EReal) (ix2 (rowAt t.val a) h) := by
  rw [rowAt_eq _ (point_lt t)]
  generalize hx : V m c main_arg5 = x
  unfold iblk
  rw [show V m c (Pipeline.arrRef spec0 5) = x from hx]
  blk_ext! [idx0 t]
theorem emb6 : (((cfg0.win 6).blk t).view.emb (ix2 a h) : S8320x512.Idx) = ix2 (rowAt t.val a) h := by
  rw [rowAt_eq _ (point_lt t)]
  blk_ext! [idx0 t]
theorem emb7 : (((cfg0.win 7).blk t).view.emb (ix2 a h) : S8320x512.Idx) = ix2 (rowAt t.val a) h := by
  rw [rowAt_eq _ (point_lt t)]
  blk_ext! [idx0 t]
theorem emb8 : (((cfg0.win 8).blk t).view.emb (ix2 f k) : S1024x1024.Idx) = ix2 f k := by
  blk_ext! [idx0 t]
theorem emb9 : (((cfg0.win 9).blk t).view.emb (ix2 0 k) : S1x1024.Idx) = ix2 0 k := by
  blk_ext! [idx0 t]

theorem d_read : iblk m c 0 t (ix2 a k) = memD m c (rowAt t.val a) k :=
  (d_found m c t a k).trans (congrFun (V_main_arg0 m c) (ix2 (rowAt t.val a) k))
theorem m_read : iblk m c 1 t (ix2 a k) = memM m c (rowAt t.val a) k :=
  (m_found m c t a k).trans (congrFun (V_main_arg1 m c) (ix2 (rowAt t.val a) k))
theorem g_read : iblk m c 2 t (ix2 0 k) = memG m c k :=
  (g_found m c t k).trans (congrFun (V_main_arg2 m c) (ix2 0 k))
theorem w_read : iblk m c 3 t (ix2 k f) = memW m c f k :=
  (w_found m c t k f).trans ((congrFun (weight_found m c) (ix2 k f)).trans (transposed _ k f))
theorem a_read : iblk m c 4 t (ix2 a h) = memA m c (rowAt t.val a) h :=
  (a_found m c t a h).trans (congrFun (V_main_arg4 m c) (ix2 (rowAt t.val a) h))
theorem r_read : iblk m c 5 t (ix2 a h) = memR m c (rowAt t.val a) h :=
  (r_found m c t a h).trans (congrFun (V_main_arg5 m c) (ix2 (rowAt t.val a) h))
end

/-- What one row tile adds to the weight's gradient, and to the scale's. -/
def part (i : ℕ) (f k : Fin 1024) : EReal := ∑ a, side m c (rowAt i a) f * back m c (rowAt i a) k
def partG (i : ℕ) (k : Fin 1024) : EReal := ∑ a, memD m c (rowAt i a) k * hat (memM m c (rowAt i a)) k

section
variable (t : Fin cfg0.N) (d x : Vec Ideal S640x1024 .f32) (g : Vec Ideal S1x1024 .f32) (w : Vec Ideal S1024x1024 .bf16)
  (p q : Vec Ideal S640x512 .bf16)
  (hd : d = iblk m c 0 t) (hm : x = iblk m c 1 t) (hg : g = iblk m c 2 t) (hw : w = iblk m c 3 t)
  (hp : p = iblk m c 4 t) (hq : q = iblk m c 5 t)

include hm in
theorem row_eq (a : Fin 640) : (fun i => x (ix2 a i)) = memM m c (rowAt t.val a) := by
  subst hm
  exact funext fun i => m_read m c t a i

include hd hm in
theorem scale_part (k : Fin 1024) : (∑ a, d (ix2 a k) * hat (fun i => x (ix2 a i)) k : EReal) = partG m c t.val k := by
  refine Finset.sum_congr rfl fun a _ => ?_
  rw [row_eq m c t x hm a]
  subst hd
  exact Ideal.mul_congr (d_read m c t a k) rfl

include hd hm hg
theorem back_point (a : Fin 640) (k : Fin 1024) : k0_pay10 g x d (ix2 a k) = back m c (rowAt t.val a) k := by
  refine (back_block x d g a k).trans ?_
  rw [row_eq m c t x hm a]
  refine Eq.trans ?_ (show through (memM m c (rowAt t.val a)) (fun i => memD m c (rowAt t.val a) i * memG m c i) k
    = back m c (rowAt t.val a) k from rfl)
  refine congrArg (fun z => through _ z k) (funext fun i => ?_)
  subst hd hg
  exact Ideal.mul_congr (d_read m c t a i) (g_read m c t i)

include hp in
theorem up_part (f : Fin 512) (k : Fin 1024) :
    (∑ a, p (ix2 a f) * k0_pay10 g x d (ix2 a k) : EReal) = part m c t.val (up f) k := by
  refine Finset.sum_congr rfl fun a _ => Ideal.mul_congr ?_ (back_point m c t d x g hd hm hg a k)
  rw [side_up]
  subst hp
  exact a_read m c t a f
include hq in
theorem low_part (f : Fin 512) (k : Fin 1024) :
    (∑ a, q (ix2 a f) * k0_pay10 g x d (ix2 a k) : EReal) = part m c t.val (low f) k := by
  refine Finset.sum_congr rfl fun a _ => Ideal.mul_congr ?_ (back_point m c t d x g hd hm hg a k)
  rw [side_low]
  subst hq
  exact r_read m c t a f

include hw
theorem left_point (a : Fin 640) (f : Fin 512) :
    k0_pay2 (k0_pay10 g x d) w (ix2 a f) = res1 m c (ix2 (rowAt t.val a) f) := by
  refine (left_block _ w a f).trans (Finset.sum_congr rfl fun k _ => ?_)
  refine Ideal.mul_congr (back_point m c t d x g hd hm hg a k) ?_
  subst hw
  exact w_read m c t k (up f)
theorem right_point (a : Fin 640) (f : Fin 512) :
    k0_pay3 (k0_pay10 g x d) w (ix2 a f) = res2 m c (ix2 (rowAt t.val a) f) := by
  refine (right_block _ w a f).trans (Finset.sum_congr rfl fun k _ => ?_)
  refine Ideal.mul_congr (back_point m c t d x g hd hm hg a k) ?_
  subst hw
  exact w_read m c t k (low f)
end

theorem left_after (t : Fin cfg0.N) (y : S640x512.Idx) :
    (dats m 0 c).after 6 t y = res1 m c (((cfg0.win 6).blk t).view.emb y) := by
  rw [after0_6]
  idx_vars y
  rw [emb6]
  by_cases h : t.val % 13 = 0
  · rw [outsAt0_A m c t h]
    dsimp only
    rw [first6]
    exact left_point m c t _ _ _ _ rfl rfl rfl rfl y0 y1
  · rw [outsAt0_B m c t h]
    dsimp only
    rw [later6]
    exact left_point m c t _ _ _ _ rfl rfl rfl rfl y0 y1
theorem right_after (t : Fin cfg0.N) (y : S640x512.Idx) :
    (dats m 0 c).after 7 t y = res2 m c (((cfg0.win 7).blk t).view.emb y) := by
  rw [after0_7]
  idx_vars y
  rw [emb7]
  by_cases h : t.val % 13 = 0
  · rw [outsAt0_A m c t h]
    dsimp only
    rw [first7]
    exact right_point m c t _ _ _ _ rfl rfl rfl rfl y0 y1
  · rw [outsAt0_B m c t h]
    dsimp only
    rw [later7]
    exact right_point m c t _ _ _ _ rfl rfl rfl rfl y0 y1

theorem first_point (t : Fin cfg0.N) (h : t.val % 13 = 0) (j k : Fin 1024) :
    (outsAt0 m c t.val t.isLt).2.2.1 (ix2 j k) = part m c t.val j k := by
  rw [outsAt0_A m c t h]
  dsimp only
  obtain ⟨f, rfl⟩ | ⟨f, rfl⟩ := up_or_low j
  · exact (first8_up ..).trans (up_part m c t _ _ _ _ rfl rfl rfl rfl f k)
  · exact (first8_low ..).trans (low_part m c t _ _ _ _ rfl rfl rfl rfl f k)
theorem later_point (t : Fin cfg0.N) (h : ¬t.val % 13 = 0) (j k : Fin 1024) :
    (outsAt0 m c t.val t.isLt).2.2.1 (ix2 j k)
      = ((outsAt0 m c (t.val - 1) (Nat.lt_of_le_of_lt (Nat.sub_le _ _) t.isLt)).2.2.1 (ix2 j k) + part m c t.val j k : EReal) := by
  rw [outsAt0_B m c t h]
  dsimp only
  obtain ⟨f, rfl⟩ | ⟨f, rfl⟩ := up_or_low j
  · exact (later8_up ..).trans (Ideal.add_congr rfl (up_part m c t _ _ _ _ rfl rfl rfl rfl f k))
  · exact (later8_low ..).trans (Ideal.add_congr rfl (low_part m c t _ _ _ _ rfl rfl rfl rfl f k))
theorem first_scale (t : Fin cfg0.N) (h : t.val % 13 = 0) (k : Fin 1024) :
    (outsAt0 m c t.val t.isLt).2.2.2 (ix2 0 k) = partG m c t.val k := by
  rw [outsAt0_A m c t h]
  dsimp only
  rw [first9]
  exact (scale_block _ _ _ k).trans ((Ideal.add_congr (start_block k) (scale_part m c t _ _ rfl rfl k)).trans (zero_add _))
theorem later_scale (t : Fin cfg0.N) (h : ¬t.val % 13 = 0) (k : Fin 1024) :
    (outsAt0 m c t.val t.isLt).2.2.2 (ix2 0 k)
      = ((outsAt0 m c (t.val - 1) (Nat.lt_of_le_of_lt (Nat.sub_le _ _) t.isLt)).2.2.2 (ix2 0 k) + partG m c t.val k : EReal) := by
  rw [outsAt0_B m c t h]
  dsimp only
  rw [later9]
  exact (scale_block _ _ _ k).trans (Ideal.add_congr rfl (scale_part m c t _ _ rfl rfl k))

/-- The accumulators hold the row tiles added so far. -/
theorem acc (j k : Fin 1024) : ∀ (n : ℕ) (hn : n < cfg0.N), (outsAt0 m c n hn).2.2.1 (ix2 j k)
    = (∑ i ∈ Finset.range (n + 1), part m c i j k : EReal) := by
  intro n
  induction n with
  | zero => intro hn; exact (first_point m c ⟨0, hn⟩ rfl j k).trans (Finset.sum_range_one fun i => part m c i j k).symm
  | succ n ih =>
    intro hn
    have h13 : n + 1 < 13 := hn
    refine (later_point m c ⟨n + 1, hn⟩ (by dsimp only; omega) j k).trans ?_
    refine (Ideal.add_congr (ih (Nat.lt_of_succ_lt hn)) rfl).trans ?_
    exact (Finset.sum_range_succ _ _).symm
theorem accG (k : Fin 1024) : ∀ (n : ℕ) (hn : n < cfg0.N), (outsAt0 m c n hn).2.2.2 (ix2 0 k)
    = (∑ i ∈ Finset.range (n + 1), partG m c i k : EReal) := by
  intro n
  induction n with
  | zero => intro hn; exact (first_scale m c ⟨0, hn⟩ rfl k).trans (Finset.sum_range_one fun i => partG m c i k).symm
  | succ n ih =>
    intro hn
    have h13 : n + 1 < 13 := hn
    refine (later_scale m c ⟨n + 1, hn⟩ (by dsimp only; omega) k).trans ?_
    refine (Ideal.add_congr (ih (Nat.lt_of_succ_lt hn)) rfl).trans ?_
    exact (Finset.sum_range_succ _ _).symm

theorem covers6 : (cfg0.win 6).Covers := by decide +kernel
theorem covers7 : (cfg0.win 7).Covers := by decide +kernel
theorem covers8 : (cfg0.win 8).Covers := by decide +kernel
theorem covers9 : (cfg0.win 9).Covers := by decide +kernel

theorem weight_after (t : Fin cfg0.N) (h : t.val % 13 = 12) (y : S1024x1024.Idx) :
    (dats m 0 c).after 8 t y = res3 m c (((cfg0.win 8).blk t).view.emb y) := by
  rw [after0_8]
  idx_vars y
  rw [emb8]
  have h12 : t.val = 12 := by have := point_lt t; omega
  refine (acc m c y0 y1 t.val t.isLt).trans ?_
  rw [h12]
  exact tiles_sum fun r => side m c r y0 * back m c r y1
theorem scale_after (t : Fin cfg0.N) (h : t.val % 13 = 12) (y : S1x1024.Idx) :
    (dats m 0 c).after 9 t y = res4 m c (((cfg0.win 9).blk t).view.emb y) := by
  rw [after0_9]
  obtain ⟨k, rfl⟩ : ∃ k : Fin 1024, y = ix2 0 k := ⟨y 1, by rw [eq_ix2 y]; exact congrArg (fun z => ix2 z _) (Subsingleton.elim _ _)⟩
  rw [emb9]
  have h12 : t.val = 12 := by have := point_lt t; omega
  refine (accG m c k t.val t.isLt).trans ?_
  rw [h12]
  exact tiles_sum fun r => memD m c r k * hat (memM m c r) k

theorem left_array : (dats m 0 c).arrAt 6 cfg0.N = res1 m c :=
  (dats m 0 c).arrAt_eq_of_covers 6 _ covers6 fun t _ y => left_after m c t y
theorem right_array : (dats m 0 c).arrAt 7 cfg0.N = res2 m c :=
  (dats m 0 c).arrAt_eq_of_covers 7 _ covers7 fun t _ y => right_after m c t y
theorem weight_array : (dats m 0 c).arrAt 8 cfg0.N = res3 m c :=
  (dats m 0 c).arrAt_eq_of_covers 8 _ covers8 fun t hf y => weight_after m c t ((flush0_8 t).mp hf) y
theorem scale_array : (dats m 0 c).arrAt 9 cfg0.N = res4 m c :=
  (dats m 0 c).arrAt_eq_of_covers 9 _ covers9 fun t hf y => scale_after m c t ((flush0_9 t).mp hf) y

theorem run (ρ : Dev nD → PrngReg) : θ_run defs (onTc (τ := τ) (main (F := Ideal))) ⟨m, fun _ => 0, ρ⟩ fun r => ∀ c : Dev nD,
      r.2.mem ((c.tc : Thread nD τ).loc main_v1_0) = res1 m c
      ∧ r.2.mem ((c.tc : Thread nD τ).loc main_v1_1) = res2 m c
      ∧ r.2.mem ((c.tc : Thread nD τ).loc main_v1_2) = res3 m c
      ∧ r.2.mem ((c.tc : Thread nD τ).loc main_v1_3) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (left_array m c), (h c).2.1.trans (right_array m c),
    (h c).2.2.1.trans (weight_array m c), (h c).2.2.2.1.trans (scale_array m c), (h c).2.2.2.2⟩)
    (Value.run_blocks m ρ)

end Cert.Kernel7Ideal.OutProj
end
-- ==== Proof.OutProj.Ref.lean ====
module
public import proofs.«01_k».proof.Proof.Gen.Reference7Ideal.Run
public import proofs.«01_k».proof.Proof.FfnX.Ref

@[expose] public section

set_option maxRecDepth 16384

/-! The reference's gradients of the output projection and of the norm after it, entry by entry. -/

noncomputable section

namespace Cert.Reference7Ideal.OutProj

open Idealize.ShloMosaic Idealize.ShloMosaic.TcCoe Idealize.SL.Sem
open Cert.Reference7Ideal Cert.Reference7Ideal.Gen Cert.Norm

section
variable (H B D : FVec Ideal S8320x1024 .f32) (Q : FVec Ideal S8320x1 .f32) (T : FVec Ideal S8320 .f32)
  (W : FVec Ideal S1024x1024 .bf16) (P S : FVec Ideal S8320x512 .bf16) (r : Fin 8320) (k : Fin 1024) (f : Fin 512)

theorem back_apply (hQ : Q (ix2 r 0) = meanSq (fun i => H (ix2 r i)))
    (hT : T (ix1 r) = half (fun i => H (ix2 r i)) (fun i => B (ix2 r i))) :
   (addf (addf (mulf B (broadcastInDim S8320x1024 ![0, 1] bcast_S8320x1_S8320x1024_0_1 (Host.rsqrt Q))) (mulf H (broadcastInDim S8320x1024 ![0] bcast_S8320_S8320x1024_0 T))) (mulf (broadcastInDim S8320x1024 ![0] bcast_S8320_S8320x1024_0 T) H) : FVec Ideal S8320x1024 .f32) (ix2 r k)
     = through (fun i => H (ix2 r i)) (fun i => B (ix2 r i)) k := by
  rw [through_eq]
  unfold Norm.inv
  rw [← hQ, ← hT]
  refine Eq.trans ?_ (add_assoc _ _ _)
  pointwise []

theorem left_apply :
   (truncf .bf16 (extractStridedSlice S8320x512 ![0, 0] (Host.dotGeneral dot_S8320x1024_S1024x1024_S8320x1024_1_1_0_0_n_n none D (extf .f32 W bitsLt_bf16_f32)) slices_S8320x1024_S8320x512_0_0) bitsLt_bf16_f32 : FVec Ideal S8320x512 .bf16) (ix2 r f)
     = (∑ k, D (ix2 r k) * W (ix2 ⟨f.val, by omega⟩ k) : EReal) := by
  pointwise []
theorem right_apply :
   (extractStridedSlice S8320x512 ![0, 512] (Host.dotGeneral dot_S8320x1024_S1024x1024_S8320x1024_1_1_0_0_n_n none D (extf .f32 W bitsLt_bf16_f32)) slices_S8320x1024_S8320x512_0_512 : FVec Ideal S8320x512 .f32) (ix2 r f)
     = (∑ k, D (ix2 r k) * W (ix2 ⟨512 + f.val, by omega⟩ k) : EReal) := by
  pointwise []

/-- The two inputs of the product next to each other. -/
theorem side_apply (j : Fin 1024) :
   (concatenate S8320x1024 1 [⟨S8320x512, (extf .f32 P bitsLt_bf16_f32 : (⟨S8320x512, .f32⟩ : BufTy).Contents (Elt Ideal))⟩, ⟨S8320x512, (extf .f32 S bitsLt_bf16_f32 : (⟨S8320x512, .f32⟩ : BufTy).Contents (Elt Ideal))⟩] concatenates_S8320x512_S8320x512_S8320x1024_d1 : (⟨S8320x1024, .f32⟩ : BufTy).Contents (Elt Ideal)) (ix2 r j)
     = (if h : j.val < 512 then P (ix2 r ⟨j.val, h⟩) else S (ix2 r ⟨j.val - 512, by omega⟩) : EReal) := by
  pointwise []

theorem weight_apply (X : FVec Ideal S8320x1024 .f32) (j : Fin 1024) :
   (transpose S1024x1024 [1, 0] (Host.dotGeneral dot_S8320x1024_S8320x1024_S1024x1024_0_0_1_1_n_n none D X) transposes_S1024x1024_S1024x1024_1_0 : FVec Ideal S1024x1024 .f32) (ix2 j k)
     = (∑ r, X (ix2 r j) * D (ix2 r k) : EReal) := by
  refine Eq.trans ?_ (Finset.sum_congr rfl fun r _ => mul_comm (D (ix2 r k) : EReal) (X (ix2 r j)))
  pointwise []
end

section
variable (m : (ℓ : Loc nD τ sig) → Buf (Elt Ideal) ℓ) (c : Dev nD)

/-- The arguments by row and column. -/
def memD (r : Fin 8320) (k : Fin 1024) : EReal := (m ((c.tc : Thread nD τ).loc main_arg0) : S8320x1024.Idx → EReal) (ix2 r k)
def memM (r : Fin 8320) (k : Fin 1024) : EReal := (m ((c.tc : Thread nD τ).loc main_arg1) : S8320x1024.Idx → EReal) (ix2 r k)
def memG (k : Fin 1024) : EReal := (m ((c.tc : Thread nD τ).loc main_arg2) : S1x1024.Idx → EReal) (ix2 0 k)
def memW (f k : Fin 1024) : EReal := (m ((c.tc : Thread nD τ).loc main_arg3) : S1024x1024.Idx → EReal) (ix2 f k)
def memA (r : Fin 8320) (f : Fin 512) : EReal := (m ((c.tc : Thread nD τ).loc main_arg4) : S8320x512.Idx → EReal) (ix2 r f)
def memR (r : Fin 8320) (f : Fin 512) : EReal := (m ((c.tc : Thread nD τ).loc main_arg5) : S8320x512.Idx → EReal) (ix2 r f)

/-- The gradient through the norm, and the two inputs of the product next to each other. -/
def back (r : Fin 8320) (k : Fin 1024) : EReal := through (memM m c r) (fun x => memD m c r x * memG m c x) k
def side (r : Fin 8320) (f : Fin 1024) : EReal :=
  if h : f.val < 512 then memA m c r ⟨f.val, h⟩ else memR m c r ⟨f.val - 512, by omega⟩
/-- The four results. -/
def res1 (j : S8320x512.Idx) : EReal := ∑ k, back m c (j 0) k * memW m c ⟨(j 1).val, Nat.lt_trans (j 1).isLt (by decide)⟩ k
def res2 (j : S8320x512.Idx) : EReal := ∑ k, back m c (j 0) k * memW m c ⟨512 + (j 1).val, Nat.add_lt_add_left (j 1).isLt 512⟩ k
def res3 (j : S1024x1024.Idx) : EReal := ∑ r, side m c r (j 0) * back m c r (j 1)
def res4 (j : S1x1024.Idx) : EReal := ∑ r, memD m c r (j 1) * hat (memM m c r) (j 1)

theorem back_eq (r : Fin 8320) (z : Fin 1024 → EReal) (hz : ∀ x, z x = memD m c r x * memG m c x) (k : Fin 1024) :
    through (memM m c r) z k = back m c r k := by
  rw [funext hz]
  rfl

theorem run (ρ : Dev nD → PrngReg) : θ_run defs (onTc (τ := τ) (main (F := Ideal))) ⟨m, fun _ => 0, ρ⟩ fun r => ∀ c : Dev nD,
      r.2.mem ((c.tc : Thread nD τ).loc main_v48) = res1 m c
      ∧ r.2.mem ((c.tc : Thread nD τ).loc main_v47) = res2 m c
      ∧ r.2.mem ((c.tc : Thread nD τ).loc main_v44) = res3 m c
      ∧ r.2.mem ((c.tc : Thread nD τ).loc main_v37) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (funext fun j => ?_), (h c).2.1.trans (funext fun j => ?_),
    (h c).2.2.1.trans (funext fun j => ?_), (h c).2.2.2.1.trans (funext fun j => ?_), (h c).2.2.2.2⟩)
    (Cert.Reference7Ideal.Value.run m ρ)
  · obtain ⟨r, f, rfl⟩ : ∃ (r : Fin 8320) (f : Fin 512), j = ix2 r f := ⟨j 0, j 1, eq_ix2 j⟩
    unfold Value.res_main_v48
    refine (left_apply _ _ r f).trans (Finset.sum_congr rfl fun k _ => Ideal.mul_congr ?_ rfl)
    refine (back_apply _ _ _ _ r k (Cert.Reference3Ideal.FfnX.mean_apply _ r)
      (Cert.Reference3Ideal.FfnX.half_apply _ _ _ r (Cert.Reference3Ideal.FfnX.mean_apply _ r))).trans ?_
    exact back_eq m c r _ (fun x => Cert.Reference3Ideal.FfnX.scaled_apply _ _ r x) k
  · obtain ⟨r, f, rfl⟩ : ∃ (r : Fin 8320) (f : Fin 512), j = ix2 r f := ⟨j 0, j 1, eq_ix2 j⟩
    unfold Value.res_main_v47
    refine (right_apply _ _ r f).trans (Finset.sum_congr rfl fun k _ => Ideal.mul_congr ?_ rfl)
    refine (back_apply _ _ _ _ r k (Cert.Reference3Ideal.FfnX.mean_apply _ r)
      (Cert.Reference3Ideal.FfnX.half_apply _ _ _ r (Cert.Reference3Ideal.FfnX.mean_apply _ r))).trans ?_
    exact back_eq m c r _ (fun x => Cert.Reference3Ideal.FfnX.scaled_apply _ _ r x) k
  · obtain ⟨f, k, rfl⟩ : ∃ (f k : Fin 1024), j = ix2 f k := ⟨j 0, j 1, eq_ix2 j⟩
    unfold Value.res_main_v44
    refine (weight_apply _ k _ f).trans (Finset.sum_congr rfl fun r _ => Ideal.mul_congr (side_apply _ _ r f) ?_)
    refine (back_apply _ _ _ _ r k (Cert.Reference3Ideal.FfnX.mean_apply _ r)
      (Cert.Reference3Ideal.FfnX.half_apply _ _ _ r (Cert.Reference3Ideal.FfnX.mean_apply _ r))).trans ?_
    exact back_eq m c r _ (fun x => Cert.Reference3Ideal.FfnX.scaled_apply _ _ r x) k
  · obtain ⟨k, rfl⟩ : ∃ k : Fin 1024, j = ix2 0 k := ⟨j 1, by rw [eq_ix2 j]; exact congrArg (fun z => ix2 z _) (Subsingleton.elim _ _)⟩
    exact Cert.Reference3Ideal.FfnX.scale_apply _ _ _ k fun r => Cert.Reference3Ideal.FfnX.mean_apply _ r
end

end Cert.Reference7Ideal.OutProj
end
-- ==== Proof.InProjF.Arrays.lean ====
module
public import proofs.«01_k».proof.Proof.Gen.Kernel8Ideal.Value
public import proofs.«01_k».proof.Proof.Norm.Spec
public import proofs.«01_k».proof.Proof.Norm.Rows
public import Idealize.ShloMosaic.Lib.Pipeline.ValueKit

@[expose] public section

set_option maxRecDepth 16384

/-! The three arrays the call leaves, every row tile from that tile alone. -/

noncomputable section

namespace Cert.Kernel8Ideal.InProjF

open Idealize.ShloMosaic Idealize.ShloMosaic.TcCoe Idealize.SL.Sem
open Cert.Kernel8Ideal Cert.Kernel8Ideal.Gen Cert.Norm

/-- A column of each of the two parts. -/
def colQ (f : Fin 768) : Fin 1792 := ⟨f.val, by omega⟩
def colZ (f : Fin 1024) : Fin 1792 := ⟨768 + f.val, by omega⟩

section
variable (x0 : Vec Ideal S640x1024 .f32) (x1 : Vec Ideal S1x1024 .f32) (x2 : Vec Ideal S1024x1792 .bf16) (a : Fin 640)

theorem norm_block (k : Fin 1024) : k0_pay1 x0 x1 (ix2 a k) = (hat (fun i => x0 (ix2 a i)) k * x1 (ix2 0 k) : EReal) := by
  pointwise [k0_pay1]
  rfl
theorem prod_block (k : Fin 1792) : k0_pay2 x0 x1 x2 (ix2 a k)
    = (∑ i, (hat (fun i => x0 (ix2 a i)) i * x1 (ix2 0 i)) * x2 (ix2 i k) : EReal) := by
  pointwise [k0_pay2, norm_block]
theorem out3 (f : Fin 768) : out0_3 x0 x1 x2 (ix2 a f)
    = (∑ i, (hat (fun i => x0 (ix2 a i)) i * x1 (ix2 0 i)) * x2 (ix2 i (colQ f)) : EReal) := by
  unfold out0_3
  frame_out
  pointwise [k0_pay3, prod_block, colQ]
theorem out4 (f : Fin 1024) : out0_4 x0 x1 x2 (ix2 a f)
    = (∑ i, (hat (fun i => x0 (ix2 a i)) i * x1 (ix2 0 i)) * x2 (ix2 i (colZ f)) : EReal) := by
  unfold out0_4
  frame_out
  pointwise [k0_pay4, prod_block, colZ]
theorem out5 (k : Fin 1024) : out0_5 x0 x1 x2 (ix2 a k) = (hat (fun i => x0 (ix2 a i)) k * x1 (ix2 0 k) : EReal) := by
  unfold out0_5
  frame_out
  exact norm_block x0 x1 a k
end

theorem idx0 : ∀ t : Fin cfg0.N,
    win0_0.index t = ![t.val, 0] ∧ win0_1.index t = ![0, 0] ∧ win0_2.index t = ![0, 0]
      ∧ win0_3.index t = ![t.val, 0] ∧ win0_4.index t = ![t.val, 0] ∧ win0_5.index t = ![t.val, 0] :=
  (by decide +kernel : ∀ t : Fin grid0.N, _)

theorem point_lt (t : Fin cfg0.N) : t.val < 13 := t.isLt

variable (m : (ℓ : Loc nD τ sig) → Buf (Elt Ideal) ℓ) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memW (k : Fin 1024) (f : Fin 1792) : EReal := (m ((c.tc : Thread nD τ).loc main_arg2) : S1024x1792.Idx → EReal) (ix2 k f)

/-- The scaled rows. -/
def normed (r : Fin 8320) (k : Fin 1024) : EReal := hat (memH m c r) k * memG m c k
/-- The two parts of their product with the weight, and the rows themselves. -/
def res1 (j : S8320x768.Idx) : EReal := ∑ k, normed m c (j 0) k * memW m c k (colQ (j 1))
def res2 (j : S8320x1024.Idx) : EReal := ∑ k, normed m c (j 0) k * memW m c k (colZ (j 1))
def res3 (j : S8320x1024.Idx) : EReal := normed m c (j 0) (j 1)

section
variable (t : Fin cfg0.N) (a : Fin 640) (k : Fin 1024) (f : Fin 1792) (q : Fin 768)

theorem h_found : iblk m c 0 t (ix2 a k) = (V m c main_arg0 : S8320x1024.Idx → EReal) (ix2 (rowAt t.val a) k) := by
  rw [rowAt_eq _ (point_lt t)]
  generalize hx : V m c main_arg0 = x
  unfold iblk
  rw [show V m c (Pipeline.arrRef spec0 0) = x from hx]
  blk_ext! [idx0 t]
theorem g_found : iblk m c 1 t (ix2 0 k) = (V m c main_arg1 : S1x1024.Idx → EReal) (ix2 0 k) := by
  generalize hx : V m c main_arg1 = x
  unfold iblk
  rw [show V m c (Pipeline.arrRef spec0 1) = x from hx]
  blk_ext! [idx0 t]
theorem w_found : iblk m c 2 t (ix2 k f) = (V m c main_arg2 : S1024x1792.Idx → EReal) (ix2 k f) := by
  generalize hx : V m c main_arg2 = x
  unfold iblk
  rw [show V m c (Pipeline.arrRef spec0 2) = x from hx]
  blk_ext! [idx0 t]
theorem emb3 : (((cfg0.win 3).blk t).view.emb (ix2 a q) : S8320x768.Idx) = ix2 (rowAt t.val a) q := by
  rw [rowAt_eq _ (point_lt t)]
  blk_ext! [idx0 t]
theorem emb4 : (((cfg0.win 4).blk t).view.emb (ix2 a k) : S8320x1024.Idx) = ix2 (rowAt t.val a) k := by
  rw [rowAt_eq _ (point_lt t)]
  blk_ext! [idx0 t]
theorem emb5 : (((cfg0.win 5).blk t).view.emb (ix2 a k) : S8320x1024.Idx) = ix2 (rowAt t.val a) k := by
  rw [rowAt_eq _ (point_lt t)]
  blk_ext! [idx0 t]

theorem h_read : iblk m c 0 t (ix2 a k) = memH m c (rowAt t.val a) k :=
  (h_found m c t a k).trans (congrFun (V_main_arg0 m c) (ix2 (rowAt t.val a) k))
theorem g_read : iblk m c 1 t (ix2 0 k) = memG m c k :=
  (g_found m c t k).trans (congrFun (V_main_arg1 m c) (ix2 0 k))
theorem w_read : iblk m c 2 t (ix2 k f) = memW m c k f :=
  (w_found m c t k f).trans (congrFun (V_main_arg2 m c) (ix2 k f))

theorem norm_point (x : Vec Ideal S640x1024 .f32) (g : Vec Ideal S1x1024 .f32) (hx : x = iblk m c 0 t) (hg : g = iblk m c 1 t) :
    (hat (fun i => x (ix2 a i)) k * g (ix2 0 k) : EReal) = normed m c (rowAt t.val a) k := by
  rw [show (fun i => x (ix2 a i)) = memH m c (rowAt t.val a) from funext fun i => by subst hx; exact h_read m c t a i]
  subst hg
  exact Ideal.mul_congr rfl (g_read m c t k)
theorem prod_point (x : Vec Ideal S640x1024 .f32) (g : Vec Ideal S1x1024 .f32) (w : Vec Ideal S1024x1792 .bf16)
    (hx : x = iblk m c 0 t) (hg : g = iblk m c 1 t) (hw : w = iblk m c 2 t) :
    (∑ i, (hat (fun i => x (ix2 a i)) i * g (ix2 0 i)) * w (ix2 i f) : EReal)
      = ∑ k, normed m c (rowAt t.val a) k * memW m c k f :=
  Finset.sum_congr rfl fun i _ => Ideal.mul_congr (norm_point m c t a i x g hx hg) (by subst hw; exact w_read m c t i f)
end

theorem after3 (t : Fin cfg0.N) (y : S640x768.Idx) :
    (dats m 0 c).after 3 t y = res1 m c (((cfg0.win 3).blk t).view.emb y) := by
  rw [after0_3]
  idx_vars y
  rw [emb3]
  exact (out3 _ _ _ y0 y1).trans (prod_point m c t y0 (colQ y1) _ _ _ rfl rfl rfl)
theorem after4 (t : Fin cfg0.N) (y : S640x1024.Idx) :
    (dats m 0 c).after 4 t y = res2 m c (((cfg0.win 4).blk t).view.emb y) := by
  rw [after0_4]
  idx_vars y
  rw [emb4]
  exact (out4 _ _ _ y0 y1).trans (prod_point m c t y0 (colZ y1) _ _ _ rfl rfl rfl)
theorem after5 (t : Fin cfg0.N) (y : S640x1024.Idx) :
    (dats m 0 c).after 5 t y = res3 m c (((cfg0.win 5).blk t).view.emb y) := by
  rw [after0_5]
  idx_vars y
  rw [emb5]
  exact (out5 _ _ _ y0 y1).trans (norm_point m c t y0 y1 _ _ rfl rfl)

theorem covers3 : (cfg0.win 3).Covers := by decide +kernel
theorem covers4 : (cfg0.win 4).Covers := by decide +kernel
theorem covers5 : (cfg0.win 5).Covers := by decide +kernel
theorem array3 : (dats m 0 c).arrAt 3 cfg0.N = res1 m c :=
  (dats m 0 c).arrAt_eq_of_covers 3 _ covers3 fun t _ y => after3 m c t y
theorem array4 : (dats m 0 c).arrAt 4 cfg0.N = res2 m c :=
  (dats m 0 c).arrAt_eq_of_covers 4 _ covers4 fun t _ y => after4 m c t y
theorem array5 : (dats m 0 c).arrAt 5 cfg0.N = res3 m c :=
  (dats m 0 c).arrAt_eq_of_covers 5 _ covers5 fun t _ y => after5 m c t y

theorem run (ρ : Dev nD → PrngReg) : θ_run defs (onTc (τ := τ) (main (F := Ideal))) ⟨m, fun _ => 0, ρ⟩ fun r => ∀ c : Dev nD,
      r.2.mem ((c.tc : Thread nD τ).loc main_v0_0) = res1 m c
      ∧ r.2.mem ((c.tc : Thread nD τ).loc main_v0_1) = res2 m c
      ∧ r.2.mem ((c.tc : Thread nD τ).loc main_v0_2) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (array3 m c), (h c).2.1.trans (array4 m c), (h c).2.2.1.trans (array5 m c), (h c).2.2.2⟩)
    (Value.run_blocks m ρ)

end Cert.Kernel8Ideal.InProjF
end
-- ==== Proof.InProjF.Ref.lean ====
module
public import proofs.«01_k».proof.Proof.Gen.Reference8Ideal.Run
public import proofs.«01_k».proof.Proof.FfnX.Ref

@[expose] public section

set_option maxRecDepth 16384

/-! The reference's scaled rows and the two parts of their product with the weight, entry by entry. -/

noncomputable section

namespace Cert.Reference8Ideal.InProjF

open Idealize.ShloMosaic Idealize.ShloMosaic.TcCoe Idealize.SL.Sem
open Cert.Reference8Ideal Cert.Reference8Ideal.Gen Cert.Norm

section
variable (H D : FVec Ideal S8320x1024 .f32) (Q : FVec Ideal S8320x1 .f32) (g : FVec Ideal S1x1024 .f32)
  (W : FVec Ideal S1024x1792 .bf16) (r : Fin 8320) (k : Fin 1024)

theorem norm_apply (hQ : Q (ix2 r 0) = meanSq (fun i => H (ix2 r i))) :
   (mulf (mulf H (broadcastInDim S8320x1024 ![0, 1] bcast_S8320x1_S8320x1024_0_1 (Host.rsqrt Q))) (broadcastInDim S8320x1024 ![0, 1] bcast_S1x1024_S8320x1024_0_1 (broadcastInDim S1x1024 ![1] bcast_S1024_S1x1024_1 (shapeCast _ g shapeCasts_S1x1024_S1024))) : FVec Ideal S8320x1024 .f32) (ix2 r k)
     = (hat (fun i => H (ix2 r i)) k * g (ix2 0 k) : EReal) := by
  unfold hat Norm.inv
  rw [← hQ]
  pointwise []
theorem left_apply (f : Fin 768) :
   (truncf .bf16 (extractStridedSlice S8320x768 ![0, 0] (Host.dotGeneral dot_S8320x1024_S1024x1792_S8320x1792_1_0_0_1_n_n none D (extf .f32 W bitsLt_bf16_f32)) slices_S8320x1792_S8320x768_0_0) bitsLt_bf16_f32 : FVec Ideal S8320x768 .bf16) (ix2 r f)
     = (∑ k, D (ix2 r k) * W (ix2 k ⟨f.val, by omega⟩) : EReal) := by
  pointwise []
theorem right_apply (f : Fin 1024) :
   (extractStridedSlice S8320x1024 ![0, 768] (Host.dotGeneral dot_S8320x1024_S1024x1792_S8320x1792_1_0_0_1_n_n none D (extf .f32 W bitsLt_bf16_f32)) slices_S8320x1792_S8320x1024_0_768 : FVec Ideal S8320x1024 .f32) (ix2 r f)
     = (∑ k, D (ix2 r k) * W (ix2 k ⟨768 + f.val, by omega⟩) : EReal) := by
  pointwise []
end

section
variable (m : (ℓ : Loc nD τ sig) → Buf (Elt Ideal) ℓ) (c : Dev nD)

/-- The arguments by row and column. -/
def memH (r : Fin 8320) (k : Fin 1024) : EReal := (m ((c.tc : Thread nD τ).loc main_arg0) : S8320x1024.Idx → EReal) (ix2 r k)
def memG (k : Fin 1024) : EReal := (m ((c.tc : Thread nD τ).loc main_arg1) : S1x1024.Idx → EReal) (ix2 0 k)
def memW (k : Fin 1024) (f : Fin 1792) : EReal := (m ((c.tc : Thread nD τ).loc main_arg2) : S1024x1792.Idx → EReal) (ix2 k f)

/-- The scaled rows. -/
def normed (r : Fin 8320) (k : Fin 1024) : EReal := hat (memH m c r) k * memG m c k
/-- The two parts of their product with the weight, and the rows themselves. -/
def res1 (j : S8320x768.Idx) : EReal := ∑ k, normed m c (j 0) k * memW m c k ⟨(j 1).val, Nat.lt_trans (j 1).isLt (by decide)⟩
def res2 (j : S8320x1024.Idx) : EReal := ∑ k, normed m c (j 0) k * memW m c k ⟨768 + (j 1).val, Nat.add_lt_add_left (j 1).isLt 768⟩
def res3 (j : S8320x1024.Idx) : EReal := normed m c (j 0) (j 1)

theorem run (ρ : Dev nD → PrngReg) : θ_run defs (onTc (τ := τ) (main (F := Ideal))) ⟨m, fun _ => 0, ρ⟩ fun r => ∀ c : Dev nD,
      r.2.mem ((c.tc : Thread nD τ).loc main_v17) = res1 m c
      ∧ r.2.mem ((c.tc : Thread nD τ).loc main_v18) = res2 m c
      ∧ r.2.mem ((c.tc : Thread nD τ).loc main_v19) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans (funext fun j => ?_), (h c).2.1.trans (funext fun j => ?_),
    (h c).2.2.1.trans (funext fun j => ?_), (h c).2.2.2⟩)
    (Cert.Reference8Ideal.Value.run m ρ)
  · obtain ⟨r, f, rfl⟩ : ∃ (r : Fin 8320) (f : Fin 768), j = ix2 r f := ⟨j 0, j 1, eq_ix2 j⟩
    refine (left_apply _ _ r f).trans (Finset.sum_congr rfl fun k _ => Ideal.mul_congr ?_ rfl)
    exact norm_apply _ _ _ r k (Cert.Reference3Ideal.FfnX.mean_apply _ r)
  · obtain ⟨r, f, rfl⟩ : ∃ (r : Fin 8320) (f : Fin 1024), j = ix2 r f := ⟨j 0, j 1, eq_ix2 j⟩
    refine (right_apply _ _ r f).trans (Finset.sum_congr rfl fun k _ => Ideal.mul_congr ?_ rfl)
    exact norm_apply _ _ _ r k (Cert.Reference3Ideal.FfnX.mean_apply _ r)
  · obtain ⟨r, k, rfl⟩ : ∃ (r : Fin 8320) (k : Fin 1024), j = ix2 r k := ⟨j 0, j 1, eq_ix2 j⟩
    exact norm_apply _ _ _ r k (Cert.Reference3Ideal.FfnX.mean_apply _ r)
end

end Cert.Reference8Ideal.InProjF
end
-- ==== Proof.OutProjF.Arrays.lean ====
module
public import proofs.«01_k».proof.Proof.Gen.Kernel9Ideal.Value
public import proofs.«01_k».proof.Proof.Norm.Spec
public import proofs.«01_k».proof.Proof.Norm.Rows
public import Idealize.ShloMosaic.Lib.Pipeline.ValueKit

@[expose] public section

set_option maxRecDepth 16384

/-! The two arrays the call leaves, every row tile from that tile alone. -/

noncomputable section

namespace Cert.Kernel9Ideal.OutProjF

open Idealize.ShloMosaic Idealize.ShloMosaic.TcCoe Idealize.SL.Sem
open Cert.Kernel9Ideal Cert.Kernel9Ideal.Gen Cert.Norm

/-- A row of each half of the weight. -/
def up (f : Fin 512) : Fin 1024 := ⟨f.val, by omega⟩
def low (f : Fin 512) : Fin 1024 := ⟨512 + f.val, by omega⟩

section
variable (x0 x1 : Vec Ideal S640x512 .bf16) (x2 : Vec Ideal S1024x1024 .bf16) (x3 : Vec Ideal S640x1024 .f32) (x4 : Vec Ideal S1x1024 .f32)
  (p q : Vec Ideal S512x1024 .bf16) (a : Fin 640) (k : Fin 1024)

/-- The product of the two inputs next to each other with the weight. -/
def mixed (x0 x1 : Vec Ideal S640x512 .bf16) (x2 : Vec Ideal S1024x1024 .bf16) (a : Fin 640) (k : Fin 1024) : EReal :=
  ∑ f, x0 (ix2 a f) * x2 (ix2 (up f) k) + ∑ f, x1 (ix2 a f) * x2 (ix2 (low f) k)

theorem upper_at (f : Fin 512) : View.ld x2 r0_1 (ix2 f k) = x2 (ix2 (up f) k) := by
  refine (congrFun (View.ld_unit (S := S1024x1024) _ _ _ _) _).trans ?_
  pointwise [up]
theorem lower_at (f : Fin 512) : View.ld x2 r0_2 (ix2 f k) = x2 (ix2 (low f) k) := by
  refine (congrFun (View.ld_unit (S := S1024x1024) _ _ _ _) _).trans ?_
  pointwise [low]
theorem mix_block (hp : ∀ f k, p (ix2 f k) = x2 (ix2 (up f) k)) (hq : ∀ f k, q (ix2 f k) = x2 (ix2 (low f) k)) :
    k0_pay1 x0 p x1 q (ix2 a k) = mixed x0 x1 x2 a k := by
  unfold mixed
  rw [Finset.sum_congr rfl fun f _ => show (x0 (ix2 a f) * x2 (ix2 (up f) k) : EReal) = x0 (ix2 a f) * p (ix2 f k) by rw [hp],
    Finset.sum_congr rfl fun f _ => show (x1 (ix2 a f) * x2 (ix2 (low f) k) : EReal) = x1 (ix2 a f) * q (ix2 f k) by rw [hq]]
  pointwise [k0_pay1]
theorem row_block (hp : ∀ f k, p (ix2 f k) = x2 (ix2 (up f) k)) (hq : ∀ f k, q (ix2 f k) = x2 (ix2 (low f) k)) :
    k0_pay2 x0 p x1 q x4 x3 (ix2 a k) = (x3 (ix2 a k) + hat (mixed x0 x1 x2 a) k * x4 (ix2 0 k) : EReal) := by
  rw [show mixed x0 x1 x2 a = fun i => k0_pay1 x0 p x1 q (ix2 a i) from funext fun i => (mix_block x0 x1 x2 p q a i hp hq).symm]
  generalize hm : k0_pay1 x0 p x1 q = y
  pointwise [k0_pay2, hm]
  rfl

theorem e0 (x : Vec Ideal S640x512 .bf16) : View.ld x r0_0 = x := View.ld_unit_zero (S := S640x512) (by decide) _ _
theorem e3 : View.ld x4 r0_3 = x4 := View.ld_unit_zero (S := S1x1024) (by decide) _ _
theorem e4 : View.ld x3 r0_4 = x3 := View.ld_unit_zero (S := S640x1024) (by decide) _ _
theorem out5 : out0_5 x0 x1 x2 x3 x4 (ix2 a k) = mixed x0 x1 x2 a k := by
  unfold out0_5
  rw [e0, e0]
  refine (congrFun (View.canon_cons_unit_zero (S := S640x1024) (by decide) _ _ _) _).trans ?_
  exact mix_block x0 x1 x2 _ _ a k (fun f k => upper_at x2 k f) (fun f k => lower_at x2 k f)
theorem out6 : out0_6 x0 x1 x2 x3 x4 (ix2 a k) = (x3 (ix2 a k) + hat (mixed x0 x1 x2 a) k * x4 (ix2 0 k) : EReal) := by
  unfold out0_6
  rw [e0, e0, e3, e4]
  refine (congrFun (View.canon_cons_unit_zero (S := S640x1024) (by decide) _ _ _) _).trans ?_
  exact row_block x0 x1 x2 x3 x4 _ _ a k (fun f k => upper_at x2 k f) (fun f k => lower_at x2 k f)
end

theorem idx0 : ∀ t : Fin cfg0.N,
    win0_0.index t = ![t.val, 0] ∧ win0_1.index t = ![t.val, 0] ∧ win0_2.index t = ![0, 0]
      ∧ win0_3.index t = ![t.val, 0] ∧ win0_4.index t = ![0, 0] ∧ win0_5.index t = ![t.val, 0]
      ∧ win0_6.index t = ![t.val, 0] :=
  (by decide +kernel : ∀ t : Fin grid0.N, _)

theorem point_lt (t : Fin cfg0.N) : t.val < 13 := t.isLt

variable (m : (ℓ : Loc nD τ sig) → Buf (Elt Ideal) ℓ) (c : Dev nD)

/-- The arguments by row and column. -/
def memA (r : Fin 8320) (f : Fin 512) : EReal := (m ((c.tc : Thread nD τ).loc main_arg0) : S8320x512.Idx → EReal) (ix2 r f)
def memR (r : Fin 8320) (f : Fin 512) : EReal := (m ((c.tc : Thread nD τ).loc main_arg1) : S8320x512.Idx → EReal) (ix2 r f)
def memW (f k : Fin 1024) : EReal := (m ((c.tc : Thread nD τ).loc main_arg2) : S1024x1024.Idx → EReal) (ix2 f k)
def memH (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)

/-- The product of the two inputs next to each other with the weight. -/
def mix (r : Fin 8320) (k : Fin 1024) : EReal :=
  ∑ f, memA m c r f * memW m c (up f) k + ∑ f, memR m c r f * memW m c (low f) k
/-- That product, and the rows with the product's scaled norm added. -/
def res1 (j : S8320x1024.Idx) : EReal := mix m c (j 0) (j 1)
def res2 (j : S8320x1024.Idx) : EReal := memH m c (j 0) (j 1) + hat (mix m c (j 0)) (j 1) * memG m c (j 1)

section
variable (t : Fin cfg0.N) (a : Fin 640) (k f : Fin 1024) (q : Fin 512)

theorem a_found : iblk m c 0 t (ix2 a q) = (V m c main_arg0 : S8320x512.Idx → EReal) (ix2 (rowAt t.val a) q) := by
  rw [rowAt_eq _ (point_lt t)]
  generalize hx : V m c main_arg0 = x
  unfold iblk
  rw [show V m c (Pipeline.arrRef spec0 0) = x from hx]
  blk_ext! [idx0 t]
theorem r_found : iblk m c 1 t (ix2 a q) = (V m c main_arg1 : S8320x512.Idx → EReal) (ix2 (rowAt t.val a) q) := by
  rw [rowAt_eq _ (point_lt t)]
  generalize hx : V m c main_arg1 = x
  unfold iblk
  rw [show V m c (Pipeline.arrRef spec0 1) = x from hx]
  blk_ext! [idx0 t]
theorem w_found : iblk m c 2 t (ix2 f k) = (V m c main_arg2 : S1024x1024.Idx → EReal) (ix2 f k) := by
  generalize hx : V m c main_arg2 = x
  unfold iblk
  rw [show V m c (Pipeline.arrRef spec0 2) = x from hx]
  blk_ext! [idx0 t]
theorem h_found : iblk m c 3 t (ix2 a k) = (V m c main_arg3 : S8320x1024.Idx → EReal) (ix2 (rowAt t.val a) k) := by
  rw [rowAt_eq _ (point_lt t)]
  generalize hx : V m c main_arg3 = x
  unfold iblk
  rw [show V m c (Pipeline.arrRef spec0 3) = x from hx]
  blk_ext! [idx0 t]
theorem g_found : iblk m c 4 t (ix2 0 k) = (V m c main_arg4 : S1x1024.Idx → EReal) (ix2 0 k) := by
  generalize hx : V m c main_arg4 = x
  unfold iblk
  rw [show V m c (Pipeline.arrRef spec0 4) = x from hx]
  blk_ext! [idx0 t]
theorem emb5 : (((cfg0.win 5).blk t).view.emb (ix2 a k) : S8320x1024.Idx) = ix2 (rowAt t.val a) k := by
  rw [rowAt_eq _ (point_lt t)]
  blk_ext! [idx0 t]
theorem emb6 : (((cfg0.win 6).blk t).view.emb (ix2 a k) : S8320x1024.Idx) = ix2 (rowAt t.val a) k := by
  rw [rowAt_eq _ (point_lt t)]
  blk_ext! [idx0 t]

theorem a_read : iblk m c 0 t (ix2 a q) = memA m c (rowAt t.val a) q :=
  (a_found m c t a q).trans (congrFun (V_main_arg0 m c) (ix2 (rowAt t.val a) q))
theorem r_read : iblk m c 1 t (ix2 a q) = memR m c (rowAt t.val a) q :=
  (r_found m c t a q).trans (congrFun (V_main_arg1 m c) (ix2 (rowAt t.val a) q))
theorem w_read : iblk m c 2 t (ix2 f k) = memW m c f k :=
  (w_found m c t k f).trans (congrFun (V_main_arg2 m c) (ix2 f k))
theorem h_read : iblk m c 3 t (ix2 a k) = memH m c (rowAt t.val a) k :=
  (h_found m c t a k).trans (congrFun (V_main_arg3 m c) (ix2 (rowAt t.val a) k))
theorem g_read : iblk m c 4 t (ix2 0 k) = memG m c k :=
  (g_found m c t k).trans (congrFun (V_main_arg4 m c) (ix2 0 k))

theorem mix_point (p s : Vec Ideal S640x512 .bf16) (w : Vec Ideal S1024x1024 .bf16)
    (hp : p = iblk m c 0 t) (hs : s = iblk m c 1 t) (hw : w = iblk m c 2 t) :
    mixed p s w a = mix m c (rowAt t.val a) := by
  subst hp hs hw
  funext k
  exact Ideal.add_congr (Finset.sum_congr rfl fun f _ => Ideal.mul_congr (a_read m c t a f) (w_read m c t k (up f)))
    (Finset.sum_congr rfl fun f _ => Ideal.mul_congr (r_read m c t a f) (w_read m c t k (low f)))
end

theorem after5 (t : Fin cfg0.N) (y : S640x1024.Idx) :
    (dats m 0 c).after 5 t y = res1 m c (((cfg0.win 5).blk t).view.emb y) := by
  rw [after0_5]
  idx_vars y
  rw [emb5]
  exact (out5 _ _ _ _ _ y0 y1).trans (congrFun (mix_point m c t y0 _ _ _ rfl rfl rfl) y1)
theorem after6 (t : Fin cfg0.N) (y : S640x1024.Idx) :
    (dats m 0 c).after 6 t y = res2 m c (((cfg0.win 6).blk t).view.emb y) := by
  rw [after0_6]
  idx_vars y
  rw [emb6]
  refine (out6 _ _ _ _ _ y0 y1).trans ?_
  exact Ideal.add_congr (h_read m c t y0 y1) (Ideal.mul_congr (congrArg (fun z => hat z y1) (mix_point m c t y0 _ _ _ rfl rfl rfl)) (g_read m c t y1))

theorem covers5 : (cfg0.win 5).Covers := by decide +kernel
theorem covers6 : (cfg0.win 6).Covers := by decide +kernel
theorem array5 : (dats m 0 c).arrAt 5 cfg0.N = res1 m c :=
  (dats m 0 c).arrAt_eq_of_covers 5 _ covers5 fun t _ y => after5 m c t y
theorem array6 : (dats m 0 c).arrAt 6 cfg0.N = res2 m c :=
  (dats m 0 c).arrAt_eq_of_covers 6 _ covers6 fun t _ y => after6 m c t y

theorem run (ρ : Dev nD → PrngReg) : θ_run defs (onTc (τ := τ) (main (F := Ideal))) ⟨m, fun _ => 0, ρ⟩ fun r => ∀ c : Dev nD,
      r.2.mem ((c.tc : Thread nD τ).loc main_v0_0) = res1 m c
      ∧ r.2.mem ((c.tc : Thread nD τ).loc main_v0_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (array5 m c), (h c).2.1.trans (array6 m c), (h c).2.2⟩)
    (Value.run_blocks m ρ)

end Cert.Kernel9Ideal.OutProjF
end
-- ==== Proof.OutProjF.Ref.lean ====
module
public import proofs.«01_k».proof.Proof.Gen.Reference9Ideal.Run
public import proofs.«01_k».proof.Proof.FfnX.Ref

@[expose] public section

set_option maxRecDepth 16384

/-! The reference's output projection and the rows with its scaled norm added, entry by entry. -/

noncomputable section

namespace Cert.Reference9Ideal.OutProjF

open Idealize.ShloMosaic Idealize.ShloMosaic.TcCoe Idealize.SL.Sem
open Cert.Reference9Ideal Cert.Reference9Ideal.Gen Cert.Norm

section
variable (P S : FVec Ideal S8320x512 .bf16) (W : FVec Ideal S1024x1024 .bf16) (X : FVec Ideal S8320x1024 .bf16) (H M : FVec Ideal S8320x1024 .f32)
  (Q : FVec Ideal S8320x1 .f32) (g : FVec Ideal S1x1024 .f32) (r : Fin 8320) (k : Fin 1024)

theorem join_up (f : Fin 512) : (concatenate S8320x1024 1 [⟨S8320x512, (P : (⟨S8320x512, .bf16⟩ : BufTy).Contents (Elt Ideal))⟩, ⟨S8320x512, (S : (⟨S8320x512, .bf16⟩ : BufTy).Contents (Elt Ideal))⟩] concatenates_S8320x512_S8320x512_S8320x1024_d1 : (⟨S8320x1024, .bf16⟩ : BufTy).Contents (Elt Ideal)) (ix2 r ⟨f.val, by omega⟩) = P (ix2 r f) := by
  have := f.isLt
  pointwise []
theorem join_low (f : Fin 512) : (concatenate S8320x1024 1 [⟨S8320x512, (P : (⟨S8320x512, .bf16⟩ : BufTy).Contents (Elt Ideal))⟩, ⟨S8320x512, (S : (⟨S8320x512, .bf16⟩ : BufTy).Contents (Elt Ideal))⟩] concatenates_S8320x512_S8320x512_S8320x1024_d1 : (⟨S8320x1024, .bf16⟩ : BufTy).Contents (Elt Ideal)) (ix2 r ⟨512 + f.val, by omega⟩) = S (ix2 r f) := by
  have := f.isLt
  pointwise []
theorem dot_apply :
   (Host.dotGeneral dot_S8320x1024_S1024x1024_S8320x1024_1_0_0_1_n_n none (extf .f32 X bitsLt_bf16_f32) (extf .f32 W bitsLt_bf16_f32) : FVec Ideal S8320x1024 .f32) (ix2 r k) = (∑ f, X (ix2 r f) * W (ix2 f k) : EReal) := by
  pointwise []
theorem mix_apply :
   (Host.dotGeneral dot_S8320x1024_S1024x1024_S8320x1024_1_0_0_1_n_n none (extf .f32 (concatenate S8320x1024 1 [⟨S8320x512, (P : (⟨S8320x512, .bf16⟩ : BufTy).Contents (Elt Ideal))⟩, ⟨S8320x512, (S : (⟨S8320x512, .bf16⟩ : BufTy).Contents (Elt Ideal))⟩] concatenates_S8320x512_S8320x512_S8320x1024_d1 : (⟨S8320x1024, .bf16⟩ : BufTy).Contents (Elt Ideal)) bitsLt_bf16_f32) (extf .f32 W bitsLt_bf16_f32) : FVec Ideal S8320x1024 .f32) (ix2 r k)
     = (∑ f : Fin 512, P (ix2 r f) * W (ix2 ⟨f.val, by omega⟩ k) + ∑ f : Fin 512, S (ix2 r f) * W (ix2 ⟨512 + f.val, by omega⟩ k) : EReal) := by
  refine (dot_apply W _ r k).trans ((Fin.sum_univ_add (a := 512) (b := 512) _).trans ?_)
  exact Ideal.add_congr (Finset.sum_congr rfl fun f _ => Ideal.mul_congr (join_up P S r f) rfl)
    (Finset.sum_congr rfl fun f _ => Ideal.mul_congr (join_low P S r f) rfl)
theorem row_apply (hQ : Q (ix2 r 0) = meanSq (fun i => M (ix2 r i))) :
   (addf H (mulf (mulf M (broadcastInDim S8320x1024 ![0, 1] bcast_S8320x1_S8320x1024_0_1 (Host.rsqrt Q))) (broadcastInDim S8320x1024 ![0, 1] bcast_S1x1024_S8320x1024_0_1 (broadcastInDim S1x1024 ![1] bcast_S1024_S1x1024_1 (shapeCast _ g shapeCasts_S1x1024_S1024)))) : FVec Ideal S8320x1024 .f32) (ix2 r k)
     = (H (ix2 r k) + hat (fun i => M (ix2 r i)) k * g (ix2 0 k) : EReal) := by
  unfold hat Norm.inv
  rw [← hQ]
  pointwise []
end

section
variable (m : (ℓ : Loc nD τ sig) → Buf (Elt Ideal) ℓ) (c : Dev nD)

/-- The arguments by row and column. -/
def memA (r : Fin 8320) (f : Fin 512) : EReal := (m ((c.tc : Thread nD τ).loc main_arg0) : S8320x512.Idx → EReal) (ix2 r f)
def memR (r : Fin 8320) (f : Fin 512) : EReal := (m ((c.tc : Thread nD τ).loc main_arg1) : S8320x512.Idx → EReal) (ix2 r f)
def memW (f k : Fin 1024) : EReal := (m ((c.tc : Thread nD τ).loc main_arg2) : S1024x1024.Idx → EReal) (ix2 f k)
def memH (r : Fin 8320) (k : Fin 1024) : EReal := (m ((c.tc : Thread nD τ).loc main_arg3) : S8320x1024.Idx → EReal) (ix2 r k)
def memG (k : Fin 1024) : EReal := (m ((c.tc : Thread nD τ).loc main_arg4) : S1x1024.Idx → EReal) (ix2 0 k)

/-- The product of the two inputs next to each other with the weight. -/
def mix (r : Fin 8320) (k : Fin 1024) : EReal :=
  ∑ f, memA m c r f * memW m c ⟨f.val, Nat.lt_trans f.isLt (by decide)⟩ k + ∑ f, memR m c r f * memW m c ⟨512 + f.val, Nat.add_lt_add_left f.isLt 512⟩ k
/-- That product, and the rows with the product's scaled norm added. -/
def res1 (j : S8320x1024.Idx) : EReal := mix m c (j 0) (j 1)
def res2 (j : S8320x1024.Idx) : EReal := memH m c (j 0) (j 1) + hat (mix m c (j 0)) (j 1) * memG m c (j 1)

theorem run (ρ : Dev nD → PrngReg) : θ_run defs (onTc (τ := τ) (main (F := Ideal))) ⟨m, fun _ => 0, ρ⟩ fun r => ∀ c : Dev nD,
      r.2.mem ((c.tc : Thread nD τ).loc main_v3) = res1 m c
      ∧ r.2.mem ((c.tc : Thread nD τ).loc main_v18) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (funext fun j => ?_), (h c).2.1.trans (funext fun j => ?_), (h c).2.2⟩)
    (Cert.Reference9Ideal.Value.run m ρ)
  · obtain ⟨r, k, rfl⟩ : ∃ (r : Fin 8320) (k : Fin 1024), j = ix2 r k := ⟨j 0, j 1, eq_ix2 j⟩
    exact mix_apply _ _ _ r k
  · obtain ⟨r, k, rfl⟩ : ∃ (r : Fin 8320) (k : Fin 1024), j = ix2 r k := ⟨j 0, j 1, eq_ix2 j⟩
    refine (row_apply _ _ _ _ r k (Cert.Reference3Ideal.FfnX.mean_apply _ r)).trans ?_
    refine Ideal.add_congr rfl (Ideal.mul_congr (congrArg (fun z => hat z k) (funext fun i => ?_)) rfl)
    exact mix_apply _ _ _ r i
end

end Cert.Reference9Ideal.OutProjF
end
-- ==== Proof.lean ====
/- Everything the certificate claims of the attention's backward call, of the feed-forward layer's
calls, of the loss, of the projections' calls and of their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Attn.Words
public import proofs.«01_k».proof.Proof.Attn.Equal
public import proofs.«01_k».proof.Proof.Ffn.Run
public import proofs.«01_k».proof.Proof.Ffn.Ref
public import proofs.«01_k».proof.Proof.FfnX.Arrays
public import proofs.«01_k».proof.Proof.FfnX.Ref
public import proofs.«01_k».proof.Proof.InProj.Arrays
public import proofs.«01_k».proof.Proof.InProj.Ref
public import proofs.«01_k».proof.Proof.Loss.Arrays
public import proofs.«01_k».proof.Proof.Loss.Ref
public import proofs.«01_k».proof.Proof.InProjW.Arrays
public import proofs.«01_k».proof.Proof.InProjW.Ref
public import proofs.«01_k».proof.Proof.OutProj.Arrays
public import proofs.«01_k».proof.Proof.OutProj.Ref
public import proofs.«01_k».proof.Proof.InProjF.Arrays
public import proofs.«01_k».proof.Proof.InProjF.Ref
public import proofs.«01_k».proof.Proof.OutProjF.Arrays
public import proofs.«01_k».proof.Proof.OutProjF.Ref
public import Idealize.ShloMosaic.Adequacy
public import Idealize.ShloMosaic.Init

@[expose] public section

noncomputable section

namespace Cert.Proof

open Idealize.ShloMosaic Idealize.SL.Sem

attribute [local instance] Cert.KernelIdeal.Gen.facts Cert.ReferenceIdeal.Gen.facts Cert.Pre_finite.Gen.facts
  Cert.Kernel2Ideal.Gen.facts Cert.Reference2Ideal.Gen.facts Cert.Kernel3Ideal.Gen.facts Cert.Reference3Ideal.Gen.facts
  Cert.Kernel4Ideal.Gen.facts Cert.Reference4Ideal.Gen.facts Cert.Kernel5Ideal.Gen.facts Cert.Reference5Ideal.Gen.facts
  Cert.Kernel6Ideal.Gen.facts Cert.Reference6Ideal.Gen.facts Cert.Kernel7Ideal.Gen.facts Cert.Reference7Ideal.Gen.facts
  Cert.Kernel8Ideal.Gen.facts Cert.Reference8Ideal.Gen.facts Cert.Kernel9Ideal.Gen.facts Cert.Reference9Ideal.Gen.facts

/-- The reference runs on the host alone and declares no semaphore. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩, sem_eq_zero_of_no_sems (by decide) r.2⟩)
    (Cert.ReferenceIdeal.Value.run m ρ)

theorem algebraic : Cert.algebraic_KernelIdeal_ReferenceIdeal_pre_finite := by
  intro m g m' g' hpre hargs
  have hfin := fun c => Cert.Finite.real_of_pre _ _ _ (congrFun (hpre c) ix0)
  have k₁ := θ_run_and (Cert.KernelIdeal.Attn.run_values m g (fun c => (hfin c).1) (fun c => (hfin c).2.2))
    (Cert.KernelIdeal.Attn.frame m g)
  have k₂ := θ_run_and (Cert.ReferenceIdeal.Attn.run_values m' g' (Cert.KernelIdeal.Attn.argA m)
      (Cert.KernelIdeal.Attn.argB m) (Cert.KernelIdeal.Attn.argS m)
      (fun c => (hargs c).1) (fun c => (hargs c).2.1) (fun c => (hargs c).2.2)
      (fun c => (hfin c).1) (fun c => (hfin c).2.1) (fun c => (hfin c).2.2))
    (frame_reference m' g' trivial)
  refine ⟨
    fun c => fun j : Cert.KernelIdeal.S8320x512.Idx => Cert.Attn.dqG (Cert.KernelIdeal.Attn.argA m c)
      (Cert.KernelIdeal.Attn.argB m c) (Cert.KernelIdeal.Attn.argS m c) (j 0) (j 1),
    fun c => fun j : Cert.KernelIdeal.S8320x256.Idx => Cert.Attn.dkvG (Cert.KernelIdeal.Attn.argA m c)
      (Cert.KernelIdeal.Attn.argB m c) (Cert.KernelIdeal.Attn.argS m c) (j 0) (j 1),
    fun c => fun j : Cert.KernelIdeal.S8x128.Idx => Cert.Attn.dsinkG (Cert.KernelIdeal.Attn.argA m c)
      (Cert.KernelIdeal.Attn.argB m c) (Cert.KernelIdeal.Attn.argS m c) (j 0), ?_, ?_⟩
  · refine (θ_run Cert.KernelIdeal.defs _ _).mono (fun r h c => ?_) k₁
    exact ⟨(h.1 c).1, (h.1 c).2.1, (h.1 c).2.2, (h.2.1 c).1, (h.2.1 c).2.1, (h.2.1 c).2.2⟩
  · refine (θ_run Cert.ReferenceIdeal.defs _ _).mono (fun r h c => ?_) k₂
    exact ⟨(h.1 c).1, (h.1 c).2.1, (h.1 c).2.2, (h.2.1 c).1, (h.2.1 c).2.1, (h.2.1 c).2.2⟩

/-- The kernel over the machine's words has the ideal program's text: the same run serves. -/
theorem frame_kernel : Cert.quiescent_Kernel := fun m ρ _ => Cert.Kernel.Attn.frame (F := Bits) m ρ

/-- The layer's reference runs on the host alone too. -/
theorem frame_reference2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Ffn.run m ρ)

/-- The three calls in a row and the reference leave the same two gradients. -/
theorem algebraic2 : Cert.algebraic_Kernel2Ideal_Reference2Ideal := by
  intro m g m' g' _ hargs
  refine ⟨fun c => Cert.Kernel2Ideal.Ffn.res1 m c, fun c => Cert.Kernel2Ideal.Ffn.res2 m c,
    Cert.Kernel2Ideal.Ffn.run m g, ?_⟩
  refine (θ_run Cert.Reference2Ideal.defs _ _).mono (fun r h c => ?_) (Cert.Reference2Ideal.Ffn.run m' g')
  have hH : Cert.Reference2Ideal.Ffn.memH m' c = Cert.Kernel2Ideal.Ffn.memH m c :=
    funext fun r => funext fun k => congrFun (hargs c).1 (ix2 r k)
  have hG : Cert.Reference2Ideal.Ffn.memG m' c = Cert.Kernel2Ideal.Ffn.memG m c :=
    funext fun k => congrFun (hargs c).2.1 (ix2 0 k)
  have hA : Cert.Reference2Ideal.Ffn.memA m' c = Cert.Kernel2Ideal.Ffn.memA m c :=
    funext fun k => funext fun f => congrFun (hargs c).2.2.1 (ix2 k f)
  have hB : Cert.Reference2Ideal.Ffn.memB m' c = Cert.Kernel2Ideal.Ffn.memB m c :=
    funext fun f => funext fun k => congrFun (hargs c).2.2.2.1 (ix2 f k)
  have hD : Cert.Reference2Ideal.Ffn.memD m' c = Cert.Kernel2Ideal.Ffn.memD m c :=
    funext fun r => funext fun k => congrFun (hargs c).2.2.2.2 (ix2 r k)
  have e1 : Cert.Reference2Ideal.Ffn.res1 m' c = Cert.Kernel2Ideal.Ffn.res1 m c := by
    unfold Cert.Reference2Ideal.Ffn.res1 Cert.Kernel2Ideal.Ffn.res1
    rw [hH, hG, hA, hB, hD]
  have e2 : Cert.Reference2Ideal.Ffn.res2 m' c = Cert.Kernel2Ideal.Ffn.res2 m c := by
    unfold Cert.Reference2Ideal.Ffn.res2 Cert.Kernel2Ideal.Ffn.res2
    rw [hH, hG, hA, hD]
  exact ⟨(h c).1.trans e1, (h c).2.1.trans e2, (h c).2.2⟩

theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.FfnX.run m ρ)

/-- The gradients of the layer's rows and of its norm's scale. -/
theorem algebraic3 : Cert.algebraic_Kernel3Ideal_Reference3Ideal := by
  intro m g m' g' _ hargs
  refine ⟨fun c => Cert.Kernel3Ideal.FfnX.res1 m c, fun c => Cert.Kernel3Ideal.FfnX.res2 m c,
    Cert.Kernel3Ideal.FfnX.run m g, ?_⟩
  refine (θ_run Cert.Reference3Ideal.defs _ _).mono (fun r h c => ?_) (Cert.Reference3Ideal.FfnX.run m' g')
  have hE : Cert.Reference3Ideal.FfnX.memE m' c = Cert.Kernel3Ideal.FfnX.memE m c :=
    funext fun r => funext fun f => congrFun (hargs c).1 (ix2 r f)
  have hW : Cert.Reference3Ideal.FfnX.memW m' c = Cert.Kernel3Ideal.FfnX.memW m c :=
    funext fun k => funext fun f => congrFun (hargs c).2.1 (ix2 k f)
  have hH : Cert.Reference3Ideal.FfnX.memH m' c = Cert.Kernel3Ideal.FfnX.memH m c :=
    funext fun r => funext fun k => congrFun (hargs c).2.2.1 (ix2 r k)
  have hY : Cert.Reference3Ideal.FfnX.memY m' c = Cert.Kernel3Ideal.FfnX.memY m c :=
    funext fun r => funext fun k => congrFun (hargs c).2.2.2.1 (ix2 r k)
  have hG : Cert.Reference3Ideal.FfnX.memG m' c = Cert.Kernel3Ideal.FfnX.memG m c :=
    funext fun k => congrFun (hargs c).2.2.2.2 (ix2 0 k)
  have hC : Cert.Reference3Ideal.FfnX.cot m' c = Cert.Kernel3Ideal.FfnX.cot m c := by
    unfold Cert.Reference3Ideal.FfnX.cot Cert.Kernel3Ideal.FfnX.cot
    rw [hE, hW]
  have e1 : Cert.Reference3Ideal.FfnX.res1 m' c = Cert.Kernel3Ideal.FfnX.res1 m c := by
    unfold Cert.Reference3Ideal.FfnX.res1 Cert.Kernel3Ideal.FfnX.res1
    rw [hC, hH, hY, hG]
  have e2 : Cert.Reference3Ideal.FfnX.res2 m' c = Cert.Kernel3Ideal.FfnX.res2 m c := by
    unfold Cert.Reference3Ideal.FfnX.res2 Cert.Kernel3Ideal.FfnX.res2
    rw [hC, hH]
  exact ⟨(h c).1.trans e1, (h c).2.1.trans e2, (h c).2.2⟩

theorem frame_reference4 : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Loss.run m ρ)

/-- The loss and its gradients. -/
theorem algebraic4 : Cert.algebraic_Kernel4Ideal_Reference4Ideal := by
  intro m g m' g' _ hargs
  refine ⟨fun c => Cert.Kernel4Ideal.Loss.res1 m c, fun c => Cert.Kernel4Ideal.Loss.res2 m c,
    fun c => Cert.Kernel4Ideal.Loss.res3 m c, fun c => Cert.Kernel4Ideal.Loss.res4 m c,
    Cert.Kernel4Ideal.Loss.run m g, ?_⟩
  refine (θ_run Cert.Reference4Ideal.defs _ _).mono (fun r h c => ?_) (Cert.Reference4Ideal.Loss.run m' g')
  have hE : Cert.Reference4Ideal.Loss.memE m' c = Cert.Kernel4Ideal.Loss.memE m c :=
    funext fun r => funext fun f => congrFun (hargs c).1 (ix2 r f)
  have hW : Cert.Reference4Ideal.Loss.memW m' c = Cert.Kernel4Ideal.Loss.memW m c :=
    funext fun f => funext fun k => congrFun (hargs c).2.1 (ix2 f k)
  have hH : Cert.Reference4Ideal.Loss.memH m' c = Cert.Kernel4Ideal.Loss.memH m c :=
    funext fun r => funext fun k => congrFun (hargs c).2.2.1 (ix2 r k)
  have hT : Cert.Reference4Ideal.Loss.memT m' c = Cert.Kernel4Ideal.Loss.memT m c :=
    funext fun r => funext fun k => congrFun (hargs c).2.2.2.1 (ix2 r k)
  have hG : Cert.Reference4Ideal.Loss.memG m' c = Cert.Kernel4Ideal.Loss.memG m c :=
    funext fun k => congrFun (hargs c).2.2.2.2 (ix2 0 k)
  have hF : Cert.Reference4Ideal.Loss.out m' c = Cert.Kernel4Ideal.Loss.out m c := by
    unfold Cert.Reference4Ideal.Loss.out Cert.Kernel4Ideal.Loss.out
    rw [hE, hW]
  have e1 : Cert.Reference4Ideal.Loss.res1 m' c = Cert.Kernel4Ideal.Loss.res1 m c := by
    unfold Cert.Reference4Ideal.Loss.res1 Cert.Kernel4Ideal.Loss.res1
    rw [hF, hH, hT, hG]
  have e2 : Cert.Reference4Ideal.Loss.res2 m' c = Cert.Kernel4Ideal.Loss.res2 m c := by
    unfold Cert.Reference4Ideal.Loss.res2 Cert.Kernel4Ideal.Loss.res2
    rw [hF, hH, hT, hG]
  have e3 : Cert.Reference4Ideal.Loss.res3 m' c = Cert.Kernel4Ideal.Loss.res3 m c := by
    unfold Cert.Reference4Ideal.Loss.res3 Cert.Kernel4Ideal.Loss.res3
    rw [hF, hH, hT, hG]
  have e4 : Cert.Reference4Ideal.Loss.res4 m' c = Cert.Kernel4Ideal.Loss.res4 m c := by
    unfold Cert.Reference4Ideal.Loss.res4 Cert.Kernel4Ideal.Loss.res4
    rw [hF, hH, hT, hG]
  exact ⟨(h c).1.trans e1, (h c).2.1.trans e2, (h c).2.2.1.trans e3, (h c).2.2.2.1.trans e4, (h c).2.2.2.2⟩

theorem frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.InProj.run m ρ)

/-- The gradients of the projection's rows and of its norm's scale. -/
theorem algebraic5 : Cert.algebraic_Kernel5Ideal_Reference5Ideal := by
  intro m g m' g' _ hargs
  refine ⟨fun c => Cert.Kernel5Ideal.InProj.res1 m c, fun c => Cert.Kernel5Ideal.InProj.res2 m c,
    Cert.Kernel5Ideal.InProj.run m g, ?_⟩
  refine (θ_run Cert.Reference5Ideal.defs _ _).mono (fun r h c => ?_) (Cert.Reference5Ideal.InProj.run m' g')
  have hH : Cert.Reference5Ideal.InProj.memH m' c = Cert.Kernel5Ideal.InProj.memH m c :=
    funext fun r => funext fun k => congrFun (hargs c).1 (ix2 r k)
  have hG : Cert.Reference5Ideal.InProj.memG m' c = Cert.Kernel5Ideal.InProj.memG m c :=
    funext fun k => congrFun (hargs c).2.1 (ix2 0 k)
  have hY : Cert.Reference5Ideal.InProj.memY m' c = Cert.Kernel5Ideal.InProj.memY m c :=
    funext fun r => funext fun k => congrFun (hargs c).2.2.1 (ix2 r k)
  have hQ : Cert.Reference5Ideal.InProj.memQ m' c = Cert.Kernel5Ideal.InProj.memQ m c :=
    funext fun r => funext fun f => congrFun (hargs c).2.2.2.1 (ix2 r f)
  have hK : Cert.Reference5Ideal.InProj.memK m' c = Cert.Kernel5Ideal.InProj.memK m c :=
    funext fun r => funext fun f => congrFun (hargs c).2.2.2.2.1 (ix2 r f)
  have hZ : Cert.Reference5Ideal.InProj.memZ m' c = Cert.Kernel5Ideal.InProj.memZ m c :=
    funext fun r => funext fun f => congrFun (hargs c).2.2.2.2.2.1 (ix2 r f)
  have hW : Cert.Reference5Ideal.InProj.memW m' c = Cert.Kernel5Ideal.InProj.memW m c :=
    funext fun k => funext fun f => congrFun (hargs c).2.2.2.2.2.2 (ix2 k f)
  have hC : Cert.Reference5Ideal.InProj.cot m' c = Cert.Kernel5Ideal.InProj.cot m c := by
    unfold Cert.Reference5Ideal.InProj.cot Cert.Kernel5Ideal.InProj.cot
    rw [hQ, hK, hZ, hW]
  have e1 : Cert.Reference5Ideal.InProj.res1 m' c = Cert.Kernel5Ideal.InProj.res1 m c := by
    unfold Cert.Reference5Ideal.InProj.res1 Cert.Kernel5Ideal.InProj.res1
    rw [hC, hH, hY, hG]
  have e2 : Cert.Reference5Ideal.InProj.res2 m' c = Cert.Kernel5Ideal.InProj.res2 m c := by
    unfold Cert.Reference5Ideal.InProj.res2 Cert.Kernel5Ideal.InProj.res2
    rw [hC, hH]
  exact ⟨(h c).1.trans e1, (h c).2.1.trans e2, (h c).2.2⟩

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.InProjW.run m ρ)

/-- The gradient of the input projection's weight. -/
theorem algebraic6 : Cert.algebraic_Kernel6Ideal_Reference6Ideal := by
  intro m g m' g' _ hargs
  refine ⟨fun c => Cert.Kernel6Ideal.InProjW.res m c,
    Cert.Kernel6Ideal.InProjW.run m g, ?_⟩
  refine (θ_run Cert.Reference6Ideal.defs _ _).mono (fun r h c => ?_) (Cert.Reference6Ideal.InProjW.run m' g')
  have hU : Cert.Reference6Ideal.InProjW.memU m' c = Cert.Kernel6Ideal.InProjW.memU m c :=
    funext fun r => funext fun k => congrFun (hargs c).1 (ix2 r k)
  have hQ : Cert.Reference6Ideal.InProjW.memQ m' c = Cert.Kernel6Ideal.InProjW.memQ m c :=
    funext fun r => funext fun k => congrFun (hargs c).2.1 (ix2 r k)
  have hK : Cert.Reference6Ideal.InProjW.memK m' c = Cert.Kernel6Ideal.InProjW.memK m c :=
    funext fun r => funext fun k => congrFun (hargs c).2.2.1 (ix2 r k)
  have hZ : Cert.Reference6Ideal.InProjW.memZ m' c = Cert.Kernel6Ideal.InProjW.memZ m c :=
    funext fun r => funext fun k => congrFun (hargs c).2.2.2 (ix2 r k)
  have hS : Cert.Reference6Ideal.InProjW.side m' c = Cert.Kernel6Ideal.InProjW.side m c := by
    unfold Cert.Reference6Ideal.InProjW.side Cert.Kernel6Ideal.InProjW.side
    rw [hQ, hK, hZ]
  have e1 : Cert.Reference6Ideal.InProjW.res m' c = Cert.Kernel6Ideal.InProjW.res m c := by
    unfold Cert.Reference6Ideal.InProjW.res Cert.Kernel6Ideal.InProjW.res
    rw [hU, hS]
  exact ⟨(h c).1.trans e1, (h c).2⟩

theorem frame_reference7 : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.OutProj.run m ρ)

/-- The gradients of the output projection and of the norm after it. -/
theorem algebraic7 : Cert.algebraic_Kernel7Ideal_Reference7Ideal := by
  intro m g m' g' _ hargs
  refine ⟨fun c => Cert.Kernel7Ideal.OutProj.res1 m c, fun c => Cert.Kernel7Ideal.OutProj.res2 m c, fun c => Cert.Kernel7Ideal.OutProj.res3 m c, fun c => Cert.Kernel7Ideal.OutProj.res4 m c,
    Cert.Kernel7Ideal.OutProj.run m g, ?_⟩
  refine (θ_run Cert.Reference7Ideal.defs _ _).mono (fun r h c => ?_) (Cert.Reference7Ideal.OutProj.run m' g')
  have hD : Cert.Reference7Ideal.OutProj.memD m' c = Cert.Kernel7Ideal.OutProj.memD m c :=
    funext fun r => funext fun k => congrFun (hargs c).1 (ix2 r k)
  have hM : Cert.Reference7Ideal.OutProj.memM m' c = Cert.Kernel7Ideal.OutProj.memM m c :=
    funext fun r => funext fun k => congrFun (hargs c).2.1 (ix2 r k)
  have hG : Cert.Reference7Ideal.OutProj.memG m' c = Cert.Kernel7Ideal.OutProj.memG m c :=
    funext fun k => congrFun (hargs c).2.2.1 (ix2 0 k)
  have hW : Cert.Reference7Ideal.OutProj.memW m' c = Cert.Kernel7Ideal.OutProj.memW m c :=
    funext fun r => funext fun k => congrFun (hargs c).2.2.2.1 (ix2 r k)
  have hA : Cert.Reference7Ideal.OutProj.memA m' c = Cert.Kernel7Ideal.OutProj.memA m c :=
    funext fun r => funext fun k => congrFun (hargs c).2.2.2.2.1 (ix2 r k)
  have hR : Cert.Reference7Ideal.OutProj.memR m' c = Cert.Kernel7Ideal.OutProj.memR m c :=
    funext fun r => funext fun k => congrFun (hargs c).2.2.2.2.2 (ix2 r k)
  have hB : Cert.Reference7Ideal.OutProj.back m' c = Cert.Kernel7Ideal.OutProj.back m c := by
    unfold Cert.Reference7Ideal.OutProj.back Cert.Kernel7Ideal.OutProj.back
    rw [hM, hD, hG]
  have hS : Cert.Reference7Ideal.OutProj.side m' c = Cert.Kernel7Ideal.OutProj.side m c := by
    unfold Cert.Reference7Ideal.OutProj.side Cert.Kernel7Ideal.OutProj.side
    rw [hA, hR]
  have e1 : Cert.Reference7Ideal.OutProj.res1 m' c = Cert.Kernel7Ideal.OutProj.res1 m c := by
    unfold Cert.Reference7Ideal.OutProj.res1 Cert.Kernel7Ideal.OutProj.res1
    rw [hB, hW]
    rfl
  have e2 : Cert.Reference7Ideal.OutProj.res2 m' c = Cert.Kernel7Ideal.OutProj.res2 m c := by
    unfold Cert.Reference7Ideal.OutProj.res2 Cert.Kernel7Ideal.OutProj.res2
    rw [hB, hW]
    rfl
  have e3 : Cert.Reference7Ideal.OutProj.res3 m' c = Cert.Kernel7Ideal.OutProj.res3 m c := by
    unfold Cert.Reference7Ideal.OutProj.res3 Cert.Kernel7Ideal.OutProj.res3
    rw [hS, hB]
  have e4 : Cert.Reference7Ideal.OutProj.res4 m' c = Cert.Kernel7Ideal.OutProj.res4 m c := by
    unfold Cert.Reference7Ideal.OutProj.res4 Cert.Kernel7Ideal.OutProj.res4
    rw [hD, hM]
  exact ⟨(h c).1.trans e1, (h c).2.1.trans e2, (h c).2.2.1.trans e3, (h c).2.2.2.1.trans e4, (h c).2.2.2.2⟩

theorem frame_reference8 : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.InProjF.run m ρ)

/-- The normed rows and their product with the input projection's weight. -/
theorem algebraic8 : Cert.algebraic_Kernel8Ideal_Reference8Ideal := by
  intro m g m' g' _ hargs
  refine ⟨fun c => Cert.Kernel8Ideal.InProjF.res1 m c, fun c => Cert.Kernel8Ideal.InProjF.res2 m c, fun c => Cert.Kernel8Ideal.InProjF.res3 m c,
    Cert.Kernel8Ideal.InProjF.run m g, ?_⟩
  refine (θ_run Cert.Reference8Ideal.defs _ _).mono (fun r h c => ?_) (Cert.Reference8Ideal.InProjF.run m' g')
  have hH : Cert.Reference8Ideal.InProjF.memH m' c = Cert.Kernel8Ideal.InProjF.memH m c :=
    funext fun r => funext fun k => congrFun (hargs c).1 (ix2 r k)
  have hG : Cert.Reference8Ideal.InProjF.memG m' c = Cert.Kernel8Ideal.InProjF.memG m c :=
    funext fun k => congrFun (hargs c).2.1 (ix2 0 k)
  have hW : Cert.Reference8Ideal.InProjF.memW m' c = Cert.Kernel8Ideal.InProjF.memW m c :=
    funext fun r => funext fun k => congrFun (hargs c).2.2 (ix2 r k)
  have hN : Cert.Reference8Ideal.InProjF.normed m' c = Cert.Kernel8Ideal.InProjF.normed m c := by
    unfold Cert.Reference8Ideal.InProjF.normed Cert.Kernel8Ideal.InProjF.normed
    rw [hH, hG]
  have e1 : Cert.Reference8Ideal.InProjF.res1 m' c = Cert.Kernel8Ideal.InProjF.res1 m c := by
    unfold Cert.Reference8Ideal.InProjF.res1 Cert.Kernel8Ideal.InProjF.res1
    rw [hN, hW]
    rfl
  have e2 : Cert.Reference8Ideal.InProjF.res2 m' c = Cert.Kernel8Ideal.InProjF.res2 m c := by
    unfold Cert.Reference8Ideal.InProjF.res2 Cert.Kernel8Ideal.InProjF.res2
    rw [hN, hW]
    rfl
  have e3 : Cert.Reference8Ideal.InProjF.res3 m' c = Cert.Kernel8Ideal.InProjF.res3 m c := by
    unfold Cert.Reference8Ideal.InProjF.res3 Cert.Kernel8Ideal.InProjF.res3
    rw [hN]
  exact ⟨(h c).1.trans e1, (h c).2.1.trans e2, (h c).2.2.1.trans e3, (h c).2.2.2⟩

theorem frame_reference9 : Cert.quiescent_Reference9Ideal := fun m ρ _ =>
  (θ_run Cert.Reference9Ideal.defs _ _).mono
    (fun r h => ⟨fun c => (h c).2.2, sem_eq_zero_of_no_sems (by decide) r.2⟩)
    (Cert.Reference9Ideal.OutProjF.run m ρ)

/-- The output projection and the rows with its scaled norm added. -/
theorem algebraic9 : Cert.algebraic_Kernel9Ideal_Reference9Ideal := by
  intro m g m' g' _ hargs
  refine ⟨fun c => Cert.Kernel9Ideal.OutProjF.res1 m c, fun c => Cert.Kernel9Ideal.OutProjF.res2 m c,
    Cert.Kernel9Ideal.OutProjF.run m g, ?_⟩
  refine (θ_run Cert.Reference9Ideal.defs _ _).mono (fun r h c => ?_) (Cert.Reference9Ideal.OutProjF.run m' g')
  have hA : Cert.Reference9Ideal.OutProjF.memA m' c = Cert.Kernel9Ideal.OutProjF.memA m c :=
    funext fun r => funext fun k => congrFun (hargs c).1 (ix2 r k)
  have hR : Cert.Reference9Ideal.OutProjF.memR m' c = Cert.Kernel9Ideal.OutProjF.memR m c :=
    funext fun r => funext fun k => congrFun (hargs c).2.1 (ix2 r k)
  have hW : Cert.Reference9Ideal.OutProjF.memW m' c = Cert.Kernel9Ideal.OutProjF.memW m c :=
    funext fun r => funext fun k => congrFun (hargs c).2.2.1 (ix2 r k)
  have hH : Cert.Reference9Ideal.OutProjF.memH m' c = Cert.Kernel9Ideal.OutProjF.memH m c :=
    funext fun r => funext fun k => congrFun (hargs c).2.2.2.1 (ix2 r k)
  have hG : Cert.Reference9Ideal.OutProjF.memG m' c = Cert.Kernel9Ideal.OutProjF.memG m c :=
    funext fun k => congrFun (hargs c).2.2.2.2 (ix2 0 k)
  have hX : Cert.Reference9Ideal.OutProjF.mix m' c = Cert.Kernel9Ideal.OutProjF.mix m c := by
    unfold Cert.Reference9Ideal.OutProjF.mix Cert.Kernel9Ideal.OutProjF.mix
    rw [hA, hR, hW]
    rfl
  have e1 : Cert.Reference9Ideal.OutProjF.res1 m' c = Cert.Kernel9Ideal.OutProjF.res1 m c := by
    unfold Cert.Reference9Ideal.OutProjF.res1 Cert.Kernel9Ideal.OutProjF.res1
    rw [hX]
  have e2 : Cert.Reference9Ideal.OutProjF.res2 m' c = Cert.Kernel9Ideal.OutProjF.res2 m c := by
    unfold Cert.Reference9Ideal.OutProjF.res2 Cert.Kernel9Ideal.OutProjF.res2
    rw [hH, hX, hG]
  exact ⟨(h c).1.trans e1, (h c).2.1.trans e2, (h c).2.2⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts,
    frame_kernel, fun m ρ _ => Cert.KernelIdeal.Attn.frame m ρ,
    fun m ρ _ => Cert.KernelIdeal.Attn.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    trivial, algebraic, trivial, algebraic2, trivial, algebraic3, trivial, algebraic4, trivial, algebraic5,
    trivial, algebraic6, trivial, algebraic7, trivial, algebraic8, trivial, algebraic9⟩

end Cert.Proof

end
